-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v118)) (v3 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v118) = v2 c
          ∧ r.2.mem ((c.tc : Thread Cert.KernelIdeal.nD Cert.KernelIdeal.τ).loc Cert.KernelIdeal.main_v119) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S8x1024x1024 : Shape := ⟨3, ![8, 1024, 1024]⟩
abbrev S8x1024 : Shape := ⟨2, ![8, 1024]⟩
abbrev S_ : Shape := ⟨0, ![]⟩
abbrev S1 : Shape := ⟨1, ![1]⟩
abbrev S2 : Shape := ⟨1, ![2]⟩
abbrev S1x1 : Shape := ⟨2, ![1, 1]⟩
abbrev S4096x8 : Shape := ⟨2, ![4096, 8]⟩
abbrev S8x1x512 : Shape := ⟨3, ![8, 1, 512]⟩
abbrev S512x8 : Shape := ⟨2, ![512, 8]⟩
abbrev S512x1024 : Shape := ⟨2, ![512, 1024]⟩
abbrev S1x1x512 : Shape := ⟨3, ![1, 1, 512]⟩
abbrev S1x1024 : Shape := ⟨2, ![1, 1024]⟩
abbrev S1x8 : Shape := ⟨2, ![1, 8]⟩
abbrev S512 : Shape := ⟨1, ![512]⟩
abbrev S512x1 : Shape := ⟨2, ![512, 1]⟩
abbrev S4096 : Shape := ⟨1, ![4096]⟩
abbrev S4096x1 : Shape := ⟨2, ![4096, 1]⟩
abbrev S7 : Shape := ⟨1, ![7]⟩
abbrev S5120 : Shape := ⟨1, ![5120]⟩
abbrev S40 : Shape := ⟨1, ![40]⟩
abbrev S40x1 : Shape := ⟨2, ![40, 1]⟩
abbrev S40x8 : Shape := ⟨2, ![40, 8]⟩
abbrev S32768x128 : Shape := ⟨2, ![32768, 128]⟩
abbrev S5120x1 : Shape := ⟨2, ![5120, 1]⟩
abbrev S5120x8 : Shape := ⟨2, ![5120, 8]⟩
abbrev S40960 : Shape := ⟨1, ![40960]⟩
abbrev S40960x128 : Shape := ⟨2, ![40960, 128]⟩
abbrev S640 : Shape := ⟨1, ![640]⟩
abbrev S640x128 : Shape := ⟨2, ![640, 128]⟩
abbrev S5120x1024 : Shape := ⟨2, ![5120, 1024]⟩
abbrev S8x1x1024 : Shape := ⟨3, ![8, 1, 1024]⟩
abbrev S128x1024 : Shape := ⟨2, ![128, 1024]⟩
abbrev S1x1024x1024 : Shape := ⟨3, ![1, 1024, 1024]⟩
abbrev S1x1x1024 : Shape := ⟨3, ![1, 1, 1024]⟩
abbrev S128x512 : Shape := ⟨2, ![128, 512]⟩
abbrev S32x2x640 : Shape := ⟨3, ![32, 2, 640]⟩
abbrev S2x640 : Shape := ⟨2, ![2, 640]⟩
abbrev S1x2x640 : Shape := ⟨3, ![1, 2, 640]⟩
abbrev S1x640 : Shape := ⟨2, ![1, 640]⟩
abbrev S4096x512 : Shape := ⟨2, ![4096, 512]⟩

abbrev nBuf : Table → Nat
  | .hbm => 456
  | .local .tc .vmem => 30
  | .local .tc .smem => 1
  | .local .scVector .vmem => 4
  | _ => 0

abbrev hbmTy0_0 (i : Nat) : BufTy := match i % 128 with
  | 0 => ⟨S4096x1024, .f32⟩
  | 1 => ⟨S1024x1024, .f32⟩
  | 2 => ⟨S1024, .f32⟩
  | 3 => ⟨S1024x1024, .f32⟩
  | 4 => ⟨S1024, .f32⟩
  | 5 => ⟨S1024x8, .f32⟩
  | 6 => ⟨S8, .f32⟩
  | 7 => ⟨S8x1024x1024, .f32⟩
  | 8 => ⟨S8x1024, .f32⟩
  | 9 => ⟨S8x1024x1024, .f32⟩
  | 10 => ⟨S8x1024, .f32⟩
  | 11 => ⟨S8x1024x1024, .f32⟩
  | 12 => ⟨S8x1024, .f32⟩
  | 13 => ⟨S_, .i32⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S_, .i32⟩
  | 21 => ⟨S1, .i32⟩
  | 22 => ⟨S2, .i32⟩
  | 23 => ⟨S_, .f32⟩
  | 24 => ⟨S_, .f32⟩
  | 25 => ⟨S_, .f32⟩
  | 26 => ⟨S1x1, .f32⟩
  | 27 => ⟨S1x1, .f32⟩
  | 28 => ⟨S1, .i32⟩
  | 29 => ⟨S_, .i32⟩
  | 30 => ⟨S1, .i32⟩
  | 31 => ⟨S_, .i32⟩
  | 32 => ⟨S4096x8, .i64⟩
  | 33 => ⟨S4096x8, .i64⟩
  | 34 => ⟨S_, .i64⟩
  | 35 => ⟨S4096x8, .i64⟩
  | 36 => ⟨S4096x8, .i64⟩
  | 37 => ⟨S_, .i64⟩
  | 38 => ⟨S4096x8, .i64⟩
  | 39 => ⟨S4096x8, .i64⟩
  | 40 => ⟨S4096x8, .i64⟩
  | 41 => ⟨S_, .i64⟩
  | 42 => ⟨S4096x8, .i64⟩
  | 43 => ⟨S4096x8, .i64⟩
  | 44 => ⟨S4096x8, .i32⟩
  | 45 => ⟨S4096x8, .i32⟩
  | 46 => ⟨S_, .i32⟩
  | 47 => ⟨S_, .i32⟩
  | 48 => ⟨S_, .i32⟩
  | 49 => ⟨S4096x8, .i32⟩
  | 50 => ⟨S4096x8, .i32⟩
  | 51 => ⟨S4096x8, .i32⟩
  | 52 => ⟨S4096x8, .i32⟩
  | 53 => ⟨S4096x8, .i32⟩
  | 54 => ⟨S_, .i32⟩
  | 55 => ⟨S4096x8, .i32⟩
  | 56 => ⟨S4096x8, .i32⟩
  | 57 => ⟨S_, .i32⟩
  | 58 => ⟨S4096x8, .i32⟩
  | 59 => ⟨S4096x8, .i32⟩
  | 60 => ⟨S4096x8, .i32⟩
  | 61 => ⟨S4096x8, .i32⟩
  | 62 => ⟨S4096x8, .i32⟩
  | 63 => ⟨S_, .i32⟩
  | 64 => ⟨S4096x8, .i32⟩
  | 65 => ⟨S4096x8, .i32⟩
  | 66 => ⟨S_, .i32⟩
  | 67 => ⟨S4096x8, .i32⟩
  | 68 => ⟨S4096x8, .i32⟩
  | 69 => ⟨S4096x8, .i32⟩
  | 70 => ⟨S4096x8, .i32⟩
  | 71 => ⟨S4096x8, .i32⟩
  | 72 => ⟨S_, .i32⟩
  | 73 => ⟨S4096x8, .i32⟩
  | 74 => ⟨S4096x8, .i32⟩
  | 75 => ⟨S_, .i32⟩
  | 76 => ⟨S4096x8, .i32⟩
  | 77 => ⟨S4096x8, .i32⟩
  | 78 => ⟨S4096x8, .i32⟩
  | 79 => ⟨S4096x8, .i32⟩
  | 80 => ⟨S4096x8, .i32⟩
  | 81 => ⟨S_, .i32⟩
  | 82 => ⟨S4096x8, .i32⟩
  | 83 => ⟨S4096x8, .i32⟩
  | 84 => ⟨S_, .i32⟩
  | 85 => ⟨S4096x8, .i32⟩
  | 86 => ⟨S4096x8, .i32⟩
  | 87 => ⟨S4096x8, .i32⟩
  | 88 => ⟨S4096x8, .i32⟩
  | 89 => ⟨S4096x8, .i32⟩
  | 90 => ⟨S4096x8, .i32⟩
  | 91 => ⟨S4096x8, .i32⟩
  | 92 => ⟨S4096x8, .i32⟩
  | 93 => ⟨S_, .i32⟩
  | 94 => ⟨S4096x8, .i32⟩
  | 95 => ⟨S4096x8, .i32⟩
  | 96 => ⟨S4096x8, .i32⟩
  | 97 => ⟨S_, .i32⟩
  | 98 => ⟨S4096x8, .i32⟩
  | 99 => ⟨S4096x8, .i32⟩
  | 100 => ⟨S_, .i32⟩
  | 101 => ⟨S4096x8, .i32⟩
  | 102 => ⟨S4096x8, .i32⟩
  | 103 => ⟨S4096x8, .i32⟩
  | 104 => ⟨S4096x8, .i32⟩
  | 105 => ⟨S4096x8, .i32⟩
  | 106 => ⟨S_, .i32⟩
  | 107 => ⟨S4096x8, .i32⟩
  | 108 => ⟨S4096x8, .i32⟩
  | 109 => ⟨S_, .i32⟩
  | 110 => ⟨S4096x8, .i32⟩
  | 111 => ⟨S4096x8, .i32⟩
  | 112 => ⟨S4096x8, .i32⟩
  | 113 => ⟨S4096x8, .i32⟩
  | 114 => ⟨S4096x8, .i32⟩
  | 115 => ⟨S_, .i32⟩
  | 116 => ⟨S4096x8, .i32⟩
  | 117 => ⟨S4096x8, .i32⟩
  | 118 => ⟨S_, .i32⟩
  | 119 => ⟨S4096x8, .i32⟩
  | 120 => ⟨S4096x8, .i32⟩
  | 121 => ⟨S4096x8, .i32⟩
  | 122 => ⟨S4096x8, .i32⟩
  | 123 => ⟨S4096x8, .i32⟩
  | 124 => ⟨S_, .i32⟩
  | 125 => ⟨S4096x8, .i32⟩
  | 126 => ⟨S4096x8, .i32⟩
  | 127 => ⟨S_, .i32⟩
  | _ => ⟨S4096x1024, .f32⟩

abbrev hbmTy0_1 (i : Nat) : BufTy := match i % 128 with
  | 0 => ⟨S4096x8, .i32⟩
  | 1 => ⟨S4096x8, .i32⟩
  | 2 => ⟨S4096x8, .i32⟩
  | 3 => ⟨S4096x8, .i32⟩
  | 4 => ⟨S4096x8, .i32⟩
  | 5 => ⟨S4096x8, .i32⟩
  | 6 => ⟨S4096x8, .i32⟩
  | 7 => ⟨S4096x8, .i32⟩
  | 8 => ⟨S_, .i32⟩
  | 9 => ⟨S4096x8, .i32⟩
  | 10 => ⟨S4096x8, .i32⟩
  | 11 => ⟨S4096x8, .i32⟩
  | 12 => ⟨S_, .i32⟩
  | 13 => ⟨S4096x8, .i32⟩
  | 14 => ⟨S4096x8, .i32⟩
  | 15 => ⟨S_, .i32⟩
  | 16 => ⟨S4096x8, .i32⟩
  | 17 => ⟨S4096x8, .i32⟩
  | 18 => ⟨S4096x8, .i32⟩
  | 19 => ⟨S4096x8, .i32⟩
  | 20 => ⟨S4096x8, .i32⟩
  | 21 => ⟨S_, .i32⟩
  | 22 => ⟨S4096x8, .i32⟩
  | 23 => ⟨S4096x8, .i32⟩
  | 24 => ⟨S_, .i32⟩
  | 25 => ⟨S4096x8, .i32⟩
  | 26 => ⟨S4096x8, .i32⟩
  | 27 => ⟨S4096x8, .i32⟩
  | 28 => ⟨S4096x8, .i32⟩
  | 29 => ⟨S4096x8, .i32⟩
  | 30 => ⟨S_, .i32⟩
  | 31 => ⟨S4096x8, .i32⟩
  | 32 => ⟨S4096x8, .i32⟩
  | 33 => ⟨S_, .i32⟩
  | 34 => ⟨S4096x8, .i32⟩
  | 35 => ⟨S4096x8, .i32⟩
  | 36 => ⟨S4096x8, .i32⟩
  | 37 => ⟨S4096x8, .i32⟩
  | 38 => ⟨S4096x8, .i32⟩
  | 39 => ⟨S_, .i32⟩
  | 40 => ⟨S4096x8, .i32⟩
  | 41 => ⟨S4096x8, .i32⟩
  | 42 => ⟨S_, .i32⟩
  | 43 => ⟨S4096x8, .i32⟩
  | 44 => ⟨S4096x8, .i32⟩
  | 45 => ⟨S4096x8, .i32⟩
  | 46 => ⟨S4096x8, .i32⟩
  | 47 => ⟨S4096x8, .i32⟩
  | 48 => ⟨S4096x8, .i32⟩
  | 49 => ⟨S4096x8, .i32⟩
  | 50 => ⟨S4096x8, .i32⟩
  | 51 => ⟨S_, .i32⟩
  | 52 => ⟨S4096x8, .i32⟩
  | 53 => ⟨S4096x8, .i32⟩
  | 54 => ⟨S4096x8, .i32⟩
  | 55 => ⟨S_, .i32⟩
  | 56 => ⟨S4096x8, .i32⟩
  | 57 => ⟨S4096x8, .i32⟩
  | 58 => ⟨S_, .i32⟩
  | 59 => ⟨S4096x8, .i32⟩
  | 60 => ⟨S4096x8, .i32⟩
  | 61 => ⟨S4096x8, .i32⟩
  | 62 => ⟨S4096x8, .i32⟩
  | 63 => ⟨S4096x8, .i32⟩
  | 64 => ⟨S_, .i32⟩
  | 65 => ⟨S4096x8, .i32⟩
  | 66 => ⟨S4096x8, .i32⟩
  | 67 => ⟨S_, .i32⟩
  | 68 => ⟨S4096x8, .i32⟩
  | 69 => ⟨S4096x8, .i32⟩
  | 70 => ⟨S4096x8, .i32⟩
  | 71 => ⟨S4096x8, .i32⟩
  | 72 => ⟨S4096x8, .i32⟩
  | 73 => ⟨S_, .i32⟩
  | 74 => ⟨S4096x8, .i32⟩
  | 75 => ⟨S4096x8, .i32⟩
  | 76 => ⟨S_, .i32⟩
  | 77 => ⟨S4096x8, .i32⟩
  | 78 => ⟨S4096x8, .i32⟩
  | 79 => ⟨S4096x8, .i32⟩
  | 80 => ⟨S4096x8, .i32⟩
  | 81 => ⟨S4096x8, .i32⟩
  | 82 => ⟨S_, .i32⟩
  | 83 => ⟨S4096x8, .i32⟩
  | 84 => ⟨S4096x8, .i32⟩
  | 85 => ⟨S_, .i32⟩
  | 86 => ⟨S4096x8, .i32⟩
  | 87 => ⟨S4096x8, .i32⟩
  | 88 => ⟨S4096x8, .i32⟩
  | 89 => ⟨S4096x8, .i32⟩
  | 90 => ⟨S4096x8, .i32⟩
  | 91 => ⟨S4096x8, .i32⟩
  | 92 => ⟨S4096x8, .i32⟩
  | 93 => ⟨S4096x8, .i32⟩
  | 94 => ⟨S_, .i32⟩
  | 95 => ⟨S4096x8, .i32⟩
  | 96 => ⟨S4096x8, .i32⟩
  | 97 => ⟨S4096x8, .i32⟩
  | 98 => ⟨S_, .i32⟩
  | 99 => ⟨S4096x8, .i32⟩
  | 100 => ⟨S4096x8, .i32⟩
  | 101 => ⟨S_, .i32⟩
  | 102 => ⟨S4096x8, .i32⟩
  | 103 => ⟨S4096x8, .i32⟩
  | 104 => ⟨S4096x8, .i32⟩
  | 105 => ⟨S4096x8, .i32⟩
  | 106 => ⟨S4096x8, .i32⟩
  | 107 => ⟨S_, .i32⟩
  | 108 => ⟨S4096x8, .i32⟩
  | 109 => ⟨S4096x8, .i32⟩
  | 110 => ⟨S_, .i32⟩
  | 111 => ⟨S4096x8, .i32⟩
  | 112 => ⟨S4096x8, .i32⟩
  | 113 => ⟨S4096x8, .i32⟩
  | 114 => ⟨S4096x8, .i32⟩
  | 115 => ⟨S4096x8, .i32⟩
  | 116 => ⟨S_, .i32⟩
  | 117 => ⟨S4096x8, .i32⟩
  | 118 => ⟨S4096x8, .i32⟩
  | 119 => ⟨S_, .i32⟩
  | 120 => ⟨S4096x8, .i32⟩
  | 121 => ⟨S4096x8, .i32⟩
  | 122 => ⟨S4096x8, .i32⟩
  | 123 => ⟨S4096x8, .i32⟩
  | 124 => ⟨S4096x8, .i32⟩
  | 125 => ⟨S_, .i32⟩
  | 126 => ⟨S4096x8, .i32⟩
  | 127 => ⟨S4096x8, .i32⟩
  | _ => ⟨S4096x1024, .f32⟩

abbrev hbmTy0_2 (i : Nat) : BufTy := match i % 128 with
  | 0 => ⟨S_, .i32⟩
  | 1 => ⟨S4096x8, .i32⟩
  | 2 => ⟨S4096x8, .i32⟩
  | 3 => ⟨S4096x8, .i32⟩
  | 4 => ⟨S4096x8, .i32⟩
  | 5 => ⟨S4096x8, .i32⟩
  | 6 => ⟨S4096x8, .i32⟩
  | 7 => ⟨S4096x8, .i32⟩
  | 8 => ⟨S4096x8, .i32⟩
  | 9 => ⟨S_, .i32⟩
  | 10 => ⟨S4096x8, .i32⟩
  | 11 => ⟨S4096x8, .i32⟩
  | 12 => ⟨S4096x8, .i32⟩
  | 13 => ⟨S_, .i32⟩
  | 14 => ⟨S4096x8, .i32⟩
  | 15 => ⟨S4096x8, .i32⟩
  | 16 => ⟨S_, .i32⟩
  | 17 => ⟨S4096x8, .i32⟩
  | 18 => ⟨S4096x8, .i32⟩
  | 19 => ⟨S4096x8, .f32⟩
  | 20 => ⟨S_, .f32⟩
  | 21 => ⟨S4096x8, .f32⟩
  | 22 => ⟨S4096x8, .f32⟩
  | 23 => ⟨S1x1, .f32⟩
  | 24 => ⟨S4096x8, .f32⟩
  | 25 => ⟨S4096x8, .f32⟩
  | 26 => ⟨S4096x8, .f32⟩
  | 27 => ⟨S4096x8, .f32⟩
  | 28 => ⟨S4096x8, .f32⟩
  | 29 => ⟨S4096x8, .f32⟩
  | 30 => ⟨S4096x8, .f32⟩
  | 31 => ⟨S4096x8, .f32⟩
  | 32 => ⟨S4096x8, .f32⟩
  | 33 => ⟨S4096x8, .f32⟩
  | 34 => ⟨S4096x8, .f32⟩
  | 35 => ⟨S8x1x512, .i32⟩
  | 36 => ⟨S4096, .i32⟩
  | 37 => ⟨S_, .i32⟩
  | 38 => ⟨S8, .i32⟩
  | 39 => ⟨S_, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S_, .i32⟩
  | 52 => ⟨S4096, .i32⟩
  | 53 => ⟨S8, .i32⟩
  | 54 => ⟨S4096, .i32⟩
  | 55 => ⟨S4096, .i32⟩
  | 56 => ⟨S4096, .i32⟩
  | 57 => ⟨S_, .i32⟩
  | 58 => ⟨S8, .i32⟩
  | 59 => ⟨S8, .i32⟩
  | 60 => ⟨S_, .i32⟩
  | 61 => ⟨S8, .i32⟩
  | 62 => ⟨S8, .i32⟩
  | 63 => ⟨S_, .i32⟩
  | 64 => ⟨S_, .i32⟩
  | 65 => ⟨S8, .i32⟩
  | 66 => ⟨S8, .i32⟩
  | 67 => ⟨S8, .i32⟩
  | 68 => ⟨S_, .i32⟩
  | 69 => ⟨S8, .i32⟩
  | 70 => ⟨S8, .i1⟩
  | 71 => ⟨S8, .i32⟩
  | 72 => ⟨S8, .i32⟩
  | 73 => ⟨S_, .i32⟩
  | 74 => ⟨S8, .i32⟩
  | 75 => ⟨S8, .i1⟩
  | 76 => ⟨S8, .i1⟩
  | 77 => ⟨S_, .i32⟩
  | 78 => ⟨S8, .i32⟩
  | 79 => ⟨S8, .i32⟩
  | 80 => ⟨S8, .i32⟩
  | 81 => ⟨S_, .i32⟩
  | 82 => ⟨S_, .i32⟩
  | 83 => ⟨S8, .i32⟩
  | 84 => ⟨S_, .i32⟩
  | 85 => ⟨S1, .i32⟩
  | 86 => ⟨S7, .i32⟩
  | 87 => ⟨S8, .i32⟩
  | 88 => ⟨S_, .i32⟩
  | 89 => ⟨S8, .i32⟩
  | 90 => ⟨S8, .i32⟩
  | 91 => ⟨S_, .i32⟩
  | 92 => ⟨S1, .i32⟩
  | 93 => ⟨S_, .i32⟩
  | 94 => ⟨S_, .i32⟩
  | 95 => ⟨S8, .i32⟩
  | 96 => ⟨S7, .i32⟩
  | 97 => ⟨S8, .i32⟩
  | 98 => ⟨S_, .i32⟩
  | 99 => ⟨S4096, .i32⟩
  | 100 => ⟨S4096, .i1⟩
  | 101 => ⟨S_, .i32⟩
  | 102 => ⟨S4096, .i32⟩
  | 103 => ⟨S4096, .i32⟩
  | 104 => ⟨S4096, .i32⟩
  | 105 => ⟨S4096x1, .i32⟩
  | 106 => ⟨S4096, .i32⟩
  | 107 => ⟨S4096, .i32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S4096, .i32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S4096, .i32⟩
  | 126 => ⟨S4096, .i32⟩
  | 127 => ⟨S4096, .i32⟩
  | _ => ⟨S4096x1024, .f32⟩

abbrev hbmTy0_3 (i : Nat) : BufTy := match i % 128 with
  | 0 => ⟨S_, .i32⟩
  | 1 => ⟨S5120, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S5120, .i32⟩
  | 11 => ⟨S_, .i32⟩
  | 12 => ⟨S5120, .i32⟩
  | 13 => ⟨S5120, .i1⟩
  | 14 => ⟨S5120, .i32⟩
  | 15 => ⟨S_, .i32⟩
  | 16 => ⟨S_, .i32⟩
  | 17 => ⟨S5120, .i32⟩
  | 18 => ⟨S_, .i32⟩
  | 19 => ⟨S5120, .i32⟩
  | 20 => ⟨S5120, .i32⟩
  | 21 => ⟨S_, .i32⟩
  | 22 => ⟨S5120, .i32⟩
  | 23 => ⟨S5120, .i32⟩
  | 24 => ⟨S_, .i32⟩
  | 25 => ⟨S5120, .i32⟩
  | 26 => ⟨S5120, .i32⟩
  | 27 => ⟨S5120, .i32⟩
  | 28 => ⟨S40, .i32⟩
  | 29 => ⟨S40x1, .i32⟩
  | 30 => ⟨S1x8, .i32⟩
  | 31 => ⟨S40x8, .i32⟩
  | 32 => ⟨S40x8, .i32⟩
  | 33 => ⟨S40x8, .i1⟩
  | 34 => ⟨S40x8, .i32⟩
  | 35 => ⟨S_, .i32⟩
  | 36 => ⟨S40, .i32⟩
  | 37 => ⟨S_, .i32⟩
  | 38 => ⟨S40, .i32⟩
  | 39 => ⟨S32768x128, .f32⟩
  | 40 => ⟨S5120x1, .i32⟩
  | 41 => ⟨S_, .i32⟩
  | 42 => ⟨S5120x1, .i32⟩
  | 43 => ⟨S5120x1, .i32⟩
  | 44 => ⟨S8, .i32⟩
  | 45 => ⟨S1x8, .i32⟩
  | 46 => ⟨S5120x8, .i32⟩
  | 47 => ⟨S5120x8, .i32⟩
  | 48 => ⟨S5120x8, .i32⟩
  | 49 => ⟨S40960, .i32⟩
  | 50 => ⟨S40960x128, .f32⟩
  | 51 => ⟨S5120x1024, .f32⟩
  | 52 => ⟨S8x1x1024, .f32⟩
  | 53 => ⟨S8x1x1024, .f32⟩
  | 54 => ⟨S8x1x1024, .f32⟩
  | 55 => ⟨S5120x1024, .f32⟩
  | 56 => ⟨S40960x128, .f32⟩
  | 57 => ⟨S5120x1, .i32⟩
  | 58 => ⟨S_, .i32⟩
  | 59 => ⟨S5120x1, .i32⟩
  | 60 => ⟨S5120x1, .i32⟩
  | 61 => ⟨S8, .i32⟩
  | 62 => ⟨S1x8, .i32⟩
  | 63 => ⟨S5120x8, .i32⟩
  | 64 => ⟨S5120x8, .i32⟩
  | 65 => ⟨S5120x8, .i32⟩
  | 66 => ⟨S40960, .i32⟩
  | 67 => ⟨S32x2x640, .i32⟩
  | 68 => ⟨S40960x128, .f32⟩
  | 69 => ⟨S5120x1024, .f32⟩
  | 70 => ⟨S4096x512, .f32⟩
  | 71 => ⟨S4096x512, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (nBuf tb) → BufTy
  | .hbm, ⟨i, _⟩ => hbmTy i
  | .local .tc .vmem, ⟨0, _⟩ => ⟨S512x8, .f32⟩
  | .local .tc .vmem, ⟨1, _⟩ => ⟨S512x8, .f32⟩
  | .local .tc .vmem, ⟨2, _⟩ => ⟨S512x1024, .f32⟩
  | .local .tc .vmem, ⟨3, _⟩ => ⟨S512x1024, .f32⟩
  | .local .tc .vmem, ⟨4, _⟩ => ⟨S1024x1024, .f32⟩
  | .local .tc .vmem, ⟨5, _⟩ => ⟨S1024, .f32⟩
  | .local .tc .vmem, ⟨6, _⟩ => ⟨S1024x1024, .f32⟩
  | .local .tc .vmem, ⟨7, _⟩ => ⟨S1024, .f32⟩
  | .local .tc .vmem, ⟨8, _⟩ => ⟨S1024x8, .f32⟩
  | .local .tc .vmem, ⟨9, _⟩ => ⟨S8, .f32⟩
  | .local .tc .vmem, ⟨10, _⟩ => ⟨S512x8, .f32⟩
  | .local .tc .vmem, ⟨11, _⟩ => ⟨S512x8, .f32⟩
  | .local .tc .vmem, ⟨12, _⟩ => ⟨S1x1x512, .i32⟩
  | .local .tc .vmem, ⟨13, _⟩ => ⟨S1x1x512, .i32⟩
  | .local .tc .vmem, ⟨14, _⟩ => ⟨S128x1024, .f32⟩
  | .local .tc .vmem, ⟨15, _⟩ => ⟨S128x1024, .f32⟩
  | .local .tc .vmem, ⟨16, _⟩ => ⟨S1x1024x1024, .f32⟩
  | .local .tc .vmem, ⟨17, _⟩ => ⟨S1x1024x1024, .f32⟩
  | .local .tc .vmem, ⟨18, _⟩ => ⟨S1x1x1024, .f32⟩
  | .local .tc .vmem, ⟨19, _⟩ => ⟨S1x1x1024, .f32⟩
  | .local .tc .vmem, ⟨20, _⟩ => ⟨S1x1024x1024, .f32⟩
  | .local .tc .vmem, ⟨21, _⟩ => ⟨S1x1024x1024, .f32⟩
  | .local .tc .vmem, ⟨22, _⟩ => ⟨S1x1x1024, .f32⟩
  | .local .tc .vmem, ⟨23, _⟩ => ⟨S1x1x1024, .f32⟩
  | .local .tc .vmem, ⟨24, _⟩ => ⟨S1x1024x1024, .f32⟩
  | .local .tc .vmem, ⟨25, _⟩ => ⟨S1x1024x1024, .f32⟩
  | .local .tc .vmem, ⟨26, _⟩ => ⟨S1x1x1024, .f32⟩
  | .local .tc .vmem, ⟨27, _⟩ => ⟨S1x1x1024, .f32⟩
  | .local .tc .vmem, ⟨28, _⟩ => ⟨S128x1024, .f32⟩
  | .local .tc .vmem, ⟨29, _⟩ => ⟨S128x1024, .f32⟩
  | .local .tc .smem, ⟨0, _⟩ => ⟨S40, .i32⟩
  | .local .scVector .vmem, ⟨0, _⟩ => ⟨S640, .i32⟩
  | .local .scVector .vmem, ⟨1, _⟩ => ⟨S640x128, .f32⟩
  | .local .scVector .vmem, ⟨2, _⟩ => ⟨S2x640, .i32⟩
  | .local .scVector .vmem, ⟨3, _⟩ => ⟨S640x128, .f32⟩
  | _, _ => ⟨S4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => false
  | ⟨36, _⟩ => false
  | ⟨37, _⟩ => false
  | ⟨38, _⟩ => false
  | _ => false

abbrev sig : RefSig :=
  ofTables nBuf rfl bufTy 4 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call0_cst : Ref sig .tc := ⟨.hbm, 23, rfl⟩
abbrev main_call0_cst_0 : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_c : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_c_0 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_1 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_v17 : Ref sig .tc := ⟨.hbm, 45, rfl⟩
abbrev main_call0_call0_call0_v0 : Ref sig .tc := ⟨.hbm, 46, rfl⟩
abbrev main_call0_call0_call0_c : Ref sig .tc := ⟨.hbm, 47, rfl⟩
abbrev main_call0_call0_call0_v1 : Ref sig .tc := ⟨.hbm, 48, rfl⟩
abbrev main_call0_call0_call0_v2 : Ref sig .tc := ⟨.hbm, 49, rfl⟩
abbrev main_call0_call0_call0_v3 : Ref sig .tc := ⟨.hbm, 50, rfl⟩
abbrev main_call0_call0_call0_v4 : Ref sig .tc := ⟨.hbm, 51, rfl⟩
abbrev main_call0_call0_call0_v5 : Ref sig .tc := ⟨.hbm, 52, rfl⟩
abbrev main_call0_call0_call0_v6 : Ref sig .tc := ⟨.hbm, 53, rfl⟩
abbrev main_call0_call0_call0_c_0 : Ref sig .tc := ⟨.hbm, 54, rfl⟩
abbrev main_call0_call0_call0_v7 : Ref sig .tc := ⟨.hbm, 55, rfl⟩
abbrev main_call0_call0_call0_v8 : Ref sig .tc := ⟨.hbm, 56, rfl⟩
abbrev main_call0_call0_call0_c_1 : Ref sig .tc := ⟨.hbm, 57, rfl⟩
abbrev main_call0_call0_call0_v9 : Ref sig .tc := ⟨.hbm, 58, rfl⟩
abbrev main_call0_call0_call0_v10 : Ref sig .tc := ⟨.hbm, 59, rfl⟩
abbrev main_call0_call0_call0_v11 : Ref sig .tc := ⟨.hbm, 60, rfl⟩
abbrev main_call0_call0_call0_v12 : Ref sig .tc := ⟨.hbm, 61, rfl⟩
abbrev main_call0_call0_call0_v13 : Ref sig .tc := ⟨.hbm, 62, rfl⟩
abbrev main_call0_call0_call0_c_2 : Ref sig .tc := ⟨.hbm, 63, rfl⟩
abbrev main_call0_call0_call0_v14 : Ref sig .tc := ⟨.hbm, 64, rfl⟩
abbrev main_call0_call0_call0_v15 : Ref sig .tc := ⟨.hbm, 65, rfl⟩
abbrev main_call0_call0_call0_c_3 : Ref sig .tc := ⟨.hbm, 66, rfl⟩
abbrev main_call0_call0_call0_v16 : Ref sig .tc := ⟨.hbm, 67, rfl⟩
abbrev main_call0_call0_call0_v17 : Ref sig .tc := ⟨.hbm, 68, rfl⟩
abbrev main_call0_call0_call0_v18 : Ref sig .tc := ⟨.hbm, 69, rfl⟩
abbrev main_call0_call0_call0_v19 : Ref sig .tc := ⟨.hbm, 70, rfl⟩
abbrev main_call0_call0_call0_v20 : Ref sig .tc := ⟨.hbm, 71, rfl⟩
abbrev main_call0_call0_call0_c_4 : Ref sig .tc := ⟨.hbm, 72, rfl⟩
abbrev main_call0_call0_call0_v21 : Ref sig .tc := ⟨.hbm, 73, rfl⟩
abbrev main_call0_call0_call0_v22 : Ref sig .tc := ⟨.hbm, 74, rfl⟩
abbrev main_call0_call0_call0_c_5 : Ref sig .tc := ⟨.hbm, 75, rfl⟩
abbrev main_call0_call0_call0_v23 : Ref sig .tc := ⟨.hbm, 76, rfl⟩
abbrev main_call0_call0_call0_v24 : Ref sig .tc := ⟨.hbm, 77, rfl⟩
abbrev main_call0_call0_call0_v25 : Ref sig .tc := ⟨.hbm, 78, rfl⟩
abbrev main_call0_call0_call0_v26 : Ref sig .tc := ⟨.hbm, 79, rfl⟩
abbrev main_call0_call0_call0_v27 : Ref sig .tc := ⟨.hbm, 80, rfl⟩
abbrev main_call0_call0_call0_c_6 : Ref sig .tc := ⟨.hbm, 81, rfl⟩
abbrev main_call0_call0_call0_v28 : Ref sig .tc := ⟨.hbm, 82, rfl⟩
abbrev main_call0_call0_call0_v29 : Ref sig .tc := ⟨.hbm, 83, rfl⟩
abbrev main_call0_call0_call0_c_7 : Ref sig .tc := ⟨.hbm, 84, rfl⟩
abbrev main_call0_call0_call0_v30 : Ref sig .tc := ⟨.hbm, 85, rfl⟩
abbrev main_call0_call0_call0_v31 : Ref sig .tc := ⟨.hbm, 86, rfl⟩
abbrev main_call0_call0_call0_v32 : Ref sig .tc := ⟨.hbm, 87, rfl⟩
abbrev main_call0_call0_call0_v33 : Ref sig .tc := ⟨.hbm, 88, rfl⟩
abbrev main_call0_call0_call0_v34 : Ref sig .tc := ⟨.hbm, 89, rfl⟩
abbrev main_call0_call0_call0_v35 : Ref sig .tc := ⟨.hbm, 90, rfl⟩
abbrev main_call0_call0_call0_v36 : Ref sig .tc := ⟨.hbm, 91, rfl⟩
abbrev main_call0_call0_call0_v37 : Ref sig .tc := ⟨.hbm, 92, rfl⟩
abbrev main_call0_call0_call0_c_8 : Ref sig .tc := ⟨.hbm, 93, rfl⟩
abbrev main_call0_call0_call0_v38 : Ref sig .tc := ⟨.hbm, 94, rfl⟩
abbrev main_call0_call0_call0_v39 : Ref sig .tc := ⟨.hbm, 95, rfl⟩
abbrev main_call0_call0_call0_v40 : Ref sig .tc := ⟨.hbm, 96, rfl⟩
abbrev main_call0_call0_call0_c_9 : Ref sig .tc := ⟨.hbm, 97, rfl⟩
abbrev main_call0_call0_call0_v41 : Ref sig .tc := ⟨.hbm, 98, rfl⟩
abbrev main_call0_call0_call0_v42 : Ref sig .tc := ⟨.hbm, 99, rfl⟩
abbrev main_call0_call0_call0_c_10 : Ref sig .tc := ⟨.hbm, 100, rfl⟩
abbrev main_call0_call0_call0_v43 : Ref sig .tc := ⟨.hbm, 101, rfl⟩
abbrev main_call0_call0_call0_v44 : Ref sig .tc := ⟨.hbm, 102, rfl⟩
abbrev main_call0_call0_call0_v45 : Ref sig .tc := ⟨.hbm, 103, rfl⟩
abbrev main_call0_call0_call0_v46 : Ref sig .tc := ⟨.hbm, 104, rfl⟩
abbrev main_call0_call0_call0_v47 : Ref sig .tc := ⟨.hbm, 105, rfl⟩
abbrev main_call0_call0_call0_c_11 : Ref sig .tc := ⟨.hbm, 106, rfl⟩
abbrev main_call0_call0_call0_v48 : Ref sig .tc := ⟨.hbm, 107, rfl⟩
abbrev main_call0_call0_call0_v49 : Ref sig .tc := ⟨.hbm, 108, rfl⟩
abbrev main_call0_call0_call0_c_12 : Ref sig .tc := ⟨.hbm, 109, rfl⟩
abbrev main_call0_call0_call0_v50 : Ref sig .tc := ⟨.hbm, 110, rfl⟩
abbrev main_call0_call0_call0_v51 : Ref sig .tc := ⟨.hbm, 111, rfl⟩
abbrev main_call0_call0_call0_v52 : Ref sig .tc := ⟨.hbm, 112, rfl⟩
abbrev main_call0_call0_call0_v53 : Ref sig .tc := ⟨.hbm, 113, rfl⟩
abbrev main_call0_call0_call0_v54 : Ref sig .tc := ⟨.hbm, 114, rfl⟩
abbrev main_call0_call0_call0_c_13 : Ref sig .tc := ⟨.hbm, 115, rfl⟩
abbrev main_call0_call0_call0_v55 : Ref sig .tc := ⟨.hbm, 116, rfl⟩
abbrev main_call0_call0_call0_v56 : Ref sig .tc := ⟨.hbm, 117, rfl⟩
abbrev main_call0_call0_call0_c_14 : Ref sig .tc := ⟨.hbm, 118, rfl⟩
abbrev main_call0_call0_call0_v57 : Ref sig .tc := ⟨.hbm, 119, rfl⟩
abbrev main_call0_call0_call0_v58 : Ref sig .tc := ⟨.hbm, 120, rfl⟩
abbrev main_call0_call0_call0_v59 : Ref sig .tc := ⟨.hbm, 121, rfl⟩
abbrev main_call0_call0_call0_v60 : Ref sig .tc := ⟨.hbm, 122, rfl⟩
abbrev main_call0_call0_call0_v61 : Ref sig .tc := ⟨.hbm, 123, rfl⟩
abbrev main_call0_call0_call0_c_15 : Ref sig .tc := ⟨.hbm, 124, rfl⟩
abbrev main_call0_call0_call0_v62 : Ref sig .tc := ⟨.hbm, 125, rfl⟩
abbrev main_call0_call0_call0_v63 : Ref sig .tc := ⟨.hbm, 126, rfl⟩
abbrev main_call0_call0_call0_c_16 : Ref sig .tc := ⟨.hbm, 127, rfl⟩
abbrev main_call0_call0_call0_v64 : Ref sig .tc := ⟨.hbm, 128, rfl⟩
abbrev main_call0_call0_call0_v65 : Ref sig .tc := ⟨.hbm, 129, rfl⟩
abbrev main_call0_call0_call0_v66 : Ref sig .tc := ⟨.hbm, 130, rfl⟩
abbrev main_call0_call0_call0_v67 : Ref sig .tc := ⟨.hbm, 131, rfl⟩
abbrev main_call0_call0_call0_v68 : Ref sig .tc := ⟨.hbm, 132, rfl⟩
abbrev main_call0_call0_call0_v69 : Ref sig .tc := ⟨.hbm, 133, rfl⟩
abbrev main_call0_call0_call0_v70 : Ref sig .tc := ⟨.hbm, 134, rfl⟩
abbrev main_call0_call0_call0_v71 : Ref sig .tc := ⟨.hbm, 135, rfl⟩
abbrev main_call0_call0_call0_c_17 : Ref sig .tc := ⟨.hbm, 136, rfl⟩
abbrev main_call0_call0_call0_v72 : Ref sig .tc := ⟨.hbm, 137, rfl⟩
abbrev main_call0_call0_call0_v73 : Ref sig .tc := ⟨.hbm, 138, rfl⟩
abbrev main_call0_call0_call0_v74 : Ref sig .tc := ⟨.hbm, 139, rfl⟩
abbrev main_call0_call0_call0_c_18 : Ref sig .tc := ⟨.hbm, 140, rfl⟩
abbrev main_call0_call0_call0_v75 : Ref sig .tc := ⟨.hbm, 141, rfl⟩
abbrev main_call0_call0_call0_v76 : Ref sig .tc := ⟨.hbm, 142, rfl⟩
abbrev main_call0_call0_call0_c_19 : Ref sig .tc := ⟨.hbm, 143, rfl⟩
abbrev main_call0_call0_call0_v77 : Ref sig .tc := ⟨.hbm, 144, rfl⟩
abbrev main_call0_call0_call0_v78 : Ref sig .tc := ⟨.hbm, 145, rfl⟩
abbrev main_call0_call0_call0_v79 : Ref sig .tc := ⟨.hbm, 146, rfl⟩
abbrev main_call0_call0_call0_v80 : Ref sig .tc := ⟨.hbm, 147, rfl⟩
abbrev main_call0_call0_call0_v81 : Ref sig .tc := ⟨.hbm, 148, rfl⟩
abbrev main_call0_call0_call0_c_20 : Ref sig .tc := ⟨.hbm, 149, rfl⟩
abbrev main_call0_call0_call0_v82 : Ref sig .tc := ⟨.hbm, 150, rfl⟩
abbrev main_call0_call0_call0_v83 : Ref sig .tc := ⟨.hbm, 151, rfl⟩
abbrev main_call0_call0_call0_c_21 : Ref sig .tc := ⟨.hbm, 152, rfl⟩
abbrev main_call0_call0_call0_v84 : Ref sig .tc := ⟨.hbm, 153, rfl⟩
abbrev main_call0_call0_call0_v85 : Ref sig .tc := ⟨.hbm, 154, rfl⟩
abbrev main_call0_call0_call0_v86 : Ref sig .tc := ⟨.hbm, 155, rfl⟩
abbrev main_call0_call0_call0_v87 : Ref sig .tc := ⟨.hbm, 156, rfl⟩
abbrev main_call0_call0_call0_v88 : Ref sig .tc := ⟨.hbm, 157, rfl⟩
abbrev main_call0_call0_call0_c_22 : Ref sig .tc := ⟨.hbm, 158, rfl⟩
abbrev main_call0_call0_call0_v89 : Ref sig .tc := ⟨.hbm, 159, rfl⟩
abbrev main_call0_call0_call0_v90 : Ref sig .tc := ⟨.hbm, 160, rfl⟩
abbrev main_call0_call0_call0_c_23 : Ref sig .tc := ⟨.hbm, 161, rfl⟩
abbrev main_call0_call0_call0_v91 : Ref sig .tc := ⟨.hbm, 162, rfl⟩
abbrev main_call0_call0_call0_v92 : Ref sig .tc := ⟨.hbm, 163, rfl⟩
abbrev main_call0_call0_call0_v93 : Ref sig .tc := ⟨.hbm, 164, rfl⟩
abbrev main_call0_call0_call0_v94 : Ref sig .tc := ⟨.hbm, 165, rfl⟩
abbrev main_call0_call0_call0_v95 : Ref sig .tc := ⟨.hbm, 166, rfl⟩
abbrev main_call0_call0_call0_c_24 : Ref sig .tc := ⟨.hbm, 167, rfl⟩
abbrev main_call0_call0_call0_v96 : Ref sig .tc := ⟨.hbm, 168, rfl⟩
abbrev main_call0_call0_call0_v97 : Ref sig .tc := ⟨.hbm, 169, rfl⟩
abbrev main_call0_call0_call0_c_25 : Ref sig .tc := ⟨.hbm, 170, rfl⟩
abbrev main_call0_call0_call0_v98 : Ref sig .tc := ⟨.hbm, 171, rfl⟩
abbrev main_call0_call0_call0_v99 : Ref sig .tc := ⟨.hbm, 172, rfl⟩
abbrev main_call0_call0_call0_v100 : Ref sig .tc := ⟨.hbm, 173, rfl⟩
abbrev main_call0_call0_call0_v101 : Ref sig .tc := ⟨.hbm, 174, rfl⟩
abbrev main_call0_call0_call0_v102 : Ref sig .tc := ⟨.hbm, 175, rfl⟩
abbrev main_call0_call0_call0_v103 : Ref sig .tc := ⟨.hbm, 176, rfl⟩
abbrev main_call0_call0_call0_v104 : Ref sig .tc := ⟨.hbm, 177, rfl⟩
abbrev main_call0_call0_call0_v105 : Ref sig .tc := ⟨.hbm, 178, rfl⟩
abbrev main_call0_call0_call0_c_26 : Ref sig .tc := ⟨.hbm, 179, rfl⟩
abbrev main_call0_call0_call0_v106 : Ref sig .tc := ⟨.hbm, 180, rfl⟩
abbrev main_call0_call0_call0_v107 : Ref sig .tc := ⟨.hbm, 181, rfl⟩
abbrev main_call0_call0_call0_v108 : Ref sig .tc := ⟨.hbm, 182, rfl⟩
abbrev main_call0_call0_call0_c_27 : Ref sig .tc := ⟨.hbm, 183, rfl⟩
abbrev main_call0_call0_call0_v109 : Ref sig .tc := ⟨.hbm, 184, rfl⟩
abbrev main_call0_call0_call0_v110 : Ref sig .tc := ⟨.hbm, 185, rfl⟩
abbrev main_call0_call0_call0_c_28 : Ref sig .tc := ⟨.hbm, 186, rfl⟩
abbrev main_call0_call0_call0_v111 : Ref sig .tc := ⟨.hbm, 187, rfl⟩
abbrev main_call0_call0_call0_v112 : Ref sig .tc := ⟨.hbm, 188, rfl⟩
abbrev main_call0_call0_call0_v113 : Ref sig .tc := ⟨.hbm, 189, rfl⟩
abbrev main_call0_call0_call0_v114 : Ref sig .tc := ⟨.hbm, 190, rfl⟩
abbrev main_call0_call0_call0_v115 : Ref sig .tc := ⟨.hbm, 191, rfl⟩
abbrev main_call0_call0_call0_c_29 : Ref sig .tc := ⟨.hbm, 192, rfl⟩
abbrev main_call0_call0_call0_v116 : Ref sig .tc := ⟨.hbm, 193, rfl⟩
abbrev main_call0_call0_call0_v117 : Ref sig .tc := ⟨.hbm, 194, rfl⟩
abbrev main_call0_call0_call0_c_30 : Ref sig .tc := ⟨.hbm, 195, rfl⟩
abbrev main_call0_call0_call0_v118 : Ref sig .tc := ⟨.hbm, 196, rfl⟩
abbrev main_call0_call0_call0_v119 : Ref sig .tc := ⟨.hbm, 197, rfl⟩
abbrev main_call0_call0_call0_v120 : Ref sig .tc := ⟨.hbm, 198, rfl⟩
abbrev main_call0_call0_call0_v121 : Ref sig .tc := ⟨.hbm, 199, rfl⟩
abbrev main_call0_call0_call0_v122 : Ref sig .tc := ⟨.hbm, 200, rfl⟩
abbrev main_call0_call0_call0_c_31 : Ref sig .tc := ⟨.hbm, 201, rfl⟩
abbrev main_call0_call0_call0_v123 : Ref sig .tc := ⟨.hbm, 202, rfl⟩
abbrev main_call0_call0_call0_v124 : Ref sig .tc := ⟨.hbm, 203, rfl⟩
abbrev main_call0_call0_call0_c_32 : Ref sig .tc := ⟨.hbm, 204, rfl⟩
abbrev main_call0_call0_call0_v125 : Ref sig .tc := ⟨.hbm, 205, rfl⟩
abbrev main_call0_call0_call0_v126 : Ref sig .tc := ⟨.hbm, 206, rfl⟩
abbrev main_call0_call0_call0_v127 : Ref sig .tc := ⟨.hbm, 207, rfl⟩
abbrev main_call0_call0_call0_v128 : Ref sig .tc := ⟨.hbm, 208, rfl⟩
abbrev main_call0_call0_call0_v129 : Ref sig .tc := ⟨.hbm, 209, rfl⟩
abbrev main_call0_call0_call0_c_33 : Ref sig .tc := ⟨.hbm, 210, rfl⟩
abbrev main_call0_call0_call0_v130 : Ref sig .tc := ⟨.hbm, 211, rfl⟩
abbrev main_call0_call0_call0_v131 : Ref sig .tc := ⟨.hbm, 212, rfl⟩
abbrev main_call0_call0_call0_c_34 : Ref sig .tc := ⟨.hbm, 213, rfl⟩
abbrev main_call0_call0_call0_v132 : Ref sig .tc := ⟨.hbm, 214, rfl⟩
abbrev main_call0_call0_call0_v133 : Ref sig .tc := ⟨.hbm, 215, rfl⟩
abbrev main_call0_call0_call0_v134 : Ref sig .tc := ⟨.hbm, 216, rfl⟩
abbrev main_call0_call0_call0_v135 : Ref sig .tc := ⟨.hbm, 217, rfl⟩
abbrev main_call0_call0_call0_v136 : Ref sig .tc := ⟨.hbm, 218, rfl⟩
abbrev main_call0_call0_call0_v137 : Ref sig .tc := ⟨.hbm, 219, rfl⟩
abbrev main_call0_call0_call0_v138 : Ref sig .tc := ⟨.hbm, 220, rfl⟩
abbrev main_call0_call0_call0_v139 : Ref sig .tc := ⟨.hbm, 221, rfl⟩
abbrev main_call0_call0_call0_c_35 : Ref sig .tc := ⟨.hbm, 222, rfl⟩
abbrev main_call0_call0_call0_v140 : Ref sig .tc := ⟨.hbm, 223, rfl⟩
abbrev main_call0_call0_call0_v141 : Ref sig .tc := ⟨.hbm, 224, rfl⟩
abbrev main_call0_call0_call0_v142 : Ref sig .tc := ⟨.hbm, 225, rfl⟩
abbrev main_call0_call0_call0_c_36 : Ref sig .tc := ⟨.hbm, 226, rfl⟩
abbrev main_call0_call0_call0_v143 : Ref sig .tc := ⟨.hbm, 227, rfl⟩
abbrev main_call0_call0_call0_v144 : Ref sig .tc := ⟨.hbm, 228, rfl⟩
abbrev main_call0_call0_call0_c_37 : Ref sig .tc := ⟨.hbm, 229, rfl⟩
abbrev main_call0_call0_call0_v145 : Ref sig .tc := ⟨.hbm, 230, rfl⟩
abbrev main_call0_call0_call0_v146 : Ref sig .tc := ⟨.hbm, 231, rfl⟩
abbrev main_call0_call0_call0_v147 : Ref sig .tc := ⟨.hbm, 232, rfl⟩
abbrev main_call0_call0_call0_v148 : Ref sig .tc := ⟨.hbm, 233, rfl⟩
abbrev main_call0_call0_call0_v149 : Ref sig .tc := ⟨.hbm, 234, rfl⟩
abbrev main_call0_call0_call0_c_38 : Ref sig .tc := ⟨.hbm, 235, rfl⟩
abbrev main_call0_call0_call0_v150 : Ref sig .tc := ⟨.hbm, 236, rfl⟩
abbrev main_call0_call0_call0_v151 : Ref sig .tc := ⟨.hbm, 237, rfl⟩
abbrev main_call0_call0_call0_c_39 : Ref sig .tc := ⟨.hbm, 238, rfl⟩
abbrev main_call0_call0_call0_v152 : Ref sig .tc := ⟨.hbm, 239, rfl⟩
abbrev main_call0_call0_call0_v153 : Ref sig .tc := ⟨.hbm, 240, rfl⟩
abbrev main_call0_call0_call0_v154 : Ref sig .tc := ⟨.hbm, 241, rfl⟩
abbrev main_call0_call0_call0_v155 : Ref sig .tc := ⟨.hbm, 242, rfl⟩
abbrev main_call0_call0_call0_v156 : Ref sig .tc := ⟨.hbm, 243, rfl⟩
abbrev main_call0_call0_call0_c_40 : Ref sig .tc := ⟨.hbm, 244, rfl⟩
abbrev main_call0_call0_call0_v157 : Ref sig .tc := ⟨.hbm, 245, rfl⟩
abbrev main_call0_call0_call0_v158 : Ref sig .tc := ⟨.hbm, 246, rfl⟩
abbrev main_call0_call0_call0_c_41 : Ref sig .tc := ⟨.hbm, 247, rfl⟩
abbrev main_call0_call0_call0_v159 : Ref sig .tc := ⟨.hbm, 248, rfl⟩
abbrev main_call0_call0_call0_v160 : Ref sig .tc := ⟨.hbm, 249, rfl⟩
abbrev main_call0_call0_call0_v161 : Ref sig .tc := ⟨.hbm, 250, rfl⟩
abbrev main_call0_call0_call0_v162 : Ref sig .tc := ⟨.hbm, 251, rfl⟩
abbrev main_call0_call0_call0_v163 : Ref sig .tc := ⟨.hbm, 252, rfl⟩
abbrev main_call0_call0_call0_c_42 : Ref sig .tc := ⟨.hbm, 253, rfl⟩
abbrev main_call0_call0_call0_v164 : Ref sig .tc := ⟨.hbm, 254, rfl⟩
abbrev main_call0_call0_call0_v165 : Ref sig .tc := ⟨.hbm, 255, rfl⟩
abbrev main_call0_call0_call0_c_43 : Ref sig .tc := ⟨.hbm, 256, rfl⟩
abbrev main_call0_call0_call0_v166 : Ref sig .tc := ⟨.hbm, 257, rfl⟩
abbrev main_call0_call0_call0_v167 : Ref sig .tc := ⟨.hbm, 258, rfl⟩
abbrev main_call0_call0_call0_v168 : Ref sig .tc := ⟨.hbm, 259, rfl⟩
abbrev main_call0_call0_call0_v169 : Ref sig .tc := ⟨.hbm, 260, rfl⟩
abbrev main_call0_call0_call0_v170 : Ref sig .tc := ⟨.hbm, 261, rfl⟩
abbrev main_call0_call0_v18_0 : Ref sig .tc := ⟨.hbm, 262, rfl⟩
abbrev main_call0_call0_call0_v172 : Ref sig .tc := ⟨.hbm, 263, rfl⟩
abbrev main_call0_call0_call0_v173 : Ref sig .tc := ⟨.hbm, 264, rfl⟩
abbrev main_call0_call0_call0_c_44 : Ref sig .tc := ⟨.hbm, 265, rfl⟩
abbrev main_call0_call0_call0_v174 : Ref sig .tc := ⟨.hbm, 266, rfl⟩
abbrev main_call0_call0_v18_1 : Ref sig .tc := ⟨.hbm, 267, rfl⟩
abbrev main_call0_call0_v19 : Ref sig .tc := ⟨.hbm, 268, rfl⟩
abbrev main_call0_call0_c_2 : Ref sig .tc := ⟨.hbm, 269, rfl⟩
abbrev main_call0_call0_v20 : Ref sig .tc := ⟨.hbm, 270, rfl⟩
abbrev main_call0_call0_v21 : Ref sig .tc := ⟨.hbm, 271, rfl⟩
abbrev main_call0_call0_c_3 : Ref sig .tc := ⟨.hbm, 272, rfl⟩
abbrev main_call0_call0_v22 : Ref sig .tc := ⟨.hbm, 273, rfl⟩
abbrev main_call0_call0_v23 : Ref sig .tc := ⟨.hbm, 274, rfl⟩
abbrev main_call0_call0_v24 : Ref sig .tc := ⟨.hbm, 275, rfl⟩
abbrev main_call0_call0_cst : Ref sig .tc := ⟨.hbm, 276, rfl⟩
abbrev main_call0_call0_v25 : Ref sig .tc := ⟨.hbm, 277, rfl⟩
abbrev main_call0_call0_v26 : Ref sig .tc := ⟨.hbm, 278, rfl⟩
abbrev main_call0_call0_v27 : Ref sig .tc := ⟨.hbm, 279, rfl⟩
abbrev main_call0_call0_v28 : Ref sig .tc := ⟨.hbm, 280, rfl⟩
abbrev main_call0_call0_v29 : Ref sig .tc := ⟨.hbm, 281, rfl⟩
abbrev main_call0_call0_v30 : Ref sig .tc := ⟨.hbm, 282, rfl⟩
abbrev main_call0_call0_v31 : Ref sig .tc := ⟨.hbm, 283, rfl⟩
abbrev main_call0_call0_v32 : Ref sig .tc := ⟨.hbm, 284, rfl⟩
abbrev main_call0_v0 : Ref sig .tc := ⟨.hbm, 285, rfl⟩
abbrev main_call0_v1 : Ref sig .tc := ⟨.hbm, 286, rfl⟩
abbrev main_call0_v2 : Ref sig .tc := ⟨.hbm, 287, rfl⟩
abbrev main_call0_v3 : Ref sig .tc := ⟨.hbm, 288, rfl⟩
abbrev main_v7 : Ref sig .tc := ⟨.hbm, 289, rfl⟩
abbrev main_v8_0 : Ref sig .tc := ⟨.hbm, 290, rfl⟩
abbrev main_v8_1 : Ref sig .tc := ⟨.hbm, 291, rfl⟩
abbrev main_v9 : Ref sig .tc := ⟨.hbm, 292, rfl⟩
abbrev main_c_2 : Ref sig .tc := ⟨.hbm, 293, rfl⟩
abbrev main_v10 : Ref sig .tc := ⟨.hbm, 294, rfl⟩
abbrev main_c_3 : Ref sig .tc := ⟨.hbm, 295, rfl⟩
abbrev main_call1_v0 : Ref sig .tc := ⟨.hbm, 296, rfl⟩
abbrev main_call1_v1 : Ref sig .tc := ⟨.hbm, 297, rfl⟩
abbrev main_v11 : Ref sig .tc := ⟨.hbm, 298, rfl⟩
abbrev main_c_4 : Ref sig .tc := ⟨.hbm, 299, rfl⟩
abbrev main_v12 : Ref sig .tc := ⟨.hbm, 300, rfl⟩
abbrev main_v13 : Ref sig .tc := ⟨.hbm, 301, rfl⟩
abbrev main_c_5 : Ref sig .tc := ⟨.hbm, 302, rfl⟩
abbrev main_v14 : Ref sig .tc := ⟨.hbm, 303, rfl⟩
abbrev main_v15 : Ref sig .tc := ⟨.hbm, 304, rfl⟩
abbrev main_v16 : Ref sig .tc := ⟨.hbm, 305, rfl⟩
abbrev main_v17 : Ref sig .tc := ⟨.hbm, 306, rfl⟩
abbrev main_c_6 : Ref sig .tc := ⟨.hbm, 307, rfl⟩
abbrev main_v18 : Ref sig .tc := ⟨.hbm, 308, rfl⟩
abbrev main_v19 : Ref sig .tc := ⟨.hbm, 309, rfl⟩
abbrev main_call2_v0 : Ref sig .tc := ⟨.hbm, 310, rfl⟩
abbrev main_call2_v1_0 : Ref sig .tc := ⟨.hbm, 311, rfl⟩
abbrev main_v20 : Ref sig .tc := ⟨.hbm, 312, rfl⟩
abbrev main_c_7 : Ref sig .tc := ⟨.hbm, 313, rfl⟩
abbrev main_v21 : Ref sig .tc := ⟨.hbm, 314, rfl⟩
abbrev main_v22 : Ref sig .tc := ⟨.hbm, 315, rfl⟩
abbrev main_c_8 : Ref sig .tc := ⟨.hbm, 316, rfl⟩
abbrev main_v23 : Ref sig .tc := ⟨.hbm, 317, rfl⟩
abbrev main_v24 : Ref sig .tc := ⟨.hbm, 318, rfl⟩
abbrev main_c_9 : Ref sig .tc := ⟨.hbm, 319, rfl⟩
abbrev main_call3_v0 : Ref sig .tc := ⟨.hbm, 320, rfl⟩
abbrev main_call3_v1 : Ref sig .tc := ⟨.hbm, 321, rfl⟩
abbrev main_call3_v2 : Ref sig .tc := ⟨.hbm, 322, rfl⟩
abbrev main_call3_v3 : Ref sig .tc := ⟨.hbm, 323, rfl⟩
abbrev main_call3_v4 : Ref sig .tc := ⟨.hbm, 324, rfl⟩
abbrev main_call3_v5 : Ref sig .tc := ⟨.hbm, 325, rfl⟩
abbrev main_call3_v6 : Ref sig .tc := ⟨.hbm, 326, rfl⟩
abbrev main_call3_v7 : Ref sig .tc := ⟨.hbm, 327, rfl⟩
abbrev main_call3_v8 : Ref sig .tc := ⟨.hbm, 328, rfl⟩
abbrev main_call3_c : Ref sig .tc := ⟨.hbm, 329, rfl⟩
abbrev main_call3_v9 : Ref sig .tc := ⟨.hbm, 330, rfl⟩
abbrev main_call3_v10 : Ref sig .tc := ⟨.hbm, 331, rfl⟩
abbrev main_call3_v11 : Ref sig .tc := ⟨.hbm, 332, rfl⟩
abbrev main_call3_c_0 : Ref sig .tc := ⟨.hbm, 333, rfl⟩
abbrev main_call3_v12 : Ref sig .tc := ⟨.hbm, 334, rfl⟩
abbrev main_call3_v13 : Ref sig .tc := ⟨.hbm, 335, rfl⟩
abbrev main_v25 : Ref sig .tc := ⟨.hbm, 336, rfl⟩
abbrev main_call4_call0_c : Ref sig .tc := ⟨.hbm, 337, rfl⟩
abbrev main_call4_call0_v0 : Ref sig .tc := ⟨.hbm, 338, rfl⟩
abbrev main_v26 : Ref sig .tc := ⟨.hbm, 339, rfl⟩
abbrev main_c_10 : Ref sig .tc := ⟨.hbm, 340, rfl⟩
abbrev main_v27 : Ref sig .tc := ⟨.hbm, 341, rfl⟩
abbrev main_v28 : Ref sig .tc := ⟨.hbm, 342, rfl⟩
abbrev main_v29 : Ref sig .tc := ⟨.hbm, 343, rfl⟩
abbrev main_c_11 : Ref sig .tc := ⟨.hbm, 344, rfl⟩
abbrev main_v30 : Ref sig .tc := ⟨.hbm, 345, rfl⟩
abbrev main_v31 : Ref sig .tc := ⟨.hbm, 346, rfl⟩
abbrev main_c_12 : Ref sig .tc := ⟨.hbm, 347, rfl⟩
abbrev main_v32 : Ref sig .tc := ⟨.hbm, 348, rfl⟩
abbrev main_call5_call0_c : Ref sig .tc := ⟨.hbm, 349, rfl⟩
abbrev main_call5_call0_v0 : Ref sig .tc := ⟨.hbm, 350, rfl⟩
abbrev main_v33 : Ref sig .tc := ⟨.hbm, 351, rfl⟩
abbrev main_v34 : Ref sig .tc := ⟨.hbm, 352, rfl⟩
abbrev main_v35 : Ref sig .tc := ⟨.hbm, 353, rfl⟩
abbrev main_c_13 : Ref sig .tc := ⟨.hbm, 354, rfl⟩
abbrev main_v36 : Ref sig .tc := ⟨.hbm, 355, rfl⟩
abbrev main_v37 : Ref sig .tc := ⟨.hbm, 356, rfl⟩
abbrev main_c_14 : Ref sig .tc := ⟨.hbm, 357, rfl⟩
abbrev main_v38 : Ref sig .tc := ⟨.hbm, 358, rfl⟩
abbrev main_v39 : Ref sig .tc := ⟨.hbm, 359, rfl⟩
abbrev main_v40 : Ref sig .tc := ⟨.hbm, 360, rfl⟩
abbrev main_v41 : Ref sig .tc := ⟨.hbm, 361, rfl⟩
abbrev main_v42 : Ref sig .tc := ⟨.hbm, 362, rfl⟩
abbrev main_v43 : Ref sig .tc := ⟨.hbm, 363, rfl⟩
abbrev main_c_15 : Ref sig .tc := ⟨.hbm, 364, rfl⟩
abbrev main_v44 : Ref sig .tc := ⟨.hbm, 365, rfl⟩
abbrev main_v45 : Ref sig .tc := ⟨.hbm, 366, rfl⟩
abbrev main_c_16 : Ref sig .tc := ⟨.hbm, 367, rfl⟩
abbrev main_v46 : Ref sig .tc := ⟨.hbm, 368, rfl⟩
abbrev main_v47 : Ref sig .tc := ⟨.hbm, 369, rfl⟩
abbrev main_v48 : Ref sig .tc := ⟨.hbm, 370, rfl⟩
abbrev main_v49 : Ref sig .tc := ⟨.hbm, 371, rfl⟩
abbrev main_v50 : Ref sig .tc := ⟨.hbm, 372, rfl⟩
abbrev main_c_17 : Ref sig .tc := ⟨.hbm, 373, rfl⟩
abbrev main_v51 : Ref sig .tc := ⟨.hbm, 374, rfl⟩
abbrev main_v52 : Ref sig .tc := ⟨.hbm, 375, rfl⟩
abbrev main_c_18 : Ref sig .tc := ⟨.hbm, 376, rfl⟩
abbrev main_v53 : Ref sig .tc := ⟨.hbm, 377, rfl⟩
abbrev main_v54 : Ref sig .tc := ⟨.hbm, 378, rfl⟩
abbrev main_v55 : Ref sig .tc := ⟨.hbm, 379, rfl⟩
abbrev main_v56 : Ref sig .tc := ⟨.hbm, 380, rfl⟩
abbrev main_v57 : Ref sig .tc := ⟨.hbm, 381, rfl⟩
abbrev main_v58 : Ref sig .tc := ⟨.hbm, 382, rfl⟩
abbrev main_v59 : Ref sig .tc := ⟨.hbm, 383, rfl⟩
abbrev main_c_19 : Ref sig .tc := ⟨.hbm, 384, rfl⟩
abbrev main_v60 : Ref sig .tc := ⟨.hbm, 385, rfl⟩
abbrev main_c_20 : Ref sig .tc := ⟨.hbm, 386, rfl⟩
abbrev main_v61 : Ref sig .tc := ⟨.hbm, 387, rfl⟩
abbrev main_v62 : Ref sig .tc := ⟨.hbm, 388, rfl⟩
abbrev main_c_21 : Ref sig .tc := ⟨.hbm, 389, rfl⟩
abbrev main_v63 : Ref sig .tc := ⟨.hbm, 390, rfl⟩
abbrev main_v64 : Ref sig .tc := ⟨.hbm, 391, rfl⟩
abbrev main_v65 : Ref sig .tc := ⟨.hbm, 392, rfl⟩
abbrev main_v66 : Ref sig .tc := ⟨.hbm, 393, rfl⟩
abbrev main_v67 : Ref sig .tc := ⟨.hbm, 394, rfl⟩
abbrev main_c_22 : Ref sig .tc := ⟨.hbm, 395, rfl⟩
abbrev main_v68 : Ref sig .tc := ⟨.hbm, 396, rfl⟩
abbrev main_v69 : Ref sig .tc := ⟨.hbm, 397, rfl⟩
abbrev main_v70 : Ref sig .tc := ⟨.hbm, 398, rfl⟩
abbrev main_call6_call0_c : Ref sig .tc := ⟨.hbm, 399, rfl⟩
abbrev main_call6_call0_v0 : Ref sig .tc := ⟨.hbm, 400, rfl⟩
abbrev main_v71 : Ref sig .tc := ⟨.hbm, 401, rfl⟩
abbrev main_c_23 : Ref sig .tc := ⟨.hbm, 402, rfl⟩
abbrev main_v72 : Ref sig .tc := ⟨.hbm, 403, rfl⟩
abbrev main_v73 : Ref sig .tc := ⟨.hbm, 404, rfl⟩
abbrev main_c_24 : Ref sig .tc := ⟨.hbm, 405, rfl⟩
abbrev main_v74 : Ref sig .tc := ⟨.hbm, 406, rfl⟩
abbrev main_v75 : Ref sig .tc := ⟨.hbm, 407, rfl⟩
abbrev main_c_25 : Ref sig .tc := ⟨.hbm, 408, rfl⟩
abbrev main_v76 : Ref sig .tc := ⟨.hbm, 409, rfl⟩
abbrev main_v77 : Ref sig .tc := ⟨.hbm, 410, rfl⟩
abbrev main_v78 : Ref sig .tc := ⟨.hbm, 411, rfl⟩
abbrev main_v79 : Ref sig .tc := ⟨.hbm, 412, rfl⟩
abbrev main_v80 : Ref sig .tc := ⟨.hbm, 413, rfl⟩
abbrev main_v81 : Ref sig .tc := ⟨.hbm, 414, rfl⟩
abbrev main_v82 : Ref sig .tc := ⟨.hbm, 415, rfl⟩
abbrev main_v83 : Ref sig .tc := ⟨.hbm, 416, rfl⟩
abbrev main_v84 : Ref sig .tc := ⟨.hbm, 417, rfl⟩
abbrev main_v85 : Ref sig .tc := ⟨.hbm, 418, rfl⟩
abbrev main_c_26 : Ref sig .tc := ⟨.hbm, 419, rfl⟩
abbrev main_v86 : Ref sig .tc := ⟨.hbm, 420, rfl⟩
abbrev main_c_27 : Ref sig .tc := ⟨.hbm, 421, rfl⟩
abbrev main_v87 : Ref sig .tc := ⟨.hbm, 422, rfl⟩
abbrev main_v89 : Ref sig .tc := ⟨.hbm, 423, rfl⟩
abbrev main_v90 : Ref sig .tc := ⟨.hbm, 424, rfl⟩
abbrev main_c_28 : Ref sig .tc := ⟨.hbm, 425, rfl⟩
abbrev main_v91 : Ref sig .tc := ⟨.hbm, 426, rfl⟩
abbrev main_v92 : Ref sig .tc := ⟨.hbm, 427, rfl⟩
abbrev main_v93 : Ref sig .tc := ⟨.hbm, 428, rfl⟩
abbrev main_v94 : Ref sig .tc := ⟨.hbm, 429, rfl⟩
abbrev main_v95 : Ref sig .tc := ⟨.hbm, 430, rfl⟩
abbrev main_v96 : Ref sig .tc := ⟨.hbm, 431, rfl⟩
abbrev main_v97 : Ref sig .tc := ⟨.hbm, 432, rfl⟩
abbrev main_v98 : Ref sig .tc := ⟨.hbm, 433, rfl⟩
abbrev main_v99 : Ref sig .tc := ⟨.hbm, 434, rfl⟩
abbrev main_v100 : Ref sig .tc := ⟨.hbm, 435, rfl⟩
abbrev main_v101 : Ref sig .tc := ⟨.hbm, 436, rfl⟩
abbrev main_v102 : Ref sig .tc := ⟨.hbm, 437, rfl⟩
abbrev main_v103 : Ref sig .tc := ⟨.hbm, 438, rfl⟩
abbrev main_v104 : Ref sig .tc := ⟨.hbm, 439, rfl⟩
abbrev main_v105 : Ref sig .tc := ⟨.hbm, 440, rfl⟩
abbrev main_v106 : Ref sig .tc := ⟨.hbm, 441, rfl⟩
abbrev main_c_29 : Ref sig .tc := ⟨.hbm, 442, rfl⟩
abbrev main_v107 : Ref sig .tc := ⟨.hbm, 443, rfl⟩
abbrev main_v108 : Ref sig .tc := ⟨.hbm, 444, rfl⟩
abbrev main_v109 : Ref sig .tc := ⟨.hbm, 445, rfl⟩
abbrev main_v110 : Ref sig .tc := ⟨.hbm, 446, rfl⟩
abbrev main_v111 : Ref sig .tc := ⟨.hbm, 447, rfl⟩
abbrev main_v112 : Ref sig .tc := ⟨.hbm, 448, rfl⟩
abbrev main_v113 : Ref sig .tc := ⟨.hbm, 449, rfl⟩
abbrev main_v114 : Ref sig .tc := ⟨.hbm, 450, rfl⟩
abbrev main_v115 : Ref sig .tc := ⟨.hbm, 451, rfl⟩
abbrev main_v116 : Ref sig .tc := ⟨.hbm, 452, rfl⟩
abbrev main_v117 : Ref sig .tc := ⟨.hbm, 453, rfl⟩
abbrev main_v118 : Ref sig .tc := ⟨.hbm, 454, rfl⟩
abbrev main_v119 : Ref sig .tc := ⟨.hbm, 455, rfl⟩
abbrev main_v88 : Ref sig .tc := ⟨.smem, 0, rfl⟩
abbrev main_v89_scv : Ref sig .scVector := ⟨.hbm, 423, rfl⟩
abbrev main_v98_scv : Ref sig .scVector := ⟨.hbm, 433, rfl⟩
abbrev main_v99_scv : Ref sig .scVector := ⟨.hbm, 434, rfl⟩
abbrev main_v105_scv : Ref sig .scVector := ⟨.hbm, 440, rfl⟩
abbrev main_v115_scv : Ref sig .scVector := ⟨.hbm, 451, rfl⟩
abbrev main_v116_scv : Ref sig .scVector := ⟨.hbm, 452, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32
abbrev cc2_sem7_0 : DmaSem sig := 33
abbrev cc2_sem7_1 : DmaSem sig := 34
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v3 : BitVec 32 := Scalar.addi v2 c0_i32
  ![v3.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v3 : BitVec 32 := Scalar.addi v2 c0_i32
  let c0_i32_8_r1 : BitVec 32 := 0#32
  ![v3.toNat, 0]
abbrev grid2 : Pipeline.Grid := ⟨1, ![40], ![false]⟩

abbrev pre2 : Pipeline.Prefetch sig := ⟨1, ![main_v88.idx], fun | 0 => main_v88.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (k2_off1_inb : ∀ i : grid2.Coords, ∀ a, (k2_off1 i) a + S1.size a ≤ S40.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S40) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (k2_off1_inb : ∀ i : grid2.Coords, ∀ a, (k2_off1 i) a + S1.size a ≤ S40.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S40) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_3 (k2_off1_inb : ∀ i : grid2.Coords, ∀ a, (k2_off1 i) a + S1.size a ≤ S40.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S40) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_4 (k2_off1_inb : ∀ i : grid2.Coords, ∀ a, (k2_off1 i) a + S1.size a ≤ S40.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S40) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_5 (k2_off1_inb : ∀ i : grid2.Coords, ∀ a, (k2_off1 i) a + S1.size a ≤ S40.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S40) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_6 (k2_off1_inb : ∀ i : grid2.Coords, ∀ a, (k2_off1 i) a + S1.size a ≤ S40.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S40) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r0 : BitVec 32 := 0#32
  let c0_i32_16_r0 : BitVec 32 := 0#32
  ![v1.toNat, 0, 0]
def k3_off2 (i : grid3.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v3 : BitVec 32 := Scalar.addi v2 c0_i32
  let c0_i32_15_r1 : BitVec 32 := 0#32
  ![v3.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S8x1024x1024 : Shape := ⟨3, ![8, 1024, 1024]⟩
abbrev S8x1024 : Shape := ⟨2, ![8, 1024]⟩
abbrev S1x1024 : Shape := ⟨2, ![1, 1024]⟩
abbrev S_ : Shape := ⟨0, ![]⟩
abbrev S4096x8 : Shape := ⟨2, ![4096, 8]⟩
abbrev S1x8 : Shape := ⟨2, ![1, 8]⟩
abbrev S4096 : Shape := ⟨1, ![4096]⟩
abbrev S4096x1 : Shape := ⟨2, ![4096, 1]⟩
abbrev S1 : Shape := ⟨1, ![1]⟩
abbrev S2 : Shape := ⟨1, ![2]⟩
abbrev S1x1 : Shape := ⟨2, ![1, 1]⟩
abbrev S4096x8x1024 : Shape := ⟨3, ![4096, 8, 1024]⟩
abbrev S8x4096x1024 : Shape := ⟨3, ![8, 4096, 1024]⟩
abbrev S8x1x1024 : Shape := ⟨3, ![8, 1, 1024]⟩
abbrev S8x1 : Shape := ⟨2, ![8, 1]⟩
abbrev S1x4096 : Shape := ⟨2, ![1, 4096]⟩
abbrev S8x4096 : Shape := ⟨2, ![8, 4096]⟩
abbrev S8x4096x1 : Shape := ⟨3, ![8, 4096, 1]⟩
abbrev S4096x512 : Shape := ⟨2, ![4096, 512]⟩

abbrev nBuf : Space → Nat
  | .hbm => 364
  | .vmem => 0
  | .smem => 0
  | _ => 0

abbrev hbmTy0_0 (i : Nat) : BufTy := match i % 128 with
  | 0 => ⟨S4096x1024, .f32⟩
  | 1 => ⟨S1024x1024, .f32⟩
  | 2 => ⟨S1024, .f32⟩
  | 3 => ⟨S1024x1024, .f32⟩
  | 4 => ⟨S1024, .f32⟩
  | 5 => ⟨S1024x8, .f32⟩
  | 6 => ⟨S8, .f32⟩
  | 7 => ⟨S8x1024x1024, .f32⟩
  | 8 => ⟨S8x1024, .f32⟩
  | 9 => ⟨S8x1024x1024, .f32⟩
  | 10 => ⟨S8x1024, .f32⟩
  | 11 => ⟨S8x1024x1024, .f32⟩
  | 12 => ⟨S8x1024, .f32⟩
  | 13 => ⟨S4096x1024, .f32⟩
  | 14 => ⟨S1x1024, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S4096x8, .f32⟩
  | 28 => ⟨S1x8, .f32⟩
  | 29 => ⟨S4096x8, .f32⟩
  | 30 => ⟨S4096x8, .f32⟩
  | 31 => ⟨S_, .f32⟩
  | 32 => ⟨S4096, .f32⟩
  | 33 => ⟨S_, .f32⟩
  | 34 => ⟨S4096, .f32⟩
  | 35 => ⟨S4096, .f32⟩
  | 36 => ⟨S4096x1, .f32⟩
  | 37 => ⟨S4096x8, .f32⟩
  | 38 => ⟨S4096x8, .f32⟩
  | 39 => ⟨S4096x8, .f32⟩
  | 40 => ⟨S_, .f32⟩
  | 41 => ⟨S4096, .f32⟩
  | 42 => ⟨S4096x1, .f32⟩
  | 43 => ⟨S4096x8, .f32⟩
  | 44 => ⟨S4096x8, .f32⟩
  | 45 => ⟨S_, .i32⟩
  | 46 => ⟨S_, .i32⟩
  | 47 => ⟨S_, .i32⟩
  | 48 => ⟨S_, .i32⟩
  | 49 => ⟨S1, .i32⟩
  | 50 => ⟨S_, .i32⟩
  | 51 => ⟨S_, .i32⟩
  | 52 => ⟨S_, .i32⟩
  | 53 => ⟨S1, .i32⟩
  | 54 => ⟨S2, .i32⟩
  | 55 => ⟨S_, .f32⟩
  | 56 => ⟨S_, .f32⟩
  | 57 => ⟨S_, .f32⟩
  | 58 => ⟨S1x1, .f32⟩
  | 59 => ⟨S1x1, .f32⟩
  | 60 => ⟨S1, .i32⟩
  | 61 => ⟨S_, .i32⟩
  | 62 => ⟨S1, .i32⟩
  | 63 => ⟨S_, .i32⟩
  | 64 => ⟨S4096x8, .i64⟩
  | 65 => ⟨S4096x8, .i64⟩
  | 66 => ⟨S_, .i64⟩
  | 67 => ⟨S4096x8, .i64⟩
  | 68 => ⟨S4096x8, .i64⟩
  | 69 => ⟨S_, .i64⟩
  | 70 => ⟨S4096x8, .i64⟩
  | 71 => ⟨S4096x8, .i64⟩
  | 72 => ⟨S4096x8, .i64⟩
  | 73 => ⟨S_, .i64⟩
  | 74 => ⟨S4096x8, .i64⟩
  | 75 => ⟨S4096x8, .i64⟩
  | 76 => ⟨S4096x8, .i32⟩
  | 77 => ⟨S4096x8, .i32⟩
  | 78 => ⟨S_, .i32⟩
  | 79 => ⟨S_, .i32⟩
  | 80 => ⟨S_, .i32⟩
  | 81 => ⟨S4096x8, .i32⟩
  | 82 => ⟨S4096x8, .i32⟩
  | 83 => ⟨S4096x8, .i32⟩
  | 84 => ⟨S4096x8, .i32⟩
  | 85 => ⟨S4096x8, .i32⟩
  | 86 => ⟨S_, .i32⟩
  | 87 => ⟨S4096x8, .i32⟩
  | 88 => ⟨S4096x8, .i32⟩
  | 89 => ⟨S_, .i32⟩
  | 90 => ⟨S4096x8, .i32⟩
  | 91 => ⟨S4096x8, .i32⟩
  | 92 => ⟨S4096x8, .i32⟩
  | 93 => ⟨S4096x8, .i32⟩
  | 94 => ⟨S4096x8, .i32⟩
  | 95 => ⟨S_, .i32⟩
  | 96 => ⟨S4096x8, .i32⟩
  | 97 => ⟨S4096x8, .i32⟩
  | 98 => ⟨S_, .i32⟩
  | 99 => ⟨S4096x8, .i32⟩
  | 100 => ⟨S4096x8, .i32⟩
  | 101 => ⟨S4096x8, .i32⟩
  | 102 => ⟨S4096x8, .i32⟩
  | 103 => ⟨S4096x8, .i32⟩
  | 104 => ⟨S_, .i32⟩
  | 105 => ⟨S4096x8, .i32⟩
  | 106 => ⟨S4096x8, .i32⟩
  | 107 => ⟨S_, .i32⟩
  | 108 => ⟨S4096x8, .i32⟩
  | 109 => ⟨S4096x8, .i32⟩
  | 110 => ⟨S4096x8, .i32⟩
  | 111 => ⟨S4096x8, .i32⟩
  | 112 => ⟨S4096x8, .i32⟩
  | 113 => ⟨S_, .i32⟩
  | 114 => ⟨S4096x8, .i32⟩
  | 115 => ⟨S4096x8, .i32⟩
  | 116 => ⟨S_, .i32⟩
  | 117 => ⟨S4096x8, .i32⟩
  | 118 => ⟨S4096x8, .i32⟩
  | 119 => ⟨S4096x8, .i32⟩
  | 120 => ⟨S4096x8, .i32⟩
  | 121 => ⟨S4096x8, .i32⟩
  | 122 => ⟨S4096x8, .i32⟩
  | 123 => ⟨S4096x8, .i32⟩
  | 124 => ⟨S4096x8, .i32⟩
  | 125 => ⟨S_, .i32⟩
  | 126 => ⟨S4096x8, .i32⟩
  | 127 => ⟨S4096x8, .i32⟩
  | _ => ⟨S4096x1024, .f32⟩

abbrev hbmTy0_1 (i : Nat) : BufTy := match i % 128 with
  | 0 => ⟨S4096x8, .i32⟩
  | 1 => ⟨S_, .i32⟩
  | 2 => ⟨S4096x8, .i32⟩
  | 3 => ⟨S4096x8, .i32⟩
  | 4 => ⟨S_, .i32⟩
  | 5 => ⟨S4096x8, .i32⟩
  | 6 => ⟨S4096x8, .i32⟩
  | 7 => ⟨S4096x8, .i32⟩
  | 8 => ⟨S4096x8, .i32⟩
  | 9 => ⟨S4096x8, .i32⟩
  | 10 => ⟨S_, .i32⟩
  | 11 => ⟨S4096x8, .i32⟩
  | 12 => ⟨S4096x8, .i32⟩
  | 13 => ⟨S_, .i32⟩
  | 14 => ⟨S4096x8, .i32⟩
  | 15 => ⟨S4096x8, .i32⟩
  | 16 => ⟨S4096x8, .i32⟩
  | 17 => ⟨S4096x8, .i32⟩
  | 18 => ⟨S4096x8, .i32⟩
  | 19 => ⟨S_, .i32⟩
  | 20 => ⟨S4096x8, .i32⟩
  | 21 => ⟨S4096x8, .i32⟩
  | 22 => ⟨S_, .i32⟩
  | 23 => ⟨S4096x8, .i32⟩
  | 24 => ⟨S4096x8, .i32⟩
  | 25 => ⟨S4096x8, .i32⟩
  | 26 => ⟨S4096x8, .i32⟩
  | 27 => ⟨S4096x8, .i32⟩
  | 28 => ⟨S_, .i32⟩
  | 29 => ⟨S4096x8, .i32⟩
  | 30 => ⟨S4096x8, .i32⟩
  | 31 => ⟨S_, .i32⟩
  | 32 => ⟨S4096x8, .i32⟩
  | 33 => ⟨S4096x8, .i32⟩
  | 34 => ⟨S4096x8, .i32⟩
  | 35 => ⟨S4096x8, .i32⟩
  | 36 => ⟨S4096x8, .i32⟩
  | 37 => ⟨S4096x8, .i32⟩
  | 38 => ⟨S4096x8, .i32⟩
  | 39 => ⟨S4096x8, .i32⟩
  | 40 => ⟨S_, .i32⟩
  | 41 => ⟨S4096x8, .i32⟩
  | 42 => ⟨S4096x8, .i32⟩
  | 43 => ⟨S4096x8, .i32⟩
  | 44 => ⟨S_, .i32⟩
  | 45 => ⟨S4096x8, .i32⟩
  | 46 => ⟨S4096x8, .i32⟩
  | 47 => ⟨S_, .i32⟩
  | 48 => ⟨S4096x8, .i32⟩
  | 49 => ⟨S4096x8, .i32⟩
  | 50 => ⟨S4096x8, .i32⟩
  | 51 => ⟨S4096x8, .i32⟩
  | 52 => ⟨S4096x8, .i32⟩
  | 53 => ⟨S_, .i32⟩
  | 54 => ⟨S4096x8, .i32⟩
  | 55 => ⟨S4096x8, .i32⟩
  | 56 => ⟨S_, .i32⟩
  | 57 => ⟨S4096x8, .i32⟩
  | 58 => ⟨S4096x8, .i32⟩
  | 59 => ⟨S4096x8, .i32⟩
  | 60 => ⟨S4096x8, .i32⟩
  | 61 => ⟨S4096x8, .i32⟩
  | 62 => ⟨S_, .i32⟩
  | 63 => ⟨S4096x8, .i32⟩
  | 64 => ⟨S4096x8, .i32⟩
  | 65 => ⟨S_, .i32⟩
  | 66 => ⟨S4096x8, .i32⟩
  | 67 => ⟨S4096x8, .i32⟩
  | 68 => ⟨S4096x8, .i32⟩
  | 69 => ⟨S4096x8, .i32⟩
  | 70 => ⟨S4096x8, .i32⟩
  | 71 => ⟨S_, .i32⟩
  | 72 => ⟨S4096x8, .i32⟩
  | 73 => ⟨S4096x8, .i32⟩
  | 74 => ⟨S_, .i32⟩
  | 75 => ⟨S4096x8, .i32⟩
  | 76 => ⟨S4096x8, .i32⟩
  | 77 => ⟨S4096x8, .i32⟩
  | 78 => ⟨S4096x8, .i32⟩
  | 79 => ⟨S4096x8, .i32⟩
  | 80 => ⟨S4096x8, .i32⟩
  | 81 => ⟨S4096x8, .i32⟩
  | 82 => ⟨S4096x8, .i32⟩
  | 83 => ⟨S_, .i32⟩
  | 84 => ⟨S4096x8, .i32⟩
  | 85 => ⟨S4096x8, .i32⟩
  | 86 => ⟨S4096x8, .i32⟩
  | 87 => ⟨S_, .i32⟩
  | 88 => ⟨S4096x8, .i32⟩
  | 89 => ⟨S4096x8, .i32⟩
  | 90 => ⟨S_, .i32⟩
  | 91 => ⟨S4096x8, .i32⟩
  | 92 => ⟨S4096x8, .i32⟩
  | 93 => ⟨S4096x8, .i32⟩
  | 94 => ⟨S4096x8, .i32⟩
  | 95 => ⟨S4096x8, .i32⟩
  | 96 => ⟨S_, .i32⟩
  | 97 => ⟨S4096x8, .i32⟩
  | 98 => ⟨S4096x8, .i32⟩
  | 99 => ⟨S_, .i32⟩
  | 100 => ⟨S4096x8, .i32⟩
  | 101 => ⟨S4096x8, .i32⟩
  | 102 => ⟨S4096x8, .i32⟩
  | 103 => ⟨S4096x8, .i32⟩
  | 104 => ⟨S4096x8, .i32⟩
  | 105 => ⟨S_, .i32⟩
  | 106 => ⟨S4096x8, .i32⟩
  | 107 => ⟨S4096x8, .i32⟩
  | 108 => ⟨S_, .i32⟩
  | 109 => ⟨S4096x8, .i32⟩
  | 110 => ⟨S4096x8, .i32⟩
  | 111 => ⟨S4096x8, .i32⟩
  | 112 => ⟨S4096x8, .i32⟩
  | 113 => ⟨S4096x8, .i32⟩
  | 114 => ⟨S_, .i32⟩
  | 115 => ⟨S4096x8, .i32⟩
  | 116 => ⟨S4096x8, .i32⟩
  | 117 => ⟨S_, .i32⟩
  | 118 => ⟨S4096x8, .i32⟩
  | 119 => ⟨S4096x8, .i32⟩
  | 120 => ⟨S4096x8, .i32⟩
  | 121 => ⟨S4096x8, .i32⟩
  | 122 => ⟨S4096x8, .i32⟩
  | 123 => ⟨S4096x8, .i32⟩
  | 124 => ⟨S4096x8, .i32⟩
  | 125 => ⟨S4096x8, .i32⟩
  | 126 => ⟨S_, .i32⟩
  | 127 => ⟨S4096x8, .i32⟩
  | _ => ⟨S4096x1024, .f32⟩

abbrev hbmTy0_2 (i : Nat) : BufTy := match i % 128 with
  | 0 => ⟨S4096x8, .i32⟩
  | 1 => ⟨S4096x8, .i32⟩
  | 2 => ⟨S_, .i32⟩
  | 3 => ⟨S4096x8, .i32⟩
  | 4 => ⟨S4096x8, .i32⟩
  | 5 => ⟨S_, .i32⟩
  | 6 => ⟨S4096x8, .i32⟩
  | 7 => ⟨S4096x8, .i32⟩
  | 8 => ⟨S4096x8, .i32⟩
  | 9 => ⟨S4096x8, .i32⟩
  | 10 => ⟨S4096x8, .i32⟩
  | 11 => ⟨S_, .i32⟩
  | 12 => ⟨S4096x8, .i32⟩
  | 13 => ⟨S4096x8, .i32⟩
  | 14 => ⟨S_, .i32⟩
  | 15 => ⟨S4096x8, .i32⟩
  | 16 => ⟨S4096x8, .i32⟩
  | 17 => ⟨S4096x8, .i32⟩
  | 18 => ⟨S4096x8, .i32⟩
  | 19 => ⟨S4096x8, .i32⟩
  | 20 => ⟨S_, .i32⟩
  | 21 => ⟨S4096x8, .i32⟩
  | 22 => ⟨S4096x8, .i32⟩
  | 23 => ⟨S_, .i32⟩
  | 24 => ⟨S4096x8, .i32⟩
  | 25 => ⟨S4096x8, .i32⟩
  | 26 => ⟨S4096x8, .i32⟩
  | 27 => ⟨S4096x8, .i32⟩
  | 28 => ⟨S4096x8, .i32⟩
  | 29 => ⟨S_, .i32⟩
  | 30 => ⟨S4096x8, .i32⟩
  | 31 => ⟨S4096x8, .i32⟩
  | 32 => ⟨S_, .i32⟩
  | 33 => ⟨S4096x8, .i32⟩
  | 34 => ⟨S4096x8, .i32⟩
  | 35 => ⟨S4096x8, .i32⟩
  | 36 => ⟨S4096x8, .i32⟩
  | 37 => ⟨S4096x8, .i32⟩
  | 38 => ⟨S4096x8, .i32⟩
  | 39 => ⟨S4096x8, .i32⟩
  | 40 => ⟨S4096x8, .i32⟩
  | 41 => ⟨S_, .i32⟩
  | 42 => ⟨S4096x8, .i32⟩
  | 43 => ⟨S4096x8, .i32⟩
  | 44 => ⟨S4096x8, .i32⟩
  | 45 => ⟨S_, .i32⟩
  | 46 => ⟨S4096x8, .i32⟩
  | 47 => ⟨S4096x8, .i32⟩
  | 48 => ⟨S_, .i32⟩
  | 49 => ⟨S4096x8, .i32⟩
  | 50 => ⟨S4096x8, .i32⟩
  | 51 => ⟨S4096x8, .f32⟩
  | 52 => ⟨S_, .f32⟩
  | 53 => ⟨S4096x8, .f32⟩
  | 54 => ⟨S4096x8, .f32⟩
  | 55 => ⟨S1x1, .f32⟩
  | 56 => ⟨S4096x8, .f32⟩
  | 57 => ⟨S4096x8, .f32⟩
  | 58 => ⟨S4096x8, .f32⟩
  | 59 => ⟨S4096x8, .f32⟩
  | 60 => ⟨S4096x8, .f32⟩
  | 61 => ⟨S4096x8, .f32⟩
  | 62 => ⟨S4096x8, .f32⟩
  | 63 => ⟨S4096x8, .f32⟩
  | 64 => ⟨S4096x8, .f32⟩
  | 65 => ⟨S4096x8, .f32⟩
  | 66 => ⟨S4096x8, .f32⟩
  | 67 => ⟨S4096x8, .i32⟩
  | 68 => ⟨S_, .f32⟩
  | 69 => ⟨S_, .i32⟩
  | 70 => ⟨S4096, .f32⟩
  | 71 => ⟨S4096, .i32⟩
  | 72 => ⟨S4096x8x1024, .f32⟩
  | 73 => ⟨S8x4096x1024, .f32⟩
  | 74 => ⟨S8x1x1024, .f32⟩
  | 75 => ⟨S8x4096x1024, .f32⟩
  | 76 => ⟨S8x4096x1024, .f32⟩
  | 77 => ⟨S_, .f32⟩
  | 78 => ⟨S8x4096x1024, .f32⟩
  | 79 => ⟨S8x4096x1024, .f32⟩
  | 80 => ⟨S8x4096x1024, .f32⟩
  | 81 => ⟨S8x1x1024, .f32⟩
  | 82 => ⟨S8x4096x1024, .f32⟩
  | 83 => ⟨S8x4096x1024, .f32⟩
  | 84 => ⟨S_, .f32⟩
  | 85 => ⟨S8x4096x1024, .f32⟩
  | 86 => ⟨S8x4096x1024, .f32⟩
  | 87 => ⟨S8x4096x1024, .f32⟩
  | 88 => ⟨S8x1x1024, .f32⟩
  | 89 => ⟨S8x4096x1024, .f32⟩
  | 90 => ⟨S8x4096x1024, .f32⟩
  | 91 => ⟨S8, .i32⟩
  | 92 => ⟨S8x1, .i32⟩
  | 93 => ⟨S1x4096, .i32⟩
  | 94 => ⟨S8x4096, .i32⟩
  | 95 => ⟨S8x4096, .i32⟩
  | 96 => ⟨S8x4096, .i1⟩
  | 97 => ⟨S8x4096x1, .i1⟩
  | 98 => ⟨S_, .f32⟩
  | 99 => ⟨S_, .f32⟩
  | 100 => ⟨S8x4096x1024, .i1⟩
  | 101 => ⟨S8x4096x1024, .f32⟩
  | 102 => ⟨S8x4096x1024, .f32⟩
  | 103 => ⟨S_, .f32⟩
  | 104 => ⟨S4096x1024, .f32⟩
  | 105 => ⟨S4096x512, .f32⟩
  | 106 => ⟨S4096x512, .f32⟩
  | 107 => ⟨S4096x512, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call2_cst : Ref sig .tc := ⟨.hbm, 55, rfl⟩
abbrev main_call2_cst_0 : Ref sig .tc := ⟨.hbm, 56, rfl⟩
abbrev main_call2_call0_v0 : Ref sig .tc := ⟨.hbm, 57, rfl⟩
abbrev main_call2_call0_v1 : Ref sig .tc := ⟨.hbm, 58, rfl⟩
abbrev main_call2_call0_v2 : Ref sig .tc := ⟨.hbm, 59, rfl⟩
abbrev main_call2_call0_v3 : Ref sig .tc := ⟨.hbm, 60, rfl⟩
abbrev main_call2_call0_v4 : Ref sig .tc := ⟨.hbm, 61, rfl⟩
abbrev main_call2_call0_v5 : Ref sig .tc := ⟨.hbm, 62, rfl⟩
abbrev main_call2_call0_v6 : Ref sig .tc := ⟨.hbm, 63, rfl⟩
abbrev main_call2_call0_v7 : Ref sig .tc := ⟨.hbm, 64, rfl⟩
abbrev main_call2_call0_v8 : Ref sig .tc := ⟨.hbm, 65, rfl⟩
abbrev main_call2_call0_c : Ref sig .tc := ⟨.hbm, 66, rfl⟩
abbrev main_call2_call0_v9 : Ref sig .tc := ⟨.hbm, 67, rfl⟩
abbrev main_call2_call0_v10 : Ref sig .tc := ⟨.hbm, 68, rfl⟩
abbrev main_call2_call0_c_0 : Ref sig .tc := ⟨.hbm, 69, rfl⟩
abbrev main_call2_call0_v11 : Ref sig .tc := ⟨.hbm, 70, rfl⟩
abbrev main_call2_call0_v12 : Ref sig .tc := ⟨.hbm, 71, rfl⟩
abbrev main_call2_call0_v13 : Ref sig .tc := ⟨.hbm, 72, rfl⟩
abbrev main_call2_call0_c_1 : Ref sig .tc := ⟨.hbm, 73, rfl⟩
abbrev main_call2_call0_v14 : Ref sig .tc := ⟨.hbm, 74, rfl⟩
abbrev main_call2_call0_v15 : Ref sig .tc := ⟨.hbm, 75, rfl⟩
abbrev main_call2_call0_v16 : Ref sig .tc := ⟨.hbm, 76, rfl⟩
abbrev main_call2_call0_v17 : Ref sig .tc := ⟨.hbm, 77, rfl⟩
abbrev main_call2_call0_call0_v0 : Ref sig .tc := ⟨.hbm, 78, rfl⟩
abbrev main_call2_call0_call0_c : Ref sig .tc := ⟨.hbm, 79, rfl⟩
abbrev main_call2_call0_call0_v1 : Ref sig .tc := ⟨.hbm, 80, rfl⟩
abbrev main_call2_call0_call0_v2 : Ref sig .tc := ⟨.hbm, 81, rfl⟩
abbrev main_call2_call0_call0_v3 : Ref sig .tc := ⟨.hbm, 82, rfl⟩
abbrev main_call2_call0_call0_v4 : Ref sig .tc := ⟨.hbm, 83, rfl⟩
abbrev main_call2_call0_call0_v5 : Ref sig .tc := ⟨.hbm, 84, rfl⟩
abbrev main_call2_call0_call0_v6 : Ref sig .tc := ⟨.hbm, 85, rfl⟩
abbrev main_call2_call0_call0_c_0 : Ref sig .tc := ⟨.hbm, 86, rfl⟩
abbrev main_call2_call0_call0_v7 : Ref sig .tc := ⟨.hbm, 87, rfl⟩
abbrev main_call2_call0_call0_v8 : Ref sig .tc := ⟨.hbm, 88, rfl⟩
abbrev main_call2_call0_call0_c_1 : Ref sig .tc := ⟨.hbm, 89, rfl⟩
abbrev main_call2_call0_call0_v9 : Ref sig .tc := ⟨.hbm, 90, rfl⟩
abbrev main_call2_call0_call0_v10 : Ref sig .tc := ⟨.hbm, 91, rfl⟩
abbrev main_call2_call0_call0_v11 : Ref sig .tc := ⟨.hbm, 92, rfl⟩
abbrev main_call2_call0_call0_v12 : Ref sig .tc := ⟨.hbm, 93, rfl⟩
abbrev main_call2_call0_call0_v13 : Ref sig .tc := ⟨.hbm, 94, rfl⟩
abbrev main_call2_call0_call0_c_2 : Ref sig .tc := ⟨.hbm, 95, rfl⟩
abbrev main_call2_call0_call0_v14 : Ref sig .tc := ⟨.hbm, 96, rfl⟩
abbrev main_call2_call0_call0_v15 : Ref sig .tc := ⟨.hbm, 97, rfl⟩
abbrev main_call2_call0_call0_c_3 : Ref sig .tc := ⟨.hbm, 98, rfl⟩
abbrev main_call2_call0_call0_v16 : Ref sig .tc := ⟨.hbm, 99, rfl⟩
abbrev main_call2_call0_call0_v17 : Ref sig .tc := ⟨.hbm, 100, rfl⟩
abbrev main_call2_call0_call0_v18 : Ref sig .tc := ⟨.hbm, 101, rfl⟩
abbrev main_call2_call0_call0_v19 : Ref sig .tc := ⟨.hbm, 102, rfl⟩
abbrev main_call2_call0_call0_v20 : Ref sig .tc := ⟨.hbm, 103, rfl⟩
abbrev main_call2_call0_call0_c_4 : Ref sig .tc := ⟨.hbm, 104, rfl⟩
abbrev main_call2_call0_call0_v21 : Ref sig .tc := ⟨.hbm, 105, rfl⟩
abbrev main_call2_call0_call0_v22 : Ref sig .tc := ⟨.hbm, 106, rfl⟩
abbrev main_call2_call0_call0_c_5 : Ref sig .tc := ⟨.hbm, 107, rfl⟩
abbrev main_call2_call0_call0_v23 : Ref sig .tc := ⟨.hbm, 108, rfl⟩
abbrev main_call2_call0_call0_v24 : Ref sig .tc := ⟨.hbm, 109, rfl⟩
abbrev main_call2_call0_call0_v25 : Ref sig .tc := ⟨.hbm, 110, rfl⟩
abbrev main_call2_call0_call0_v26 : Ref sig .tc := ⟨.hbm, 111, rfl⟩
abbrev main_call2_call0_call0_v27 : Ref sig .tc := ⟨.hbm, 112, rfl⟩
abbrev main_call2_call0_call0_c_6 : Ref sig .tc := ⟨.hbm, 113, rfl⟩
abbrev main_call2_call0_call0_v28 : Ref sig .tc := ⟨.hbm, 114, rfl⟩
abbrev main_call2_call0_call0_v29 : Ref sig .tc := ⟨.hbm, 115, rfl⟩
abbrev main_call2_call0_call0_c_7 : Ref sig .tc := ⟨.hbm, 116, rfl⟩
abbrev main_call2_call0_call0_v30 : Ref sig .tc := ⟨.hbm, 117, rfl⟩
abbrev main_call2_call0_call0_v31 : Ref sig .tc := ⟨.hbm, 118, rfl⟩
abbrev main_call2_call0_call0_v32 : Ref sig .tc := ⟨.hbm, 119, rfl⟩
abbrev main_call2_call0_call0_v33 : Ref sig .tc := ⟨.hbm, 120, rfl⟩
abbrev main_call2_call0_call0_v34 : Ref sig .tc := ⟨.hbm, 121, rfl⟩
abbrev main_call2_call0_call0_v35 : Ref sig .tc := ⟨.hbm, 122, rfl⟩
abbrev main_call2_call0_call0_v36 : Ref sig .tc := ⟨.hbm, 123, rfl⟩
abbrev main_call2_call0_call0_v37 : Ref sig .tc := ⟨.hbm, 124, rfl⟩
abbrev main_call2_call0_call0_c_8 : Ref sig .tc := ⟨.hbm, 125, rfl⟩
abbrev main_call2_call0_call0_v38 : Ref sig .tc := ⟨.hbm, 126, rfl⟩
abbrev main_call2_call0_call0_v39 : Ref sig .tc := ⟨.hbm, 127, rfl⟩
abbrev main_call2_call0_call0_v40 : Ref sig .tc := ⟨.hbm, 128, rfl⟩
abbrev main_call2_call0_call0_c_9 : Ref sig .tc := ⟨.hbm, 129, rfl⟩
abbrev main_call2_call0_call0_v41 : Ref sig .tc := ⟨.hbm, 130, rfl⟩
abbrev main_call2_call0_call0_v42 : Ref sig .tc := ⟨.hbm, 131, rfl⟩
abbrev main_call2_call0_call0_c_10 : Ref sig .tc := ⟨.hbm, 132, rfl⟩
abbrev main_call2_call0_call0_v43 : Ref sig .tc := ⟨.hbm, 133, rfl⟩
abbrev main_call2_call0_call0_v44 : Ref sig .tc := ⟨.hbm, 134, rfl⟩
abbrev main_call2_call0_call0_v45 : Ref sig .tc := ⟨.hbm, 135, rfl⟩
abbrev main_call2_call0_call0_v46 : Ref sig .tc := ⟨.hbm, 136, rfl⟩
abbrev main_call2_call0_call0_v47 : Ref sig .tc := ⟨.hbm, 137, rfl⟩
abbrev main_call2_call0_call0_c_11 : Ref sig .tc := ⟨.hbm, 138, rfl⟩
abbrev main_call2_call0_call0_v48 : Ref sig .tc := ⟨.hbm, 139, rfl⟩
abbrev main_call2_call0_call0_v49 : Ref sig .tc := ⟨.hbm, 140, rfl⟩
abbrev main_call2_call0_call0_c_12 : Ref sig .tc := ⟨.hbm, 141, rfl⟩
abbrev main_call2_call0_call0_v50 : Ref sig .tc := ⟨.hbm, 142, rfl⟩
abbrev main_call2_call0_call0_v51 : Ref sig .tc := ⟨.hbm, 143, rfl⟩
abbrev main_call2_call0_call0_v52 : Ref sig .tc := ⟨.hbm, 144, rfl⟩
abbrev main_call2_call0_call0_v53 : Ref sig .tc := ⟨.hbm, 145, rfl⟩
abbrev main_call2_call0_call0_v54 : Ref sig .tc := ⟨.hbm, 146, rfl⟩
abbrev main_call2_call0_call0_c_13 : Ref sig .tc := ⟨.hbm, 147, rfl⟩
abbrev main_call2_call0_call0_v55 : Ref sig .tc := ⟨.hbm, 148, rfl⟩
abbrev main_call2_call0_call0_v56 : Ref sig .tc := ⟨.hbm, 149, rfl⟩
abbrev main_call2_call0_call0_c_14 : Ref sig .tc := ⟨.hbm, 150, rfl⟩
abbrev main_call2_call0_call0_v57 : Ref sig .tc := ⟨.hbm, 151, rfl⟩
abbrev main_call2_call0_call0_v58 : Ref sig .tc := ⟨.hbm, 152, rfl⟩
abbrev main_call2_call0_call0_v59 : Ref sig .tc := ⟨.hbm, 153, rfl⟩
abbrev main_call2_call0_call0_v60 : Ref sig .tc := ⟨.hbm, 154, rfl⟩
abbrev main_call2_call0_call0_v61 : Ref sig .tc := ⟨.hbm, 155, rfl⟩
abbrev main_call2_call0_call0_c_15 : Ref sig .tc := ⟨.hbm, 156, rfl⟩
abbrev main_call2_call0_call0_v62 : Ref sig .tc := ⟨.hbm, 157, rfl⟩
abbrev main_call2_call0_call0_v63 : Ref sig .tc := ⟨.hbm, 158, rfl⟩
abbrev main_call2_call0_call0_c_16 : Ref sig .tc := ⟨.hbm, 159, rfl⟩
abbrev main_call2_call0_call0_v64 : Ref sig .tc := ⟨.hbm, 160, rfl⟩
abbrev main_call2_call0_call0_v65 : Ref sig .tc := ⟨.hbm, 161, rfl⟩
abbrev main_call2_call0_call0_v66 : Ref sig .tc := ⟨.hbm, 162, rfl⟩
abbrev main_call2_call0_call0_v67 : Ref sig .tc := ⟨.hbm, 163, rfl⟩
abbrev main_call2_call0_call0_v68 : Ref sig .tc := ⟨.hbm, 164, rfl⟩
abbrev main_call2_call0_call0_v69 : Ref sig .tc := ⟨.hbm, 165, rfl⟩
abbrev main_call2_call0_call0_v70 : Ref sig .tc := ⟨.hbm, 166, rfl⟩
abbrev main_call2_call0_call0_v71 : Ref sig .tc := ⟨.hbm, 167, rfl⟩
abbrev main_call2_call0_call0_c_17 : Ref sig .tc := ⟨.hbm, 168, rfl⟩
abbrev main_call2_call0_call0_v72 : Ref sig .tc := ⟨.hbm, 169, rfl⟩
abbrev main_call2_call0_call0_v73 : Ref sig .tc := ⟨.hbm, 170, rfl⟩
abbrev main_call2_call0_call0_v74 : Ref sig .tc := ⟨.hbm, 171, rfl⟩
abbrev main_call2_call0_call0_c_18 : Ref sig .tc := ⟨.hbm, 172, rfl⟩
abbrev main_call2_call0_call0_v75 : Ref sig .tc := ⟨.hbm, 173, rfl⟩
abbrev main_call2_call0_call0_v76 : Ref sig .tc := ⟨.hbm, 174, rfl⟩
abbrev main_call2_call0_call0_c_19 : Ref sig .tc := ⟨.hbm, 175, rfl⟩
abbrev main_call2_call0_call0_v77 : Ref sig .tc := ⟨.hbm, 176, rfl⟩
abbrev main_call2_call0_call0_v78 : Ref sig .tc := ⟨.hbm, 177, rfl⟩
abbrev main_call2_call0_call0_v79 : Ref sig .tc := ⟨.hbm, 178, rfl⟩
abbrev main_call2_call0_call0_v80 : Ref sig .tc := ⟨.hbm, 179, rfl⟩
abbrev main_call2_call0_call0_v81 : Ref sig .tc := ⟨.hbm, 180, rfl⟩
abbrev main_call2_call0_call0_c_20 : Ref sig .tc := ⟨.hbm, 181, rfl⟩
abbrev main_call2_call0_call0_v82 : Ref sig .tc := ⟨.hbm, 182, rfl⟩
abbrev main_call2_call0_call0_v83 : Ref sig .tc := ⟨.hbm, 183, rfl⟩
abbrev main_call2_call0_call0_c_21 : Ref sig .tc := ⟨.hbm, 184, rfl⟩
abbrev main_call2_call0_call0_v84 : Ref sig .tc := ⟨.hbm, 185, rfl⟩
abbrev main_call2_call0_call0_v85 : Ref sig .tc := ⟨.hbm, 186, rfl⟩
abbrev main_call2_call0_call0_v86 : Ref sig .tc := ⟨.hbm, 187, rfl⟩
abbrev main_call2_call0_call0_v87 : Ref sig .tc := ⟨.hbm, 188, rfl⟩
abbrev main_call2_call0_call0_v88 : Ref sig .tc := ⟨.hbm, 189, rfl⟩
abbrev main_call2_call0_call0_c_22 : Ref sig .tc := ⟨.hbm, 190, rfl⟩
abbrev main_call2_call0_call0_v89 : Ref sig .tc := ⟨.hbm, 191, rfl⟩
abbrev main_call2_call0_call0_v90 : Ref sig .tc := ⟨.hbm, 192, rfl⟩
abbrev main_call2_call0_call0_c_23 : Ref sig .tc := ⟨.hbm, 193, rfl⟩
abbrev main_call2_call0_call0_v91 : Ref sig .tc := ⟨.hbm, 194, rfl⟩
abbrev main_call2_call0_call0_v92 : Ref sig .tc := ⟨.hbm, 195, rfl⟩
abbrev main_call2_call0_call0_v93 : Ref sig .tc := ⟨.hbm, 196, rfl⟩
abbrev main_call2_call0_call0_v94 : Ref sig .tc := ⟨.hbm, 197, rfl⟩
abbrev main_call2_call0_call0_v95 : Ref sig .tc := ⟨.hbm, 198, rfl⟩
abbrev main_call2_call0_call0_c_24 : Ref sig .tc := ⟨.hbm, 199, rfl⟩
abbrev main_call2_call0_call0_v96 : Ref sig .tc := ⟨.hbm, 200, rfl⟩
abbrev main_call2_call0_call0_v97 : Ref sig .tc := ⟨.hbm, 201, rfl⟩
abbrev main_call2_call0_call0_c_25 : Ref sig .tc := ⟨.hbm, 202, rfl⟩
abbrev main_call2_call0_call0_v98 : Ref sig .tc := ⟨.hbm, 203, rfl⟩
abbrev main_call2_call0_call0_v99 : Ref sig .tc := ⟨.hbm, 204, rfl⟩
abbrev main_call2_call0_call0_v100 : Ref sig .tc := ⟨.hbm, 205, rfl⟩
abbrev main_call2_call0_call0_v101 : Ref sig .tc := ⟨.hbm, 206, rfl⟩
abbrev main_call2_call0_call0_v102 : Ref sig .tc := ⟨.hbm, 207, rfl⟩
abbrev main_call2_call0_call0_v103 : Ref sig .tc := ⟨.hbm, 208, rfl⟩
abbrev main_call2_call0_call0_v104 : Ref sig .tc := ⟨.hbm, 209, rfl⟩
abbrev main_call2_call0_call0_v105 : Ref sig .tc := ⟨.hbm, 210, rfl⟩
abbrev main_call2_call0_call0_c_26 : Ref sig .tc := ⟨.hbm, 211, rfl⟩
abbrev main_call2_call0_call0_v106 : Ref sig .tc := ⟨.hbm, 212, rfl⟩
abbrev main_call2_call0_call0_v107 : Ref sig .tc := ⟨.hbm, 213, rfl⟩
abbrev main_call2_call0_call0_v108 : Ref sig .tc := ⟨.hbm, 214, rfl⟩
abbrev main_call2_call0_call0_c_27 : Ref sig .tc := ⟨.hbm, 215, rfl⟩
abbrev main_call2_call0_call0_v109 : Ref sig .tc := ⟨.hbm, 216, rfl⟩
abbrev main_call2_call0_call0_v110 : Ref sig .tc := ⟨.hbm, 217, rfl⟩
abbrev main_call2_call0_call0_c_28 : Ref sig .tc := ⟨.hbm, 218, rfl⟩
abbrev main_call2_call0_call0_v111 : Ref sig .tc := ⟨.hbm, 219, rfl⟩
abbrev main_call2_call0_call0_v112 : Ref sig .tc := ⟨.hbm, 220, rfl⟩
abbrev main_call2_call0_call0_v113 : Ref sig .tc := ⟨.hbm, 221, rfl⟩
abbrev main_call2_call0_call0_v114 : Ref sig .tc := ⟨.hbm, 222, rfl⟩
abbrev main_call2_call0_call0_v115 : Ref sig .tc := ⟨.hbm, 223, rfl⟩
abbrev main_call2_call0_call0_c_29 : Ref sig .tc := ⟨.hbm, 224, rfl⟩
abbrev main_call2_call0_call0_v116 : Ref sig .tc := ⟨.hbm, 225, rfl⟩
abbrev main_call2_call0_call0_v117 : Ref sig .tc := ⟨.hbm, 226, rfl⟩
abbrev main_call2_call0_call0_c_30 : Ref sig .tc := ⟨.hbm, 227, rfl⟩
abbrev main_call2_call0_call0_v118 : Ref sig .tc := ⟨.hbm, 228, rfl⟩
abbrev main_call2_call0_call0_v119 : Ref sig .tc := ⟨.hbm, 229, rfl⟩
abbrev main_call2_call0_call0_v120 : Ref sig .tc := ⟨.hbm, 230, rfl⟩
abbrev main_call2_call0_call0_v121 : Ref sig .tc := ⟨.hbm, 231, rfl⟩
abbrev main_call2_call0_call0_v122 : Ref sig .tc := ⟨.hbm, 232, rfl⟩
abbrev main_call2_call0_call0_c_31 : Ref sig .tc := ⟨.hbm, 233, rfl⟩
abbrev main_call2_call0_call0_v123 : Ref sig .tc := ⟨.hbm, 234, rfl⟩
abbrev main_call2_call0_call0_v124 : Ref sig .tc := ⟨.hbm, 235, rfl⟩
abbrev main_call2_call0_call0_c_32 : Ref sig .tc := ⟨.hbm, 236, rfl⟩
abbrev main_call2_call0_call0_v125 : Ref sig .tc := ⟨.hbm, 237, rfl⟩
abbrev main_call2_call0_call0_v126 : Ref sig .tc := ⟨.hbm, 238, rfl⟩
abbrev main_call2_call0_call0_v127 : Ref sig .tc := ⟨.hbm, 239, rfl⟩
abbrev main_call2_call0_call0_v128 : Ref sig .tc := ⟨.hbm, 240, rfl⟩
abbrev main_call2_call0_call0_v129 : Ref sig .tc := ⟨.hbm, 241, rfl⟩
abbrev main_call2_call0_call0_c_33 : Ref sig .tc := ⟨.hbm, 242, rfl⟩
abbrev main_call2_call0_call0_v130 : Ref sig .tc := ⟨.hbm, 243, rfl⟩
abbrev main_call2_call0_call0_v131 : Ref sig .tc := ⟨.hbm, 244, rfl⟩
abbrev main_call2_call0_call0_c_34 : Ref sig .tc := ⟨.hbm, 245, rfl⟩
abbrev main_call2_call0_call0_v132 : Ref sig .tc := ⟨.hbm, 246, rfl⟩
abbrev main_call2_call0_call0_v133 : Ref sig .tc := ⟨.hbm, 247, rfl⟩
abbrev main_call2_call0_call0_v134 : Ref sig .tc := ⟨.hbm, 248, rfl⟩
abbrev main_call2_call0_call0_v135 : Ref sig .tc := ⟨.hbm, 249, rfl⟩
abbrev main_call2_call0_call0_v136 : Ref sig .tc := ⟨.hbm, 250, rfl⟩
abbrev main_call2_call0_call0_v137 : Ref sig .tc := ⟨.hbm, 251, rfl⟩
abbrev main_call2_call0_call0_v138 : Ref sig .tc := ⟨.hbm, 252, rfl⟩
abbrev main_call2_call0_call0_v139 : Ref sig .tc := ⟨.hbm, 253, rfl⟩
abbrev main_call2_call0_call0_c_35 : Ref sig .tc := ⟨.hbm, 254, rfl⟩
abbrev main_call2_call0_call0_v140 : Ref sig .tc := ⟨.hbm, 255, rfl⟩
abbrev main_call2_call0_call0_v141 : Ref sig .tc := ⟨.hbm, 256, rfl⟩
abbrev main_call2_call0_call0_v142 : Ref sig .tc := ⟨.hbm, 257, rfl⟩
abbrev main_call2_call0_call0_c_36 : Ref sig .tc := ⟨.hbm, 258, rfl⟩
abbrev main_call2_call0_call0_v143 : Ref sig .tc := ⟨.hbm, 259, rfl⟩
abbrev main_call2_call0_call0_v144 : Ref sig .tc := ⟨.hbm, 260, rfl⟩
abbrev main_call2_call0_call0_c_37 : Ref sig .tc := ⟨.hbm, 261, rfl⟩
abbrev main_call2_call0_call0_v145 : Ref sig .tc := ⟨.hbm, 262, rfl⟩
abbrev main_call2_call0_call0_v146 : Ref sig .tc := ⟨.hbm, 263, rfl⟩
abbrev main_call2_call0_call0_v147 : Ref sig .tc := ⟨.hbm, 264, rfl⟩
abbrev main_call2_call0_call0_v148 : Ref sig .tc := ⟨.hbm, 265, rfl⟩
abbrev main_call2_call0_call0_v149 : Ref sig .tc := ⟨.hbm, 266, rfl⟩
abbrev main_call2_call0_call0_c_38 : Ref sig .tc := ⟨.hbm, 267, rfl⟩
abbrev main_call2_call0_call0_v150 : Ref sig .tc := ⟨.hbm, 268, rfl⟩
abbrev main_call2_call0_call0_v151 : Ref sig .tc := ⟨.hbm, 269, rfl⟩
abbrev main_call2_call0_call0_c_39 : Ref sig .tc := ⟨.hbm, 270, rfl⟩
abbrev main_call2_call0_call0_v152 : Ref sig .tc := ⟨.hbm, 271, rfl⟩
abbrev main_call2_call0_call0_v153 : Ref sig .tc := ⟨.hbm, 272, rfl⟩
abbrev main_call2_call0_call0_v154 : Ref sig .tc := ⟨.hbm, 273, rfl⟩
abbrev main_call2_call0_call0_v155 : Ref sig .tc := ⟨.hbm, 274, rfl⟩
abbrev main_call2_call0_call0_v156 : Ref sig .tc := ⟨.hbm, 275, rfl⟩
abbrev main_call2_call0_call0_c_40 : Ref sig .tc := ⟨.hbm, 276, rfl⟩
abbrev main_call2_call0_call0_v157 : Ref sig .tc := ⟨.hbm, 277, rfl⟩
abbrev main_call2_call0_call0_v158 : Ref sig .tc := ⟨.hbm, 278, rfl⟩
abbrev main_call2_call0_call0_c_41 : Ref sig .tc := ⟨.hbm, 279, rfl⟩
abbrev main_call2_call0_call0_v159 : Ref sig .tc := ⟨.hbm, 280, rfl⟩
abbrev main_call2_call0_call0_v160 : Ref sig .tc := ⟨.hbm, 281, rfl⟩
abbrev main_call2_call0_call0_v161 : Ref sig .tc := ⟨.hbm, 282, rfl⟩
abbrev main_call2_call0_call0_v162 : Ref sig .tc := ⟨.hbm, 283, rfl⟩
abbrev main_call2_call0_call0_v163 : Ref sig .tc := ⟨.hbm, 284, rfl⟩
abbrev main_call2_call0_call0_c_42 : Ref sig .tc := ⟨.hbm, 285, rfl⟩
abbrev main_call2_call0_call0_v164 : Ref sig .tc := ⟨.hbm, 286, rfl⟩
abbrev main_call2_call0_call0_v165 : Ref sig .tc := ⟨.hbm, 287, rfl⟩
abbrev main_call2_call0_call0_c_43 : Ref sig .tc := ⟨.hbm, 288, rfl⟩
abbrev main_call2_call0_call0_v166 : Ref sig .tc := ⟨.hbm, 289, rfl⟩
abbrev main_call2_call0_call0_v167 : Ref sig .tc := ⟨.hbm, 290, rfl⟩
abbrev main_call2_call0_call0_v168 : Ref sig .tc := ⟨.hbm, 291, rfl⟩
abbrev main_call2_call0_call0_v169 : Ref sig .tc := ⟨.hbm, 292, rfl⟩
abbrev main_call2_call0_call0_v170 : Ref sig .tc := ⟨.hbm, 293, rfl⟩
abbrev main_call2_call0_v18_0 : Ref sig .tc := ⟨.hbm, 294, rfl⟩
abbrev main_call2_call0_call0_v172 : Ref sig .tc := ⟨.hbm, 295, rfl⟩
abbrev main_call2_call0_call0_v173 : Ref sig .tc := ⟨.hbm, 296, rfl⟩
abbrev main_call2_call0_call0_c_44 : Ref sig .tc := ⟨.hbm, 297, rfl⟩
abbrev main_call2_call0_call0_v174 : Ref sig .tc := ⟨.hbm, 298, rfl⟩
abbrev main_call2_call0_v18_1 : Ref sig .tc := ⟨.hbm, 299, rfl⟩
abbrev main_call2_call0_v19 : Ref sig .tc := ⟨.hbm, 300, rfl⟩
abbrev main_call2_call0_c_2 : Ref sig .tc := ⟨.hbm, 301, rfl⟩
abbrev main_call2_call0_v20 : Ref sig .tc := ⟨.hbm, 302, rfl⟩
abbrev main_call2_call0_v21 : Ref sig .tc := ⟨.hbm, 303, rfl⟩
abbrev main_call2_call0_c_3 : Ref sig .tc := ⟨.hbm, 304, rfl⟩
abbrev main_call2_call0_v22 : Ref sig .tc := ⟨.hbm, 305, rfl⟩
abbrev main_call2_call0_v23 : Ref sig .tc := ⟨.hbm, 306, rfl⟩
abbrev main_call2_call0_v24 : Ref sig .tc := ⟨.hbm, 307, rfl⟩
abbrev main_call2_call0_cst : Ref sig .tc := ⟨.hbm, 308, rfl⟩
abbrev main_call2_call0_v25 : Ref sig .tc := ⟨.hbm, 309, rfl⟩
abbrev main_call2_call0_v26 : Ref sig .tc := ⟨.hbm, 310, rfl⟩
abbrev main_call2_call0_v27 : Ref sig .tc := ⟨.hbm, 311, rfl⟩
abbrev main_call2_call0_v28 : Ref sig .tc := ⟨.hbm, 312, rfl⟩
abbrev main_call2_call0_v29 : Ref sig .tc := ⟨.hbm, 313, rfl⟩
abbrev main_call2_call0_v30 : Ref sig .tc := ⟨.hbm, 314, rfl⟩
abbrev main_call2_call0_v31 : Ref sig .tc := ⟨.hbm, 315, rfl⟩
abbrev main_call2_call0_v32 : Ref sig .tc := ⟨.hbm, 316, rfl⟩
abbrev main_call2_v0 : Ref sig .tc := ⟨.hbm, 317, rfl⟩
abbrev main_call2_v1 : Ref sig .tc := ⟨.hbm, 318, rfl⟩
abbrev main_call2_v2 : Ref sig .tc := ⟨.hbm, 319, rfl⟩
abbrev main_call2_v3 : Ref sig .tc := ⟨.hbm, 320, rfl⟩
abbrev main_v32 : Ref sig .tc := ⟨.hbm, 321, rfl⟩
abbrev main_v33 : Ref sig .tc := ⟨.hbm, 322, rfl⟩
abbrev main_call3_v0 : Ref sig .tc := ⟨.hbm, 323, rfl⟩
abbrev main_call3_cst : Ref sig .tc := ⟨.hbm, 324, rfl⟩
abbrev main_call3_c : Ref sig .tc := ⟨.hbm, 325, rfl⟩
abbrev main_call3_v1_0 : Ref sig .tc := ⟨.hbm, 326, rfl⟩
abbrev main_v34 : Ref sig .tc := ⟨.hbm, 327, rfl⟩
abbrev main_v35 : Ref sig .tc := ⟨.hbm, 328, rfl⟩
abbrev main_v36 : Ref sig .tc := ⟨.hbm, 329, rfl⟩
abbrev main_v37 : Ref sig .tc := ⟨.hbm, 330, rfl⟩
abbrev main_v38 : Ref sig .tc := ⟨.hbm, 331, rfl⟩
abbrev main_v39 : Ref sig .tc := ⟨.hbm, 332, rfl⟩
abbrev main_call4_cst : Ref sig .tc := ⟨.hbm, 333, rfl⟩
abbrev main_call4_v0 : Ref sig .tc := ⟨.hbm, 334, rfl⟩
abbrev main_v40 : Ref sig .tc := ⟨.hbm, 335, rfl⟩
abbrev main_v41 : Ref sig .tc := ⟨.hbm, 336, rfl⟩
abbrev main_v42 : Ref sig .tc := ⟨.hbm, 337, rfl⟩
abbrev main_v43 : Ref sig .tc := ⟨.hbm, 338, rfl⟩
abbrev main_v44 : Ref sig .tc := ⟨.hbm, 339, rfl⟩
abbrev main_call5_cst : Ref sig .tc := ⟨.hbm, 340, rfl⟩
abbrev main_call5_v0 : Ref sig .tc := ⟨.hbm, 341, rfl⟩
abbrev main_v45 : Ref sig .tc := ⟨.hbm, 342, rfl⟩
abbrev main_v46 : Ref sig .tc := ⟨.hbm, 343, rfl⟩
abbrev main_v47 : Ref sig .tc := ⟨.hbm, 344, rfl⟩
abbrev main_v48 : Ref sig .tc := ⟨.hbm, 345, rfl⟩
abbrev main_v49 : Ref sig .tc := ⟨.hbm, 346, rfl⟩
abbrev main_v50 : Ref sig .tc := ⟨.hbm, 347, rfl⟩
abbrev main_v51 : Ref sig .tc := ⟨.hbm, 348, rfl⟩
abbrev main_v52 : Ref sig .tc := ⟨.hbm, 349, rfl⟩
abbrev main_v53 : Ref sig .tc := ⟨.hbm, 350, rfl⟩
abbrev main_v54 : Ref sig .tc := ⟨.hbm, 351, rfl⟩
abbrev main_v55 : Ref sig .tc := ⟨.hbm, 352, rfl⟩
abbrev main_v56 : Ref sig .tc := ⟨.hbm, 353, rfl⟩
abbrev main_cst_4 : Ref sig .tc := ⟨.hbm, 354, rfl⟩
abbrev main_call6_v0 : Ref sig .tc := ⟨.hbm, 355, rfl⟩
abbrev main_call6_v1 : Ref sig .tc := ⟨.hbm, 356, rfl⟩
abbrev main_call6_v2 : Ref sig .tc := ⟨.hbm, 357, rfl⟩
abbrev main_v57 : Ref sig .tc := ⟨.hbm, 358, rfl⟩
abbrev main_cst_5 : Ref sig .tc := ⟨.hbm, 359, rfl⟩
abbrev main_v58 : Ref sig .tc := ⟨.hbm, 360, rfl⟩
abbrev main_v59 : Ref sig .tc := ⟨.hbm, 361, rfl⟩
abbrev main_v60 : Ref sig .tc := ⟨.hbm, 362, rfl⟩
abbrev main_v61 : Ref sig .tc := ⟨.hbm, 363, rfl⟩

abbrev nD : Nat := 1
abbrev τ : Topo := Topo.v7x

variable {F : FTy → Type} [FloatOps F]
-- ==== Proof.Moe.Rows.lean ====
/-
  The mixture of experts, row by row over the extended reals: a layer, a perceptron of three layers, the softmax of a row
  of eight, and which of eight is selected; and the arrays' operations read at an index as these.
-/
module

public import Idealize.ShloMosaic.PureOps.Ideal.Laws
public import Idealize.ShloMosaic.Lib.ValueIdxCore
public import Idealize.ShloMosaic.Lib.IdealHost
public import Idealize.ShloMosaic.Lib.MatmulPlain
public import Idealize.ShloMosaic.Lib.StackMember
public import Idealize.ShloMosaic.Lib.Pipeline.Value

@[expose] public section

noncomputable section

namespace Cert.Proof.Moe

open Idealize.ShloMosaic Idealize.ShloMosaic.ValueIdx

/-! ## A row -/

/-- One layer: the row times the matrix, plus the bias. -/
def layer {m n : ℕ} (x : Fin m → EReal) (w : Fin m → Fin n → EReal) (b : Fin n → EReal) (j : Fin n) : EReal := (∑ k, x k * w k j) + b j

/-- A layer whose negative outputs are set to zero. -/
def hidden {m n : ℕ} (x : Fin m → EReal) (w : Fin m → Fin n → EReal) (b : Fin n → EReal) (j : Fin n) : EReal := max (layer x w b j) 0

/-- Three layers, the first two hidden. -/
def mlp {m n p q : ℕ} (x : Fin m → EReal) (w1 : Fin m → Fin n → EReal) (b1 : Fin n → EReal) (w2 : Fin n → Fin p → EReal) (b2 : Fin p → EReal)
    (w3 : Fin p → Fin q → EReal) (b3 : Fin q → EReal) : Fin q → EReal :=
  layer (hidden (hidden x w1 b1) w2 b2) w3 b3

/-- The greatest entry of a row. -/
def top {n : ℕ} (z : Fin n → EReal) : EReal := (Finset.univ : Finset (Fin n)).fold max ⊥ z

/-- The softmax of a row. -/
def soft {n : ℕ} (z : Fin n → EReal) (k : Fin n) : EReal := Ideal.div (Ideal.exp (z k - top z)) (∑ i, Ideal.exp (z i - top z))

theorem ofBits_neg_inf : Ideal.ofBits .f32 0xFF800000#32 = ⊥ := by simp [Ideal.ofBits, Ideal.ieee]

/-! ## Which entry is selected -/

/-- `i` is the first of the greatest among the first `n` entries of `z`, and `b` that entry. -/
def Best (z : ℕ → EReal) (n : ℕ) (b : EReal) (i : ℕ) : Prop := i < n ∧ z i = b ∧ ∀ k, k < n → z k < b ∨ (z k = b ∧ i ≤ k)

theorem Best.unique {z : ℕ → EReal} {n : ℕ} {b c : EReal} {i j : ℕ} (hb : Best z n b i) (hc : Best z n c j) : i = j := by
  obtain ⟨hi, rfl, h⟩ := hb
  obtain ⟨hj, rfl, h'⟩ := hc
  rcases h j hj with h1 | ⟨h1, h1'⟩
  · rcases h' i hi with h2 | ⟨h2, _⟩
    · exact absurd h1 (not_lt.mpr h2.le)
    · exact absurd h1 (by rw [h2]; exact lt_irrefl _)
  · rcases h' i hi with h2 | ⟨_, h2'⟩
    · exact absurd h2 (by rw [h1]; exact lt_irrefl _)
    · exact le_antisymm h1' h2'

theorem Best.first (z : ℕ → EReal) : Best z 1 (z 0) 0 := ⟨by norm_num, rfl, fun k hk => .inr ⟨congrArg z (by omega), Nat.zero_le k⟩⟩

/-- The next entry replaces the best so far where it is greater. -/
theorem Best.next {z : ℕ → EReal} {n : ℕ} {b : EReal} {i : ℕ} (h : Best z n b i) : Best z (n + 1) (if b < z n then z n else b) (if b < z n then n else i) := by
  obtain ⟨hi, hz, hk⟩ := h
  split
  · rename_i hlt
    refine ⟨by omega, rfl, fun k hkn => ?_⟩
    rcases Nat.lt_succ_iff_lt_or_eq.mp hkn with h | rfl
    · rcases hk k h with h | ⟨h, _⟩
      · exact .inl (h.trans hlt)
      · exact .inl (h ▸ hlt)
    · exact .inr ⟨rfl, le_rfl⟩
  · rename_i hle
    refine ⟨by omega, hz, fun k hkn => ?_⟩
    rcases Nat.lt_succ_iff_lt_or_eq.mp hkn with h | rfl
    · exact hk k h
    · rcases lt_or_eq_of_le (not_lt.mp hle) with h | h
      · exact .inl h
      · exact .inr ⟨h, hi.le⟩

/-! ## Arrays at an index -/

section Arrays

variable {M K N : ℕ}

/-- A row of a matrix. -/
abbrev rowOf (x : FVec Ideal ⟨2, ![M, N]⟩ .f32) (r : Fin M) : Fin N → EReal := fun k => x (ix2 r k)
/-- A matrix by its two coordinates. -/
abbrev matOf (x : FVec Ideal ⟨2, ![M, N]⟩ .f32) : Fin M → Fin N → EReal := fun i j => x (ix2 i j)
/-- A vector by its coordinate. -/
abbrev vecOf (x : FVec Ideal ⟨1, ![N]⟩ .f32) : Fin N → EReal := fun j => x (ix1 j)

end Arrays

/-! ## The policy's rows -/

/-- A row of eight as a sequence. -/
def seqOf (z : Fin 8 → EReal) (n : ℕ) : EReal := if h : n < 8 then z ⟨n, h⟩ else ⊥

/-- The option logits of token `t`. -/
def logitsOf (x : FVec Ideal ⟨2, ![4096, 1024]⟩ .f32) (w1 : FVec Ideal ⟨2, ![1024, 1024]⟩ .f32) (b1 : FVec Ideal ⟨1, ![1024]⟩ .f32)
    (w2 : FVec Ideal ⟨2, ![1024, 1024]⟩ .f32) (b2 : FVec Ideal ⟨1, ![1024]⟩ .f32) (w3 : FVec Ideal ⟨2, ![1024, 8]⟩ .f32) (b3 : FVec Ideal ⟨1, ![8]⟩ .f32)
    (t : Fin 4096) : Fin 8 → EReal :=
  mlp (rowOf x t) (matOf w1) (vecOf b1) (matOf w2) (vecOf b2) (matOf w3) (vecOf b3)

/-- The scores token `t`'s option is drawn by: its logits with its noise added. -/
def scoresOf (g : FVec Ideal ⟨2, ![4096, 8]⟩ .f32) (z : Fin 8 → EReal) (t : Fin 4096) (k : Fin 8) : EReal := g (ix2 t k) + z k

/-- A matrix of a stack. -/
abbrev stackOf (w : FVec Ideal ⟨3, ![8, 1024, 1024]⟩ .f32) (e : Fin 8) : Fin 1024 → Fin 1024 → EReal := fun i j => w (ix3 e i j)

/-- The action parameters expert `e` gives token `t`. -/
def paramsOf (x : FVec Ideal ⟨2, ![4096, 1024]⟩ .f32) (w1 : FVec Ideal ⟨3, ![8, 1024, 1024]⟩ .f32) (b1 : FVec Ideal ⟨2, ![8, 1024]⟩ .f32)
    (w2 : FVec Ideal ⟨3, ![8, 1024, 1024]⟩ .f32) (b2 : FVec Ideal ⟨2, ![8, 1024]⟩ .f32) (w3 : FVec Ideal ⟨3, ![8, 1024, 1024]⟩ .f32) (b3 : FVec Ideal ⟨2, ![8, 1024]⟩ .f32)
    (e : Fin 8) (t : Fin 4096) : Fin 1024 → EReal :=
  mlp (rowOf x t) (stackOf w1 e) (rowOf b1 e) (stackOf w2 e) (rowOf b2 e) (stackOf w3 e) (rowOf b3 e)

section Arrays

variable {M K N : ℕ}

/-- A vector laid along the rows of a matrix. -/
theorem along_rows (b : FVec Ideal ⟨1, ![N]⟩ .f32) (h : (⟨1, ![N]⟩ : Shape).ShapeCasts ⟨2, ![1, N]⟩) (h' : (⟨2, ![1, N]⟩ : Shape).Broadcasts ⟨2, ![M, N]⟩) (r : Fin M) (c : Fin N) :
    broadcastTo ⟨2, ![M, N]⟩ (shapeCast ⟨2, ![1, N]⟩ b h) h' (ix2 r c) = b (ix1 c) := by
  refine (broadcastTo_apply _ _ _ (ix2 (0 : Fin 1) c) fun a => ?_).trans (shapeCast_apply _ _ _ _ ?_)
  · match a with
    | ⟨0, _⟩ => rfl
    | ⟨1, _⟩ =>
      show c.val = if N = 1 then 0 else c.val
      split
      · have := c.isLt; omega
      · rfl
  · rw [Shape.rowMajor_val_one, Shape.rowMajor_val_two]
    show c.val = 0 * N + c.val
    omega

/-- A vector laid along the columns of a matrix. -/
theorem along_cols (b : FVec Ideal ⟨1, ![M]⟩ .f32) (h : (⟨1, ![M]⟩ : Shape).ShapeCasts ⟨2, ![M, 1]⟩) (h' : (⟨2, ![M, 1]⟩ : Shape).Broadcasts ⟨2, ![M, N]⟩) (r : Fin M) (c : Fin N) :
    broadcastTo ⟨2, ![M, N]⟩ (shapeCast ⟨2, ![M, 1]⟩ b h) h' (ix2 r c) = b (ix1 r) := by
  refine (broadcastTo_apply _ _ _ (ix2 r (0 : Fin 1)) fun a => ?_).trans (shapeCast_apply _ _ _ _ ?_)
  · match a with
    | ⟨0, _⟩ =>
      show r.val = if M = 1 then 0 else r.val
      split
      · have := r.isLt; omega
      · rfl
    | ⟨1, _⟩ => rfl
  · rw [Shape.rowMajor_val_one, Shape.rowMajor_val_two]
    show r.val = r.val * 1 + 0
    omega

/-- A row and a column of it, by the axis a reduction leaves and the one it takes. -/
theorem lift_row (h : (⟨2, ![M, N]⟩ : Shape).Reduces [1] ⟨1, ![M]⟩) (r : Fin M) (k : Fin N) : h.lift (ix1 r) k = ix2 r k := by
  funext a
  apply Fin.ext
  refine (Shape.Reduces.lift_val h (ix1 r) k a).trans ?_
  match a with
  | ⟨0, _⟩ => rfl
  | ⟨1, _⟩ => rfl

theorem kernel_top (z : FVec Ideal ⟨2, ![M, N]⟩ .f32) (h : (⟨2, ![M, N]⟩ : Shape).Reduces [1] ⟨1, ![M]⟩) (hφ : FKind.Formats .f32)
    (hacc : 0xFF800000#32 = FKind.maximumf.neutral .f32 hφ) (r : Fin M) :
    multiReduction .maximumf [1] ⟨1, ![M]⟩ z 0xFF800000#32 h hφ hacc (ix1 r) = top (rowOf z r) := by
  rw [Ideal.multiReduction_maximumf_single]
  show Finset.fold max (Ideal.ofBits .f32 0xFF800000#32) _ _ = _
  rw [ofBits_neg_inf]
  exact congrArg (fun f => Finset.fold max ⊥ f Finset.univ) (funext fun k => congrArg z (lift_row h r k))

theorem kernel_sum (z : FVec Ideal ⟨2, ![M, N]⟩ .f32) (h : (⟨2, ![M, N]⟩ : Shape).Reduces [1] ⟨1, ![M]⟩) (hφ : FKind.Formats .f32)
    (hacc : 0x00000000#32 = FKind.add.neutral .f32 hφ) (r : Fin M) :
    multiReduction .add [1] ⟨1, ![M]⟩ z 0x00000000#32 h hφ hacc (ix1 r) = ∑ k : Fin N, z (ix2 r k) := by
  rw [Ideal.multiReduction_add_single]
  exact Finset.sum_congr rfl fun k _ => congrArg z (lift_row h r k)

theorem host_top (z : FVec Ideal ⟨2, ![M, N]⟩ .f32) (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (r : Fin M) :
    Host.reduce (FloatOps.maximumf (F := Ideal) (φ := .f32)) z (constant (F := Ideal) ⟨0, ![]⟩ .f32 0xFF800000#32) h' hu (ix1 r) = top (rowOf z r) := by
  refine (Host.reduce_eq_fold_single (f := (max : EReal → EReal → EReal)) z _ h' h hu (ix1 r)).trans ?_
  show Finset.fold max (Ideal.ofBits .f32 0xFF800000#32) _ _ = _
  rw [ofBits_neg_inf]
  exact congrArg (fun f => Finset.fold max ⊥ f Finset.univ) (funext fun k => congrArg z (lift_row h r k))

theorem host_sum (z : FVec Ideal ⟨2, ![M, N]⟩ .f32) (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (r : Fin M) :
    Host.reduceAdd z (constant (F := Ideal) ⟨0, ![]⟩ .f32 0x00000000#32) h' hu (ix1 r) = ∑ k : Fin N, z (ix2 r k) := by
  rw [hostReduceAdd_apply, Ideal.hostReduceAdd_single h' h]
  show Ideal.ofBits .f32 0x00000000#32 + _ = _
  rw [Ideal.ofBits_zero_f32, zero_add]
  exact Finset.sum_congr rfl fun k _ => congrArg z (lift_row h r k)

/-- A kernel's product with a zero accumulator, plus a bias along the rows, is a layer of each row. -/
theorem kernel_layer (x : FVec Ideal ⟨2, ![M, K]⟩ .f32) (w : FVec Ideal ⟨2, ![K, N]⟩ .f32) (b : FVec Ideal ⟨1, ![N]⟩ .f32)
    (h : (⟨1, ![N]⟩ : Shape).ShapeCasts ⟨2, ![1, N]⟩) (h' : (⟨2, ![1, N]⟩ : Shape).Broadcasts ⟨2, ![M, N]⟩) (r : Fin M) (c : Fin N) :
    addf (matmul (DotDims.plain M K N) none x w (constant ⟨2, ![M, N]⟩ .f32 0x00000000#32)) (broadcastTo ⟨2, ![M, N]⟩ (shapeCast ⟨2, ![1, N]⟩ b h) h') (ix2 r c)
      = layer (rowOf x r) (matOf w) (vecOf b) c := by
  show FloatOps.matmul (DotDims.plain M K N) none x w (constant ⟨2, ![M, N]⟩ .f32 0x00000000#32) (ix2 r c) + broadcastTo ⟨2, ![M, N]⟩ (shapeCast ⟨2, ![1, N]⟩ b h) h' (ix2 r c) = _
  rw [Ideal.matmul_plain_apply, along_rows]
  show Ideal.ofBits .f32 0x00000000#32 + _ + _ = _
  rw [Ideal.ofBits_zero_f32, zero_add]
  rfl

/-- The maximum with zero. -/
theorem kernel_relu (x : FVec Ideal ⟨2, ![M, N]⟩ .f32) (r : Fin M) (c : Fin N) :
    maximumf x (broadcast ⟨2, ![M, N]⟩ (Scalar.ofBits (F := Ideal) .f32 0x00000000#32)) (ix2 r c) = max (x (ix2 r c)) 0 := by
  show max (x (ix2 r c)) (Ideal.ofBits .f32 0x00000000#32) = _
  rw [Ideal.ofBits_zero_f32]

end Arrays

end Cert.Proof.Moe

end
-- ==== Proof.Moe.Base.lean ====
/-
  The mixture of experts, first part: the whole program as the launch theorem sees it — two TensorCore regions and two
  SparseCore calls in one host program — and its ghost state.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.SparseCore.Scatter
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => match q with | 0 => rfl | 1 => rfl⟩

/-- The ghost state: the handshakes' rounds, the regions' windows' rounds, and the counters of the transfers in flight. -/
abbrev UH : Type := URounds (GSem nD τ sig) ℕ
abbrev UP : Type := URounds (GSem nD τ sig) Unit
abbrev UU : Type := UH × UP × Counters

local notation "𝕄" => MT nD τ sig (HIx 2) (Elt F) ℕ UU ℕ

abbrev EH : Emb UH (MT nD τ sig (HIx 2) (Elt F) ℕ UU ℕ) := embL
abbrev EP : Emb UP (MT nD τ sig (HIx 2) (Elt F) ℕ UU ℕ) := (Emb.inl : Emb UP (UP × Counters)).trans embR

instance EP_landsIn : (EP (F := F)).LandsIn (upEmb : UEmb _ 𝕄) := by unfold EP; infer_instance

/-- The launch's ghost element splits into its three components. -/
theorem own_split (a : UH) (b : UP) (c : Counters) :
    (ownU ((a, b, c) : UU) : sProp 𝕄) ⊢ iprop(BI.own (EH (F := F) a) ∗ BI.own (EP (F := F) b)) := by
  iintro H
  ihave H := (ownU_pair a (b, c)) $$ H
  icases H with ⟨HA, H⟩
  ihave H := (own_pair_emb embR b c) $$ H
  icases H with ⟨HB, -⟩
  isplitl [HA]; · iexact HA
  iexact HB

end Cert.Proof.Moe

end
-- ==== Proof.Moe.Region.lean ====
/-
  A TensorCore region inside the program's host thread: entered with every unscoped buffer held at a valuation and with
  what the thread still owes the SparseCore calls to come, left with the buffers at the region's own final contents and
  the same debt. Stated once for both regions.
-/
module

public import proofs.«01_k».proof.Proof.Moe.Base
public import Idealize.ShloMosaic.Lib.Pipeline.RegionArraysTS

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.ShloMosaic.StableHlo (held)
open Idealize.ShloMosaic.Pipeline (Dat afterRegion arrRefs tblRefs arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The buffers the host thread holds. -/
abbrev UC : Finset (DevRef τ sig) := Pipeline.ucRefs τ sig

/-- What the host thread owes before call `n`, the waits it has recorded being below that call. -/
abbrev owing (d : Dev nD) (n : ℕ) : sProp 𝕄 :=
  iprop(∃ W, ⌜(K (F := F)).WBelow (T d) W (8 * n)⌝ ∗ owes (T d) ((K (F := F)).Otc d n) W)

theorem Otc_none (d : Dev nD) (n : ℕ) (g : GSem nD τ sig) : (K (F := F)).Otc d n g none = 0 := by
  by_contra h
  have := SparseCore.Cfg.lev_of_Otc_pos (K := K (F := F)) (Nat.pos_of_ne_zero h)
  exact absurd this (by show ¬ (_ ≤ 0); omega)

variable (a : (p : Fin 2) → (pcfgs (F := F) p).Adm)
  (pdats : (p : Fin 2) → (c : Dev nD) → Dat τ (Elt F) (HIx 2) ℕ UU ℕ (Pipeline.pin (pcfgs (F := F)) a p) c)
  (p : Fin 2) (n : ℕ)

/-- The recorded waits a region's proof data allows. -/
abbrev below (d : Dev nD) (n : ℕ) : Set (SemLoc sig × HIx 2) := {q | (K (F := F)).lev (T d, q.1) q.2 ≤ 8 * n}

set_option backward.isDefEq.respectTransparency.types false in
/-- The region's record over the buffers held. -/
def seg (kit : Pipeline.PLaunchFacts (nD := nD) (τ := τ) (pcfgs (F := F)) p)
    (hbody : ∀ c, Pipeline.BodyObligationLoose (pdats p c) (defs₀ (F := F)) 𝒱₀ (none : HIx 2) Set.univ)
    (howed : ∀ c t, (pdats p c).owed t = (K (F := F)).Otc c n) (hrec : ∀ c t, (pdats p c).recorded t = below (F := F) c n)
    (hshare : ∀ c w, (pdats p c).share w = fullShare)
    (hΦ : ∀ c t, (pdats p c).Φ t = iprop(Pipeline.scopedRest (Pipeline.pin (pcfgs (F := F)) a p).spec c ∗ Pipeline.tablesAt (pcfgs (F := F)) a p c))
    (W : Dev nD → Valuation τ sig (Elt F))
    (hW : ∀ c w, (pdats p c).arrAt w 0 = W c (Proc.devRef .tc (arrRef (Pipeline.pin (pcfgs (F := F)) a p).spec w)))
    (hT : ∀ c k, (a p).1 k = W c (Proc.devRef .tc ((pcfgs (F := F) p).pre.ref k)))
    (hS : arrRefs (pcfgs (F := F) p).spec ⊆ UC) (hS' : tblRefs (pcfgs (F := F) p).pre ⊆ UC) :
    Pipeline.RegionSeg (pcfgs (F := F)) a pdats (none : HIx 2) (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_intro (Pipeline.pin (pcfgs (F := F)) a) pdats none p c fun w s t => by
    rw [howed c t]
    exact (K (F := F)).mayWait_none _ (Otc_none c n)
  pre c := iprop(held (c.tc : Thread nD τ) UC (W c) ∗ owing c n)
  post c := iprop(held (c.tc : Thread nD τ) UC (afterRegion (pdats p c) (W c)) ∗ owing c n)
  X _ := BI.emp
  Y c := Pipeline.tablesAt (pcfgs (F := F)) a p c
  Z c := held (c.tc : Thread nD τ) ((UC \ arrRefs (pcfgs (F := F) p).spec) \ tblRefs (pcfgs (F := F) p).pre) (W c)
  hentry c := by
    rw [Pipeline.ownSems0_none, StableHlo.held_sub_split (c.tc : Thread nD τ) hS (W c),
      StableHlo.held_sub_split (c.tc : Thread nD τ) (Pipeline.tblRefs_sub_sdiff (pcfgs (F := F) p).spec (pcfgs (F := F) p).pre kit.pre.disj hS') (W c),
      ← Pipeline.arrays_held (pcfgs (F := F)) a pdats p kit c (hshare c) ((pdats p c).arrAt · 0) (W c) (hW c),
      ← Pipeline.prefHeld_held (pcfgs (F := F) p).pre kit.pre.inj c (a p).1 (W c) (hT c)]
    iintro ⟨⟨⟨Ha, Ht, Hu⟩, HO⟩, -, -⟩
    imodintro
    isplitl [Ha]; · iexact Ha
    isplitl [Ht]; · iexact Ht
    isplitl [HO]
    · unfold Pipeline.Dat.owesAt Pipeline.owesWithin Pipeline.Dat.bound
      rw [howed c 0, hrec c 0]
      icases HO with ⟨%Wd, %hWd, HO⟩; iexists Wd; isplitr
      · ipureintro; exact fun q hq => Or.inl (hWd q hq)
      iexact HO
    isplitr; · iempintro
    iexact Hu
  hin c := by
    rw [hΦ c 0]
    iintro ⟨-, Ht, Hr⟩
    isplitl [Hr] <;> iassumption
  hout c := by
    rw [Pipeline.ownSems0_none, hΦ c _]
    iintro ⟨Hr, Ht⟩
    isplitl [Ht]; · iexact Ht
    isplitr; · iempintro
    iexact Hr
  hexit c := by
    rw [StableHlo.held_sub_split (c.tc : Thread nD τ) hS (afterRegion (pdats p c) (W c)),
      StableHlo.held_sub_split (c.tc : Thread nD τ) (Pipeline.tblRefs_sub_sdiff (pcfgs (F := F) p).spec (pcfgs (F := F) p).pre kit.pre.disj hS') (afterRegion (pdats p c) (W c)),
      StableHlo.held_congr (c.tc : Thread nD τ) (S := (UC \ arrRefs (pcfgs (F := F) p).spec) \ tblRefs (pcfgs (F := F) p).pre) (V := afterRegion (pdats p c) (W c)) (V' := W c)
        (fun b hb => Pipeline.afterRegion_off (pdats p c) (W c) UC b (Finset.mem_sdiff.mp hb).1),
      ← Pipeline.arrays_held (pcfgs (F := F)) a pdats p kit c (hshare c) ((pdats p c).arrAt · (Pipeline.pin (pcfgs (F := F)) a p).N) (afterRegion (pdats p c) (W c))
        (fun w => (Pipeline.afterRegion_arr (pdats p c) (W c) kit.win.arr_inj w).symm),
      ← Pipeline.prefHeld_held (pcfgs (F := F) p).pre kit.pre.inj c (a p).1 (afterRegion (pdats p c) (W c))
        (fun k => (hT c k).trans (Pipeline.afterRegion_of_not_arr (pdats p c) (W c) (kit.pre.disj k)).symm)]
    iintro ⟨Ha, HO, Ht, Hu⟩
    imodintro
    isplitr [HO]
    · isplitl [Ha]; · iexact Ha
      isplitl [Ht]; · iexact Ht
      iexact Hu
    unfold Pipeline.Dat.owesAt Pipeline.owesWithin Pipeline.Dat.bound
    rw [howed c _, hrec c _]
    icases HO with ⟨%Wd, %hWd, HO⟩; iexists Wd; isplitr
    · ipureintro
      intro q hq
      rcases hWd hq with h | ⟨w, s, rfl⟩
      · exact h
      · exact Nat.zero_le _
    iexact HO

set_option backward.isDefEq.respectTransparency.types false in
/-- The call of the region in the host thread. -/
theorem region_wp [∀ e, Nonempty (Elt F e)] (kit : Pipeline.PLaunchFacts (nD := nD) (τ := τ) (pcfgs (F := F)) p)
    (hbody : ∀ c, Pipeline.BodyObligationLoose (pdats p c) (defs₀ (F := F)) 𝒱₀ (none : HIx 2) Set.univ)
    (howed : ∀ c t, (pdats p c).owed t = (K (F := F)).Otc c n) (hrec : ∀ c t, (pdats p c).recorded t = below (F := F) c n)
    (hshare : ∀ c w, (pdats p c).share w = fullShare)
    (hΦ : ∀ c t, (pdats p c).Φ t = iprop(Pipeline.scopedRest (Pipeline.pin (pcfgs (F := F)) a p).spec c ∗ Pipeline.tablesAt (pcfgs (F := F)) a p c))
    (W : Dev nD → Valuation τ sig (Elt F))
    (hW : ∀ c w, (pdats p c).arrAt w 0 = W c (Proc.devRef .tc (arrRef (Pipeline.pin (pcfgs (F := F)) a p).spec w)))
    (hT : ∀ c k, (a p).1 k = W c (Proc.devRef .tc ((pcfgs (F := F) p).pre.ref k)))
    (hS : arrRefs (pcfgs (F := F) p).spec ⊆ UC) (hS' : tblRefs (pcfgs (F := F) p).pre ⊆ UC)
    (d : Dev nD) (Q : PUnit → sProp 𝕄) :
    iprop((iprop(boundary (T d) ∗ held (T d) UC (afterRegion (pdats p d) (W d)) ∗ owing (F := F) d n) -∗ Q ⟨⟩)
        ∗ boundary (T d) ∗ held (T d) UC (W d) ∗ owing (F := F) d n ∗ levAts (K (F := F)).L (K (F := F)).lev
        ∗ Pipeline.cellsGhost (Pipeline.pin (pcfgs (F := F)) a) (EP (F := F)) p d ∗ Pipeline.toksInit (Pipeline.pin (pcfgs (F := F)) a) (EP (F := F)) p d)
      ⊢ wp frame (wpE ((K (F := F)).defs (D (F := F))) 𝒱 (T d) none) Set.univ
          (Prog.lift (.customCall (SparseCore.inner (Pipeline.entry p)) ())) Q := by
  have h := (seg a pdats p n kit hbody howed hrec hshare hΦ W hW hT hS hS').wp (pcfgs (F := F)) a pdats none (cellOf_inj a) (EP (F := F)) (defs₀ (F := F)) 𝒱₀ (K (F := F)).L (K (F := F)).lev
    d none (fun _ h => nomatch h) .ret Q
  have hpre : iprop(held (T d) UC (W d) ∗ owing (F := F) d n) ⊢ (seg a pdats p n kit hbody howed hrec hshare hΦ W hW hT hS hS').pre d := BIBase.Entails.rfl
  have hpost : (seg a pdats p n kit hbody howed hrec hshare hΦ W hW hT hS hS').post d ⊢ iprop(held (T d) UC (afterRegion (pdats p d) (W d)) ∗ owing (F := F) d n) :=
    BIBase.Entails.rfl
  refine BIBase.Entails.trans ?_ ((K (F := F)).wp_liftProg (D (F := F)) 𝒱 (T d) Set.univ none (.op (.customCall (Pipeline.entry p) ()) .ret) Q)
  refine BIBase.Entails.trans ?_ h
  iintro ⟨Hk, Hb, Hh, HO, Hl, Hc, Ht⟩
  isplitl [Hk]
  · iintro ⟨Hb, Hp⟩
    ihave Hp := hpost $$ Hp
    icases Hp with ⟨Hh, HO⟩
    rw [wp_ret]; imodintro
    iapply Hk
    isplitl [Hb]; · iexact Hb
    isplitl [Hh]; · iexact Hh
    iexact HO
  isplitl [Hb]; · iexact Hb
  isplitl [Hh HO]
  · iapply hpre
    isplitl [Hh]; · iexact Hh
    iexact HO
  isplitl [Hl]; · iexact Hl
  isplitl [Hc]; · iexact Hc
  iexact Ht

end Cert.Proof.Moe

end
-- ==== Proof.Moe.Router.lean ====
/-
  The router's region: at each of its eight grid points the body reads one block of tokens and the router's weights, and
  leaves the option probabilities and the selected options of that block.
-/
module

public import proofs.«01_k».proof.Proof.Moe.Region
public import proofs.«01_k».proof.Proof.Gen.KernelIdeal.Points
public import Idealize.ShloMosaic.Lib.Pipeline.FrameBody
public import Idealize.ShloMosaic.Lib.Pipeline.Value

@[expose] public section

noncomputable section

namespace Cert.Proof.Moe

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.ShloMosaic.StableHlo (held)
open Idealize.ShloMosaic.Pipeline (Dat afterRegion arrRefs tblRefs arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The rectangle of a whole array, written with zero offsets. -/
theorem all_emb {S : Shape} {off : Fin S.rank → Nat} (h : off = fun _ => 0) (inb : ∀ a, off a + S.size a ≤ S.size a) (y : S.Idx) :
    (Rect.unit off S.size inb).emb y = y := by
  subst h; exact Rect.emb_whole_apply S y

/-- A load of all of a buffer reads what the buffer holds. -/
theorem load_all (c : Dev nD) {S : Shape} {e : EltTy} (M : Memref sig .tc .vmem S e) {off : Fin S.rank → Nat} (h : off = fun _ => 0)
    (inb : ∀ a, off a + S.size a ≤ S.size a) {hl} {α : Type} (k : (S.Idx → Elt F e) → Prog (TpuEff nD τ sig (Elt F) Λ₀ .tc) α)
    (X : S.Idx → Elt F e) (Q : α → sProp 𝕄) :
    owns (c : Thread nD τ) M fullShare X
      ⊢ iprop((owns (c : Thread nD τ) M fullShare X -∗ wp frame (wpE (defs₀ (F := F)) 𝒱₀ (c : Thread nD τ) none) Set.univ (k X) Q)
        -∗ wp frame (wpE (defs₀ (F := F)) 𝒱₀ (c : Thread nD τ) none) Set.univ (Prog.lift (.load M (Rect.unit off S.size inb).toLoadRect hl) >>= k) Q) := by
  unfold owns
  iintro ⟨%g, %hg, HX⟩ Hk
  have hr : (M.access (Rect.unit off S.size inb)).read (Elt F) g = X := by
    subst hg; funext x
    show _root_.cast _ (g (M.view.emb ((Rect.unit off S.size inb).emb x))) = _root_.cast _ (g (M.view.emb x))
    rw [all_emb h inb x]
  iapply (wp_load_rect 𝒱₀ (c : Thread nD τ) none Set.univ (m := M) (r := Rect.unit off S.size inb) (View.set_slice_subset _ _)) $$ HX
  iintro HX
  rw [hr]
  iapply Hk
  iexists g; isplitr; · ipureintro; exact hg
  iexact HX

/-- A store to all of a buffer leaves it holding what is stored. -/
theorem store_all (c : Dev nD) {S : Shape} {e : EltTy} (M : Memref sig .tc .vmem S e) {off : Fin S.rank → Nat} (h : off = fun _ => 0)
    (inb : ∀ a, off a + S.size a ≤ S.size a) {hx hm} {α : Type} (k : PUnit → Prog (TpuEff nD τ sig (Elt F) Λ₀ .tc) α)
    (X w : S.Idx → Elt F e) (Q : α → sProp 𝕄) :
    owns (c : Thread nD τ) M fullShare X
      ⊢ iprop((owns (c : Thread nD τ) M fullShare w -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store M (Rect.unit off S.size inb) w Finset.univ hx hm) >>= k) Q) := by
  unfold owns
  iintro ⟨%g, -, HX⟩ Hk
  iapply (wp_store 𝒱₀ (c : Thread nD τ) none Set.univ (m := M) (r := Rect.unit off S.size inb) (Mk := Finset.univ) (View.set_slice_subset _ _)) $$ HX
  iintro HX
  iapply Hk
  iexists _; isplitr
  swap; · iexact HX
  ipureintro
  funext y
  conv_lhs => rw [← all_emb h inb y]
  rw [View.read_slice_write_emb _ _ _ (Finset.mem_univ _)]

/-- The selected option of each token of a block, from the block of noise and the router's operands. -/
noncomputable def selOf (g : Vec F S512x8 .f32) (x : Vec F S512x1024 .f32) (w1 : Vec F S1024x1024 .f32) (b1 : Vec F S1024 .f32)
    (w2 : Vec F S1024x1024 .f32) (b2 : Vec F S1024 .f32) (w3 : Vec F S1024x8 .f32) (b3 : Vec F S8 .f32) : IVec S1x1x512 32 :=
  k0_pay1 (k0_pay17 (k0_pay4 x w1 b1 w2 b2 w3 b3 g)) (k0_pay18 (k0_pay4 x w1 b1 w2 b2 w3 b3 g)) (k0_pay19 (k0_pay4 x w1 b1 w2 b2 w3 b3 g))

/-- The body at one point, on any staging buffers. -/
theorem router_body (c : Dev nD) (i : grid0.Coords) (M0 : Memref sig .tc .vmem S512x8 .f32) (h0 : M0.IsWhole) (M1 : Memref sig .tc .vmem S512x1024 .f32) (h1 : M1.IsWhole)
    (M2 : Memref sig .tc .vmem S1024x1024 .f32) (h2 : M2.IsWhole) (M3 : Memref sig .tc .vmem S1024 .f32) (h3 : M3.IsWhole)
    (M4 : Memref sig .tc .vmem S1024x1024 .f32) (h4 : M4.IsWhole) (M5 : Memref sig .tc .vmem S1024 .f32) (h5 : M5.IsWhole)
    (M6 : Memref sig .tc .vmem S1024x8 .f32) (h6 : M6.IsWhole) (M7 : Memref sig .tc .vmem S8 .f32) (h7 : M7.IsWhole)
    (M8 : Memref sig .tc .vmem S512x8 .f32) (h8 : M8.IsWhole) (M9 : Memref sig .tc .vmem S1x1x512 .i32) (h9 : M9.IsWhole)
    (g : Vec F S512x8 .f32) (x : Vec F S512x1024 .f32) (w1 : Vec F S1024x1024 .f32) (b1 : Vec F S1024 .f32)
    (w2 : Vec F S1024x1024 .f32) (b2 : Vec F S1024 .f32) (w3 : Vec F S1024x8 .f32) (b3 : Vec F S8 .f32)
    (y8 : Vec F S512x8 .f32) (y9 : Vec F S1x1x512 .i32) (Q : PUnit → sProp 𝕄) :
    iprop(owns (c : Thread nD τ) M0 fullShare g ∗ owns (c : Thread nD τ) M1 fullShare x ∗ owns (c : Thread nD τ) M2 fullShare w1 ∗ owns (c : Thread nD τ) M3 fullShare b1
        ∗ owns (c : Thread nD τ) M4 fullShare w2 ∗ owns (c : Thread nD τ) M5 fullShare b2 ∗ owns (c : Thread nD τ) M6 fullShare w3 ∗ owns (c : Thread nD τ) M7 fullShare b3
        ∗ owns (c : Thread nD τ) M8 fullShare y8 ∗ owns (c : Thread nD τ) M9 fullShare y9
        ∗ ((owns (c : Thread nD τ) M0 fullShare g ∗ owns (c : Thread nD τ) M1 fullShare x ∗ owns (c : Thread nD τ) M2 fullShare w1 ∗ owns (c : Thread nD τ) M3 fullShare b1
        ∗ owns (c : Thread nD τ) M4 fullShare w2 ∗ owns (c : Thread nD τ) M5 fullShare b2 ∗ owns (c : Thread nD τ) M6 fullShare w3 ∗ owns (c : Thread nD τ) M7 fullShare b3
        ∗ owns (c : Thread nD τ) M8 fullShare (k0_pay3 x w1 b1 w2 b2 w3 b3) ∗ owns (c : Thread nD τ) M9 fullShare (selOf g x w1 b1 w2 b2 w3 b3)) -∗ Q ⟨⟩))
      ⊢ wp frame (wpE (defs₀ (F := F)) 𝒱₀ (c : Thread nD τ) none) Set.univ
          (cc0__router_body i M0 h0 M1 h1 M2 h2 M3 h3 M4 h4 M5 h5 M6 h6 M7 h7 M8 h8 M9 h9) Q := by
  rw [cc0__router_body_eq_skeleton]
  unfold cc0__router_body_skel
  rw [k0_part1_eq_skeleton, k0_part2_eq_skeleton]
  unfold k0_part1_skel k0_part2_skel
  have z1 : (![0] : Fin 1 → Nat) = fun _ => 0 := funext fun a => by fin_cases a; rfl
  have z2 : (![0, 0] : Fin 2 → Nat) = fun _ => 0 := funext fun a => by fin_cases a <;> rfl
  have z3 : (![0, 0, 0] : Fin 3 → Nat) = fun _ => 0 := funext fun a => by fin_cases a <;> rfl
  iintro ⟨H0, H1, H2, H3, H4, H5, H6, H7, H8, H9, Hk⟩
  simp only [bind_assoc, pure_bind]
  iapply (load_all c M1 z2 _ _ x Q) $$ H1; iintro H1
  iapply (load_all c M2 z2 _ _ w1 Q) $$ H2; iintro H2
  iapply (load_all c M3 z1 _ _ b1 Q) $$ H3; iintro H3
  iapply (load_all c M4 z2 _ _ w2 Q) $$ H4; iintro H4
  iapply (load_all c M5 z1 _ _ b2 Q) $$ H5; iintro H5
  iapply (load_all c M6 z2 _ _ w3 Q) $$ H6; iintro H6
  iapply (load_all c M7 z1 _ _ b3 Q) $$ H7; iintro H7
  iapply (load_all c M8 z2 _ _ y8 Q) $$ H8; iintro H8
  iapply (store_all c M8 z2 _ _ y8 _ Q) $$ H8; iintro H8
  iapply (load_all c M0 z2 _ _ g Q) $$ H0; iintro H0
  iapply (load_all c M9 z3 _ _ y9 Q) $$ H9; iintro H9
  iapply (store_all c M9 z3 _ _ y9 _ Q) $$ H9; iintro H9
  rw [show (Pure.pure PUnit.unit : Prog (TpuEff nD τ sig (Elt F) Λ₀ .tc) PUnit) = .ret ⟨⟩ from rfl, wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The region's proof data -/

section Data

variable (V : Valuation τ sig (Elt F))

set_option backward.isDefEq.respectTransparency.types false in
/-- Window `w`'s block at point `t`, of the arrays as the region finds them. -/
abbrev rblk (w : Fin 10) (t : Fin cfg0.N) : ((cfg0.win w).xblock (cfg0.grid.coords t)).Idx → Elt F (cfg0.win w).elt :=
  ((cfg0.win w).blk t).view.read (Elt F) (V (Proc.devRef .tc (arrRef spec0 w)))

set_option backward.isDefEq.respectTransparency.types false in
/-- The probabilities the body leaves at point `t`. -/
abbrev rprobs (t : Fin cfg0.N) : Vec F S512x8 .f32 :=
  k0_pay3 (rblk V 1 t) (rblk V 2 t) (rblk V 3 t) (rblk V 4 t) (rblk V 5 t) (rblk V 6 t) (rblk V 7 t)

set_option backward.isDefEq.respectTransparency.types false in
/-- The selected options the body leaves at point `t`. -/
abbrev rsel (t : Fin cfg0.N) : Vec F S1x1x512 .i32 :=
  selOf (rblk V 0 t) (rblk V 1 t) (rblk V 2 t) (rblk V 3 t) (rblk V 4 t) (rblk V 5 t) (rblk V 6 t) (rblk V 7 t)

set_option backward.isDefEq.respectTransparency.types false in
/-- The arrays at the valuation; every input's staging buffer as fetched, the two results' at the body's values. -/
def rdat (Ψ : sProp 𝕄) (c : Dev nD) : Dat τ (Elt F) (HIx 2) ℕ UU ℕ cfg0 c where
  A w := V (Proc.devRef .tc (arrRef spec0 w))
  after w t := match w with
    | ⟨0, _⟩ => rblk V 0 t | ⟨1, _⟩ => rblk V 1 t | ⟨2, _⟩ => rblk V 2 t | ⟨3, _⟩ => rblk V 3 t | ⟨4, _⟩ => rblk V 4 t
    | ⟨5, _⟩ => rblk V 5 t | ⟨6, _⟩ => rblk V 6 t | ⟨7, _⟩ => rblk V 7 t
    | ⟨8, _⟩ => rprobs V t
    | ⟨9, _⟩ => rsel V t
  Φ _ := Ψ
  q _ := fullShare
  owed _ := (K (F := F)).Otc c 0
  recorded _ := below (F := F) c 0

set_option backward.isDefEq.respectTransparency.types false in
/-- An input's staging buffer holds its block when the body runs. -/
theorem rbefore (Ψ : sProp 𝕄) (c : Dev nD) (w : Fin 10) (hw : w.val < 8) (t : Fin cfg0.N) (d : (cfg0.win w).block.Idx → Elt F (cfg0.win w).elt) :
    (rdat V Ψ c).before w t d = (rdat V Ψ c).fetched w t d :=
  (rdat V Ψ c).before_in_eq_fetched w (by fin_cases w <;> first | rfl | (exfalso; revert hw; decide)) (fun _ => rfl)
    (fun _ _ _ => by fin_cases w <;> rfl) (fun t => by fin_cases w <;> first | rfl | (exfalso; revert hw; decide)) t d

set_option backward.isDefEq.respectTransparency.types false in
/-- The body obligation of the region. -/
theorem router_obligation (Ψ : sProp 𝕄) (c : Dev nD) :
    Pipeline.BodyObligation (rdat V Ψ c) (defs₀ (F := F)) 𝒱₀ (none : HIx 2) Set.univ := fun t => by
  rw [bigSep_W0, bigSep_W0]
  rw [show (rdat V Ψ c).Φ t.castSucc = Ψ from rfl, show (rdat V Ψ c).Φ t.succ = Ψ from rfl,
    show (rdat V Ψ c).owesAt none t.succ = (rdat V Ψ c).owesAt none t.castSucc from rfl]
  have e0 : ∀ d, (rdat V Ψ c).before 0 t d = rblk V 0 t := fun d => (rbefore V Ψ c 0 (by decide) t d).trans rfl
  have e1 : ∀ d, (rdat V Ψ c).before 1 t d = rblk V 1 t := fun d => (rbefore V Ψ c 1 (by decide) t d).trans rfl
  have e2 : ∀ d, (rdat V Ψ c).before 2 t d = rblk V 2 t := fun d => (rbefore V Ψ c 2 (by decide) t d).trans rfl
  have e3 : ∀ d, (rdat V Ψ c).before 3 t d = rblk V 3 t := fun d => (rbefore V Ψ c 3 (by decide) t d).trans rfl
  have e4 : ∀ d, (rdat V Ψ c).before 4 t d = rblk V 4 t := fun d => (rbefore V Ψ c 4 (by decide) t d).trans rfl
  have e5 : ∀ d, (rdat V Ψ c).before 5 t d = rblk V 5 t := fun d => (rbefore V Ψ c 5 (by decide) t d).trans rfl
  have e6 : ∀ d, (rdat V Ψ c).before 6 t d = rblk V 6 t := fun d => (rbefore V Ψ c 6 (by decide) t d).trans rfl
  have e7 : ∀ d, (rdat V Ψ c).before 7 t d = rblk V 7 t := fun d => (rbefore V Ψ c 7 (by decide) t d).trans rfl
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [e0]
  rw [e1]
  rw [e2]
  rw [e3]
  rw [e4]
  rw [e5]
  rw [e6]
  rw [e7]
  iapply (router_body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9))
    (rblk V 0 t) (rblk V 1 t) (rblk V 2 t) (rblk V 3 t) (rblk V 4 t) (rblk V 5 t) (rblk V 6 t) (rblk V 7 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Data

end Cert.Proof.Moe

end
-- ==== Proof.Moe.RouterOut.lean ====
/-
  What the router's region leaves in its two results, read token by token.
-/
module

public import proofs.«01_k».proof.Proof.Moe.Router

@[expose] public section

noncomputable section

namespace Cert.Proof.Moe

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.ShloMosaic.StableHlo (held)
open Idealize.ShloMosaic.Pipeline (Dat afterRegion arrRefs tblRefs arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Data

variable (V : Valuation τ sig (Elt F))

/-! ## What the region leaves -/

/-- Row `r`, column `k` of a 512 × 8 block; entry `r` of a 1 × 1 × 512 block. -/
abbrev rc (r : Fin 512) (k : Fin 8) : S512x8.Idx := fun a => match a with | ⟨0, _⟩ => r | ⟨1, _⟩ => k
abbrev r3 (r : Fin 512) : S1x1x512.Idx := fun a => match a with | ⟨0, _⟩ => (0 : Fin 1) | ⟨1, _⟩ => (0 : Fin 1) | ⟨2, _⟩ => r

/-- The grid point a token's block is read at. -/
abbrev pt (n : ℕ) (h : n < 4096) : Fin cfg0.N := ⟨n / 512, by show n / 512 < grid0.N; rw [N_0]; omega⟩

theorem index8 : ∀ t : Fin cfg0.N, (cfg0.win 8).index t = ![t.val, 0] := by decide
theorem index9 : ∀ t : Fin cfg0.N, (cfg0.win 9).index t = ![t.val, 0, 0] := by decide

theorem index0 : ∀ t : Fin cfg0.N, (cfg0.win 0).index t = ![t.val, 0] := by decide
theorem index1 : ∀ t : Fin cfg0.N, (cfg0.win 1).index t = ![t.val, 0] := by decide

set_option backward.isDefEq.respectTransparency.types false in
/-- Where row `x` of a block of probabilities lies in the whole array. -/
theorem emb8 (t : Fin cfg0.N) (x : S512x8.Idx) :
    ((((cfg0.win 8).blk t).view.emb x 0 : Fin 4096).val = 512 * t.val + (x 0).val) ∧ (((cfg0.win 8).blk t).view.emb x 1 : Fin 8).val = (x 1).val := by
  have h := index8 t
  have h0 : (cfg0.win 8).index t 0 = t.val := by rw [h]; rfl
  have h1 : (cfg0.win 8).index t 1 = 0 := by rw [h]; rfl
  constructor
  · show (cfg0.win 8).index t 0 * 512 + 1 * (x 0).val = _
    rw [h0]; omega
  · show (cfg0.win 8).index t 1 * 8 + 1 * (x 1).val = _
    rw [h1]; omega

set_option backward.isDefEq.respectTransparency.types false in
/-- The probabilities of every token. -/
theorem probs_out (Ψ : sProp 𝕄) (c : Dev nD) :
    (rdat V Ψ c).arrAt 8 cfg0.N = fun j : S4096x8.Idx => rprobs V (pt (j 0).val (j 0).isLt) (rc ⟨(j 0).val % 512, Nat.mod_lt _ (by decide)⟩ (j 1)) := by
  refine (rdat V Ψ c).arrAt_eq_of_cover 8 _ (fun t _ => ?_) (fun j => ?_)
  · funext x
    show rprobs V t x = rprobs V (pt (((cfg0.win 8).blk t).view.emb x 0 : Fin 4096).val _) (rc ⟨(((cfg0.win 8).blk t).view.emb x 0 : Fin 4096).val % 512, _⟩ (((cfg0.win 8).blk t).view.emb x 1))
    obtain ⟨e0, e1⟩ := emb8 t x
    have hx : (x 0).val < 512 := (x 0).isLt
    have ht : pt (((cfg0.win 8).blk t).view.emb x 0 : Fin 4096).val (((cfg0.win 8).blk t).view.emb x 0 : Fin 4096).isLt = t := by
      apply Fin.ext; show (((cfg0.win 8).blk t).view.emb x 0 : Fin 4096).val / 512 = t.val; omega
    rw [ht]
    congr 1
    funext a
    fin_cases a
    · apply Fin.ext; show (x 0).val = (((cfg0.win 8).blk t).view.emb x 0 : Fin 4096).val % 512; omega
    · apply Fin.ext; exact e1.symm
  · refine ⟨pt (j 0).val (j 0).isLt, flush0_8 _, ?_⟩
    have h : ((cfg0.win 8).blk (pt (j 0).val (j 0).isLt)).view.emb (rc ⟨(j 0).val % 512, Nat.mod_lt _ (by decide)⟩ (j 1)) = j := by
      obtain ⟨e0, e1⟩ := emb8 (pt (j 0).val (j 0).isLt) (rc ⟨(j 0).val % 512, Nat.mod_lt _ (by decide)⟩ (j 1))
      funext a
      fin_cases a
      · apply Fin.ext; refine e0.trans ?_
        show 512 * ((j 0).val / 512) + (j 0).val % 512 = (j 0).val; omega
      · apply Fin.ext; exact e1
    exact Eq.mp (congrArg (fun z => z ∈ ((cfg0.win 8).blk (pt (j 0).val (j 0).isLt)).view.set) h) (View.emb_mem_set _ _)

set_option backward.isDefEq.respectTransparency.types false in
/-- Where entry `x` of a block of selected options lies in the whole array. -/
theorem emb9 (t : Fin cfg0.N) (x : S1x1x512.Idx) :
    ((((cfg0.win 9).blk t).view.emb x 0 : Fin 8).val = t.val) ∧ (((cfg0.win 9).blk t).view.emb x 2 : Fin 512).val = (x 2).val := by
  have h := index9 t
  have h0 : (cfg0.win 9).index t 0 = t.val := by rw [h]; rfl
  have h2 : (cfg0.win 9).index t 2 = 0 := by rw [h]; rfl
  have hx : (x 0).val < 1 := (x 0).isLt
  constructor
  · show (cfg0.win 9).index t 0 * 1 + 1 * (x 0).val = _
    rw [h0]; omega
  · show (cfg0.win 9).index t 2 * 512 + 1 * (x 2).val = _
    rw [h2]; omega

/-- A block of selected options has one entry for each of its last coordinates. -/
theorem r3_eq (x : S1x1x512.Idx) : r3 (x 2) = x := by
  have h0 : (x 0).val < 1 := (x 0).isLt
  have h1 : (x 1).val < 1 := (x 1).isLt
  funext a
  fin_cases a
  · apply Fin.ext; show 0 = (x 0).val; omega
  · apply Fin.ext; show 0 = (x 1).val; omega
  · rfl

set_option backward.isDefEq.respectTransparency.types false in
/-- The selected option of every token. -/
theorem sel_out (Ψ : sProp 𝕄) (c : Dev nD) :
    (rdat V Ψ c).arrAt 9 cfg0.N = fun j : S8x1x512.Idx => rsel V ⟨(j 0).val, by show (j 0).val < grid0.N; rw [N_0]; exact (j 0).isLt⟩ (r3 (j 2)) := by
  refine (rdat V Ψ c).arrAt_eq_of_cover 9 _ (fun t _ => ?_) (fun j => ?_)
  · funext x
    show rsel V t x = rsel V ⟨(((cfg0.win 9).blk t).view.emb x 0 : Fin 8).val, _⟩ (r3 (((cfg0.win 9).blk t).view.emb x 2))
    obtain ⟨e0, e2⟩ := emb9 t x
    rw [show (⟨(((cfg0.win 9).blk t).view.emb x 0 : Fin 8).val, by rw [e0]; exact t.isLt⟩ : Fin cfg0.N) = t from Fin.ext e0,
      show (((cfg0.win 9).blk t).view.emb x 2 : Fin 512) = x 2 from Fin.ext e2, r3_eq]
  · have ht : (j 0).val < cfg0.N := by show (j 0).val < grid0.N; rw [N_0]; exact (j 0).isLt
    refine ⟨⟨(j 0).val, ht⟩, flush0_9 _, ?_⟩
    have h : ((cfg0.win 9).blk ⟨(j 0).val, ht⟩).view.emb (r3 (j 2)) = j := by
      obtain ⟨e0, e2⟩ := emb9 ⟨(j 0).val, ht⟩ (r3 (j 2))
      have e1 : (((cfg0.win 9).blk ⟨(j 0).val, ht⟩).view.emb (r3 (j 2)) 1 : Fin 1) = (j 1 : Fin 1) := @Subsingleton.elim (Fin 1) _ _ _
      funext a
      fin_cases a
      · apply Fin.ext; exact e0
      · exact e1
      · apply Fin.ext; exact e2
    exact Eq.mp (congrArg (fun z => z ∈ ((cfg0.win 9).blk ⟨(j 0).val, ht⟩).view.set) h) (View.emb_mem_set _ _)

/-! ## The blocks read -/

/-- Row `r` of the block of tokens, or of noise, at point `t`. -/
theorem blk1_at (t : Fin cfg0.N) (x : S512x1024.Idx) (y : S4096x1024.Idx) (h0 : (y 0).val = 512 * t.val + (x 0).val) (h1 : (y 1).val = (x 1).val) :
    rblk V 1 t x = V (Proc.devRef .tc main_arg0) y := by
  have h := index1 t
  have h0' : (cfg0.win 1).index t 0 = t.val := by rw [h]; rfl
  have h1' : (cfg0.win 1).index t 1 = 0 := by rw [h]; rfl
  show V (Proc.devRef .tc main_arg0) (((cfg0.win 1).blk t).view.emb x) = _
  congr 1
  funext a
  fin_cases a
  · apply Fin.ext
    show (cfg0.win 1).index t 0 * 512 + 1 * (x 0).val = (y 0).val
    rw [h0']; omega
  · apply Fin.ext
    show (cfg0.win 1).index t 1 * 1024 + 1 * (x 1).val = (y 1).val
    rw [h1']; omega

theorem blk0_at (t : Fin cfg0.N) (x : S512x8.Idx) (y : S4096x8.Idx) (h0 : (y 0).val = 512 * t.val + (x 0).val) (h1 : (y 1).val = (x 1).val) :
    rblk V 0 t x = V (Proc.devRef .tc main_v7) y := by
  have h := index0 t
  have h0' : (cfg0.win 0).index t 0 = t.val := by rw [h]; rfl
  have h1' : (cfg0.win 0).index t 1 = 0 := by rw [h]; rfl
  show V (Proc.devRef .tc main_v7) (((cfg0.win 0).blk t).view.emb x) = _
  congr 1
  funext a
  fin_cases a
  · apply Fin.ext
    show (cfg0.win 0).index t 0 * 512 + 1 * (x 0).val = (y 0).val
    rw [h0']; omega
  · apply Fin.ext
    show (cfg0.win 0).index t 1 * 8 + 1 * (x 1).val = (y 1).val
    rw [h1']; omega

/-- The weights and biases are read whole at every point. -/
theorem blk2_eq (t : Fin cfg0.N) : rblk V 2 t = V (Proc.devRef .tc main_arg1) :=
  Memref.read_access_unit_zero (Elt F) main_arg1 (funext fun a => by fin_cases a <;> rfl) _ _
theorem blk3_eq (t : Fin cfg0.N) : rblk V 3 t = V (Proc.devRef .tc main_arg2) :=
  Memref.read_access_unit_zero (Elt F) main_arg2 (funext fun a => by fin_cases a <;> rfl) _ _
theorem blk4_eq (t : Fin cfg0.N) : rblk V 4 t = V (Proc.devRef .tc main_arg3) :=
  Memref.read_access_unit_zero (Elt F) main_arg3 (funext fun a => by fin_cases a <;> rfl) _ _
theorem blk5_eq (t : Fin cfg0.N) : rblk V 5 t = V (Proc.devRef .tc main_arg4) :=
  Memref.read_access_unit_zero (Elt F) main_arg4 (funext fun a => by fin_cases a <;> rfl) _ _
theorem blk6_eq (t : Fin cfg0.N) : rblk V 6 t = V (Proc.devRef .tc main_arg5) :=
  Memref.read_access_unit_zero (Elt F) main_arg5 (funext fun a => by fin_cases a <;> rfl) _ _
theorem blk7_eq (t : Fin cfg0.N) : rblk V 7 t = V (Proc.devRef .tc main_arg6) :=
  Memref.read_access_unit_zero (Elt F) main_arg6 (funext fun a => by fin_cases a <;> rfl) _ _

end Data

end Cert.Proof.Moe

end
-- ==== Proof.Moe.KernelRows.lean ====
/-
  The mixture of experts: what the two TensorCore bodies compute, row by row over the extended reals.
-/
module

public import proofs.«01_k».proof.Proof.Moe.Rows
public import proofs.«01_k».proof.Proof.Moe.Router
public import proofs.«01_k».proof.Proof.Moe.RouterOut

@[expose] public section

noncomputable section

namespace Cert.Proof.Moe

open Cert.KernelIdeal Cert.KernelIdeal.Gen
open Idealize.ShloMosaic Idealize.ShloMosaic.ValueIdx

/-! ## The router -/

section Router

variable (x : FVec Ideal S512x1024 .f32) (w1 : FVec Ideal S1024x1024 .f32) (b1 : FVec Ideal S1024 .f32) (w2 : FVec Ideal S1024x1024 .f32) (b2 : FVec Ideal S1024 .f32)
  (w3 : FVec Ideal S1024x8 .f32) (b3 : FVec Ideal S8 .f32) (g : FVec Ideal S512x8 .f32)

/-- A row's logits. -/
theorem logits_row (r : Fin 512) (k : Fin 8) :
    k0_pay2 (F := Ideal) x w1 b1 w2 b2 w3 b3 (ix2 r k) = mlp (rowOf x r) (matOf w1) (vecOf b1) (matOf w2) (vecOf b2) (matOf w3) (vecOf b3) k := by
  refine (kernel_layer (M := 512) (K := 1024) (N := 8) _ w3 b3 _ _ r k).trans (congrArg (fun y => layer y (matOf w3) (vecOf b3) k) (funext fun i => ?_))
  refine (kernel_relu (M := 512) (N := 1024) _ r i).trans (congrArg (fun y => max y 0) ?_)
  refine (kernel_layer (M := 512) (K := 1024) (N := 1024) _ w2 b2 _ _ r i).trans (congrArg (fun y => layer y (matOf w2) (vecOf b2) i) (funext fun i => ?_))
  refine (kernel_relu (M := 512) (N := 1024) _ r i).trans (congrArg (fun y => max y 0) ?_)
  exact kernel_layer (M := 512) (K := 1024) (N := 1024) x w1 b1 _ _ r i

/-- A row's option probabilities. -/
theorem probs_row (r : Fin 512) (k : Fin 8) :
    k0_pay3 (F := Ideal) x w1 b1 w2 b2 w3 b3 (ix2 r k) = soft (mlp (rowOf x r) (matOf w1) (vecOf b1) (matOf w2) (vecOf b2) (matOf w3) (vecOf b3)) k := by
  have hz : rowOf (k0_pay2 (F := Ideal) x w1 b1 w2 b2 w3 b3) r = mlp (rowOf x r) (matOf w1) (vecOf b1) (matOf w2) (vecOf b2) (matOf w3) (vecOf b3) :=
    funext fun k => logits_row x w1 b1 w2 b2 w3 b3 r k
  rw [← hz]
  unfold k0_pay3
  generalize k0_pay2 (F := Ideal) x w1 b1 w2 b2 w3 b3 = z
  have he : ∀ i : Fin 8, Idealize.ShloMosaic.exp (subf z (broadcastTo S512x8 (shapeCast S512x1 (multiReduction .maximumf [1] S512 z 0xFF800000#32 reduces_S512x8_S512 (.inl rfl) rfl)
      shapeCasts_S512_S512x1) broadcasts_S512x1_S512x8)) (ix2 r i) = Ideal.exp (z (ix2 r i) - top (rowOf z r)) := by
    intro i
    show Ideal.exp (z (ix2 r i) - broadcastTo S512x8 (shapeCast S512x1 (multiReduction .maximumf [1] S512 z 0xFF800000#32 reduces_S512x8_S512 (.inl rfl) rfl)
      shapeCasts_S512_S512x1) broadcasts_S512x1_S512x8 (ix2 r i)) = _
    exact congrArg (fun y => Ideal.exp (z (ix2 r i) - y)) ((along_cols (M := 512) (N := 8) _ _ _ r i).trans (kernel_top (M := 512) (N := 8) z _ _ _ r))
  refine congrArg₂ Ideal.div (he k) ?_
  refine (along_cols (M := 512) (N := 8) _ _ _ r k).trans ((kernel_sum (M := 512) (N := 8) _ _ _ _ r).trans ?_)
  exact Finset.sum_congr rfl fun i _ => he i

/-- A column cut out. -/
theorem column (z : FVec Ideal S512x8 .f32) (n : ℕ) (hn : n < 8) (h : S512x8.Slices ![0, n] S512x1) (h' : S512x1.ShapeCasts S512) (r : Fin 512) :
    shapeCast S512 (extractStridedSlice S512x1 ![0, n] z h) h' (ix1 r) = seqOf (rowOf z r) n := by
  refine (shapeCast_apply _ _ _ (ix2 r (0 : Fin 1)) ?_).trans ((extractStridedSlice_apply _ _ _ _ (ix2 r ⟨n, hn⟩) fun a => ?_).trans (by unfold seqOf; rw [dif_pos hn]))
  · rw [Shape.rowMajor_val_one, Shape.rowMajor_val_two]
    show r.val * 1 + 0 = r.val
    omega
  · match a with
    | ⟨0, _⟩ => show r.val = 0 + r.val; omega
    | ⟨1, _⟩ => show n = n + 0; omega

/-- One comparison of the chain. -/
theorem compare {z : ℕ → EReal} {r : Fin 512} {n : ℕ} (hn : n < 8) {b v : FVec Ideal S512 .f32} {i : IVec S512 32} (h : Best z n (b (ix1 r)) (i (ix1 r)).toNat)
    (hv : v (ix1 r) = z n) :
    Best z (n + 1) (select (cmpf .ogt v b) v b (ix1 r)) (select (cmpf .ogt v b) (broadcast S512 (BitVec.ofNat 32 n)) i (ix1 r)).toNat := by
  have hc : cmpf .ogt v b (ix1 r) = 1#1 ↔ b (ix1 r) < z n := by
    show BitVec.ofBool (decide (b (ix1 r) < v (ix1 r))) = 1#1 ↔ _
    rw [hv]
    by_cases hlt : b (ix1 r) < z n <;> simp [hlt]
  have e1 : select (cmpf .ogt v b) v b (ix1 r) = if b (ix1 r) < z n then z n else b (ix1 r) := by
    show (if cmpf .ogt v b (ix1 r) = 1#1 then v (ix1 r) else b (ix1 r)) = _
    rw [hv]; exact if_congr hc rfl rfl
  have e2 : (select (cmpf .ogt v b) (broadcast S512 (BitVec.ofNat 32 n)) i (ix1 r)).toNat = if b (ix1 r) < z n then n else (i (ix1 r)).toNat := by
    show (if cmpf .ogt v b (ix1 r) = 1#1 then BitVec.ofNat 32 n else i (ix1 r)).toNat = _
    by_cases hlt : b (ix1 r) < z n
    · rw [if_pos (hc.mpr hlt), if_pos hlt, BitVec.toNat_ofNat]; omega
    · rw [if_neg (fun h => hlt (hc.mp h)), if_neg hlt]
  rw [e1, e2]
  exact h.next

/-- The last choice of the chain, read at a token of the block. -/
theorem last_word (b : FVec Ideal S512 .f32) (i : IVec S512 32) (v : FVec Ideal S512 .f32) (r : Fin 512) :
    k0_pay1 b i v (r3 r) = select (cmpf .ogt v b) (broadcast S512 7#32) i (ix1 r) := by
  refine (shapeCast_apply (select (cmpf .ogt v b) (broadcast S512 7#32) i) shapeCasts_S512_S1x1x512 (r3 r) (ix1 r) ?_)
  rw [Shape.rowMajor_val_one, Shape.rowMajor_val_three]
  show r.val = (0 * 1 + 0) * 512 + r.val
  omega

/-- A row's selected option is the first of the greatest of its logits with the noise added. -/
theorem sel_row (r : Fin 512) : ∃ b, Best (seqOf fun k => g (ix2 r k) + mlp (rowOf x r) (matOf w1) (vecOf b1) (matOf w2) (vecOf b2) (matOf w3) (vecOf b3) k) 8 b
    (selOf (F := Ideal) g x w1 b1 w2 b2 w3 b3 (r3 r) : BitVec 32).toNat := by
  have hz : (fun k => g (ix2 r k) + mlp (rowOf x r) (matOf w1) (vecOf b1) (matOf w2) (vecOf b2) (matOf w3) (vecOf b3) k) = rowOf (k0_pay4 (F := Ideal) x w1 b1 w2 b2 w3 b3 g) r :=
    funext fun k => congrArg₂ (· + ·) (shapeCast_apply g shapeCasts_S512x8_S512x8 (ix2 r k) (ix2 r k) rfl).symm (logits_row x w1 b1 w2 b2 w3 b3 r k).symm
  rw [hz]
  unfold selOf
  generalize hv : k0_pay4 (F := Ideal) x w1 b1 w2 b2 w3 b3 g = z
  have c0 := column z 0 (by norm_num) slices_S512x8_o0_0_S512x1 shapeCasts_S512x1_S512 r
  have q1 : Best (seqOf (rowOf z r)) 1 (k0_pay5 (F := Ideal) z (ix1 r)) ((broadcast S512 0#32 : IVec S512 32) (ix1 r)).toNat := by
    show Best _ 1 (shapeCast S512 (extractStridedSlice S512x1 ![0, 0] z slices_S512x8_o0_0_S512x1) shapeCasts_S512x1_S512 (ix1 r)) (0#32 : BitVec 32).toNat
    rw [c0]; exact Best.first _
  have q2 := compare (by norm_num) q1 (column z 1 (by norm_num) slices_S512x8_o0_1_S512x1 shapeCasts_S512x1_S512 r)
  have q3 := compare (by norm_num) q2 (column z 2 (by norm_num) slices_S512x8_o0_2_S512x1 shapeCasts_S512x1_S512 r)
  have q4 := compare (by norm_num) q3 (column z 3 (by norm_num) slices_S512x8_o0_3_S512x1 shapeCasts_S512x1_S512 r)
  have q5 := compare (by norm_num) q4 (column z 4 (by norm_num) slices_S512x8_o0_4_S512x1 shapeCasts_S512x1_S512 r)
  have q6 := compare (by norm_num) q5 (column z 5 (by norm_num) slices_S512x8_o0_5_S512x1 shapeCasts_S512x1_S512 r)
  have q7 := compare (by norm_num) q6 (column z 6 (by norm_num) slices_S512x8_o0_6_S512x1 shapeCasts_S512x1_S512 r)
  have q8 := compare (by norm_num) q7 (column z 7 (by norm_num) slices_S512x8_o0_7_S512x1 shapeCasts_S512x1_S512 r)
  rw [last_word]
  exact ⟨_, q8⟩

end Router

/-! ## The experts -/

section Experts

variable (x : FVec Ideal S128x1024 .f32) (w1 : FVec Ideal S1x1024x1024 .f32) (b1 : FVec Ideal S1x1x1024 .f32) (w2 : FVec Ideal S1x1024x1024 .f32) (b2 : FVec Ideal S1x1x1024 .f32)
  (w3 : FVec Ideal S1x1024x1024 .f32) (b3 : FVec Ideal S1x1x1024 .f32)

/-- The matrix of a stack of one. -/
abbrev mat1 (w : FVec Ideal S1x1024x1024 .f32) : Fin 1024 → Fin 1024 → EReal := fun i j => w (ix3 (0 : Fin 1) i j)
/-- The vector of a stack of one. -/
abbrev vec1 (b : FVec Ideal S1x1x1024 .f32) : Fin 1024 → EReal := fun j => b (ix3 (0 : Fin 1) (0 : Fin 1) j)

theorem mat_one (w : FVec Ideal S1x1024x1024 .f32) : matOf (M := 1024) (N := 1024) (shapeCast S1024x1024 w shapeCasts_S1x1024x1024_S1024x1024) = mat1 w := by
  funext i j
  refine shapeCast_apply _ _ _ _ ?_
  rw [Shape.rowMajor_val_two, Shape.rowMajor_val_three]
  show (0 * 1024 + i.val) * 1024 + j.val = i.val * 1024 + j.val
  omega

theorem vec_one (b : FVec Ideal S1x1x1024 .f32) : vecOf (N := 1024) (shapeCast S1024 b shapeCasts_S1x1x1024_S1024) = vec1 b := by
  funext j
  refine shapeCast_apply _ _ _ _ ?_
  rw [Shape.rowMajor_val_one, Shape.rowMajor_val_three]
  show (0 * 1 + 0) * 1024 + j.val = j.val
  omega

theorem row_same (x : FVec Ideal S128x1024 .f32) (r : Fin 128) : rowOf (M := 128) (N := 1024) (shapeCast S128x1024 x shapeCasts_S128x1024_S128x1024) r = rowOf x r := by
  funext k
  exact shapeCast_apply _ _ _ _ rfl

/-- A layer of the experts' body. -/
theorem expert_layer (x : FVec Ideal S128x1024 .f32) (w : FVec Ideal S1x1024x1024 .f32) (b : FVec Ideal S1x1x1024 .f32) (r : Fin 128) (c : Fin 1024) :
    addf (matmul dot_S128x1024_S1024x1024_S128x1024_1_0_0_1_n_n none x (shapeCast S1024x1024 w shapeCasts_S1x1024x1024_S1024x1024) (constant S128x1024 .f32 0x00000000#32))
      (broadcastTo S128x1024 (shapeCast S1x1024 (shapeCast S1024 b shapeCasts_S1x1x1024_S1024) shapeCasts_S1024_S1x1024) broadcasts_S1x1024_S128x1024) (ix2 r c)
      = layer (rowOf x r) (mat1 w) (vec1 b) c := by
  refine (kernel_layer (M := 128) (K := 1024) (N := 1024) x _ _ _ _ r c).trans ?_
  rw [mat_one, vec_one]

/-- A row of the experts' body before its two halves part. -/
abbrev params : Fin 128 → Fin 1024 → EReal := fun r => mlp (rowOf x r) (mat1 w1) (vec1 b1) (mat1 w2) (vec1 b2) (mat1 w3) (vec1 b3)

theorem expert_row (r : Fin 128) (k : Fin 1024) :
    k2_pay1 (F := Ideal) x w1 b1 w2 b2 w3 b3 (ix2 r k) = if k.val < 512 then params x w1 b1 w2 b2 w3 b3 r k else Ideal.exp (params x w1 b1 w2 b2 w3 b3 r k) := by
  unfold k2_pay1
  generalize hy : addf (F := Ideal) (s := S128x1024) (φ := .f32) (matmul dot_S128x1024_S1024x1024_S128x1024_1_0_0_1_n_n none _ (shapeCast S1024x1024 w3 _) _) _ = y
  have hr : ∀ i, y (ix2 r i) = params x w1 b1 w2 b2 w3 b3 r i := by
    intro i
    rw [← hy]
    refine (expert_layer _ w3 b3 r i).trans (congrArg (fun y => layer y (mat1 w3) (vec1 b3) i) (funext fun i => ?_))
    refine (kernel_relu (M := 128) (N := 1024) _ r i).trans (congrArg (fun y => max y 0) ?_)
    refine (expert_layer _ w2 b2 r i).trans (congrArg (fun y => layer y (mat1 w2) (vec1 b2) i) (funext fun i => ?_))
    refine (kernel_relu (M := 128) (N := 1024) _ r i).trans (congrArg (fun y => max y 0) ?_)
    refine (expert_layer _ w1 b1 r i).trans (congrArg (fun y => layer y (mat1 w1) (vec1 b1) i) (row_same x r))
  split
  · rename_i hk
    refine (concatenate_pair_apply_left (s₁ := S128x512) (s₂ := S128x512) (1 : Fin 2) _ _ concatenates_S128x512_S128x512_S128x1024_d1 (ix2 r k) rfl (ix2 r ⟨k.val, hk⟩) fun a => by match a with | ⟨0, _⟩ => rfl | ⟨1, _⟩ => rfl).trans ?_
    refine (extractStridedSlice_apply _ _ _ _ (ix2 r k) fun a => ?_).trans (hr k)
    match a with
    | ⟨0, _⟩ => show r.val = 0 + r.val; omega
    | ⟨1, _⟩ => show k.val = 0 + k.val; omega
  · rename_i hk
    have hk' : k.val - 512 < 512 := by omega
    refine (concatenate_pair_apply_right (s₁ := S128x512) (s₂ := S128x512) (1 : Fin 2) _ _ concatenates_S128x512_S128x512_S128x1024_d1 (ix2 r k) rfl rfl (ix2 r ⟨k.val - 512, hk'⟩)
      (fun a ha => by match a with | ⟨0, _⟩ => rfl | ⟨1, _⟩ => exact absurd rfl ha) (by show k.val - 512 + 512 = k.val; omega)).trans ?_
    refine congrArg Ideal.exp ((extractStridedSlice_apply _ _ _ _ (ix2 r k) fun a => ?_).trans (hr k))
    match a with
    | ⟨0, _⟩ => show r.val = 0 + r.val; omega
    | ⟨1, _⟩ => show k.val = 512 + (k.val - 512); omega

end Experts

end Cert.Proof.Moe

end
-- ==== Proof.Moe.Experts.lean ====
/-
  The experts' region: at each of its forty grid points the body reads one block of gathered tokens and the weights of the
  expert the prefetched table names for that block, and leaves the block of expert outputs.
-/
module

public import proofs.«01_k».proof.Proof.Moe.Router

@[expose] public section

noncomputable section

namespace Cert.Proof.Moe

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.ShloMosaic.StableHlo (held)
open Idealize.ShloMosaic.Pipeline (Dat afterRegion arrRefs tblRefs arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The body at one point, on any staging buffers. -/
theorem expert_body (c : Dev nD) (i : grid2.Coords) (MB : Memref sig .tc .smem S40 .i32) (hT : MB.IsWhole)
    (M0 : Memref sig .tc .vmem S128x1024 .f32) (h0 : M0.IsWhole) (M1 : Memref sig .tc .vmem S1x1024x1024 .f32) (h1 : M1.IsWhole) (M2 : Memref sig .tc .vmem S1x1x1024 .f32) (h2 : M2.IsWhole) (M3 : Memref sig .tc .vmem S1x1024x1024 .f32) (h3 : M3.IsWhole) (M4 : Memref sig .tc .vmem S1x1x1024 .f32) (h4 : M4.IsWhole) (M5 : Memref sig .tc .vmem S1x1024x1024 .f32) (h5 : M5.IsWhole) (M6 : Memref sig .tc .vmem S1x1x1024 .f32) (h6 : M6.IsWhole) (M7 : Memref sig .tc .vmem S128x1024 .f32) (h7 : M7.IsWhole)
    (x : Vec F S128x1024 .f32) (w1 : Vec F S1x1024x1024 .f32) (b1 : Vec F S1x1x1024 .f32) (w2 : Vec F S1x1024x1024 .f32) (b2 : Vec F S1x1x1024 .f32) (w3 : Vec F S1x1024x1024 .f32) (b3 : Vec F S1x1x1024 .f32) (y : Vec F S128x1024 .f32) (Q : PUnit → sProp 𝕄) :
    iprop(owns (c : Thread nD τ) M0 fullShare x ∗ owns (c : Thread nD τ) M1 fullShare w1 ∗ owns (c : Thread nD τ) M2 fullShare b1 ∗ owns (c : Thread nD τ) M3 fullShare w2 ∗ owns (c : Thread nD τ) M4 fullShare b2 ∗ owns (c : Thread nD τ) M5 fullShare w3 ∗ owns (c : Thread nD τ) M6 fullShare b3 ∗ owns (c : Thread nD τ) M7 fullShare y
        ∗ ((owns (c : Thread nD τ) M0 fullShare x ∗ owns (c : Thread nD τ) M1 fullShare w1 ∗ owns (c : Thread nD τ) M2 fullShare b1 ∗ owns (c : Thread nD τ) M3 fullShare w2 ∗ owns (c : Thread nD τ) M4 fullShare b2 ∗ owns (c : Thread nD τ) M5 fullShare w3 ∗ owns (c : Thread nD τ) M6 fullShare b3 ∗ owns (c : Thread nD τ) M7 fullShare (k2_pay1 x w1 b1 w2 b2 w3 b3)) -∗ Q ⟨⟩))
      ⊢ wp frame (wpE (defs₀ (F := F)) 𝒱₀ (c : Thread nD τ) none) Set.univ
          (cc2__expert_body i MB hT M0 h0 M1 h1 M2 h2 M3 h3 M4 h4 M5 h5 M6 h6 M7 h7) Q := by
  rw [cc2__expert_body_eq_skeleton]
  unfold cc2__expert_body_skel
  rw [k2_part1_eq_skeleton]
  unfold k2_part1_skel
  have z2 : (![0, 0] : Fin 2 → Nat) = fun _ => 0 := funext fun a => by fin_cases a <;> rfl
  have z3 : (![0, 0, 0] : Fin 3 → Nat) = fun _ => 0 := funext fun a => by fin_cases a <;> rfl
  iintro ⟨H0, H1, H2, H3, H4, H5, H6, H7, Hk⟩
  simp only [bind_assoc, pure_bind]
  iapply (load_all c M0 z2 _ _ x Q) $$ H0; iintro H0
  iapply (load_all c M1 z3 _ _ w1 Q) $$ H1; iintro H1
  iapply (load_all c M2 z3 _ _ b1 Q) $$ H2; iintro H2
  iapply (load_all c M3 z3 _ _ w2 Q) $$ H3; iintro H3
  iapply (load_all c M4 z3 _ _ b2 Q) $$ H4; iintro H4
  iapply (load_all c M5 z3 _ _ w3 Q) $$ H5; iintro H5
  iapply (load_all c M6 z3 _ _ b3 Q) $$ H6; iintro H6
  iapply (load_all c M7 z2 _ _ y Q) $$ H7; iintro H7
  iapply (store_all c M7 z2 _ _ y _ Q) $$ H7; iintro H7
  rw [show (Pure.pure PUnit.unit : Prog (TpuEff nD τ sig (Elt F) Λ₀ .tc) PUnit) = .ret ⟨⟩ from rfl, wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The table -/

/-- Entry `n` of the table. -/
abbrev t40 (n : Fin 40) : S40.Idx := fun a => match a with | ⟨0, _⟩ => n

/-- The word an index map reads of the table at grid point `i`. -/
theorem at_eq (pf : pre2.Contents (Elt F)) (i : grid2.Coords) (h) :
    pf.at 0 (Rect.unit (s := S40) ![(Scalar.indexCast (BitVec.ofNat 32 (i 0).val)).toNat] S1.size h) numel1_S1 = pf 0 (t40 (i 0)) := by
  show pf 0 _ = pf 0 _
  congr 1
  funext a
  fin_cases a
  apply Fin.ext
  have hi : (i 0).val < 40 := (i 0).isLt
  show (BitVec.ofNat 32 (i 0).val).toNat + 1 * 0 = (i 0).val
  rw [BitVec.toNat_ofNat, Nat.mod_eq_of_lt (by omega)]
  rfl

/-- The block index of the windows that follow the table. -/
theorem table_index (pf : pre2.Contents (Elt F)) (i : grid2.Coords) :
    cc2_transform_1 k2_off1_inb numel1_S1 pf i = ![(pf 0 (t40 (i 0)) : BitVec 32).toNat, 0, 0] := by
  exact congrArg (fun v : BitVec 32 => ![v.toNat, 0, 0]) (at_eq pf i (k2_off1_inb i))

/-- A table whose words are below eight is admissible. -/
theorem table_ok (pf : pre2.Contents (Elt F)) (h : ∀ j, (pf 0 j : BitVec 32).toNat < 8) : ok2 pf := by
  have hb : ∀ i : grid2.Coords, ∀ a, (cc2_transform_1 k2_off1_inb numel1_S1 pf i a + 1) * S1x1024x1024.size a ≤ S8x1024x1024.size a := by
    intro i a
    rw [table_index]
    have := h (t40 (i 0))
    fin_cases a
    · show ((pf 0 (t40 (i 0)) : BitVec 32).toNat + 1) * 1 ≤ 8; omega
    · show (0 + 1) * 1024 ≤ 1024; omega
    · show (0 + 1) * 1024 ≤ 1024; omega
  have hs : ∀ i : grid2.Coords, ∀ a, (cc2_transform_2 k2_off1_inb numel1_S1 pf i a + 1) * S1x1x1024.size a ≤ S8x1x1024.size a := by
    intro i a
    show (cc2_transform_1 k2_off1_inb numel1_S1 pf i a + 1) * S1x1x1024.size a ≤ S8x1x1024.size a
    rw [table_index]
    have := h (t40 (i 0))
    fin_cases a
    · show ((pf 0 (t40 (i 0)) : BitVec 32).toNat + 1) * 1 ≤ 8; omega
    · show (0 + 1) * 1 ≤ 1; omega
    · show (0 + 1) * 1024 ≤ 1024; omega
  exact ⟨fun i => ⟨hb i, Or.inl rfl⟩, fun i => ⟨hs i, Or.inl rfl⟩, fun i => ⟨hb i, Or.inl rfl⟩, fun i => ⟨hs i, Or.inl rfl⟩,
    fun i => ⟨hb i, Or.inl rfl⟩, fun i => ⟨hs i, Or.inl rfl⟩⟩

/-! ## The region's proof data -/

section Data

variable (a : (pcfg2 (F := F)).Adm) (V : Valuation τ sig (Elt F))

/-- Window `w`'s block at point `t`, of the arrays as the region finds them. -/
abbrev xblk (w : Fin 8) (t : Fin (cfg2 a).N) : (((cfg2 a).win w).xblock ((cfg2 a).grid.coords t)).Idx → Elt F ((cfg2 a).win w).elt :=
  (((cfg2 a).win w).blk t).view.read (Elt F) (V (Proc.devRef .tc (arrRef spec2 w)))

set_option backward.isDefEq.respectTransparency.types false in
/-- The block of expert outputs the body leaves at point `t`. -/
abbrev xout (t : Fin (cfg2 a).N) : Vec F S128x1024 .f32 :=
  k2_pay1 (xblk a V 0 t) (xblk a V 1 t) (xblk a V 2 t) (xblk a V 3 t) (xblk a V 4 t) (xblk a V 5 t) (xblk a V 6 t)

set_option backward.isDefEq.respectTransparency.types false in
/-- The arrays at the valuation; every input's staging buffer as fetched, the result's at the body's value. -/
def xdat (Ψ : sProp 𝕄) (c : Dev nD) : Dat τ (Elt F) (HIx 2) ℕ UU ℕ (cfg2 a) c where
  A w := V (Proc.devRef .tc (arrRef spec2 w))
  after w t := match w with
    | ⟨0, _⟩ => xblk a V 0 t | ⟨1, _⟩ => xblk a V 1 t | ⟨2, _⟩ => xblk a V 2 t | ⟨3, _⟩ => xblk a V 3 t | ⟨4, _⟩ => xblk a V 4 t
    | ⟨5, _⟩ => xblk a V 5 t | ⟨6, _⟩ => xblk a V 6 t
    | ⟨7, _⟩ => xout a V t
  Φ _ := Ψ
  q _ := fullShare
  owed _ := (K (F := F)).Otc c 1
  recorded _ := below (F := F) c 1

set_option backward.isDefEq.respectTransparency.types false in
/-- An input's staging buffer holds its block when the body runs. -/
theorem xbefore (Ψ : sProp 𝕄) (c : Dev nD) (w : Fin 8) (hw : w.val < 7) (t : Fin (cfg2 a).N) (d : ((cfg2 a).win w).block.Idx → Elt F ((cfg2 a).win w).elt) :
    (xdat a V Ψ c).before w t d = (xdat a V Ψ c).fetched w t d :=
  (xdat a V Ψ c).before_in_eq_fetched w (by fin_cases w <;> first | rfl | (exfalso; revert hw; decide)) (fun _ => rfl)
    (fun _ _ _ => by fin_cases w <;> rfl) (fun t => by fin_cases w <;> first | rfl | (exfalso; revert hw; decide)) t d

set_option backward.isDefEq.respectTransparency.types false in
/-- The body obligation of the region. -/
theorem expert_obligation (Ψ : sProp 𝕄) (c : Dev nD) :
    Pipeline.BodyObligation (xdat a V Ψ c) (defs₀ (F := F)) 𝒱₀ (none : HIx 2) Set.univ := fun t => by
  rw [bigSep_W2, bigSep_W2]
  rw [show (xdat a V Ψ c).Φ t.castSucc = Ψ from rfl, show (xdat a V Ψ c).Φ t.succ = Ψ from rfl,
    show (xdat a V Ψ c).owesAt none t.succ = (xdat a V Ψ c).owesAt none t.castSucc from rfl]
  have e0 : ∀ d, (xdat a V Ψ c).before 0 t d = xblk a V 0 t := fun d => (xbefore a V Ψ c 0 (by decide) t d).trans rfl
  have e1 : ∀ d, (xdat a V Ψ c).before 1 t d = xblk a V 1 t := fun d => (xbefore a V Ψ c 1 (by decide) t d).trans rfl
  have e2 : ∀ d, (xdat a V Ψ c).before 2 t d = xblk a V 2 t := fun d => (xbefore a V Ψ c 2 (by decide) t d).trans rfl
  have e3 : ∀ d, (xdat a V Ψ c).before 3 t d = xblk a V 3 t := fun d => (xbefore a V Ψ c 3 (by decide) t d).trans rfl
  have e4 : ∀ d, (xdat a V Ψ c).before 4 t d = xblk a V 4 t := fun d => (xbefore a V Ψ c 4 (by decide) t d).trans rfl
  have e5 : ∀ d, (xdat a V Ψ c).before 5 t d = xblk a V 5 t := fun d => (xbefore a V Ψ c 5 (by decide) t d).trans rfl
  have e6 : ∀ d, (xdat a V Ψ c).before 6 t d = xblk a V 6 t := fun d => (xbefore a V Ψ c 6 (by decide) t d).trans rfl
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [e0]
  rw [e1]
  rw [e2]
  rw [e3]
  rw [e4]
  rw [e5]
  rw [e6]
  iapply (expert_body c (grid2.coords t) (Memref.whole main_v88) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (spec2_5.stage ((cfg2 a).slots t 5)) (hstage2_5 (((cfg2 a).slots t 5).cast nbuf2_5)) (spec2_6.stage ((cfg2 a).slots t 6)) (hstage2_6 (((cfg2 a).slots t 6).cast nbuf2_6)) (spec2_7.stage ((cfg2 a).slots t 7)) (hstage2_7 (((cfg2 a).slots t 7).cast nbuf2_7))
    (xblk a V 0 t) (xblk a V 1 t) (xblk a V 2 t) (xblk a V 3 t) (xblk a V 4 t) (xblk a V 5 t) (xblk a V 6 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Data

end Cert.Proof.Moe

end
-- ==== Proof.Moe.Mix.lean ====
/-
  The mixing rounds of the noise's generator, as lists of operations: one round, and the adding of two of the key's
  words after four of them. The kernel's host code and the reference name their own arrays in them.
-/
module

public import proofs.«01_k».proof.Proof.Gen.KernelIdeal
public import Idealize.ShloMosaic.Lib.StableHlo.RunRead
public import Idealize.ShloMosaic.Lib.StableHlo.Run

@[expose] public section

noncomputable section

namespace Cert.Proof.Moe

open Cert.KernelIdeal (S_ S4096x8)
open Cert.KernelIdeal.Gen
open Idealize.ShloMosaic Idealize.ShloMosaic.TcCoe

variable {F : FTy → Type} [FloatOps F] {τ : Topo} {sig : RefSig}

/-- A word array and a single word among a program's arrays. -/
abbrev WordRef (sig : RefSig) : Type := StableHlo.TRef sig ⟨S4096x8, .i32⟩
abbrev OneRef (sig : RefSig) : Type := StableHlo.TRef sig ⟨S_, .i32⟩

/-- One round: `x` grows by `y`, and `y`, rotated left by `p` (right by `q`, the two adding to the width), is combined with the sum. -/
abbrev roundOps (p q : BitVec 32) (x y s : WordRef sig) (c : OneRef sig) (a l : WordRef sig) (c' : OneRef sig) (b r o z : WordRef sig) : List (HloOp τ sig (Elt F)) :=
  [StableHlo.TRef.binary x y s addi,
    StableHlo.TRef.nullary c (constantI S_ 32 p),
    StableHlo.TRef.unary c a (broadcastInDim S4096x8 ![] bcast_S_S4096x8),
    StableHlo.TRef.binary y a l Host.shli,
    StableHlo.TRef.nullary c' (constantI S_ 32 q),
    StableHlo.TRef.unary c' b (broadcastInDim S4096x8 ![] bcast_S_S4096x8),
    StableHlo.TRef.binary y b r Host.shrui,
    StableHlo.TRef.binary l r o ori,
    StableHlo.TRef.binary s o z xori]

/-- The key's words `k` and `k'` are added to the two arrays, and the group's number to the second. -/
abbrev injectOps (n : BitVec 32) (k k' : OneRef sig) (x y a x' b y' : WordRef sig) (c : OneRef sig) (e z : WordRef sig) : List (HloOp τ sig (Elt F)) :=
  [StableHlo.TRef.unary k a (broadcastInDim S4096x8 ![] bcast_S_S4096x8),
    StableHlo.TRef.binary x a x' addi,
    StableHlo.TRef.unary k' b (broadcastInDim S4096x8 ![] bcast_S_S4096x8),
    StableHlo.TRef.binary y b y' addi,
    StableHlo.TRef.nullary c (constantI S_ 32 n),
    StableHlo.TRef.unary c e (broadcastInDim S4096x8 ![] bcast_S_S4096x8),
    StableHlo.TRef.binary y' e z addi]

end Cert.Proof.Moe

end
-- ==== Proof.Moe.Noise.lean ====
/-
  The noise of the kernel's host code, as lists of operations: the key's two words, the counters of the entries, the five groups of
  mixing rounds, and the numbers between 0 and 1 made of the mixed words, of which the logarithm is taken twice.
-/
module

public import proofs.«01_k».proof.Proof.Moe.Mix

@[expose] public section

noncomputable section

namespace Cert.Proof.Moe

open Cert.KernelIdeal Cert.KernelIdeal.Gen
open Idealize.ShloMosaic Idealize.ShloMosaic.TcCoe

variable {F : FTy → Type} [FloatOps F]

/-- The key: the seed's high and low words. -/
abbrev opsKey : List (HloOp τ sig (Elt F)) :=
  [StableHlo.nullary main_c (constantI S_ 32 42#32),
    StableHlo.nullary main_c_0 (constantI S_ 32 32#32),
    StableHlo.binary main_c main_c_0 main_v0 Host.shrui,
    StableHlo.unary main_v0 main_v1 id,
    StableHlo.unary main_v1 main_v2 (broadcastInDim S1 ![] bcast_S_S1),
    StableHlo.nullary main_c_1 (constantI S_ 32 4294967295#32),
    StableHlo.binary main_c main_c_1 main_v3 andi,
    StableHlo.unary main_v3 main_v4 id,
    StableHlo.unary main_v4 main_v5 (broadcastInDim S1 ![] bcast_S_S1),
    StableHlo.binary main_v2 main_v5 main_v6 (fun a b => concatenate S2 0 [⟨S1, a⟩, ⟨S1, b⟩] concatenates_S1_S1_S2_d0)]

/-- The entries' numbers as two words, and the bounds of the uniform numbers. -/
abbrev countOps (arg0 : StableHlo.TRef sig ⟨S2, .i32⟩) (arg1 arg2 : StableHlo.TRef sig ⟨S_, .f32⟩) (φ : fn_uniform.Bufs) : List (HloOp τ sig (Elt F)) :=
  [StableHlo.TRef.unary arg1 φ.v0 id,
    StableHlo.TRef.unary arg2 φ.v1 (broadcastInDim S1x1 ![] bcast_S_S1x1),
    StableHlo.TRef.unary φ.v0 φ.v2 (broadcastInDim S1x1 ![] bcast_S_S1x1),
    StableHlo.TRef.unary arg0 φ.v3 (extractStridedSlice S1 ![0] · slices_S2_S1_0),
    StableHlo.TRef.reshape φ.v3 φ.v4 (rfl : (.i32 : EltTy) = .i32) shapeCasts_S1_S_,
    StableHlo.TRef.unary arg0 φ.v5 (extractStridedSlice S1 ![1] · slices_S2_S1_1),
    StableHlo.TRef.reshape φ.v5 φ.v6 (rfl : (.i32 : EltTy) = .i32) shapeCasts_S1_S_,
    StableHlo.TRef.nullary φ.v7 (iotaInDim S4096x8 64 0),
    StableHlo.TRef.nullary φ.v8 (iotaInDim S4096x8 64 1),
    StableHlo.TRef.nullary φ.c (constantI S_ 64 8#64),
    StableHlo.TRef.unary φ.c φ.v9 (broadcastInDim S4096x8 ![] bcast_S_S4096x8),
    StableHlo.TRef.binary φ.v9 φ.v7 φ.v10 muli,
    StableHlo.TRef.nullary φ.c_0 (constantI S_ 64 1#64),
    StableHlo.TRef.unary φ.c_0 φ.v11 (broadcastInDim S4096x8 ![] bcast_S_S4096x8),
    StableHlo.TRef.binary φ.v11 φ.v8 φ.v12 muli,
    StableHlo.TRef.binary φ.v10 φ.v12 φ.v13 addi,
    StableHlo.TRef.nullary φ.c_1 (constantI S_ 64 32#64),
    StableHlo.TRef.unary φ.c_1 φ.v14 (broadcastInDim S4096x8 ![] bcast_S_S4096x8),
    StableHlo.TRef.binary φ.v13 φ.v14 φ.v15 Host.shrui,
    StableHlo.TRef.unary φ.v13 φ.v16 (trunci 32 · natLt_32_64),
    StableHlo.TRef.unary φ.v15 φ.v17 (trunci 32 · natLt_32_64)]

/-- The key's third word, and the key added to the counters. -/
abbrev seedOps (arg0 arg1 : OneRef sig) (arg2 arg3 : WordRef sig) (φ : fn_threefry2x32.Bufs) : List (HloOp τ sig (Elt F)) :=
  [StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S4096x8 ![] bcast_S_S4096x8),
    StableHlo.TRef.binary arg2 φ.v2 φ.v3 addi,
    StableHlo.TRef.unary arg1 φ.v4 (broadcastInDim S4096x8 ![] bcast_S_S4096x8),
    StableHlo.TRef.binary arg3 φ.v4 φ.v5 addi]

/-- The first group of rounds. -/
abbrev group1Ops (arg1 : OneRef sig) (φ : fn_threefry2x32.Bufs) : List (HloOp τ sig (Elt F)) :=
  roundOps 13#32 19#32 φ.v3 φ.v5 φ.v6 φ.c_0 φ.v7 φ.v8 φ.c_1 φ.v9 φ.v10 φ.v11 φ.v12
    ++ roundOps 15#32 17#32 φ.v6 φ.v12 φ.v13 φ.c_2 φ.v14 φ.v15 φ.c_3 φ.v16 φ.v17 φ.v18 φ.v19
    ++ roundOps 26#32 6#32 φ.v13 φ.v19 φ.v20 φ.c_4 φ.v21 φ.v22 φ.c_5 φ.v23 φ.v24 φ.v25 φ.v26
    ++ roundOps 6#32 26#32 φ.v20 φ.v26 φ.v27 φ.c_6 φ.v28 φ.v29 φ.c_7 φ.v30 φ.v31 φ.v32 φ.v33
    ++ injectOps 1#32 arg1 φ.v1 φ.v27 φ.v33 φ.v34 φ.v35 φ.v36 φ.v37 φ.c_8 φ.v38 φ.v39

/-- The second group of rounds. -/
abbrev group2Ops (arg0 : OneRef sig) (φ : fn_threefry2x32.Bufs) : List (HloOp τ sig (Elt F)) :=
  roundOps 17#32 15#32 φ.v35 φ.v39 φ.v40 φ.c_9 φ.v41 φ.v42 φ.c_10 φ.v43 φ.v44 φ.v45 φ.v46
    ++ roundOps 29#32 3#32 φ.v40 φ.v46 φ.v47 φ.c_11 φ.v48 φ.v49 φ.c_12 φ.v50 φ.v51 φ.v52 φ.v53
    ++ roundOps 16#32 16#32 φ.v47 φ.v53 φ.v54 φ.c_13 φ.v55 φ.v56 φ.c_14 φ.v57 φ.v58 φ.v59 φ.v60
    ++ roundOps 24#32 8#32 φ.v54 φ.v60 φ.v61 φ.c_15 φ.v62 φ.v63 φ.c_16 φ.v64 φ.v65 φ.v66 φ.v67
    ++ injectOps 2#32 φ.v1 arg0 φ.v61 φ.v67 φ.v68 φ.v69 φ.v70 φ.v71 φ.c_17 φ.v72 φ.v73

/-- The third group of rounds. -/
abbrev group3Ops (arg0 arg1 : OneRef sig) (φ : fn_threefry2x32.Bufs) : List (HloOp τ sig (Elt F)) :=
  roundOps 13#32 19#32 φ.v69 φ.v73 φ.v74 φ.c_18 φ.v75 φ.v76 φ.c_19 φ.v77 φ.v78 φ.v79 φ.v80
    ++ roundOps 15#32 17#32 φ.v74 φ.v80 φ.v81 φ.c_20 φ.v82 φ.v83 φ.c_21 φ.v84 φ.v85 φ.v86 φ.v87
    ++ roundOps 26#32 6#32 φ.v81 φ.v87 φ.v88 φ.c_22 φ.v89 φ.v90 φ.c_23 φ.v91 φ.v92 φ.v93 φ.v94
    ++ roundOps 6#32 26#32 φ.v88 φ.v94 φ.v95 φ.c_24 φ.v96 φ.v97 φ.c_25 φ.v98 φ.v99 φ.v100 φ.v101
    ++ injectOps 3#32 arg0 arg1 φ.v95 φ.v101 φ.v102 φ.v103 φ.v104 φ.v105 φ.c_26 φ.v106 φ.v107

/-- The fourth group of rounds. -/
abbrev group4Ops (arg1 : OneRef sig) (φ : fn_threefry2x32.Bufs) : List (HloOp τ sig (Elt F)) :=
  roundOps 17#32 15#32 φ.v103 φ.v107 φ.v108 φ.c_27 φ.v109 φ.v110 φ.c_28 φ.v111 φ.v112 φ.v113 φ.v114
    ++ roundOps 29#32 3#32 φ.v108 φ.v114 φ.v115 φ.c_29 φ.v116 φ.v117 φ.c_30 φ.v118 φ.v119 φ.v120 φ.v121
    ++ roundOps 16#32 16#32 φ.v115 φ.v121 φ.v122 φ.c_31 φ.v123 φ.v124 φ.c_32 φ.v125 φ.v126 φ.v127 φ.v128
    ++ roundOps 24#32 8#32 φ.v122 φ.v128 φ.v129 φ.c_33 φ.v130 φ.v131 φ.c_34 φ.v132 φ.v133 φ.v134 φ.v135
    ++ injectOps 4#32 arg1 φ.v1 φ.v129 φ.v135 φ.v136 φ.v137 φ.v138 φ.v139 φ.c_35 φ.v140 φ.v141

/-- The fifth group of rounds. -/
abbrev group5Ops (arg0 : OneRef sig) (φ : fn_threefry2x32.Bufs) : List (HloOp τ sig (Elt F)) :=
  roundOps 13#32 19#32 φ.v137 φ.v141 φ.v142 φ.c_36 φ.v143 φ.v144 φ.c_37 φ.v145 φ.v146 φ.v147 φ.v148
    ++ roundOps 15#32 17#32 φ.v142 φ.v148 φ.v149 φ.c_38 φ.v150 φ.v151 φ.c_39 φ.v152 φ.v153 φ.v154 φ.v155
    ++ roundOps 26#32 6#32 φ.v149 φ.v155 φ.v156 φ.c_40 φ.v157 φ.v158 φ.c_41 φ.v159 φ.v160 φ.v161 φ.v162
    ++ roundOps 6#32 26#32 φ.v156 φ.v162 φ.v163 φ.c_42 φ.v164 φ.v165 φ.c_43 φ.v166 φ.v167 φ.v168 φ.v169
    ++ injectOps 5#32 φ.v1 arg0 φ.v163 φ.v169 φ.v170 φ.v171 φ.v172 φ.v173 φ.c_44 φ.v174 φ.v175

/-- The mixed words made into numbers between the bounds. -/
abbrev scaleOps (φ : fn_uniform.Bufs) : List (HloOp τ sig (Elt F)) :=
  [StableHlo.TRef.binary φ.call0.v171 φ.call0.v175 φ.v19 xori,
    StableHlo.TRef.nullary φ.c_2 (constantI S_ 32 9#32),
    StableHlo.TRef.unary φ.c_2 φ.v20 (broadcastInDim S4096x8 ![] bcast_S_S4096x8),
    StableHlo.TRef.binary φ.v19 φ.v20 φ.v21 Host.shrui,
    StableHlo.TRef.nullary φ.c_3 (constantI S_ 32 1065353216#32),
    StableHlo.TRef.unary φ.c_3 φ.v22 (broadcastInDim S4096x8 ![] bcast_S_S4096x8),
    StableHlo.TRef.binary φ.v21 φ.v22 φ.v23 ori,
    StableHlo.TRef.unary φ.v23 φ.v24 (bitcastToFloat .f32),
    StableHlo.TRef.nullary φ.cst (constant S_ .f32 0x3F800000#32),
    StableHlo.TRef.unary φ.cst φ.v25 (broadcastInDim S4096x8 ![] bcast_S_S4096x8),
    StableHlo.TRef.binary φ.v24 φ.v25 φ.v26 subf,
    StableHlo.TRef.binary φ.v2 φ.v1 φ.v27 subf,
    StableHlo.TRef.unary φ.v27 φ.v28 (broadcastInDim S4096x8 ![0, 1] bcast_S1x1_S4096x8_0_1),
    StableHlo.TRef.binary φ.v26 φ.v28 φ.v29 mulf,
    StableHlo.TRef.unary φ.v1 φ.v30 (broadcastInDim S4096x8 ![0, 1] bcast_S1x1_S4096x8_0_1),
    StableHlo.TRef.binary φ.v29 φ.v30 φ.v31 addf,
    StableHlo.TRef.unary φ.v1 φ.v32 (broadcastInDim S4096x8 ![0, 1] bcast_S1x1_S4096x8_0_1),
    StableHlo.TRef.binary φ.v32 φ.v31 φ.v33 maximumf]

/-- The two bounds. -/
abbrev boundOps (φ : fn_gumbel.Bufs) : List (HloOp τ sig (Elt F)) :=
  [StableHlo.TRef.nullary φ.cst (constant S_ .f32 0x3F800000#32),
    StableHlo.TRef.nullary φ.cst_0 (constant S_ .f32 0x00800000#32)]

/-- The noise of the numbers: twice the negated logarithm. -/
abbrev logOps (φ : fn_gumbel.Bufs) : List (HloOp τ sig (Elt F)) :=
  [StableHlo.TRef.unary φ.call0.v33 φ.v1 Host.log,
    StableHlo.TRef.unary φ.v1 φ.v2 Host.negf,
    StableHlo.TRef.unary φ.v2 φ.v3 Host.log,
    StableHlo.TRef.unary φ.v3 φ.v4 Host.negf]

/-- The words mixed. -/
abbrev mixOps (arg0 arg1 : OneRef sig) (arg2 arg3 : WordRef sig) (φ : fn_threefry2x32.Bufs) : List (HloOp τ sig (Elt F)) :=
  seedOps arg0 arg1 arg2 arg3 φ ++ group1Ops arg1 φ ++ group2Ops arg0 φ ++ group3Ops arg0 arg1 φ ++ group4Ops arg1 φ ++ group5Ops arg0 φ

/-- The whole noise. -/
abbrev opsNoise : List (HloOp τ sig (Elt F)) :=
  opsKey ++ boundOps main_call0 ++ countOps (.of main_v6) main_call0.cst main_call0.cst_0 main_call0.call0
    ++ mixOps main_call0.call0.v4 main_call0.call0.v6 main_call0.call0.v17 main_call0.call0.v16 main_call0.call0.call0 ++ scaleOps main_call0.call0 ++ logOps main_call0

end Cert.Proof.Moe

end
-- ==== Proof.Moe.Ops.lean ====
/-
  The host code of the program as lists of operations: one list per step of the routing, and the whole program as the
  noise and those lists, before, between and after its two regions and its two SparseCore calls.
-/
module

public import proofs.«01_k».proof.Proof.Moe.Base
public import proofs.«01_k».proof.Proof.Moe.Noise
public import Idealize.ShloMosaic.Lib.StableHlo.RunRead

@[expose] public section

noncomputable section

namespace Cert.Proof.Moe

open Cert.KernelIdeal Cert.KernelIdeal.Gen
open Idealize.ShloMosaic Idealize.ShloMosaic.TcCoe
open Idealize.ShloMosaic.StableHlo (held after seq)
open Idealize.SL Idealize.SL.Sem

variable {F : FTy → Type} [FloatOps F]

/-- The lower bound of zero. -/
abbrev fn_clipOps (arg0 : StableHlo.TRef sig ⟨S4096, .i32⟩) (arg1 : StableHlo.TRef sig ⟨S_, .i32⟩) (φ : fn_clip.Bufs) : List (HloOp τ sig (Elt F)) :=
  [StableHlo.TRef.unary arg1 φ.v0 id,
    StableHlo.TRef.unary φ.v0 φ.v1 (broadcastInDim S4096 ![] bcast_S_S4096),
    StableHlo.TRef.binary φ.v1 arg0 φ.v2 maxsi]

/-- The stable sort of the keys with their positions. -/
abbrev fn_argsortOps (arg0 : StableHlo.TRef sig ⟨S4096, .i32⟩) (φ : fn_argsort.Bufs) : List (HloOp τ sig (Elt F)) :=
  [StableHlo.TRef.nullary φ.v0 (iotaInDim S4096 32 0),
    StableHlo.TRef.binary arg0 φ.v0 φ.v1_0 (fun x y => (Host.sort2 S4096 0 comparator_i32_i32_d0 x y).1),
    StableHlo.TRef.binary arg0 φ.v0 φ.v1_1 (fun x y => (Host.sort2 S4096 0 comparator_i32_i32_d0 x y).2)]

/-- A selection. -/
abbrev fn_whereOps (arg0 : StableHlo.TRef sig ⟨S8, .i1⟩) (arg1 : StableHlo.TRef sig ⟨S8, .i32⟩) (arg2 : StableHlo.TRef sig ⟨S8, .i32⟩) (φ : fn_where.Bufs) : List (HloOp τ sig (Elt F)) :=
  [StableHlo.TRef.ternary arg0 arg1 arg2 φ.v0 select]

/-- The rounded-down quotient. -/
abbrev fn_floor_divideOps (arg0 : StableHlo.TRef sig ⟨S8, .i32⟩) (arg1 : StableHlo.TRef sig ⟨S_, .i32⟩) (φ : fn_floor_divide.Bufs) : List (HloOp τ sig (Elt F)) :=
  [StableHlo.TRef.unary arg1 φ.v0 id,
    StableHlo.TRef.unary φ.v0 φ.v1 (broadcastInDim S8 ![] bcast_S_S8),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S8 ![] bcast_S_S8),
    StableHlo.TRef.binary φ.v3 φ.v5 φ.v6 (cmpi .ne),
    StableHlo.TRef.unary φ.v0 φ.v7 (broadcastInDim S8 ![] bcast_S_S8),
    StableHlo.TRef.binary arg0 φ.v7 φ.v8 Host.remsi,
    StableHlo.TRef.nullary φ.c (constantI S_ 32 0#32),
    StableHlo.TRef.unary φ.c φ.v9 (broadcastInDim S8 ![] bcast_S_S8),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S8 ![] bcast_S_S8),
    StableHlo.TRef.binary φ.v2 φ.v12 φ.v13 subi]
    ++ fn_whereOps φ.v11 φ.v13 φ.v2 φ.call0

/-- The running sum over the experts. -/
abbrev fn_cumsum_0Ops (arg0 : StableHlo.TRef sig ⟨S8, .i32⟩) (φ : fn_cumsum_0.Bufs) : List (HloOp τ sig (Elt F)) :=
  [StableHlo.TRef.nullary φ.c (constantI S_ 32 0#32),
    StableHlo.TRef.unary φ.c φ.v0 (broadcastInDim S_ ![] bcast_S_S_),
    StableHlo.TRef.binary arg0 φ.v0 φ.v1 (fun x v => Host.reduceWindow IntOp.addi ![8] ![1] ![7] ![0] x v reduceWindows_S8_S8_w8s1p7_0 h_S_)]

/-- The running sum, as it is called. -/
abbrev fn_cumsumOps (arg0 : StableHlo.TRef sig ⟨S8, .i32⟩) (φ : fn_cumsum.Bufs) : List (HloOp τ sig (Elt F)) :=
  fn_cumsum_0Ops arg0 φ.call0

/-- The running sum over the padded rows. -/
abbrev fn_cumsum_2Ops (arg0 : StableHlo.TRef sig ⟨S5120, .i32⟩) (φ : fn_cumsum_2.Bufs) : List (HloOp τ sig (Elt F)) :=
  [StableHlo.TRef.nullary φ.c (constantI S_ 32 0#32),
    StableHlo.TRef.unary φ.c φ.v0 (broadcastInDim S_ ![] bcast_S_S_),
    StableHlo.TRef.binary arg0 φ.v0 φ.v1 (fun x v => Host.reduceWindow IntOp.addi ![5120] ![1] ![5119] ![0] x v reduceWindows_S5120_S5120_w5120s1p5119_0 h_S_)]

/-- The running sum over the padded rows, as it is called. -/
abbrev fn_cumsum_1Ops (arg0 : StableHlo.TRef sig ⟨S5120, .i32⟩) (φ : fn_cumsum_1.Bufs) : List (HloOp τ sig (Elt F)) :=
  fn_cumsum_2Ops arg0 φ.call0

/-- A selection. -/
abbrev fn_where_3Ops (arg0 : StableHlo.TRef sig ⟨S5120, .i1⟩) (arg1 : StableHlo.TRef sig ⟨S5120, .i32⟩) (arg2 : StableHlo.TRef sig ⟨S5120, .i32⟩) (φ : fn_where_3.Bufs) : List (HloOp τ sig (Elt F)) :=
  [StableHlo.TRef.ternary arg0 arg1 arg2 φ.v0 select]

/-- The selections as a vector, and how many tokens selected each expert. -/
abbrev opsCount : List (HloOp τ sig (Elt F)) :=
  [StableHlo.reshape main_v8_1 main_v9 (rfl : (.i32 : EltTy) = .i32) shapeCasts_S8x1x512_S4096,
    StableHlo.nullary main_c_2 (constantI S_ 32 0#32),
    StableHlo.unary main_c_2 main_v10 (broadcastInDim S8 ![] bcast_S_S8),
    StableHlo.nullary main_c_3 (constantI S_ 32 0#32)]
    ++ fn_clipOps (.of main_v9) (.of main_c_3) main_call1
    ++ [StableHlo.nullary main_c_4 (constantI S_ 32 0#32),
    StableHlo.unary main_c_4 main_v12 (broadcastInDim S4096 ![] bcast_S_S4096),
    StableHlo.binary main_v11 main_v12 main_v13 (cmpi .slt),
    StableHlo.nullary main_c_5 (constantI S_ 32 8#32),
    StableHlo.unary main_c_5 main_v14 (broadcastInDim S4096 ![] bcast_S_S4096),
    StableHlo.binary main_v11 main_v14 main_v15 (addi),
    StableHlo.ternary main_v13 main_v15 main_v11 main_v16 (select),
    StableHlo.unary main_v16 main_v17 (broadcastInDim S4096x1 ![0] bcast_S4096_S4096x1_0),
    StableHlo.nullary main_c_6 (constantI S_ 32 1#32),
    StableHlo.unary main_c_6 main_v18 (broadcastInDim S4096 ![] bcast_S_S4096),
    StableHlo.ternary main_v10 main_v17 main_v18 main_v19 ((fun x i u => Host.scatter scatter_S8_S4096x1_S4096_n_0_0_1 IntOp.addi x i u))]

/-- The tokens in the order of their selections. -/
abbrev opsOrder : List (HloOp τ sig (Elt F)) :=
  fn_argsortOps (.of main_v9) main_call2

/-- How many blocks each expert takes, and the running sum of them. -/
abbrev opsBlocks : List (HloOp τ sig (Elt F)) :=
  [StableHlo.nullary main_c_7 (constantI S_ 32 128#32),
    StableHlo.unary main_c_7 main_v21 (broadcastInDim S8 ![] bcast_S_S8),
    StableHlo.binary main_v19 main_v21 main_v22 (addi),
    StableHlo.nullary main_c_8 (constantI S_ 32 1#32),
    StableHlo.unary main_c_8 main_v23 (broadcastInDim S8 ![] bcast_S_S8),
    StableHlo.binary main_v22 main_v23 main_v24 (subi),
    StableHlo.nullary main_c_9 (constantI S_ 32 128#32)]
    ++ fn_floor_divideOps (.of main_v24) (.of main_c_9) main_call3
    ++ fn_cumsumOps (.of main_v25) main_call4

/-- Where each expert starts among the padded rows. -/
abbrev opsStart : List (HloOp τ sig (Elt F)) :=
  [StableHlo.nullary main_c_10 (constantI S_ 32 0#32),
    StableHlo.unary main_c_10 main_v27 (broadcastInDim S1 ![] bcast_S_S1),
    StableHlo.unary main_v26 main_v28 ((extractStridedSlice S7 ![0] · slices_S8_S7_0)),
    StableHlo.binary main_v27 main_v28 main_v29 ((fun a b => concatenate S8 0 [⟨S1, a⟩, ⟨S7, b⟩] concatenates_S1_S7_S8_d0)),
    StableHlo.nullary main_c_11 (constantI S_ 32 128#32),
    StableHlo.unary main_c_11 main_v30 (broadcastInDim S8 ![] bcast_S_S8),
    StableHlo.binary main_v29 main_v30 main_v31 (muli)]

/-- Where each expert starts among the sorted tokens. -/
abbrev opsOffset : List (HloOp τ sig (Elt F)) :=
  [StableHlo.nullary main_c_12 (constantI S_ 32 0#32),
    StableHlo.unary main_c_12 main_v32 (broadcastInDim S1 ![] bcast_S_S1)]
    ++ fn_cumsumOps (.of main_v19) main_call5
    ++ [StableHlo.unary main_v33 main_v34 ((extractStridedSlice S7 ![0] · slices_S8_S7_0)),
    StableHlo.binary main_v32 main_v34 main_v35 ((fun a b => concatenate S8 0 [⟨S1, a⟩, ⟨S7, b⟩] concatenates_S1_S7_S8_d0))]

/-- The sorted selections. -/
abbrev opsSorted : List (HloOp τ sig (Elt F)) :=
  [StableHlo.nullary main_c_13 (constantI S_ 32 0#32),
    StableHlo.unary main_c_13 main_v36 (broadcastInDim S4096 ![] bcast_S_S4096),
    StableHlo.binary main_v20 main_v36 main_v37 (cmpi .slt),
    StableHlo.nullary main_c_14 (constantI S_ 32 4096#32),
    StableHlo.unary main_c_14 main_v38 (broadcastInDim S4096 ![] bcast_S_S4096),
    StableHlo.binary main_v20 main_v38 main_v39 (addi),
    StableHlo.ternary main_v37 main_v39 main_v20 main_v40 (select),
    StableHlo.unary main_v40 main_v41 (broadcastInDim S4096x1 ![0] bcast_S4096_S4096x1_0),
    StableHlo.binary main_v9 main_v41 main_v42 ((fun x i => Host.gather gather_S4096_S4096x1_S4096_n_0_n_n_0_1_1 x i))]

/-- Every sorted token's expert's start. -/
abbrev opsBase : List (HloOp τ sig (Elt F)) :=
  [StableHlo.nullary main_v43 (iotaInDim S4096 32 0),
    StableHlo.nullary main_c_15 (constantI S_ 32 0#32),
    StableHlo.unary main_c_15 main_v44 (broadcastInDim S4096 ![] bcast_S_S4096),
    StableHlo.binary main_v42 main_v44 main_v45 (cmpi .slt),
    StableHlo.nullary main_c_16 (constantI S_ 32 8#32),
    StableHlo.unary main_c_16 main_v46 (broadcastInDim S4096 ![] bcast_S_S4096),
    StableHlo.binary main_v42 main_v46 main_v47 (addi),
    StableHlo.ternary main_v45 main_v47 main_v42 main_v48 (select),
    StableHlo.unary main_v48 main_v49 (broadcastInDim S4096x1 ![0] bcast_S4096_S4096x1_0),
    StableHlo.binary main_v31 main_v49 main_v50 ((fun x i => Host.gather gather_S8_S4096x1_S4096_n_0_n_n_0_1_1 x i))]

/-- The padded row of every sorted token. -/
abbrev opsSlot : List (HloOp τ sig (Elt F)) :=
  [StableHlo.nullary main_c_17 (constantI S_ 32 0#32),
    StableHlo.unary main_c_17 main_v51 (broadcastInDim S4096 ![] bcast_S_S4096),
    StableHlo.binary main_v42 main_v51 main_v52 (cmpi .slt),
    StableHlo.nullary main_c_18 (constantI S_ 32 8#32),
    StableHlo.unary main_c_18 main_v53 (broadcastInDim S4096 ![] bcast_S_S4096),
    StableHlo.binary main_v42 main_v53 main_v54 (addi),
    StableHlo.ternary main_v52 main_v54 main_v42 main_v55 (select),
    StableHlo.unary main_v55 main_v56 (broadcastInDim S4096x1 ![0] bcast_S4096_S4096x1_0),
    StableHlo.binary main_v35 main_v56 main_v57 ((fun x i => Host.gather gather_S8_S4096x1_S4096_n_0_n_n_0_1_1 x i)),
    StableHlo.binary main_v43 main_v57 main_v58 (subi),
    StableHlo.binary main_v50 main_v58 main_v59 (addi)]

/-- The token of every padded row, or minus one. -/
abbrev opsOwner : List (HloOp τ sig (Elt F)) :=
  [StableHlo.nullary main_c_19 (constantI S_ 32 4294967295#32),
    StableHlo.unary main_c_19 main_v60 (broadcastInDim S5120 ![] bcast_S_S5120),
    StableHlo.nullary main_c_20 (constantI S_ 32 0#32),
    StableHlo.unary main_c_20 main_v61 (broadcastInDim S4096 ![] bcast_S_S4096),
    StableHlo.binary main_v59 main_v61 main_v62 (cmpi .slt),
    StableHlo.nullary main_c_21 (constantI S_ 32 5120#32),
    StableHlo.unary main_c_21 main_v63 (broadcastInDim S4096 ![] bcast_S_S4096),
    StableHlo.binary main_v59 main_v63 main_v64 (addi),
    StableHlo.ternary main_v62 main_v64 main_v59 main_v65 (select),
    StableHlo.unary main_v65 main_v66 (broadcastInDim S4096x1 ![0] bcast_S4096_S4096x1_0),
    StableHlo.ternary main_v60 main_v66 main_v20 main_v67 ((fun x i u => Host.scatter scatter_S5120_S4096x1_S4096_n_0_0_1 (fun _ b => b) x i u))]

/-- The row to read and the row to write for every padded row. -/
abbrev opsLists : List (HloOp τ sig (Elt F)) :=
  [StableHlo.nullary main_c_22 (constantI S_ 32 0#32),
    StableHlo.unary main_c_22 main_v68 (broadcastInDim S5120 ![] bcast_S_S5120),
    StableHlo.binary main_v67 main_v68 main_v69 (cmpi .slt),
    StableHlo.unary main_v69 main_v70 ((extui 32 · natLt_1_32))]
    ++ fn_cumsum_1Ops (.of main_v70) main_call6
    ++ [StableHlo.nullary main_c_23 (constantI S_ 32 1#32),
    StableHlo.unary main_c_23 main_v72 (broadcastInDim S5120 ![] bcast_S_S5120),
    StableHlo.binary main_v71 main_v72 main_v73 (subi),
    StableHlo.nullary main_c_24 (constantI S_ 32 0#32),
    StableHlo.unary main_c_24 main_v74 (broadcastInDim S5120 ![] bcast_S_S5120),
    StableHlo.binary main_v67 main_v74 main_v75 (maxsi),
    StableHlo.nullary main_c_25 (constantI S_ 32 4096#32),
    StableHlo.unary main_c_25 main_v76 (broadcastInDim S5120 ![] bcast_S_S5120),
    StableHlo.binary main_v76 main_v73 main_v77 (addi)]
    ++ fn_where_3Ops (.of main_v69) (.of main_v77) (.of main_v67) main_call7

/-- The expert of every block. -/
abbrev opsTable : List (HloOp τ sig (Elt F)) :=
  [StableHlo.nullary main_v79 (iotaInDim S40 32 0),
    StableHlo.unary main_v79 main_v80 (broadcastInDim S40x1 ![0] bcast_S40_S40x1_0),
    StableHlo.unary main_v26 main_v81 (broadcastInDim S1x8 ![1] bcast_S8_S1x8_1),
    StableHlo.unary main_v80 main_v82 (broadcastInDim S40x8 ![0, 1] bcast_S40x1_S40x8_0_1),
    StableHlo.unary main_v81 main_v83 (broadcastInDim S40x8 ![0, 1] bcast_S1x8_S40x8_0_1),
    StableHlo.binary main_v82 main_v83 main_v84 (cmpi .sge),
    StableHlo.unary main_v84 main_v85 ((extui 32 · natLt_1_32)),
    StableHlo.nullary main_c_26 (constantI S_ 32 0#32),
    StableHlo.binary main_v85 main_c_26 main_v86 ((fun x v => Host.reduce IntOp.addi x v reducesTo_S40x8_S40_d1 h_S_)),
    StableHlo.nullary main_c_27 (constantI S_ 32 7#32),
    StableHlo.unary main_c_27 main_v87 (broadcastInDim S40 ![] bcast_S_S40),
    StableHlo.binary main_v86 main_v87 main_v88 (minsi)]

/-- The table of 128-lane rows and the list of those to read. -/
abbrev opsRead : List (HloOp τ sig (Elt F)) :=
  [StableHlo.reshape main_arg0 main_v89 (rfl : (.f32 : EltTy) = .f32) shapeCasts_S4096x1024_S32768x128,
    StableHlo.unary main_v75 main_v90 (broadcastInDim S5120x1 ![0] bcast_S5120_S5120x1_0),
    StableHlo.nullary main_c_28 (constantI S_ 32 8#32),
    StableHlo.unary main_c_28 main_v91 (broadcastInDim S5120x1 ![] bcast_S_S5120x1),
    StableHlo.binary main_v90 main_v91 main_v92 (muli),
    StableHlo.nullary main_v93 (iotaInDim S8 32 0),
    StableHlo.unary main_v93 main_v94 (broadcastInDim S1x8 ![1] bcast_S8_S1x8_1),
    StableHlo.unary main_v92 main_v95 (broadcastInDim S5120x8 ![0, 1] bcast_S5120x1_S5120x8_0_1),
    StableHlo.unary main_v94 main_v96 (broadcastInDim S5120x8 ![0, 1] bcast_S1x8_S5120x8_0_1),
    StableHlo.binary main_v95 main_v96 main_v97 (addi),
    StableHlo.reshape main_v97 main_v98 (rfl : (.i32 : EltTy) = .i32) shapeCasts_S5120x8_S40960]

/-- The host operations between the router and the gather. -/
abbrev ops1 : List (HloOp τ sig (Elt F)) :=
  opsCount ++ opsOrder ++ opsBlocks ++ opsStart ++ opsOffset ++ opsSorted ++ opsBase ++ opsSlot ++ opsOwner ++ opsLists ++ opsTable ++ opsRead

/-- The host operations between the gather and the experts. -/
abbrev ops2 : List (HloOp τ sig (Elt F)) :=
  [StableHlo.reshape main_v99 main_v100 (rfl : (.f32 : EltTy) = .f32) shapeCasts_S40960x128_S5120x1024,
    StableHlo.reshape main_arg8 main_v101 (rfl : (.f32 : EltTy) = .f32) shapeCasts_S8x1024_S8x1x1024,
    StableHlo.reshape main_arg10 main_v102 (rfl : (.f32 : EltTy) = .f32) shapeCasts_S8x1024_S8x1x1024,
    StableHlo.reshape main_arg12 main_v103 (rfl : (.f32 : EltTy) = .f32) shapeCasts_S8x1024_S8x1x1024]

/-- The host operations between the experts and the scatter. -/
abbrev ops3 : List (HloOp τ sig (Elt F)) :=
  [StableHlo.reshape main_v104 main_v105 (rfl : (.f32 : EltTy) = .f32) shapeCasts_S5120x1024_S40960x128,
    StableHlo.unary main_v78 main_v106 (broadcastInDim S5120x1 ![0] bcast_S5120_S5120x1_0),
    StableHlo.nullary main_c_29 (constantI S_ 32 8#32),
    StableHlo.unary main_c_29 main_v107 (broadcastInDim S5120x1 ![] bcast_S_S5120x1),
    StableHlo.binary main_v106 main_v107 main_v108 (muli),
    StableHlo.nullary main_v109 (iotaInDim S8 32 0),
    StableHlo.unary main_v109 main_v110 (broadcastInDim S1x8 ![1] bcast_S8_S1x8_1),
    StableHlo.unary main_v108 main_v111 (broadcastInDim S5120x8 ![0, 1] bcast_S5120x1_S5120x8_0_1),
    StableHlo.unary main_v110 main_v112 (broadcastInDim S5120x8 ![0, 1] bcast_S1x8_S5120x8_0_1),
    StableHlo.binary main_v111 main_v112 main_v113 (addi),
    StableHlo.reshape main_v113 main_v114 (rfl : (.i32 : EltTy) = .i32) shapeCasts_S5120x8_S40960,
    StableHlo.reshape main_v114 main_v115 (rfl : (.i32 : EltTy) = .i32) shapeCasts_S40960_S32x2x640]

/-- The host operations after the scatter. -/
abbrev ops4 : List (HloOp τ sig (Elt F)) :=
  [StableHlo.reshape main_v116 main_v117 (rfl : (.f32 : EltTy) = .f32) shapeCasts_S40960x128_S5120x1024,
    StableHlo.unary main_v117 main_v118 ((extractStridedSlice S4096x512 ![0, 0] · slices_S5120x1024_S4096x512_0_0)),
    StableHlo.unary main_v117 main_v119 ((extractStridedSlice S4096x512 ![0, 512] · slices_S5120x1024_S4096x512_0_512))]

set_option maxRecDepth 100000 in
set_option maxHeartbeats 4000000 in
/-- The whole host program. -/
theorem main_eq (d : Dev nD) : main (F := F) d
    = seq opsNoise >>= fun _ => Prog.lift (.customCall (SparseCore.inner (Pipeline.entry 0)) ()) >>= fun _ => seq ops1 >>= fun _ => (sc (F := F)).run d 0 >>= fun _ => seq ops2 >>= fun _ =>
      Prog.lift (.customCall (SparseCore.inner (Pipeline.entry 1)) ()) >>= fun _ => seq ops3 >>= fun _ => (sc (F := F)).run d 1 >>= fun _ => seq ops4 := by
  chain_rfl

end Cert.Proof.Moe

end
-- ==== Proof.Moe.Keep.lean ====
/-
  The mixture of experts: which buffers the host code writes, and so which it keeps; and that it stays among the buffers
  of the TensorCore.
-/
module

public import proofs.«01_k».proof.Proof.Moe.Ops

@[expose] public section

noncomputable section

namespace Cert.Proof.Moe

open Cert.KernelIdeal Cert.KernelIdeal.Gen
open Idealize.ShloMosaic Idealize.ShloMosaic.TcCoe
open Idealize.ShloMosaic.StableHlo (held after seq)
open Idealize.SL Idealize.SL.Sem

variable {F : FTy → Type} [FloatOps F]

/-! ## What each step writes -/

abbrev wroteCount : List (Ref sig .tc) :=
  [main_v9, main_c_2, main_v10, main_c_3, main_call1.v0.ref, main_call1.v1.ref, main_call1.v2.ref, main_c_4, main_v12, main_v13, main_c_5, main_v14,
    main_v15, main_v16, main_v17, main_c_6, main_v18, main_v19]
abbrev wroteOrder : List (Ref sig .tc) :=
  [main_call2.v0.ref, main_call2.v1_0.ref, main_call2.v1_1.ref]
abbrev wroteBlocks : List (Ref sig .tc) :=
  [main_c_7, main_v21, main_v22, main_c_8, main_v23, main_v24, main_c_9, main_call3.v0.ref, main_call3.v1.ref, main_call3.v2.ref, main_call3.v3.ref,
    main_call3.v4.ref, main_call3.v5.ref, main_call3.v6.ref, main_call3.v7.ref, main_call3.v8.ref, main_call3.c.ref, main_call3.v9.ref,
    main_call3.v10.ref, main_call3.v11.ref, main_call3.c_0.ref, main_call3.v12.ref, main_call3.v13.ref, main_call3.call0.v0.ref,
    main_call4.call0.c.ref, main_call4.call0.v0.ref, main_call4.call0.v1.ref]
abbrev wroteStart : List (Ref sig .tc) :=
  [main_c_10, main_v27, main_v28, main_v29, main_c_11, main_v30, main_v31]
abbrev wroteOffset : List (Ref sig .tc) :=
  [main_c_12, main_v32, main_call5.call0.c.ref, main_call5.call0.v0.ref, main_call5.call0.v1.ref, main_v34, main_v35]
abbrev wroteSorted : List (Ref sig .tc) :=
  [main_c_13, main_v36, main_v37, main_c_14, main_v38, main_v39, main_v40, main_v41, main_v42]
abbrev wroteBase : List (Ref sig .tc) :=
  [main_v43, main_c_15, main_v44, main_v45, main_c_16, main_v46, main_v47, main_v48, main_v49, main_v50]
abbrev wroteSlot : List (Ref sig .tc) :=
  [main_c_17, main_v51, main_v52, main_c_18, main_v53, main_v54, main_v55, main_v56, main_v57, main_v58, main_v59]
abbrev wroteOwner : List (Ref sig .tc) :=
  [main_c_19, main_v60, main_c_20, main_v61, main_v62, main_c_21, main_v63, main_v64, main_v65, main_v66, main_v67]
abbrev wroteLists : List (Ref sig .tc) :=
  [main_c_22, main_v68, main_v69, main_v70, main_call6.call0.c.ref, main_call6.call0.v0.ref, main_call6.call0.v1.ref, main_c_23, main_v72, main_v73,
    main_c_24, main_v74, main_v75, main_c_25, main_v76, main_v77, main_call7.v0.ref]
abbrev wroteTable : List (Ref sig .tc) :=
  [main_v79, main_v80, main_v81, main_v82, main_v83, main_v84, main_v85, main_c_26, main_v86, main_c_27, main_v87, main_v88]
abbrev wroteRead : List (Ref sig .tc) :=
  [main_v89, main_v90, main_c_28, main_v91, main_v92, main_v93, main_v94, main_v95, main_v96, main_v97, main_v98]
abbrev wrote2 : List (Ref sig .tc) :=
  [main_v100, main_v101, main_v102, main_v103]
abbrev wrote3 : List (Ref sig .tc) :=
  [main_v105, main_v106, main_c_29, main_v107, main_v108, main_v109, main_v110, main_v111, main_v112, main_v113, main_v114, main_v115]
abbrev wrote4 : List (Ref sig .tc) :=
  [main_v117, main_v118, main_v119]

abbrev wrote1 : List (Ref sig .tc) :=
  wroteCount ++ wroteOrder ++ wroteBlocks ++ wroteStart ++ wroteOffset ++ wroteSorted ++ wroteBase ++ wroteSlot ++ wroteOwner ++ wroteLists ++ wroteTable ++ wroteRead

theorem keepCount (W : Valuation τ sig (Elt F)) {r : Ref sig .tc} (h : r ∉ wroteCount) : after opsCount W (Proc.devRef .tc r) = W (Proc.devRef .tc r) :=
  StableHlo.after_unwritten wroteCount rfl h W
theorem keepOrder (W : Valuation τ sig (Elt F)) {r : Ref sig .tc} (h : r ∉ wroteOrder) : after opsOrder W (Proc.devRef .tc r) = W (Proc.devRef .tc r) :=
  StableHlo.after_unwritten wroteOrder rfl h W
theorem keepBlocks (W : Valuation τ sig (Elt F)) {r : Ref sig .tc} (h : r ∉ wroteBlocks) : after opsBlocks W (Proc.devRef .tc r) = W (Proc.devRef .tc r) :=
  StableHlo.after_unwritten wroteBlocks rfl h W
theorem keepStart (W : Valuation τ sig (Elt F)) {r : Ref sig .tc} (h : r ∉ wroteStart) : after opsStart W (Proc.devRef .tc r) = W (Proc.devRef .tc r) :=
  StableHlo.after_unwritten wroteStart rfl h W
theorem keepOffset (W : Valuation τ sig (Elt F)) {r : Ref sig .tc} (h : r ∉ wroteOffset) : after opsOffset W (Proc.devRef .tc r) = W (Proc.devRef .tc r) :=
  StableHlo.after_unwritten wroteOffset rfl h W
theorem keepSorted (W : Valuation τ sig (Elt F)) {r : Ref sig .tc} (h : r ∉ wroteSorted) : after opsSorted W (Proc.devRef .tc r) = W (Proc.devRef .tc r) :=
  StableHlo.after_unwritten wroteSorted rfl h W
theorem keepBase (W : Valuation τ sig (Elt F)) {r : Ref sig .tc} (h : r ∉ wroteBase) : after opsBase W (Proc.devRef .tc r) = W (Proc.devRef .tc r) :=
  StableHlo.after_unwritten wroteBase rfl h W
theorem keepSlot (W : Valuation τ sig (Elt F)) {r : Ref sig .tc} (h : r ∉ wroteSlot) : after opsSlot W (Proc.devRef .tc r) = W (Proc.devRef .tc r) :=
  StableHlo.after_unwritten wroteSlot rfl h W
theorem keepOwner (W : Valuation τ sig (Elt F)) {r : Ref sig .tc} (h : r ∉ wroteOwner) : after opsOwner W (Proc.devRef .tc r) = W (Proc.devRef .tc r) :=
  StableHlo.after_unwritten wroteOwner rfl h W
theorem keepLists (W : Valuation τ sig (Elt F)) {r : Ref sig .tc} (h : r ∉ wroteLists) : after opsLists W (Proc.devRef .tc r) = W (Proc.devRef .tc r) :=
  StableHlo.after_unwritten wroteLists rfl h W
theorem keepTable (W : Valuation τ sig (Elt F)) {r : Ref sig .tc} (h : r ∉ wroteTable) : after opsTable W (Proc.devRef .tc r) = W (Proc.devRef .tc r) :=
  StableHlo.after_unwritten wroteTable rfl h W
theorem keepRead (W : Valuation τ sig (Elt F)) {r : Ref sig .tc} (h : r ∉ wroteRead) : after opsRead W (Proc.devRef .tc r) = W (Proc.devRef .tc r) :=
  StableHlo.after_unwritten wroteRead rfl h W
theorem keep2 (W : Valuation τ sig (Elt F)) {r : Ref sig .tc} (h : r ∉ wrote2) : after ops2 W (Proc.devRef .tc r) = W (Proc.devRef .tc r) :=
  StableHlo.after_unwritten wrote2 rfl h W
theorem keep3 (W : Valuation τ sig (Elt F)) {r : Ref sig .tc} (h : r ∉ wrote3) : after ops3 W (Proc.devRef .tc r) = W (Proc.devRef .tc r) :=
  StableHlo.after_unwritten wrote3 rfl h W
theorem keep4 (W : Valuation τ sig (Elt F)) {r : Ref sig .tc} (h : r ∉ wrote4) : after ops4 W (Proc.devRef .tc r) = W (Proc.devRef .tc r) :=
  StableHlo.after_unwritten wrote4 rfl h W

theorem after_app (l₁ l₂ : List (HloOp τ sig (Elt F))) (V : Valuation τ sig (Elt F)) : after (l₁ ++ l₂) V = after l₂ (after l₁ V) := by
  induction l₁ generalizing V with
  | nil => rfl
  | cons op l ih => exact ih (op.result V)

/-- The routing's steps one after the other. -/
theorem ops1_eq (V : Valuation τ sig (Elt F)) : after ops1 V = (after opsRead (after opsTable (after opsLists (after opsOwner (after opsSlot (after opsBase (after opsSorted (after opsOffset (after opsStart (after opsBlocks (after opsOrder (after opsCount V)))))))))))) :=
  (after_app _ opsRead V).trans (congrArg (after opsRead) ((after_app _ opsTable V).trans (congrArg (after opsTable) ((after_app _ opsLists V).trans (congrArg (after opsLists) ((after_app _ opsOwner V).trans (congrArg (after opsOwner) ((after_app _ opsSlot V).trans (congrArg (after opsSlot) ((after_app _ opsBase V).trans (congrArg (after opsBase) ((after_app _ opsSorted V).trans (congrArg (after opsSorted) ((after_app _ opsOffset V).trans (congrArg (after opsOffset) ((after_app _ opsStart V).trans (congrArg (after opsStart) ((after_app _ opsBlocks V).trans (congrArg (after opsBlocks) (after_app _ opsOrder V))))))))))))))))))))

theorem keep1 (W : Valuation τ sig (Elt F)) {r : Ref sig .tc} (h : r ∉ wrote1) : after ops1 W (Proc.devRef .tc r) = W (Proc.devRef .tc r) :=
  StableHlo.after_unwritten wrote1 rfl h W

/-! ## The buffers it works on -/

/-! ## The noise keeps the arguments -/

/-- The arguments. -/
abbrev argRefs : List (Ref sig .tc) :=
  [main_arg0, main_arg1, main_arg2, main_arg3, main_arg4, main_arg5, main_arg6, main_arg7, main_arg8, main_arg9, main_arg10, main_arg11, main_arg12]

theorem noise_keeps (W : Valuation τ sig (Elt F)) : ∀ r ∈ argRefs, after opsNoise W (Proc.devRef .tc r) = W (Proc.devRef .tc r) := by
  simp only [argRefs, List.forall_mem_cons, List.not_mem_nil, false_imp_iff, implies_true, and_true]
  refine ⟨?_, ?_, ?_, ?_, ?_, ?_, ?_, ?_, ?_, ?_, ?_, ?_, ?_⟩ <;> chain_rfl

/-- Lines of the TensorCore's own buffers that write none afresh. -/
def Good (ops : List (HloOp τ sig (Elt F))) : Prop := ∀ op ∈ ops, op.bufs ⊆ StableHlo.tcRefs τ sig ∧ op.fresh = ∅

theorem good_nil : Good (F := F) [] := fun _ h => nomatch h

theorem good_cons {op : HloOp τ sig (Elt F)} {ops : List (HloOp τ sig (Elt F))} (hb : op.bufs ⊆ StableHlo.tcRefs τ sig) (hf : op.fresh = ∅) (h : Good ops) : Good (op :: ops) :=
  fun o ho => (List.mem_cons.mp ho).elim (fun e => e ▸ ⟨hb, hf⟩) (h o)

theorem good_append {l₁ l₂ : List (HloOp τ sig (Elt F))} (h₁ : Good l₁) (h₂ : Good l₂) : Good (l₁ ++ l₂) :=
  fun o ho => (List.mem_append.mp ho).elim (h₁ o) (h₂ o)

set_option maxHeartbeats 4000000 in
theorem goodNoise : Good (F := F) opsNoise := by
  repeat' first | apply good_append | exact good_nil | refine good_cons ?_ rfl ?_
  all_goals simp only [StableHlo.TRef.nullary, StableHlo.TRef.unary, StableHlo.TRef.binary, StableHlo.TRef.reshape, StableHlo.nullary_bufs_sub,
    StableHlo.unary_bufs_sub, StableHlo.binary_bufs_sub, StableHlo.reshape_bufs_sub]

set_option maxHeartbeats 2000000 in
theorem good1 : Good (F := F) ops1 := by
  repeat' first | apply good_append | exact good_nil | refine good_cons ?_ rfl ?_
  all_goals simp only [StableHlo.TRef.nullary, StableHlo.TRef.unary, StableHlo.TRef.binary, StableHlo.TRef.ternary, StableHlo.nullary_bufs_sub,
    StableHlo.unary_bufs_sub, StableHlo.binary_bufs_sub, StableHlo.ternary_bufs_sub, StableHlo.reshape_bufs_sub]

set_option maxHeartbeats 2000000 in
theorem good2 : Good (F := F) ops2 := by
  repeat' first | apply good_append | exact good_nil | refine good_cons ?_ rfl ?_
  all_goals simp only [StableHlo.TRef.nullary, StableHlo.TRef.unary, StableHlo.TRef.binary, StableHlo.TRef.ternary, StableHlo.nullary_bufs_sub,
    StableHlo.unary_bufs_sub, StableHlo.binary_bufs_sub, StableHlo.ternary_bufs_sub, StableHlo.reshape_bufs_sub]

set_option maxHeartbeats 2000000 in
theorem good3 : Good (F := F) ops3 := by
  repeat' first | apply good_append | exact good_nil | refine good_cons ?_ rfl ?_
  all_goals simp only [StableHlo.TRef.nullary, StableHlo.TRef.unary, StableHlo.TRef.binary, StableHlo.TRef.ternary, StableHlo.nullary_bufs_sub,
    StableHlo.unary_bufs_sub, StableHlo.binary_bufs_sub, StableHlo.ternary_bufs_sub, StableHlo.reshape_bufs_sub]

set_option maxHeartbeats 2000000 in
theorem good4 : Good (F := F) ops4 := by
  repeat' first | apply good_append | exact good_nil | refine good_cons ?_ rfl ?_
  all_goals simp only [StableHlo.TRef.nullary, StableHlo.TRef.unary, StableHlo.TRef.binary, StableHlo.TRef.ternary, StableHlo.nullary_bufs_sub,
    StableHlo.unary_bufs_sub, StableHlo.binary_bufs_sub, StableHlo.ternary_bufs_sub, StableHlo.reshape_bufs_sub]

end Cert.Proof.Moe

end
-- ==== Proof.Moe.Gather.lean ====
/-
  The gather call: one vector subcore's task. The table of state rows is an array of 128-lane rows, the index list
  names one of them for every row of the output, and subcore `(c, s)` fills two consecutive chunks of 640 output rows:
  it fetches the chunk's 640 indices, gathers the rows they name into its tile memory, and writes them out.
-/
module

public import proofs.«01_k».proof.Proof.Moe.Base

@[expose] public section

noncomputable section

namespace Cert.Proof.Moe.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays of the call -/

abbrev tLoc (d : Dev nD) : Loc nD τ sig := (SparseCore.T d).loc main_v89
abbrev iLoc (d : Dev nD) : Loc nD τ sig := (SparseCore.T d).loc main_v98
abbrev oLoc (d : Dev nD) : Loc nD τ sig := (SparseCore.T d).loc main_v99

abbrev tM : Memref sig .scVector .hbm S32768x128 .f32 := Memref.whole main_v89_scv
abbrev iM : Memref sig .scVector .hbm S40960 .i32 := Memref.whole main_v98_scv
abbrev oM : Memref sig .scVector .hbm S40960x128 .f32 := Memref.whole main_v99_scv
abbrev lM : Memref sig .scVector .vmem S640 .i32 := Memref.whole cc1_scratch0
abbrev aM : Memref sig .scVector .vmem S640x128 .f32 := Memref.whole cc1_scratch1

/-- Entry `n` of the index list. -/
def at1 (n : Fin 40960) : S40960.Idx := fun a => match a with | 0 => n

/-- Row `j 0` of the output is the table's row at the `j 0`-th index. -/
def pick {α : Type} (tb : S32768x128.Idx → α) (ix : S40960.Idx → BitVec 32) : S40960x128.Idx → α := fun j =>
  tb fun a => match a with
    | 0 => ⟨(ix (at1 (j 0))).toNat % 32768, Nat.mod_lt _ (by decide)⟩
    | 1 => ⟨(j 1).val, (j 1).isLt⟩

/-! ## What one subcore works on -/

abbrev cV (L : grid1.Coords) : Fin τ.nSC := (L 0).castLE hcore1
abbrev jV (L : grid1.Coords) : Fin τ.nSub := (L 1).castLE hsub1

abbrev tAll : Memref sig .scVector .hbm S32768x128 .f32 :=
  tM.slice (Rect.unit (s := S32768x128) ![0, 0] S32768x128.size inb_S32768x128_S32768x128_0_0) (fun _ => rfl)
/-- Chunk `r`'s 640 entries of the index list. -/
abbrev iRect (L : grid1.Coords) (r : Fin 2) : Rect S40960 :=
  Rect.unit (s := S40960) (k1_off1 L (BitVec.ofNat 32 (640 * r.val))) S640.size (k1_off1_inb L r)
abbrev iPart (L : grid1.Coords) (r : Fin 2) : Memref sig .scVector .hbm S640 .i32 := iM.slice (iRect L r) (fun _ => rfl)
/-- Chunk `r`'s rows of the output. -/
abbrev oRect (L : grid1.Coords) (r : Fin 2) : Rect S40960x128 :=
  Rect.unit (s := S40960x128) (k1_off2 L (BitVec.ofNat 32 (640 * r.val))) S640x128.size (k1_off2_inb L r)
abbrev oPart (L : grid1.Coords) (r : Fin 2) : Memref sig .scVector .hbm S640x128 .f32 := oM.slice (oRect L r) (fun _ => rfl)

/-- The fetched list: the chunk's entries. -/
def lst (ix : S40960.Idx → BitVec 32) (L : grid1.Coords) (r : Fin 2) : S640.Idx → BitVec 32 := fun x => ix ((iRect L r).emb x)

/-- The rows the chunk is to hold. -/
def chunk {α : Type} (tb : S32768x128.Idx → α) (ix : S40960.Idx → BitVec 32) (L : grid1.Coords) (r : Fin 2) : S640x128.Idx → α :=
  fun x => pick tb ix ((oRect L r).emb x)

theorem read_iPart (ix : S40960.Idx → BitVec 32) (L : grid1.Coords) (r : Fin 2) : (iPart L r).view.read (Elt F) ix = lst ix L r := by
  funext x; rw [View.read_apply]; rfl

theorem read_oPart (f : S40960x128.Idx → Elt F .f32) (L : grid1.Coords) (r : Fin 2) (x : S640x128.Idx) :
    (oPart L r).view.read (Elt F) f x = f ((oRect L r).emb x) := by
  rw [View.read_apply]; rfl

theorem read_tAll (tb : S32768x128.Idx → Elt F .f32) : tAll.view.read (Elt F) tb = tb := by
  funext x; rw [View.read_apply]
  show tb _ = tb x
  congr 1
  funext a; apply Fin.ext
  show (![0, 0] : Fin 2 → ℕ) a + 1 * (x a).val = (x a).val
  match a with
  | 0 => show 0 + 1 * _ = _; omega
  | 1 => show 0 + 1 * _ = _; omega

/-- Every word a chunk's gather reads from the fetched list names a row of the table. -/
theorem lst_lt {ix : S40960.Idx → BitVec 32} (h : ∀ j, (ix j).toNat < 32768) (L : grid1.Coords) (r : Fin 2) (x : S640.Idx) :
    (lM.view.read (Elt F) (lst ix L r) x).toNat < S32768x128.size gathers_S32768x128_S640x128.axis := h _

/-- The gathered rows are the chunk's. -/
theorem gathered {tb : S32768x128.Idx → Elt F .f32} {ix : S40960.Idx → BitVec 32} (h : ∀ j, (ix j).toNat < 32768) (L : grid1.Coords) (r : Fin 2)
    (hn : S640.numel = S640x128.size gathers_S32768x128_S640x128.axis')
    (hin : ∀ x, (lM.view.read (Elt F) (lst ix L r) x).toNat < S32768x128.size gathers_S32768x128_S640x128.axis) :
    SparseCore.gatherPayload gathers_S32768x128_S640x128 (tAll.view.read (Elt F) tb) (SparseCore.rows (lM.view.read (Elt F) (lst ix L r)) hn hin)
      = chunk tb ix L r := by
  funext x
  rw [read_tAll]
  show tb _ = tb _
  congr 1
  funext a
  have h1 := k1_off1_eq L r
  have h2 := k1_off2_eq L r
  match a with
  | 0 =>
    apply Fin.ext
    refine (congrArg Fin.val (Shape.Gathers.idx_axis gathers_S32768x128_S640x128 _ x)).trans ?_
    have hrow : ∀ y : S640.Idx, (y 0).val = (x 0).val → (iRect L r).emb y = at1 ((oRect L r).emb x 0) := by
      intro y hy
      funext b
      match b with
      | 0 =>
        apply Fin.ext
        show k1_off1 L (BitVec.ofNat 32 (640 * r.val)) 0 + 1 * (y 0).val = k1_off2 L (BitVec.ofNat 32 (640 * r.val)) 0 + 1 * (x 0).val
        rw [h1, h2, hy]
        rfl
    show (lst ix L r _).toNat = (ix (at1 ((oRect L r).emb x 0))).toNat % 32768
    rw [Nat.mod_eq_of_lt (h _)]
    unfold lst
    rw [hrow]
    refine (Shape.rowMajor_val_one _).symm.trans ?_
    exact congrArg Fin.val (Equiv.apply_symm_apply _ _)
  | 1 =>
    apply Fin.ext
    refine (Shape.Gathers.idx_of_ne gathers_S32768x128_S640x128 _ x 1 (by decide)).trans ?_
    show (x 1).val = k1_off2 L (BitVec.ofNat 32 (640 * r.val)) 1 + 1 * (x 1).val
    rw [h2]; show _ = 0 + 1 * _; omega

section Tile

variable (d : Dev nD) (L : grid1.Coords)

/-! ## The subcore's semaphores and scratch buffers -/

abbrev cell (d : Dev nD) (L : grid1.Coords) (s : DmaSem sig) : GSem nD τ sig := (V d (cV L) (jV L), .dma s)

/-- The five cells are among the subcore's own, at zero. -/
theorem ownSems0_V :
    ∃ R : sProp 𝕄, (ownSems0 (V d (cV L) (jV L)) : sProp 𝕄)
      = iprop(semVal (cell d L cc1_scoped0.sem) 0 ∗ semVal (cell d L cc1_scoped1.sem) 0 ∗ semVal (cell d L cc1_scoped2.sem) 0
          ∗ semVal (cell d L cc1_scoped3.sem) 0 ∗ semVal (cell d L cc1_scratch2.sem) 0 ∗ R) := by
  have mem : ∀ s : DmaSem sig, (SemLoc.dma s : SemLoc sig).isScoped .scVector = true → cell d L s ∈ ownCells (V d (cV L) (jV L)) :=
    fun s hs => (mem_ownCells (g := cell d L s)).mpr ⟨rfl, hs⟩
  have ne : ∀ s t : DmaSem sig, s ≠ t → cell d L s ≠ cell d L t := fun s t h e => h (SemLoc.dma.inj (Prod.mk.inj e).2)
  refine ⟨bigSep (((((ownCells (V d (cV L) (jV L))).erase (cell d L cc1_scoped0.sem)).erase (cell d L cc1_scoped1.sem)).erase
    (cell d L cc1_scoped2.sem)).erase (cell d L cc1_scoped3.sem) |>.erase (cell d L cc1_scratch2.sem)) fun g => semVal g 0, ?_⟩
  unfold SparseCore.Cfg.ownSems0
  have m0 := mem cc1_scoped0.sem (by decide)
  have m1 := Finset.mem_erase.mpr ⟨ne cc1_scoped1.sem cc1_scoped0.sem (by decide), mem cc1_scoped1.sem (by decide)⟩
  have m2 := Finset.mem_erase.mpr ⟨ne cc1_scoped2.sem cc1_scoped1.sem (by decide), Finset.mem_erase.mpr ⟨ne cc1_scoped2.sem cc1_scoped0.sem (by decide), mem cc1_scoped2.sem (by decide)⟩⟩
  have m3 := Finset.mem_erase.mpr ⟨ne cc1_scoped3.sem cc1_scoped2.sem (by decide), Finset.mem_erase.mpr ⟨ne cc1_scoped3.sem cc1_scoped1.sem (by decide),
    Finset.mem_erase.mpr ⟨ne cc1_scoped3.sem cc1_scoped0.sem (by decide), mem cc1_scoped3.sem (by decide)⟩⟩⟩
  have m4 := Finset.mem_erase.mpr ⟨ne cc1_scratch2.sem cc1_scoped3.sem (by decide), Finset.mem_erase.mpr ⟨ne cc1_scratch2.sem cc1_scoped2.sem (by decide),
    Finset.mem_erase.mpr ⟨ne cc1_scratch2.sem cc1_scoped1.sem (by decide), Finset.mem_erase.mpr ⟨ne cc1_scratch2.sem cc1_scoped0.sem (by decide), mem cc1_scratch2.sem (by decide)⟩⟩⟩⟩
  rw [SparseCore.bigSep_erase' m0, SparseCore.bigSep_erase' m1, SparseCore.bigSep_erase' m2, SparseCore.bigSep_erase' m3, SparseCore.bigSep_erase' m4]

/-- The two scratch buffers are among the subcore's own, each whole at some contents. -/
theorem ownBufs_V :
    ∃ R : sProp 𝕄, (ownBufs (V d (cV L) (jV L)) : sProp 𝕄)
      = iprop((∃ f, lM.view.loc (V d (cV L) (jV L)) ↦{fullShare} f) ∗ (∃ f, aM.view.loc (V d (cV L) (jV L)) ↦{fullShare} f) ∗ R) := by
  have ne : ∀ b b' : Ref sig .scVector, b ≠ b' → ((Proc.scVector (cV L) (jV L)).devRef b : DevRef τ sig) ≠ (Proc.scVector (cV L) (jV L)).devRef b' :=
    fun b b' h e => h (Proc.devRef_injective _ e)
  refine ⟨bigSep (((ownRefs (τ := τ) (.scVector (cV L) (jV L))).erase ((Proc.scVector (cV L) (jV L)).devRef cc1_scratch0)).erase
      ((Proc.scVector (cV L) (jV L)).devRef cc1_scratch1))
      fun b => iprop(∃ f, ((d, b) : Loc nD τ sig) ↦{fullShare} f), ?_⟩
  unfold SparseCore.Cfg.ownBufs
  have m0 := SparseCore.Cfg.mem_ownRefs_of_owner (p := Proc.scVector (cV L) (jV L)) (b := (Proc.scVector (cV L) (jV L)).devRef (cc1_scratch0 : Ref sig .scVector)) rfl
  have m1 := Finset.mem_erase.mpr ⟨ne (cc1_scratch1 : Ref sig .scVector) cc1_scratch0 (by decide),
    SparseCore.Cfg.mem_ownRefs_of_owner (p := Proc.scVector (cV L) (jV L)) (b := (Proc.scVector (cV L) (jV L)).devRef (cc1_scratch1 : Ref sig .scVector)) rfl⟩
  refine (SparseCore.bigSep_erase' m0).trans ?_
  rw [SparseCore.bigSep_erase' m1]

/-! ## What a chunk holds once it is written out -/

/-- A chunk of the output written with the chunk's rows holds the output's rows. -/
theorem chunk_written {tb : S32768x128.Idx → Elt F .f32} {ix : S40960.Idx → BitVec 32} (r : Fin 2) (f : Buf (Elt F) (oLoc d)) (w : S640x128.Idx → Elt F .f32)
    (hw : w = chunk tb ix L r) :
    ((oPart L r).view.loc (V d (cV L) (jV L)) ↦[(oPart L r).view.set]{fullShare} (oPart L r).view.writes (Elt F) f [⟨Rect.whole S640x128, w⟩] : sProp 𝕄)
      = (oPart L r).view.loc (V d (cV L) (jV L)) ↦[(oPart L r).view.set]{fullShare} (pick tb ix : Buf (Elt F) (oLoc d)) := by
  refine pointsTo_congr fun i hi => ?_
  obtain ⟨x, -, rfl⟩ := Finset.mem_map.mp hi
  have h := View.read_writes_whole (Val := Elt F) (oPart L r).view f w
  have hx := congrFun h x
  rw [read_oPart] at hx
  subst hw
  exact hx

/-- The two chunks with their offsets as the task's text has them. -/
abbrev o0 (L : grid1.Coords) : Memref sig .scVector .hbm S640x128 .f32 :=
  oM.slice (Rect.unit (s := S40960x128) (k1_off2 L 0#32) S640x128.size (k1_off2_inb L 0)) (fun _ => rfl)
abbrev o1 (L : grid1.Coords) : Memref sig .scVector .hbm S640x128 .f32 :=
  oM.slice (Rect.unit (s := S40960x128) (k1_off2 L 640#32) S640x128.size (k1_off2_inb L 1)) (fun _ => rfl)

/-- What a subcore holds before and after its task: a share of the table and of the index list, and its two chunks of
    the output at the contents `f`. -/
abbrev tileHolds (d : Dev nD) (L : grid1.Coords) (tb : S32768x128.Idx → Elt F .f32) (ix : S40960.Idx → BitVec 32) (q qi : PosShare TreeShare)
    (f : S40960x128.Idx → Elt F .f32) : sProp 𝕄 :=
  iprop((tM.view.loc (V d (cV L) (jV L)) ↦{q} tb) ∗ (iM.view.loc (V d (cV L) (jV L)) ↦{qi} ix)
    ∗ ((o0 L).view.loc (V d (cV L) (jV L)) ↦[(o0 L).view.set]{fullShare} f)
    ∗ (o1 L).view.loc (V d (cV L) (jV L)) ↦[(o1 L).view.set]{fullShare} f)

/-- The list buffer, written whole with a chunk's entries. -/
theorem list_fetched {ix : S40960.Idx → BitVec 32} (r : Fin 2) (f : Buf (Elt F) (lM.view.loc (V d (cV L) (jV L)))) (w : S640.Idx → BitVec 32)
    (hw : w = lst ix L r) :
    (lM.view.loc (V d (cV L) (jV L)) ↦{fullShare} lM.view.write (Elt F) f w Finset.univ : sProp 𝕄) = lM.view.loc (V d (cV L) (jV L)) ↦{fullShare} lst ix L r := by
  subst hw
  congr 1
  exact View.write_whole_univ (Val := Elt F) _ _ _

/-- The row buffer, written whole with a chunk's rows. -/
theorem rows_written {tb : S32768x128.Idx → Elt F .f32} {ix : S40960.Idx → BitVec 32} (r : Fin 2) (f : Buf (Elt F) (aM.view.loc (V d (cV L) (jV L))))
    (w : S640x128.Idx → Elt F .f32) (hw : w = chunk tb ix L r) :
    (aM.view.loc (V d (cV L) (jV L)) ↦{fullShare} aM.view.write (Elt F) f w Finset.univ : sProp 𝕄) = aM.view.loc (V d (cV L) (jV L)) ↦{fullShare} chunk tb ix L r := by
  subst hw
  congr 1
  exact View.write_whole_univ (Val := Elt F) _ _ _

theorem credit (h : S32768x128.Gathers 0 S640x128) :
    ∑ j, (aM.slice (S640x128.rowRect h.axis' j) (S640x128.stride_rowRect h.axis' j)).view.dmaCredit = aM.view.dmaCredit :=
  SparseCore.sum_rowCredit_eq_dmaCredit aM h.axis' (fun _ => rfl)

variable [FloatOps F]

set_option maxHeartbeats 4000000 in
/-- The task of vector subcore `(L 0, L 1)`: from a share `q` of the table and `qi` of the index list and its two chunks of
    the output at any contents, to the same with both chunks at the rows their indices name. -/
theorem tile_body (hF : (K (F := F)).Facts) (tb : S32768x128.Idx → Elt F .f32) (ix : S40960.Idx → BitVec 32) (hix : ∀ j, (ix j).toNat < 32768)
    (q qi : PosShare TreeShare) (f0 : S40960x128.Idx → Elt F .f32)
    (O : CellTallies nD τ sig (HIx 2)) (W : Waits sig (HIx 2)) (hO : ∀ g, O g none = 0) :
    iprop(levAts (K (F := F)).L (K (F := F)).lev ∗ emp
        ∗ tileHolds d L tb ix q qi f0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L tM (Memref.isWhole_whole _) iM (Memref.isWhole_whole _) oM (Memref.isWhole_whole _)
            lM (Memref.isWhole_whole _) aM (Memref.isWhole_whole _) cc1_scratch2 cc1_scoped0 cc1_scoped1 cc1_scoped2 cc1_scoped3)
          fun _ => iprop(tileHolds d L tb ix q qi (pick tb ix)
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hRS⟩ := ownSems0_V (F := F) d L
  obtain ⟨RB, hRB⟩ := ownBufs_V (F := F) d L
  rw [cc1_k_eq_skeleton]; unfold cc1_k_skel
  rw [(K (F := F)).scopedBufs_V hF d (cV L) (jV L), SparseCore.Cfg.scopedSems0_V (Val := Elt F) d (cV L) (jV L), hRS, hRB]
  iintro ⟨#Hlv, -, ⟨Ht, Hi, Ho0, Ho1⟩, ⟨⟨%fl, Hl⟩, ⟨%fa, Ha⟩, HRB⟩, ⟨Hs0, Hs1, Hs2, Hs3, HsA, HRS⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  sl_exec
  ihave Hl := (Entails.of_eq (list_fetched (F := F) (ix := ix) d L 0 fl (tile_body.sl.dma0 (F := F) L ix) (read_iPart (F := F) ix L 0))) $$ Hl
  iapply (SparseCore.wp_gatherFromWhole countersEmb 𝒱₀ (V d (cV L) (jV L)) none (hg := gathers_S32768x128_S640x128) (default : HIx 2)
      aM.view.dmaCredit (credit _) (by decide) (lst_lt hix L 0)) $$ [Ht Ha Hl HsA]
  · isplitl [Ht]; · iexact Ht
    isplitl [Ha]; · iexact Ha
    isplitl [Hl]; · iexact Hl
    iexact HsA
  iintro HfA
  sl_exec
  iapply (Transfers.wp_waitLocalO countersEmb 𝒱₀ (V d (cV L) (jV L)) none (default : HIx 2) (rfl : aM.view.dmaCredit = _)) $$ [HfA HO]
  · isplitl [HfA]; · iexact HfA
    isplitl [HO]; · iexact HO
    iapply (Transfers.MayWaits.elim (SemLoc.dma cc1_scratch2.sem)) $$ Hmw
  iintro ⟨⟨Ha, Ht, Hl⟩, HsA, HO⟩
  ihave Ha := (Entails.of_eq (rows_written (F := F) d L 0 fa _ (gathered (F := F) (tb := tb) hix L 0 rfl (lst_lt hix L 0)))) $$ Ha
  sl_exec
  ihave Hl := (Entails.of_eq (list_fetched (F := F) (ix := ix) d L 1 (lst ix L 0) (tile_body.sl.dma0_2 (F := F) L ix) (read_iPart (F := F) ix L 1))) $$ Hl
  iapply (SparseCore.wp_gatherFromWhole countersEmb 𝒱₀ (V d (cV L) (jV L)) none (hg := gathers_S32768x128_S640x128) (default : HIx 2)
      aM.view.dmaCredit (credit _) (by decide) (lst_lt hix L 1)) $$ [Ht Ha Hl HsA]
  · isplitl [Ht]; · iexact Ht
    isplitl [Ha]; · iexact Ha
    isplitl [Hl]; · iexact Hl
    iexact HsA
  iintro HfA
  sl_exec
  iapply (Transfers.wp_waitLocalO countersEmb 𝒱₀ (V d (cV L) (jV L)) none (default : HIx 2) (rfl : aM.view.dmaCredit = _)) $$ [HfA HO]
  · isplitl [HfA]; · iexact HfA
    isplitl [HO]; · iexact HO
    iapply (Transfers.MayWaits.elim (SemLoc.dma cc1_scratch2.sem)) $$ Hmw
  iintro ⟨⟨Ha, Ht, Hl⟩, HsA, HO⟩
  ihave Ha := (Entails.of_eq (rows_written (F := F) d L 1 (chunk tb ix L 0) _ (gathered (F := F) (tb := tb) hix L 1 rfl (lst_lt hix L 1)))) $$ Ha
  sl_exec
  sl_step
  isplitl [Ht Hi Ho0 Ho1]
  · isplitl [Ht]; · iexact Ht
    isplitl [Hi]; · iexact Hi
    isplitl [Ho0]
    · iapply (Entails.of_eq (chunk_written (F := F) (tb := tb) (ix := ix) d L 0 f0 (tile_body.sl.dma0_1 (F := F) d L tb ix) (View.read_whole (Val := Elt F) cc1_scratch1 (chunk tb ix L 0)))) $$ Ho0
    · iapply (Entails.of_eq (chunk_written (F := F) (tb := tb) (ix := ix) d L 1 f0 (tile_body.sl.dma0_3 (F := F) d L tb ix) (View.read_whole (Val := Elt F) cc1_scratch1 (chunk tb ix L 1)))) $$ Ho1
  isplitl [Hl Ha HRB]
  · isplitl [Hl]; · iexists _; iexact Hl
    isplitl [Ha]; · iexists _; iexact Ha
    iexact HRB
  isplitl [Hs0 Hs1 Hs2 Hs3 HsA HRS]
  · isplitl [Hs0]; · iexact Hs0
    isplitl [Hs1]; · iexact Hs1
    isplitl [Hs2]; · iexact Hs2
    isplitl [Hs3]; · iexact Hs3
    isplitl [HsA]; · iexact HsA
    iexact HRS
  iexists _; isplitr
  swap; · iexact HO
  ipureintro; intro p hp
  repeat (rcases Finset.mem_insert.mp hp with hp | hp; · exact .inr (hp ▸ rfl))
  exact .inl hp

end Tile

end Cert.Proof.Moe.Gather

end
-- ==== Proof.Moe.Scatter.lean ====
/-
  The scatter call: one vector subcore's task. The list holds, for every 128-lane row of the experts' output, the row of
  the result it goes to; no two of its words are the same. Subcore `(c, s)` fetches its two rows of 640 words, and for
  each of them copies 640 rows of the experts' output into its tile memory and scatters them to the rows the words name.
  It is handed those rows of the result and no others.
-/
module

public import proofs.«01_k».proof.Proof.Moe.Base

@[expose] public section

noncomputable section

namespace Cert.Proof.Moe.Scatter

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays of the call -/

abbrev yLoc (d : Dev nD) : Loc nD τ sig := (SparseCore.T d).loc main_v105
abbrev iLoc (d : Dev nD) : Loc nD τ sig := (SparseCore.T d).loc main_v115
abbrev oLoc (d : Dev nD) : Loc nD τ sig := (SparseCore.T d).loc main_v116

abbrev yM : Memref sig .scVector .hbm S40960x128 .f32 := Memref.whole main_v105_scv
abbrev iM : Memref sig .scVector .hbm S32x2x640 .i32 := Memref.whole main_v115_scv
abbrev oM : Memref sig .scVector .hbm S40960x128 .f32 := Memref.whole main_v116_scv
abbrev lM : Memref sig .scVector .vmem S2x640 .i32 := Memref.whole cc3_scratch0
abbrev aM : Memref sig .scVector .vmem S640x128 .f32 := Memref.whole cc3_scratch1

/-- Word `k` of row `r` of subcore `w`'s part of the list. -/
def at3 (w : Fin 32) (r : Fin 2) (k : Fin 640) : S32x2x640.Idx := fun a => match a with | 0 => w | 1 => r | 2 => k
/-- Row and lane of the experts' output or of the result. -/
def at2 (n : Fin 40960) (l : Fin 128) : S40960x128.Idx := fun a => match a with | 0 => n | 1 => l

/-- The row of the experts' output that word `j` of the list speaks of. -/
def lin (j : S32x2x640.Idx) : Fin 40960 := ⟨1280 * (j 0).val + 640 * (j 1).val + (j 2).val, by
  have h0 : (j 0).val < 32 := (j 0).isLt
  have h1 : (j 1).val < 2 := (j 1).isLt
  have h2 : (j 2).val < 640 := (j 2).isLt
  omega⟩

open scoped Classical in
/-- The result of the call: the row a word names holds the row of the experts' output that the word speaks of. -/
def put {α : Type} (y : S40960x128.Idx → α) (ix : S32x2x640.Idx → BitVec 32) : S40960x128.Idx → α := fun x =>
  if h : ∃ j : S32x2x640.Idx, (ix j).toNat = (x 0).val then y (at2 (lin h.choose) ⟨(x 1).val, (x 1).isLt⟩) else y x

theorem put_at {α : Type} {y : S40960x128.Idx → α} {ix : S32x2x640.Idx → BitVec 32} (hinj : Function.Injective fun j => (ix j).toNat)
    {j : S32x2x640.Idx} {x : S40960x128.Idx} (hx : (ix j).toNat = (x 0).val) : put y ix x = y (at2 (lin j) ⟨(x 1).val, (x 1).isLt⟩) := by
  classical
  have h : ∃ j : S32x2x640.Idx, (ix j).toNat = (x 0).val := ⟨j, hx⟩
  unfold put
  rw [dif_pos h, hinj (h.choose_spec.trans hx.symm)]

/-! ## What one subcore works on -/

abbrev cV (L : grid3.Coords) : Fin τ.nSC := (L 0).castLE hcore3
abbrev jV (L : grid3.Coords) : Fin τ.nSub := (L 1).castLE hsub3

/-- The subcore's number. -/
def wid (L : grid3.Coords) : Fin 32 := ⟨2 * (L 1).val + (L 0).val, by
  have h0 : (L 0).val < 2 := (L 0).isLt
  have h1 : (L 1).val < 16 := (L 1).isLt
  omega⟩

abbrev oAll : Memref sig .scVector .hbm S40960x128 .f32 :=
  oM.slice (Rect.unit (s := S40960x128) ![0, 0] S40960x128.size inb_S40960x128_S40960x128_0_0) (fun _ => rfl)
/-- The subcore's part of the list. -/
abbrev iPart (L : grid3.Coords) : Memref sig .scVector .hbm S2x640 .i32 :=
  (iM.slice (Rect.unit (s := S32x2x640) (k3_off1 L) S1x2x640.size (k3_off1_inb L)) (fun _ => rfl)).squeeze S2x640 squeezes_S1x2x640_S2x640
/-- Chunk `r`'s rows of the experts' output. -/
abbrev yRect (L : grid3.Coords) (r : Fin 2) : Rect S40960x128 :=
  Rect.unit (s := S40960x128) (k3_off2 L (BitVec.ofNat 32 (640 * r.val))) S640x128.size (k3_off2_inb L r)
abbrev yPart (L : grid3.Coords) (r : Fin 2) : Memref sig .scVector .hbm S640x128 .f32 := yM.slice (yRect L r) (fun _ => rfl)

theorem row_inb (r : Fin 2) : ∀ a, (![r.val, 0] : Fin 2 → Nat) a + S1x640.size a ≤ S2x640.size a := by
  intro a; match a with | 0 => show r.val + 1 ≤ 2; omega | 1 => show 0 + 640 ≤ 640; omega
/-- Row `r` of the fetched list. -/
abbrev lPart (r : Fin 2) : Memref sig .scVector .vmem S640 .i32 :=
  (lM.slice (Rect.unit (s := S2x640) ![r.val, 0] S1x640.size (row_inb r)) (fun _ => rfl)).squeeze S640 squeezes_S1x640_S640

/-- The fetched list. -/
def lst (ix : S32x2x640.Idx → BitVec 32) (L : grid3.Coords) : S2x640.Idx → BitVec 32 := fun x =>
  ix (at3 (wid L) ⟨(x 0).val, (x 0).isLt⟩ ⟨(x 1).val, (x 1).isLt⟩)

/-- The rows of the experts' output that chunk `r` copies. -/
def chunk {α : Type} (y : S40960x128.Idx → α) (L : grid3.Coords) (r : Fin 2) : S640x128.Idx → α := fun x => y ((yRect L r).emb x)

theorem read_iPart (ix : S32x2x640.Idx → BitVec 32) (L : grid3.Coords) : (iPart L).view.read (Elt F) ix = lst ix L := by
  funext x; rw [View.read_apply]
  show ix ((Rect.unit (s := S32x2x640) (k3_off1 L) S1x2x640.size (k3_off1_inb L)).emb (Shape.reshapeEquiv squeezes_S1x2x640_S2x640.numel_eq x)) = ix _
  congr 1
  have hr : Shape.reshapeEquiv squeezes_S1x2x640_S2x640.numel_eq x
      = (fun a => match a with | 0 => ⟨0, Nat.one_pos⟩ | 1 => ⟨(x 0).val, (x 0).isLt⟩ | 2 => ⟨(x 1).val, (x 1).isLt⟩ : S1x2x640.Idx) := by
    refine Shape.reshapeEquiv_eq_of_rowMajor _ ?_
    rw [Shape.rowMajor_val_three, Shape.rowMajor_val_two]
    show (0 * 2 + (x 0).val) * 640 + (x 1).val = (x 0).val * 640 + (x 1).val
    omega
  rw [hr]
  have h1 := k3_off1_eq L
  funext a
  apply Fin.ext
  match a with
  | 0 => show k3_off1 L 0 + 1 * 0 = _; rw [h1]; rfl
  | 1 => show k3_off1 L 1 + 1 * (x 0).val = (x 0).val; rw [h1]; show 0 + _ = _; omega
  | 2 => show k3_off1 L 2 + 1 * (x 1).val = (x 1).val; rw [h1]; show 0 + _ = _; omega

theorem read_lPart (ix : S32x2x640.Idx → BitVec 32) (L : grid3.Coords) (r : Fin 2) (x : S640.Idx) :
    (lPart r).view.read (Elt F) (lst ix L) x = ix (at3 (wid L) r ⟨(x 0).val, (x 0).isLt⟩) := by
  rw [View.read_apply]
  show lst ix L ((Rect.unit (s := S2x640) ![r.val, 0] S1x640.size (row_inb r)).emb (Shape.reshapeEquiv squeezes_S1x640_S640.numel_eq x)) = _
  have hr : Shape.reshapeEquiv squeezes_S1x640_S640.numel_eq x
      = (fun a => match a with | 0 => ⟨0, Nat.one_pos⟩ | 1 => ⟨(x 0).val, (x 0).isLt⟩ : S1x640.Idx) := by
    refine Shape.reshapeEquiv_eq_of_rowMajor _ ?_
    rw [Shape.rowMajor_val_two, Shape.rowMajor_val_one]
    show 0 * 640 + (x 0).val = (x 0).val
    omega
  rw [hr]
  unfold lst
  refine congrArg ix ?_
  funext a
  apply Fin.ext
  match a with
  | 0 => rfl
  | 1 => show r.val + 1 * 0 = r.val; omega
  | 2 => show 0 + 1 * (x 0).val = (x 0).val; omega

theorem read_yPart (y : S40960x128.Idx → Elt F .f32) (L : grid3.Coords) (r : Fin 2) : (yPart L r).view.read (Elt F) y = chunk y L r := by
  funext x; rw [View.read_apply]; rfl

theorem oAll_emb (x : S40960x128.Idx) : oAll.view.emb x = x := by
  funext a; apply Fin.ext
  show (![0, 0] : Fin 2 → ℕ) a + 1 * (x a).val = (x a).val
  match a with
  | 0 => show 0 + 1 * _ = _; omega
  | 1 => show 0 + 1 * _ = _; omega

/-! ## The rows chunk `r` of a subcore writes -/

open scoped Classical in
/-- The elements of the result on the rows that chunk `r`'s words name. -/
def own (ix : S32x2x640.Idx → BitVec 32) (L : grid3.Coords) (r : Fin 2) : Finset S40960x128.Idx :=
  Finset.univ.filter fun x => ∃ k : Fin 640, (ix (at3 (wid L) r k)).toNat = (x 0).val

theorem mem_own {ix : S32x2x640.Idx → BitVec 32} {L : grid3.Coords} {r : Fin 2} {x : S40960x128.Idx} :
    x ∈ own ix L r ↔ ∃ k : Fin 640, (ix (at3 (wid L) r k)).toNat = (x 0).val := by
  classical
  unfold own; simp only [Finset.mem_filter, Finset.mem_univ, true_and]

/-- A row of the result, as the scatter addresses it: the elements on that row. -/
theorem mem_row (i : Fin 40960) (x : S40960x128.Idx) :
    x ∈ (oAll.view.slice (S40960x128.rowRect gathers_S40960x128_S640x128.axis i)).set ↔ (x 0).val = i.val := by
  refine Finset.mem_map.trans ?_
  constructor
  · rintro ⟨z, -, hz⟩
    have e : (x 0).val = ((S40960x128.rowRect gathers_S40960x128_S640x128.axis i).emb z 0).val :=
      (congrArg (fun y : S40960x128.Idx => (y 0).val) hz).symm.trans (congrArg (fun y : S40960x128.Idx => (y 0).val) (oAll_emb _))
    exact e.trans (congrArg Fin.val (Shape.rowRect_emb_axis (s := S40960x128) gathers_S40960x128_S640x128.axis i z))
  · intro h
    have hi : x gathers_S40960x128_S640x128.axis = i := Fin.ext h
    subst hi
    exact ⟨S40960x128.rowProj gathers_S40960x128_S640x128.axis x, Finset.mem_univ _,
      (oAll_emb _).trans (Shape.rowRect_emb_rowProj (s := S40960x128) gathers_S40960x128_S640x128.axis x)⟩

theorem words_lt {ix : S32x2x640.Idx → BitVec 32} (h : ∀ j, (ix j).toNat < 40960) (L : grid3.Coords) (r : Fin 2) (x : S640.Idx) :
    ((lPart r).view.read (Elt F) (lst ix L) x).toNat < S40960x128.size gathers_S40960x128_S640x128.axis := by
  rw [read_lPart]; exact h _

theorem at3_inj {w : Fin 32} {r : Fin 2} {k k' : Fin 640} (h : at3 w r k = at3 w r k') : k = k' := congrFun h 2

theorem words_inj {ix : S32x2x640.Idx → BitVec 32} (h : ∀ j, (ix j).toNat < 40960) (hinj : Function.Injective fun j => (ix j).toNat) (L : grid3.Coords) (r : Fin 2)
    (hn : S640.numel = S640x128.size gathers_S40960x128_S640x128.axis') :
    Function.Injective (SparseCore.rows ((lPart r).view.read (Elt F) (lst ix L)) hn (words_lt h L r)) := by
  refine SparseCore.rows_injective fun x x' hxx => ?_
  have hxx' := ((congrArg BitVec.toNat (read_lPart (F := F) ix L r x)).symm.trans hxx).trans (congrArg BitVec.toNat (read_lPart (F := F) ix L r x'))
  have := at3_inj (hinj hxx')
  funext a
  match a with
  | 0 => exact Fin.ext (congrArg Fin.val this)

/-- The entry of the fetched row that row `k` of the chunk is scattered by. -/
theorem rows_val {ix : S32x2x640.Idx → BitVec 32} (h : ∀ j, (ix j).toNat < 40960) (L : grid3.Coords) (r : Fin 2)
    (hn : S640.numel = S640x128.size gathers_S40960x128_S640x128.axis') (k : Fin 640) :
    (SparseCore.rows ((lPart r).view.read (Elt F) (lst ix L)) hn (words_lt h L r) k).val = (ix (at3 (wid L) r k)).toNat := by
  show ((lPart r).view.read (Elt F) (lst ix L) _).toNat = _
  rw [read_lPart]
  congr 3
  apply Fin.ext
  refine (Shape.rowMajor_val_one _).symm.trans ?_
  exact congrArg Fin.val (Equiv.apply_symm_apply _ _)

variable (d : Dev nD) (L : grid3.Coords)

theorem named_eq {ix : S32x2x640.Idx → BitVec 32} (h : ∀ j, (ix j).toNat < 40960) (r : Fin 2)
    (hn : S640.numel = S640x128.size gathers_S40960x128_S640x128.axis') :
    SparseCore.namedRows (V d (cV L) (jV L)) oAll.view gathers_S40960x128_S640x128.axis
      (SparseCore.rows ((lPart r).view.read (Elt F) (lst ix L)) hn (words_lt h L r)) = own ix L r := by
  ext x
  rw [SparseCore.namedRows_eq]
  simp only [Finset.mem_biUnion, Finset.mem_univ, true_and]
  refine Iff.trans (exists_congr fun k => ?_) mem_own.symm
  refine (mem_row _ x).trans ?_
  rw [show (x 0).val = (SparseCore.rows ((lPart r).view.read (Elt F) (lst ix L)) hn (words_lt h L r) k).val
    ↔ (x 0).val = (ix (at3 (wid L) r k)).toNat from by rw [rows_val (F := F) h L r hn k]]
  exact eq_comm

/-- What the scatter leaves on the rows of its chunk is what the call's result holds there. -/
theorem scattered {y : S40960x128.Idx → Elt F .f32} {ix : S32x2x640.Idx → BitVec 32} (h : ∀ j, (ix j).toNat < 40960)
    (hinj : Function.Injective fun j => (ix j).toNat) (r : Fin 2)
    (hn : S640.numel = S640x128.size gathers_S40960x128_S640x128.axis') (f : Buf (Elt F) (oLoc d)) (x : S40960x128.Idx) (hx : x ∈ own ix L r) :
    SparseCore.scatterBuf (V d (cV L) (jV L)) oAll.view gathers_S40960x128_S640x128.axis
      (SparseCore.rows ((lPart r).view.read (Elt F) (lst ix L)) hn (words_lt h L r))
      (SparseCore.scatterRowPayload (V d (cV L) (jV L)) aM gathers_S40960x128_S640x128 (chunk y L r)) f x = put y ix x := by
  obtain ⟨k, hk⟩ := mem_own.mp hx
  have hkx : (x 0).val = (SparseCore.rows ((lPart r).view.read (Elt F) (lst ix L)) hn (words_lt h L r) k).val := by
    rw [rows_val (F := F) h L r hn k, hk]
  have hmem := (mem_row (SparseCore.rows ((lPart r).view.read (Elt F) (lst ix L)) hn (words_lt h L r) k) x).mpr hkx
  refine (SparseCore.scatterBuf_of_mem (V d (cV L) (jV L)) oAll.view gathers_S40960x128_S640x128.axis _
    (words_inj (F := F) h hinj L r hn) _ f hmem).trans ?_
  rw [put_at hinj hk]
  obtain ⟨z, -, rfl⟩ := Finset.mem_map.mp hmem
  refine (View.write_emb_of_mem (x := z) _ _ (Finset.mem_univ z)).trans ?_
  show (chunk y L r) _ = _
  unfold chunk
  congr 1
  have h2 := k3_off2_eq L r
  have hemb : ∀ b, ((oAll.view.slice (S40960x128.rowRect gathers_S40960x128_S640x128.axis
      (SparseCore.rows ((lPart r).view.read (Elt F) (lst ix L)) hn (words_lt h L r) k))).emb z b).val
      = ((S40960x128.rowRect gathers_S40960x128_S640x128.axis (SparseCore.rows ((lPart r).view.read (Elt F) (lst ix L)) hn (words_lt h L r) k)).emb z b).val :=
    fun b => congrArg Fin.val (congrFun (oAll_emb _) b)
  funext a
  apply Fin.ext
  match a with
  | 0 =>
    refine (congrArg₂ (fun a b => a + 1 * b) (congrFun h2 0)
      (congrArg Fin.val (Shape.rowRect_emb_axis gathers_S40960x128_S640x128.axis' k _))).trans ?_
    show 2560 * (L 1).val + 1280 * (L 0).val + 640 * r.val + 1 * k.val = 1280 * (2 * (L 1).val + (L 0).val) + 640 * r.val + k.val
    omega
  | 1 =>
    refine (congrArg₂ (fun a b => a + 1 * b) (congrFun h2 1)
      (Shape.rowRect_emb_of_ne (s := S640x128) gathers_S40960x128_S640x128.axis' k _ (b := (1 : Fin 2)) (by decide))).trans
      (Eq.trans ?_ ((hemb 1).trans (Shape.rowRect_emb_of_ne (s := S40960x128) gathers_S40960x128_S640x128.axis _ z (b := (1 : Fin 2)) (by decide))).symm)
    refine (congrArg (fun a => 0 + 1 * a) (Shape.idxEquiv_symm_apply_val (s := S640x128.rowShape gathers_S40960x128_S640x128.axis') _ z (1 : Fin 2))).trans ?_
    show 0 + 1 * (z 1).val = (z 1).val
    omega

/-! ## The subcore's semaphores and scratch buffers -/

abbrev cell (d : Dev nD) (L : grid3.Coords) (s : DmaSem sig) : GSem nD τ sig := (V d (cV L) (jV L), .dma s)

/-- The four cells are among the subcore's own, at zero. -/
theorem ownSems0_V :
    ∃ R : sProp 𝕄, (ownSems0 (V d (cV L) (jV L)) : sProp 𝕄)
      = iprop(semVal (cell d L cc3_scoped0.sem) 0 ∗ semVal (cell d L cc3_scoped1.sem) 0 ∗ semVal (cell d L cc3_scoped2.sem) 0
          ∗ semVal (cell d L cc3_scratch2.sem) 0 ∗ R) := by
  have mem : ∀ s : DmaSem sig, (SemLoc.dma s : SemLoc sig).isScoped .scVector = true → cell d L s ∈ ownCells (V d (cV L) (jV L)) :=
    fun s hs => (mem_ownCells (g := cell d L s)).mpr ⟨rfl, hs⟩
  have ne : ∀ s t : DmaSem sig, s ≠ t → cell d L s ≠ cell d L t := fun s t h e => h (SemLoc.dma.inj (Prod.mk.inj e).2)
  refine ⟨bigSep ((((ownCells (V d (cV L) (jV L))).erase (cell d L cc3_scoped0.sem)).erase (cell d L cc3_scoped1.sem)).erase
    (cell d L cc3_scoped2.sem) |>.erase (cell d L cc3_scratch2.sem)) fun g => semVal g 0, ?_⟩
  unfold SparseCore.Cfg.ownSems0
  have m0 := mem cc3_scoped0.sem (by decide)
  have m1 := Finset.mem_erase.mpr ⟨ne cc3_scoped1.sem cc3_scoped0.sem (by decide), mem cc3_scoped1.sem (by decide)⟩
  have m2 := Finset.mem_erase.mpr ⟨ne cc3_scoped2.sem cc3_scoped1.sem (by decide), Finset.mem_erase.mpr ⟨ne cc3_scoped2.sem cc3_scoped0.sem (by decide), mem cc3_scoped2.sem (by decide)⟩⟩
  have m4 := Finset.mem_erase.mpr ⟨ne cc3_scratch2.sem cc3_scoped2.sem (by decide), Finset.mem_erase.mpr ⟨ne cc3_scratch2.sem cc3_scoped1.sem (by decide),
    Finset.mem_erase.mpr ⟨ne cc3_scratch2.sem cc3_scoped0.sem (by decide), mem cc3_scratch2.sem (by decide)⟩⟩⟩
  rw [SparseCore.bigSep_erase' m0, SparseCore.bigSep_erase' m1, SparseCore.bigSep_erase' m2, SparseCore.bigSep_erase' m4]

/-- The two scratch buffers are among the subcore's own, each whole at some contents. -/
theorem ownBufs_V :
    ∃ R : sProp 𝕄, (ownBufs (V d (cV L) (jV L)) : sProp 𝕄)
      = iprop((∃ f, lM.view.loc (V d (cV L) (jV L)) ↦{fullShare} f) ∗ (∃ f, aM.view.loc (V d (cV L) (jV L)) ↦{fullShare} f) ∗ R) := by
  have ne : ∀ b b' : Ref sig .scVector, b ≠ b' → ((Proc.scVector (cV L) (jV L)).devRef b : DevRef τ sig) ≠ (Proc.scVector (cV L) (jV L)).devRef b' :=
    fun b b' h e => h (Proc.devRef_injective _ e)
  refine ⟨bigSep (((ownRefs (τ := τ) (.scVector (cV L) (jV L))).erase ((Proc.scVector (cV L) (jV L)).devRef cc3_scratch0)).erase
      ((Proc.scVector (cV L) (jV L)).devRef cc3_scratch1))
      fun b => iprop(∃ f, ((d, b) : Loc nD τ sig) ↦{fullShare} f), ?_⟩
  unfold SparseCore.Cfg.ownBufs
  have m0 := SparseCore.Cfg.mem_ownRefs_of_owner (p := Proc.scVector (cV L) (jV L)) (b := (Proc.scVector (cV L) (jV L)).devRef (cc3_scratch0 : Ref sig .scVector)) rfl
  have m1 := Finset.mem_erase.mpr ⟨ne (cc3_scratch1 : Ref sig .scVector) cc3_scratch0 (by decide),
    SparseCore.Cfg.mem_ownRefs_of_owner (p := Proc.scVector (cV L) (jV L)) (b := (Proc.scVector (cV L) (jV L)).devRef (cc3_scratch1 : Ref sig .scVector)) rfl⟩
  refine (SparseCore.bigSep_erase' m0).trans ?_
  rw [SparseCore.bigSep_erase' m1]

/-! ## What the buffers hold on the way -/

/-- The list buffer, written whole with the subcore's part of the list. -/
theorem list_fetched {ix : S32x2x640.Idx → BitVec 32} (f : Buf (Elt F) (lM.view.loc (V d (cV L) (jV L)))) (w : S2x640.Idx → BitVec 32)
    (hw : w = lst ix L) :
    (lM.view.loc (V d (cV L) (jV L)) ↦{fullShare} lM.view.write (Elt F) f w Finset.univ : sProp 𝕄) = lM.view.loc (V d (cV L) (jV L)) ↦{fullShare} lst ix L := by
  subst hw
  congr 1
  exact View.write_whole_univ (Val := Elt F) _ _ _

/-- The row buffer, written whole with a chunk's rows, as the scatter reads it. -/
theorem rows_fetched {y : S40960x128.Idx → Elt F .f32} (r : Fin 2) (f : Buf (Elt F) (aM.view.loc (V d (cV L) (jV L))))
    (w : S640x128.Idx → Elt F .f32) (hw : w = chunk y L r) :
    (aM.view.loc (V d (cV L) (jV L)) ↦{fullShare} aM.view.write (Elt F) f w Finset.univ : sProp 𝕄)
      = aM.view.loc (V d (cV L) (jV L)) ↦[aM.view.set]{fullShare} chunk y L r := by
  subst hw
  rw [View.set_whole]
  congr 1
  exact View.write_whole_univ (Val := Elt F) _ _ _

/-- The row buffer, back from the scatter. -/
theorem rows_back (f : Buf (Elt F) (aM.view.loc (V d (cV L) (jV L)))) :
    (aM.view.loc (V d (cV L) (jV L)) ↦[aM.view.set]{fullShare} f : sProp 𝕄) = aM.view.loc (V d (cV L) (jV L)) ↦{fullShare} f := by
  rw [View.set_whole]

/-- The list buffer is one row of it and the rest. -/
theorem list_split (r : Fin 2) (f : Buf (Elt F) (lM.view.loc (V d (cV L) (jV L)))) :
    (lM.view.loc (V d (cV L) (jV L)) ↦{fullShare} f : sProp 𝕄)
      ⊣⊢ iprop(((lPart r).view.loc (V d (cV L) (jV L)) ↦[(lPart r).view.set]{fullShare} f)
          ∗ lM.view.loc (V d (cV L) (jV L)) ↦[Finset.univ \ (lPart r).view.set]{fullShare} f) :=
  pointsTo_split_subset (Finset.subset_univ _)

/-- The rows a scatter is lent. -/
theorem lend {ix : S32x2x640.Idx → BitVec 32} (h : ∀ j, (ix j).toNat < 40960) (r : Fin 2)
    (hn : S640.numel = S640x128.size gathers_S40960x128_S640x128.axis') (f : Buf (Elt F) (oLoc d)) :
    (oM.view.loc (V d (cV L) (jV L)) ↦[own ix L r]{fullShare} f : sProp 𝕄)
      = oAll.view.loc (V d (cV L) (jV L)) ↦[SparseCore.namedRows (V d (cV L) (jV L)) oAll.view gathers_S40960x128_S640x128.axis
          (SparseCore.rows ((lPart r).view.read (Elt F) (lst ix L)) hn (words_lt h L r))]{fullShare} f := by
  rw [named_eq (F := F) d L h r hn]

/-- The rows a scatter gives back, at what the result holds there. -/
theorem rows_scattered {y : S40960x128.Idx → Elt F .f32} {ix : S32x2x640.Idx → BitVec 32} (h : ∀ j, (ix j).toNat < 40960)
    (hinj : Function.Injective fun j => (ix j).toNat) (r : Fin 2)
    (hn : S640.numel = S640x128.size gathers_S40960x128_S640x128.axis') (f : Buf (Elt F) (oLoc d)) :
    (oAll.view.loc (V d (cV L) (jV L)) ↦[SparseCore.namedRows (V d (cV L) (jV L)) oAll.view gathers_S40960x128_S640x128.axis
          (SparseCore.rows ((lPart r).view.read (Elt F) (lst ix L)) hn (words_lt h L r))]{fullShare}
        SparseCore.scatterBuf (V d (cV L) (jV L)) oAll.view gathers_S40960x128_S640x128.axis
          (SparseCore.rows ((lPart r).view.read (Elt F) (lst ix L)) hn (words_lt h L r))
          (SparseCore.scatterRowPayload (V d (cV L) (jV L)) aM gathers_S40960x128_S640x128 (chunk y L r)) f : sProp 𝕄)
      = oM.view.loc (V d (cV L) (jV L)) ↦[own ix L r]{fullShare} (put y ix : Buf (Elt F) (oLoc d)) := by
  rw [named_eq (F := F) d L h r hn]
  exact pointsTo_congr fun x hx => scattered (F := F) d L h hinj r hn f x hx

/-- What the subcore's task works on: shares of the experts' output and of the list, and the rows it writes. -/
abbrev tileHolds (d : Dev nD) (L : grid3.Coords) (y : S40960x128.Idx → Elt F .f32) (ix : S32x2x640.Idx → BitVec 32) (q qi : PosShare TreeShare)
    (f : S40960x128.Idx → Elt F .f32) : sProp 𝕄 :=
  iprop((yM.view.loc (V d (cV L) (jV L)) ↦{q} y) ∗ (iM.view.loc (V d (cV L) (jV L)) ↦{qi} ix)
    ∗ (oM.view.loc (V d (cV L) (jV L)) ↦[own ix L 0]{fullShare} f)
    ∗ oM.view.loc (V d (cV L) (jV L)) ↦[own ix L 1]{fullShare} f)

theorem credit (d : Dev nD) (L : grid3.Coords) (r : Fin 640 → Fin 40960) :
    ∑ j, (oAll.slice (S40960x128.rowRect gathers_S40960x128_S640x128.axis (r j)) (S40960x128.stride_rowRect gathers_S40960x128_S640x128.axis (r j))).view.dmaCredit
      = aM.view.dmaCredit :=
  SparseCore.sum_scatterCredit_eq_srcCredit (c := V d (cV L) (jV L)) aM oAll gathers_S40960x128_S640x128 rfl r (fun _ => rfl) (fun _ => rfl)

variable [FloatOps F]

set_option maxHeartbeats 4000000 in
/-- The task of vector subcore `(L 0, L 1)`: from shares of the experts' output and of the list and the rows its words
    name at any contents, to the same with those rows at the rows of the experts' output. -/
theorem tile_body (hF : (K (F := F)).Facts) (y : S40960x128.Idx → Elt F .f32) (ix : S32x2x640.Idx → BitVec 32) (hix : ∀ j, (ix j).toNat < 40960)
    (hinj : Function.Injective fun j => (ix j).toNat) (q qi : PosShare TreeShare) (f0 : S40960x128.Idx → Elt F .f32)
    (O : CellTallies nD τ sig (HIx 2)) (W : Waits sig (HIx 2)) (hO : ∀ g, O g none = 0) :
    iprop(levAts (K (F := F)).L (K (F := F)).lev ∗ emp
        ∗ tileHolds d L y ix q qi f0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3_k L yM (Memref.isWhole_whole _) iM (Memref.isWhole_whole _) oM (Memref.isWhole_whole _)
            lM (Memref.isWhole_whole _) aM (Memref.isWhole_whole _) cc3_scratch2 cc3_scoped0 cc3_scoped1 cc3_scoped2)
          fun _ => iprop(tileHolds d L y ix q qi (put y ix)
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hRS⟩ := ownSems0_V (F := F) d L
  obtain ⟨RB, hRB⟩ := ownBufs_V (F := F) d L
  rw [cc3_k_eq_skeleton]; unfold cc3_k_skel
  rw [k3_part1_eq_skeleton]; unfold k3_part1_skel
  rw [(K (F := F)).scopedBufs_V hF d (cV L) (jV L), SparseCore.Cfg.scopedSems0_V (Val := Elt F) d (cV L) (jV L), hRS, hRB]
  iintro ⟨#Hlv, -, ⟨Hy, Hi, Ho0, Ho1⟩, ⟨⟨%fl, Hl⟩, ⟨%fa, Ha⟩, HRB⟩, ⟨Hs0, Hs1, Hs2, HsA, HRS⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  sl_exec
  ihave Hl := (Entails.of_eq (list_fetched (F := F) (ix := ix) d L fl (tile_body.sl.dma0 (F := F) L ix) (read_iPart (F := F) ix L))) $$ Hl
  ihave Ha := (Entails.of_eq (rows_fetched (F := F) (y := y) d L 0 fa (tile_body.sl.dma0_1 (F := F) L y) (read_yPart (F := F) y L 0))) $$ Ha
  ihave Hl := (list_split (F := F) d L 0 (lst ix L)).1 $$ Hl
  icases Hl with ⟨Hl, Hlr⟩
  ihave Ho0 := (Entails.of_eq (lend (F := F) d L hix 0 rfl f0)) $$ Ho0
  iapply (SparseCore.wp_indirectScatterLocal countersEmb 𝒱₀ (V d (cV L) (jV L)) none (hg := gathers_S40960x128_S640x128) (default : HIx 2)
      aM.view.dmaCredit (by decide) (words_lt hix L 0) (words_inj hix hinj L 0 rfl) (credit d L _)) $$ [Ha Ho0 Hl HsA]
  · isplitl [Ha]; · iexact Ha
    isplitl [Ho0]; · iexact Ho0
    isplitl [Hl]; · iexact Hl
    iexact HsA
  iintro HfA
  sl_exec
  iapply (Transfers.wp_waitLocalO countersEmb 𝒱₀ (V d (cV L) (jV L)) none (default : HIx 2) (rfl : aM.view.dmaCredit = _)) $$ [HfA HO]
  · isplitl [HfA]; · iexact HfA
    isplitl [HO]; · iexact HO
    iapply (Transfers.MayWaits.elim (SemLoc.dma cc3_scratch2.sem)) $$ Hmw
  iintro ⟨⟨Ho0, Ha, Hl⟩, HsA, HO⟩
  ihave Ho0 := (Entails.of_eq (rows_scattered (F := F) (y := y) d L hix hinj 0 rfl f0)) $$ Ho0
  ihave Ha := (Entails.of_eq (rows_back (F := F) d L _)) $$ Ha
  ihave Hl := (list_split (F := F) d L 0 (lst ix L)).2 $$ [Hl Hlr]
  · isplitl [Hl]; · iexact Hl
    iexact Hlr
  sl_exec
  ihave Ha := (Entails.of_eq (rows_fetched (F := F) (y := y) d L 1 (chunk y L 0) (tile_body.sl.dma0_2 (F := F) L y) (read_yPart (F := F) y L 1))) $$ Ha
  ihave Hl := (list_split (F := F) d L 1 (lst ix L)).1 $$ Hl
  icases Hl with ⟨Hl, Hlr⟩
  ihave Ho1 := (Entails.of_eq (lend (F := F) d L hix 1 rfl f0)) $$ Ho1
  iapply (SparseCore.wp_indirectScatterLocal countersEmb 𝒱₀ (V d (cV L) (jV L)) none (hg := gathers_S40960x128_S640x128) (default : HIx 2)
      aM.view.dmaCredit (by decide) (words_lt hix L 1) (words_inj hix hinj L 1 rfl) (credit d L _)) $$ [Ha Ho1 Hl HsA]
  · isplitl [Ha]; · iexact Ha
    isplitl [Ho1]; · iexact Ho1
    isplitl [Hl]; · iexact Hl
    iexact HsA
  iintro HfA
  sl_exec
  iapply (Transfers.wp_waitLocalO countersEmb 𝒱₀ (V d (cV L) (jV L)) none (default : HIx 2) (rfl : aM.view.dmaCredit = _)) $$ [HfA HO]
  · isplitl [HfA]; · iexact HfA
    isplitl [HO]; · iexact HO
    iapply (Transfers.MayWaits.elim (SemLoc.dma cc3_scratch2.sem)) $$ Hmw
  iintro ⟨⟨Ho1, Ha, Hl⟩, HsA, HO⟩
  ihave Ho1 := (Entails.of_eq (rows_scattered (F := F) (y := y) d L hix hinj 1 rfl f0)) $$ Ho1
  ihave Ha := (Entails.of_eq (rows_back (F := F) d L _)) $$ Ha
  ihave Hl := (list_split (F := F) d L 1 (lst ix L)).2 $$ [Hl Hlr]
  · isplitl [Hl]; · iexact Hl
    iexact Hlr
  sl_exec
  sl_step
  isplitl [Hy Hi Ho0 Ho1]
  · isplitl [Hy]; · iexact Hy
    isplitl [Hi]; · iexact Hi
    isplitl [Ho0]; · iexact Ho0
    iexact Ho1
  isplitl [Hl Ha HRB]
  · isplitl [Hl]; · iexists _; iexact Hl
    isplitl [Ha]; · iexists _; iexact Ha
    iexact HRB
  isplitl [Hs0 Hs1 Hs2 HsA HRS]
  · isplitl [Hs0]; · iexact Hs0
    isplitl [Hs1]; · iexact Hs1
    isplitl [Hs2]; · iexact Hs2
    isplitl [HsA]; · iexact HsA
    iexact HRS
  iexists _; isplitr
  swap; · iexact HO
  ipureintro; intro p hp
  repeat (rcases Finset.mem_insert.mp hp with hp | hp; · exact .inr (hp ▸ rfl))
  exact .inl hp

end Cert.Proof.Moe.Scatter

end
-- ==== Proof.Moe.Parts.lean ====
/-
  The mixture of experts: what each SparseCore call is handed, cut into its 32 subcores' parts and put together again. The
  two arrays a call only reads go out in 32 shares; its output goes out in 64 disjoint parts, two to a subcore — for the
  gather two runs of 640 rows, for the scatter the rows that the subcore's two runs of 640 words name.
-/
module

public import proofs.«01_k».proof.Proof.Moe.Gather
public import proofs.«01_k».proof.Proof.Moe.Scatter

@[expose] public section

noncomputable section

namespace Cert.Proof.Moe

open Cert.KernelIdeal Cert.KernelIdeal.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- The share of an array that is only read which a subcore reads from. -/
def share (c : Fin 2) (s : Fin 16) : PosShare TreeShare := Transfers.shareTok fullShare (2 * 16) (finProdFinEquiv (c, s))
/-- What no subcore takes of it. -/
abbrev kept : PosShare TreeShare := Transfers.shareDrop fullShare (2 * 16)

/-- A whole array is the subcores' shares and what is kept. -/
theorem shares (ℓ : Loc nD τ sig) (f : Buf (Elt F) ℓ) :
    (ℓ ↦{fullShare} f : sProp 𝕄) = iprop((ℓ ↦{kept} f) ∗ bigSep Finset.univ fun c : Fin 2 => bigSep Finset.univ fun s : Fin 16 => ℓ ↦{share c s} f) := by
  have h : (ℓ ↦{fullShare} f : sProp 𝕄) = _ :=
    Entails.antisymm (Transfers.pointsTo_toks fullShare (2 * 16)).1 (Transfers.pointsTo_toks fullShare (2 * 16)).2
  rw [h, BI.bigSep_univ_equiv finProdFinEquiv, BI.bigSep_univ_prod]
  rfl

theorem pair (Φ : Fin 2 → sProp 𝕄) : bigSep Finset.univ Φ = iprop(Φ 0 ∗ Φ 1) := by
  rw [show (Finset.univ : Finset (Fin 2)) = {0, 1} from by decide, SparseCore.bigSep_insert' (by decide), bigSep_singleton]

/-- An array cut into two parts for every subcore. -/
theorem cut (ℓ : Loc nD τ sig) (f : Buf (Elt F) ℓ) (part : Fin 2 × Fin 16 × Fin 2 → Finset (Idx ℓ))
    (hd : ∀ t ∈ (Finset.univ : Finset (Fin 2 × Fin 16 × Fin 2)), ∀ t' ∈ (Finset.univ : Finset (Fin 2 × Fin 16 × Fin 2)), t ≠ t' → Disjoint (part t) (part t'))
    (hc : (Finset.univ : Finset (Fin 2 × Fin 16 × Fin 2)).biUnion part = Finset.univ) :
    (ℓ ↦{fullShare} f : sProp 𝕄) = bigSep Finset.univ fun c : Fin 2 => bigSep Finset.univ fun s : Fin 16 =>
      iprop((ℓ ↦[part (c, s, 0)]{fullShare} f) ∗ ℓ ↦[part (c, s, 1)]{fullShare} f) := by
  have h : (ℓ ↦{fullShare} f : sProp 𝕄) = bigSep Finset.univ fun t => ℓ ↦[part t]{fullShare} f := by
    rw [← pointsTo_biUnion Finset.univ (ℓ := ℓ) part hd, hc]
  rw [h, BI.bigSep_univ_prod]
  exact bigSep_congr fun c _ => (BI.bigSep_univ_prod _).trans (bigSep_congr fun s _ => pair _)

/-- Two arrays in shares and one in parts, gathered subcore by subcore. -/
theorem deal (A B X Y Z : sProp 𝕄) : iprop((A ∗ X) ∗ (B ∗ Y) ∗ Z) = iprop((A ∗ B) ∗ X ∗ Y ∗ Z) := by
  have h : iprop((A ∗ X) ∗ (B ∗ Y) ∗ Z) ⊢ iprop((A ∗ B) ∗ X ∗ Y ∗ Z) := by
    iintro ⟨⟨HA, HX⟩, ⟨HB, HY⟩, HZ⟩
    isplitl [HA HB]
    · isplitl [HA] <;> iassumption
    isplitl [HX]; · iexact HX
    isplitl [HY] <;> iassumption
  have h' : iprop((A ∗ B) ∗ X ∗ Y ∗ Z) ⊢ iprop((A ∗ X) ∗ (B ∗ Y) ∗ Z) := by
    iintro ⟨⟨HA, HB⟩, HX, HY, HZ⟩
    isplitl [HA HX]
    · isplitl [HA] <;> iassumption
    isplitl [HB HY]
    · isplitl [HB] <;> iassumption
    iexact HZ
  exact Entails.antisymm h h'

/-! ## The gather's output -/

namespace Gather

/-- Subcore `(c, s)` of the gather's grid. -/
def at' (c : Fin 2) (s : Fin 16) : grid1.Coords := fun | 0 => c | 1 => s | ⟨_ + 2, h⟩ => absurd h (Nat.not_lt.2 (Nat.le_add_left _ _))

/-- The cells of its run `r` of rows. -/
def part (t : Fin 2 × Fin 16 × Fin 2) : Finset S40960x128.Idx := (oRect (at' t.1 t.2.1) t.2.2).set

theorem mem_part (t : Fin 2 × Fin 16 × Fin 2) (x : S40960x128.Idx) : x ∈ part t ↔ (x 0).val / 640 = 4 * t.2.1.val + 2 * t.1.val + t.2.2.val := by
  unfold part
  rw [Rect.mem_set_unit]
  have h2 := k1_off2_eq (at' t.1 t.2.1) t.2.2
  have e0 : k1_off2 (at' t.1 t.2.1) (BitVec.ofNat 32 (640 * t.2.2.val)) 0 = 2560 * t.2.1.val + 1280 * t.1.val + 640 * t.2.2.val := congrFun h2 0
  have e1 : k1_off2 (at' t.1 t.2.1) (BitVec.ofNat 32 (640 * t.2.2.val)) 1 = 0 := congrFun h2 1
  constructor
  · intro h
    have h := h 0
    rw [e0] at h
    have : (x 0).val < 2560 * t.2.1.val + 1280 * t.1.val + 640 * t.2.2.val + 640 := h.2
    omega
  · intro h a
    match a with
    | 0 =>
      show k1_off2 (at' t.1 t.2.1) (BitVec.ofNat 32 (640 * t.2.2.val)) 0 ≤ (x 0).val
        ∧ (x 0).val < k1_off2 (at' t.1 t.2.1) (BitVec.ofNat 32 (640 * t.2.2.val)) 0 + 640
      rw [e0]; omega
    | 1 =>
      show k1_off2 (at' t.1 t.2.1) (BitVec.ofNat 32 (640 * t.2.2.val)) 1 ≤ (x 1).val
        ∧ (x 1).val < k1_off2 (at' t.1 t.2.1) (BitVec.ofNat 32 (640 * t.2.2.val)) 1 + 128
      rw [e1]; have : (x 1).val < 128 := (x 1).isLt; omega

theorem part_disjoint : ∀ t ∈ (Finset.univ : Finset (Fin 2 × Fin 16 × Fin 2)), ∀ t' ∈ (Finset.univ : Finset (Fin 2 × Fin 16 × Fin 2)),
    t ≠ t' → Disjoint (part t) (part t') := by
  rintro ⟨c, s, r⟩ - ⟨c', s', r'⟩ - hne
  refine Finset.disjoint_left.mpr fun x hx hx' => hne ?_
  have h := (mem_part _ x).mp hx
  have h' := (mem_part _ x).mp hx'
  simp only at h h'
  rw [Fin.ext (show c.val = c'.val by omega), Fin.ext (show s.val = s'.val by omega), Fin.ext (show r.val = r'.val by omega)]

theorem part_cover : (Finset.univ : Finset (Fin 2 × Fin 16 × Fin 2)).biUnion part = Finset.univ := by
  refine Finset.eq_univ_iff_forall.mpr fun x => Finset.mem_biUnion.mpr ?_
  have hx : (x 0).val < 40960 := (x 0).isLt
  refine ⟨(⟨(x 0).val / 640 / 2 % 2, by omega⟩, ⟨(x 0).val / 640 / 4, by omega⟩, ⟨(x 0).val / 640 % 2, by omega⟩), Finset.mem_univ _, (mem_part _ x).mpr ?_⟩
  show _ = 4 * ((x 0).val / 640 / 4) + 2 * ((x 0).val / 640 / 2 % 2) + (x 0).val / 640 % 2
  omega

theorem oSet_eq (c : Fin 2) (s : Fin 16) (r : Fin 2) : (oPart (at' c s) r).view.set = part (c, s, r) := by
  show ((View.whole (main_v99_scv : Ref sig .scVector)).slice (oRect (at' c s) r)).set = _
  rw [View.set_slice]; exact Finset.map_refl

/-- The gather's three arrays, whole, are the subcores' parts and what is kept of the two that are only read. -/
theorem split (d : Dev nD) (tb : S32768x128.Idx → Elt F .f32) (ix : S40960.Idx → BitVec 32) (f : S40960x128.Idx → Elt F .f32) :
    (iprop((tLoc d ↦{fullShare} tb) ∗ (iLoc d ↦{fullShare} ix) ∗ (oLoc d ↦{fullShare} f)) : sProp 𝕄)
      = iprop(((tLoc d ↦{kept} tb) ∗ (iLoc d ↦{kept} ix))
        ∗ bigSep Finset.univ fun c : Fin 2 => bigSep Finset.univ fun s : Fin 16 => tileHolds d (at' c s) tb ix (share c s) (share c s) f) := by
  have ht : ∀ (c : Fin 2) (s : Fin 16), tileHolds d (at' c s) tb ix (share c s) (share c s) f
      = (iprop((tLoc d ↦{share c s} tb) ∗ (iLoc d ↦{share c s} ix) ∗ (oLoc d ↦[part (c, s, 0)]{fullShare} f) ∗ (oLoc d ↦[part (c, s, 1)]{fullShare} f)) : sProp 𝕄) := by
    intro c s
    rw [← oSet_eq, ← oSet_eq]
    rfl
  have hs : ∀ c : Fin 2, (bigSep Finset.univ fun s : Fin 16 => tileHolds d (at' c s) tb ix (share c s) (share c s) f)
      = (iprop((bigSep Finset.univ fun s : Fin 16 => tLoc d ↦{share c s} tb) ∗ (bigSep Finset.univ fun s : Fin 16 => iLoc d ↦{share c s} ix)
        ∗ bigSep Finset.univ fun s : Fin 16 => iprop((oLoc d ↦[part (c, s, 0)]{fullShare} f) ∗ (oLoc d ↦[part (c, s, 1)]{fullShare} f))) : sProp 𝕄) := by
    intro c
    rw [bigSep_congr fun s _ => ht c s, bigSep_sep', bigSep_sep']
  rw [bigSep_congr fun c _ => hs c, bigSep_sep', bigSep_sep', shares (tLoc d), shares (iLoc d), cut (oLoc d) f part part_disjoint part_cover]
  exact deal _ _ _ _ _

end Gather

/-! ## The scatter's output -/

namespace Scatter

/-- Subcore `(c, s)` of the scatter's grid. -/
def at' (c : Fin 2) (s : Fin 16) : grid3.Coords := fun | 0 => c | 1 => s | ⟨_ + 2, h⟩ => absurd h (Nat.not_lt.2 (Nat.le_add_left _ _))

variable {ix : S32x2x640.Idx → BitVec 32}

/-- The cells of the rows its run `r` of words names. -/
def part (ix : S32x2x640.Idx → BitVec 32) (t : Fin 2 × Fin 16 × Fin 2) : Finset S40960x128.Idx := own ix (at' t.1 t.2.1) t.2.2

theorem part_disjoint (hinj : Function.Injective fun j => (ix j).toNat) : ∀ t ∈ (Finset.univ : Finset (Fin 2 × Fin 16 × Fin 2)),
    ∀ t' ∈ (Finset.univ : Finset (Fin 2 × Fin 16 × Fin 2)), t ≠ t' → Disjoint (part ix t) (part ix t') := by
  rintro ⟨c, s, r⟩ - ⟨c', s', r'⟩ - hne
  refine Finset.disjoint_left.mpr fun x hx hx' => hne ?_
  obtain ⟨k, h⟩ := mem_own.mp hx
  obtain ⟨k', h'⟩ := mem_own.mp hx'
  have e := hinj (h.trans h'.symm)
  have e0 : 2 * s.val + c.val = 2 * s'.val + c'.val := congrArg Fin.val (congrFun e 0)
  have e1 : r = r' := congrFun e 1
  rw [Fin.ext (show c.val = c'.val by omega), Fin.ext (show s.val = s'.val by omega), e1]

/-- A list of as many distinct rows as there are names every row. -/
theorem all_named (hlt : ∀ j, (ix j).toNat < 40960) (hinj : Function.Injective fun j => (ix j).toNat) (n : Fin 40960) : ∃ j, (ix j).toNat = n.val := by
  have hb : Function.Bijective (fun j : S32x2x640.Idx => (⟨(ix j).toNat, hlt j⟩ : Fin 40960)) := by
    refine (Fintype.bijective_iff_injective_and_card _).mpr ⟨fun j j' e => hinj (show (ix j).toNat = (ix j').toNat from congrArg (fun n : Fin 40960 => n.val) e), ?_⟩
    exact Fintype.card_congr S32x2x640.rowMajor
  obtain ⟨j, hj⟩ := hb.2 n
  exact ⟨j, congrArg Fin.val hj⟩

theorem part_cover (hlt : ∀ j, (ix j).toNat < 40960) (hinj : Function.Injective fun j => (ix j).toNat) :
    (Finset.univ : Finset (Fin 2 × Fin 16 × Fin 2)).biUnion (part ix) = Finset.univ := by
  refine Finset.eq_univ_iff_forall.mpr fun x => Finset.mem_biUnion.mpr ?_
  obtain ⟨j, hj⟩ := all_named hlt hinj ⟨(x 0).val, (x 0).isLt⟩
  have h0 : (j 0).val < 32 := (j 0).isLt
  refine ⟨(⟨(j 0).val % 2, by omega⟩, ⟨(j 0).val / 2, by omega⟩, j 1), Finset.mem_univ _, mem_own.mpr ⟨j 2, (congrArg (fun i => (ix i).toNat) ?_).trans hj⟩⟩
  funext a
  match a with
  | 0 => apply Fin.ext; show 2 * ((j 0).val / 2) + (j 0).val % 2 = (j 0).val; omega
  | 1 => rfl
  | 2 => rfl

/-- The scatter's three arrays, whole, are the subcores' parts and what is kept of the two that are only read. -/
theorem split (hlt : ∀ j, (ix j).toNat < 40960) (hinj : Function.Injective fun j => (ix j).toNat) (d : Dev nD)
    (y : S40960x128.Idx → Elt F .f32) (f : S40960x128.Idx → Elt F .f32) :
    (iprop((yLoc d ↦{fullShare} y) ∗ (iLoc d ↦{fullShare} ix) ∗ (oLoc d ↦{fullShare} f)) : sProp 𝕄)
      = iprop(((yLoc d ↦{kept} y) ∗ (iLoc d ↦{kept} ix))
        ∗ bigSep Finset.univ fun c : Fin 2 => bigSep Finset.univ fun s : Fin 16 => tileHolds d (at' c s) y ix (share c s) (share c s) f) := by
  have ht : ∀ (c : Fin 2) (s : Fin 16), tileHolds d (at' c s) y ix (share c s) (share c s) f
      = (iprop((yLoc d ↦{share c s} y) ∗ (iLoc d ↦{share c s} ix) ∗ (oLoc d ↦[part ix (c, s, 0)]{fullShare} f) ∗ (oLoc d ↦[part ix (c, s, 1)]{fullShare} f)) : sProp 𝕄) :=
    fun c s => rfl
  have hs : ∀ c : Fin 2, (bigSep Finset.univ fun s : Fin 16 => tileHolds d (at' c s) y ix (share c s) (share c s) f)
      = (iprop((bigSep Finset.univ fun s : Fin 16 => yLoc d ↦{share c s} y) ∗ (bigSep Finset.univ fun s : Fin 16 => iLoc d ↦{share c s} ix)
        ∗ bigSep Finset.univ fun s : Fin 16 => iprop((oLoc d ↦[part ix (c, s, 0)]{fullShare} f) ∗ (oLoc d ↦[part ix (c, s, 1)]{fullShare} f))) : sProp 𝕄) := by
    intro c
    rw [bigSep_congr fun s _ => ht c s, bigSep_sep', bigSep_sep']
  rw [bigSep_congr fun c _ => hs c, bigSep_sep', bigSep_sep', shares (yLoc d), shares (iLoc d), cut (oLoc d) f (part ix) (part_disjoint hinj) (part_cover hlt hinj)]
  exact deal _ _ _ _ _

end Scatter

end Cert.Proof.Moe

end
-- ==== Proof.Moe.Steps.lean ====
/-
  The mixture of experts: the host thread, step by step. Its arrays go through nine valuations: at launch, after the
  router's region, after the routing's host code, after the gather, after the host code before the experts, after the
  experts' region, after the host code before the scatter, after the scatter, and at the end.
-/
module

public import proofs.«01_k».proof.Proof.Moe.Region
public import proofs.«01_k».proof.Proof.Moe.Router
public import proofs.«01_k».proof.Proof.Moe.Experts
public import proofs.«01_k».proof.Proof.Moe.Keep
public import proofs.«01_k».proof.Proof.Moe.Parts

@[expose] public section

noncomputable section

namespace Cert.Proof.Moe

open Cert.KernelIdeal Cert.KernelIdeal.Gen

open Idealize.ShloMosaic Idealize.ShloMosaic.TcCoe
open Idealize.ShloMosaic.SparseCore (T)
open Idealize.ShloMosaic.SparseCore.Cfg (HIx Pay)
open Idealize.ShloMosaic.StableHlo (held after seq)
open Idealize.ShloMosaic.Pipeline (Dat afterRegion arrRefs tblRefs arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (a : (p : Fin 2) → (pcfgs (F := F) p).Adm) (W : ℕ → Dev nD → Valuation τ sig (Elt F))

/-- What each step leaves in the arrays, and what the two lists must be for the SparseCore calls to run. -/
structure Chain : Prop where
  router : ∀ d, W 1 d = afterRegion (rdat (W 0 d) iprop(emp) d) (W 0 d)
  routing : ∀ d, W 2 d = after ops1 (W 1 d)
  gather : ∀ d, W 3 d = Function.update (W 2 d) (main_v99 : DevRef τ sig)
    (Gather.pick (W 2 d (main_v89 : DevRef τ sig) : Vec F S32768x128 .f32) (W 2 d (main_v98 : DevRef τ sig) : IVec S40960 32))
  before : ∀ d, W 4 d = after ops2 (W 3 d)
  table : ∀ d k, (a 1).1 k = W 4 d (Proc.devRef .tc ((pcfgs (F := F) 1).pre.ref k))
  experts : ∀ d, W 5 d = afterRegion (xdat (a 1) (W 4 d) iprop(emp) d) (W 4 d)
  between : ∀ d, W 6 d = after ops3 (W 5 d)
  scatter : ∀ d, W 7 d = Function.update (W 6 d) (main_v116 : DevRef τ sig)
    (Scatter.put (W 6 d (main_v105 : DevRef τ sig) : Vec F S40960x128 .f32) (W 6 d (main_v115 : DevRef τ sig) : IVec S32x2x640 32))
  last : ∀ d, W 8 d = after ops4 (W 7 d)
  reads : ∀ d j, ((W 2 d (main_v98 : DevRef τ sig) : IVec S40960 32) j).toNat < 32768
  writes : ∀ d j, ((W 6 d (main_v115 : DevRef τ sig) : IVec S32x2x640 32) j).toNat < 40960
  apart : ∀ d, Function.Injective fun j => ((W 6 d (main_v115 : DevRef τ sig) : IVec S32x2x640 32) j).toNat

/-! ## The regions -/

/-- What is left of a region's scoped storage beside its staging buffers, and its tables. -/
abbrev beside (p : Fin 2) (c : Dev nD) : sProp 𝕄 :=
  iprop(Pipeline.scopedRest (Pipeline.pin (pcfgs (F := F)) a p).spec c ∗ Pipeline.tablesAt (pcfgs (F := F)) a p c)

set_option backward.isDefEq.respectTransparency.types false in
/-- The two regions' proof data. -/
def pdats : (p : Fin 2) → (c : Dev nD) → Dat τ (Elt F) (HIx 2) ℕ UU ℕ (Pipeline.pin (pcfgs (F := F)) a p) c
  | ⟨0, _⟩, c => rdat (W 0 c) (beside a 0 c) c
  | ⟨1, _⟩, c => xdat (a 1) (W 4 c) (beside a 1 c) c

set_option backward.isDefEq.respectTransparency.types false in
theorem afterRegion_router (V : Valuation τ sig (Elt F)) (Ψ Ψ' : sProp 𝕄) (c : Dev nD) : afterRegion (rdat V Ψ c) V = afterRegion (rdat V Ψ' c) V := by
  have h : ∀ w n, (rdat V Ψ c).arrAt w n = (rdat V Ψ' c).arrAt w n := by
    intro w n
    induction n with
    | zero => rfl
    | succ n ih => unfold Pipeline.Dat.arrAt; rw [ih]; rfl
  funext b
  unfold Pipeline.afterRegion
  simp only [h]

set_option backward.isDefEq.respectTransparency.types false in
theorem afterRegion_experts (x : (pcfg2 (F := F)).Adm) (V : Valuation τ sig (Elt F)) (Ψ Ψ' : sProp 𝕄) (c : Dev nD) :
    afterRegion (xdat x V Ψ c) V = afterRegion (xdat x V Ψ' c) V := by
  have h : ∀ w n, (xdat x V Ψ c).arrAt w n = (xdat x V Ψ' c).arrAt w n := by
    intro w n
    induction n with
    | zero => rfl
    | succ n ih => unfold Pipeline.Dat.arrAt; rw [ih]; rfl
  funext b
  unfold Pipeline.afterRegion
  simp only [h]

theorem shareR (V : Valuation τ sig (Elt F)) (Ψ : sProp 𝕄) (c : Dev nD) (w : Fin 10) : (rdat V Ψ c).share w = fullShare := by
  unfold Pipeline.Dat.share; split <;> rfl

theorem shareX (x : (pcfg2 (F := F)).Adm) (V : Valuation τ sig (Elt F)) (Ψ : sProp 𝕄) (c : Dev nD) (w : Fin 8) : (xdat x V Ψ c).share w = fullShare := by
  unfold Pipeline.Dat.share; split <;> rfl

/-- The ghost state a device's two regions start from. -/
abbrev regionGhost (d : Dev nD) : sProp 𝕄 :=
  iprop((bigSep Finset.univ fun p : Fin 2 => Pipeline.cellsGhost (Pipeline.pin (pcfgs (F := F)) a) (EP (F := F)) p d)
    ∗ bigSep Finset.univ fun p : Fin 2 => Pipeline.toksInit (Pipeline.pin (pcfgs (F := F)) a) (EP (F := F)) p d)

/-- The host thread's state before call `n`, what it owes apart. -/
theorem tcSt_open (d : Dev nD) (n : ℕ) : ∃ R : sProp 𝕄, (K (F := F)).tcSt EH d n = iprop(owing (F := F) d n ∗ R) := ⟨_, rfl⟩

set_option backward.isDefEq.respectTransparency.types false in
theorem router_step [∀ e, Nonempty (Elt F e)] (h : Chain a W) {P : (K (F := F)).Pay (nD := nD) (Val := Elt F) (Name := ℕ) (U := UU)} (κ : GSem nD τ sig → ℕ) (d : Dev nD)
    (Q : PUnit → sProp 𝕄) :
    iprop((K (F := F)).ctx EH P κ ∗ (K (F := F)).tcSt EH d 0 ∗ boundary (T d) ∗ held (T d) UC (W 0 d)
        ∗ Pipeline.cellsGhost (Pipeline.pin (pcfgs (F := F)) a) (EP (F := F)) 0 d ∗ Pipeline.toksInit (Pipeline.pin (pcfgs (F := F)) a) (EP (F := F)) 0 d
        ∗ (iprop((K (F := F)).tcSt EH d 0 ∗ boundary (T d) ∗ held (T d) UC (W 1 d)) -∗ Q ⟨⟩))
      ⊢ wp frame (wpE ((K (F := F)).defs (D (F := F))) 𝒱 (T d) none) Set.univ (Prog.lift (.customCall (SparseCore.inner (Pipeline.entry 0)) ())) Q := by
  obtain ⟨R, hR⟩ := tcSt_open (F := F) d 0
  have e : afterRegion (pdats a W 0 d) (W 0 d) = W 1 d := (afterRegion_router (W 0 d) _ _ d).trans (h.router d).symm
  rw [hR, ← e]
  iintro ⟨#Hctx, ⟨HO, HR⟩, Hb, Hh, Hc, Ht, Hk⟩
  ihave #Hl := (SparseCore.Cfg.ctx_levAts κ) $$ Hctx
  iapply (region_wp a (pdats a W) 0 0 launch0 (fun c => (router_obligation (W 0 c) (beside a 0 c) c).loose) (fun _ _ => rfl) (fun _ _ => rfl) (fun c w => shareR (W 0 c) _ c w)
    (fun _ _ => rfl) (W 0) (fun _ _ => rfl) (fun _ k => k.elim0)
    (Pipeline.arrRefs_sub_ucRefs spec0 (by decide)) (Pipeline.tblRefs_sub_ucRefs _ fun k => k.elim0) d Q) $$ [HO HR Hb Hh Hc Ht Hk]
  isplitl [Hk HR]
  · iintro ⟨Hb, Hh, HO⟩
    iapply Hk
    isplitl [HO HR]
    · isplitl [HO] <;> iassumption
    isplitl [Hb] <;> iassumption
  isplitl [Hb]; · iexact Hb
  isplitl [Hh]; · iexact Hh
  isplitl [HO]; · iexact HO
  isplitr; · iexact Hl
  isplitl [Hc] <;> iassumption

set_option backward.isDefEq.respectTransparency.types false in
theorem experts_step [∀ e, Nonempty (Elt F e)] (h : Chain a W) {P : (K (F := F)).Pay (nD := nD) (Val := Elt F) (Name := ℕ) (U := UU)} (κ : GSem nD τ sig → ℕ) (d : Dev nD)
    (Q : PUnit → sProp 𝕄) :
    iprop((K (F := F)).ctx EH P κ ∗ (K (F := F)).tcSt EH d 1 ∗ boundary (T d) ∗ held (T d) UC (W 4 d)
        ∗ Pipeline.cellsGhost (Pipeline.pin (pcfgs (F := F)) a) (EP (F := F)) 1 d ∗ Pipeline.toksInit (Pipeline.pin (pcfgs (F := F)) a) (EP (F := F)) 1 d
        ∗ (iprop((K (F := F)).tcSt EH d 1 ∗ boundary (T d) ∗ held (T d) UC (W 5 d)) -∗ Q ⟨⟩))
      ⊢ wp frame (wpE ((K (F := F)).defs (D (F := F))) 𝒱 (T d) none) Set.univ (Prog.lift (.customCall (SparseCore.inner (Pipeline.entry 1)) ())) Q := by
  obtain ⟨R, hR⟩ := tcSt_open (F := F) d 1
  have e : afterRegion (pdats a W 1 d) (W 4 d) = W 5 d := (afterRegion_experts (a 1) (W 4 d) _ _ d).trans (h.experts d).symm
  rw [hR, ← e]
  iintro ⟨#Hctx, ⟨HO, HR⟩, Hb, Hh, Hc, Ht, Hk⟩
  ihave #Hl := (SparseCore.Cfg.ctx_levAts κ) $$ Hctx
  iapply (region_wp a (pdats a W) 1 1 launch2 (fun c => (expert_obligation (a 1) (W 4 c) (beside a 1 c) c).loose) (fun _ _ => rfl) (fun _ _ => rfl) (fun c w => shareX (a 1) (W 4 c) _ c w)
    (fun _ _ => rfl) (W 4) (fun _ _ => rfl) h.table
    (Pipeline.arrRefs_sub_ucRefs spec2 (by decide)) (Pipeline.tblRefs_sub_ucRefs pre2 (by decide)) d Q) $$ [HO HR Hb Hh Hc Ht Hk]
  isplitl [Hk HR]
  · iintro ⟨Hb, Hh, HO⟩
    iapply Hk
    isplitl [HO HR]
    · isplitl [HO] <;> iassumption
    isplitl [Hb] <;> iassumption
  isplitl [Hb]; · iexact Hb
  isplitl [Hh]; · iexact Hh
  isplitl [HO]; · iexact HO
  isplitr; · iexact Hl
  isplitl [Hc] <;> iassumption

end Cert.Proof.Moe

end
-- ==== Proof.Moe.Launch.lean ====
/-
  The mixture of experts: the launch. Given the nine valuations, the whole program runs to an end, every array the host
  thread holds ends at the last valuation, and every semaphore is back at zero.
-/
module

public import proofs.«01_k».proof.Proof.Moe.Steps
public import proofs.«01_k».proof.Proof.Moe.Ops

@[expose] public section

noncomputable section

namespace Cert.Proof.Moe

open Cert.KernelIdeal Cert.KernelIdeal.Gen

open Idealize.ShloMosaic Idealize.ShloMosaic.TcCoe
open Idealize.ShloMosaic.SparseCore (T)
open Idealize.ShloMosaic.SparseCore.Cfg (HIx Pay)
open Idealize.ShloMosaic.StableHlo (held after seq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (a : (p : Fin 2) → (pcfgs (F := F) p).Adm) (W : ℕ → Dev nD → Valuation τ sig (Elt F))

/-! ## What the calls are handed -/

/-- The gather's table and list, its output before and after; the scatter's rows and list, its output before and after. -/
abbrev gTab (d : Dev nD) : S32768x128.Idx → Elt F .f32 := W 2 d (main_v89 : DevRef τ sig)
abbrev gList (d : Dev nD) : S40960.Idx → BitVec 32 := W 2 d (main_v98 : DevRef τ sig)
abbrev gOut (d : Dev nD) : S40960x128.Idx → Elt F .f32 := W 2 d (main_v99 : DevRef τ sig)
abbrev sRows (d : Dev nD) : S40960x128.Idx → Elt F .f32 := W 6 d (main_v105 : DevRef τ sig)
abbrev sList (d : Dev nD) : S32x2x640.Idx → BitVec 32 := W 6 d (main_v115 : DevRef τ sig)
abbrev sOut (d : Dev nD) : S40960x128.Idx → Elt F .f32 := W 6 d (main_v116 : DevRef τ sig)

/-- A subcore's part of the gather with its output at `f`, and of the scatter. -/
abbrev gPart (d : Dev nD) (c : Fin 2) (s : Fin 16) (f : S40960x128.Idx → Elt F .f32) : sProp 𝕄 :=
  Gather.tileHolds d (Gather.at' c s) (gTab W d) (gList W d) (share c s) (share c s) f
abbrev sPart (d : Dev nD) (c : Fin 2) (s : Fin 16) (f : S40960x128.Idx → Elt F .f32) : sProp 𝕄 :=
  Scatter.tileHolds d (Scatter.at' c s) (sRows W d) (sList W d) (share c s) (share c s) f

abbrev gDone (d : Dev nD) : S40960x128.Idx → Elt F .f32 := Gather.pick (gTab W d) (gList W d)
abbrev sDone (d : Dev nD) : S40960x128.Idx → Elt F .f32 := Scatter.put (sRows W d) (sList W d)

/-- What each call takes to and brings back from a core, and a subcore. -/
def P : (K (F := F)).Pay (nD := nD) (Val := Elt F) (Name := ℕ) (U := UU) where
  st := fun q d c => match q with
    | 0 => bigSep Finset.univ fun s : Fin 16 => gPart W d c s (gOut W d)
    | 1 => bigSep Finset.univ fun s : Fin 16 => sPart W d c s (sOut W d)
  dn := fun q d c => match q with
    | 0 => bigSep Finset.univ fun s : Fin 16 => gPart W d c s (gDone W d)
    | 1 => bigSep Finset.univ fun s : Fin 16 => sPart W d c s (sDone W d)
  go := fun q d c s => match q with
    | 0 => gPart W d c s (gOut W d)
    | 1 => sPart W d c s (sOut W d)
  td := fun q d c s => match q with
    | 0 => gPart W d c s (gDone W d)
    | 1 => sPart W d c s (sDone W d)
  x := fun _ _ => iprop(emp)

instance gPart_storable (d : Dev nD) (c : Fin 2) (s : Fin 16) (f : S40960x128.Idx → Elt F .f32) : BI.Storable (upEmb : UEmb _ 𝕄) (gPart W d c s f) :=
  inferInstance
instance sPart_storable (d : Dev nD) (c : Fin 2) (s : Fin 16) (f : S40960x128.Idx → Elt F .f32) : BI.Storable (upEmb : UEmb _ 𝕄) (sPart W d c s f) :=
  inferInstance

instance P_storable : (P W).IsStorable where
  st q d c := match q with
    | 0 => (inferInstance : BI.Storable (upEmb : UEmb _ 𝕄) (bigSep Finset.univ fun s : Fin 16 => gPart W d c s (gOut W d)))
    | 1 => (inferInstance : BI.Storable (upEmb : UEmb _ 𝕄) (bigSep Finset.univ fun s : Fin 16 => sPart W d c s (sOut W d)))
  dn q d c := match q with
    | 0 => (inferInstance : BI.Storable (upEmb : UEmb _ 𝕄) (bigSep Finset.univ fun s : Fin 16 => gPart W d c s (gDone W d)))
    | 1 => (inferInstance : BI.Storable (upEmb : UEmb _ 𝕄) (bigSep Finset.univ fun s : Fin 16 => sPart W d c s (sDone W d)))
  go q d c s := match q with
    | 0 => gPart_storable W d c s (gOut W d)
    | 1 => sPart_storable W d c s (sOut W d)
  td q d c s := match q with
    | 0 => gPart_storable W d c s (gDone W d)
    | 1 => sPart_storable W d c s (sDone W d)

/-! ## The subcores' tasks -/

theorem gather_task (c : Fin τ.nSC) (s : Fin τ.nSub) :
    defs₀ (F := F) (.scVector c s) 1 ()
      = SparseCore.onTile hcore1 hsub1 (fun c s => cc1_k (Gather.at' c s) Gather.tM (Memref.isWhole_whole _) Gather.iM (Memref.isWhole_whole _)
          Gather.oM (Memref.isWhole_whole _) Gather.lM (Memref.isWhole_whole _) Gather.aM (Memref.isWhole_whole _)
          cc1_scratch2 cc1_scoped0 cc1_scoped1 cc1_scoped2 cc1_scoped3) ⟨⟩ c s := rfl

theorem scatter_task (c : Fin τ.nSC) (s : Fin τ.nSub) :
    defs₀ (F := F) (.scVector c s) 3 ()
      = SparseCore.onTile hcore3 hsub3 (fun c s => cc3_k (Scatter.at' c s) Scatter.yM (Memref.isWhole_whole _) Scatter.iM (Memref.isWhole_whole _)
          Scatter.oM (Memref.isWhole_whole _) Scatter.lM (Memref.isWhole_whole _) Scatter.aM (Memref.isWhole_whole _)
          cc3_scratch2 cc3_scoped0 cc3_scoped1 cc3_scoped2) ⟨⟩ c s := rfl

theorem waits_weaken {thr : Thread nD τ} {A B C : sProp 𝕄} {O : CellTallies nD τ sig (HIx 2)} {V : Waits sig (HIx 2)} {q : Fin 2} :
    iprop(A ∗ B ∗ C ∗ ∃ V', ⌜∀ p ∈ V', p ∈ V ∨ p.2 = none⌝ ∗ owes thr O V')
      ⊢ iprop(A ∗ B ∗ C ∗ ∃ V', ⌜∀ p ∈ V', p ∈ V ∨ p.2 = none ∨ p.2 = some q⌝ ∗ owes thr O V') := by
  iintro ⟨HA, HB, HC, %V', %hV', HO⟩
  isplitl [HA]; · iexact HA
  isplitl [HB]; · iexact HB
  isplitl [HC]; · iexact HC
  iexists V'; isplitr
  · ipureintro; exact fun p hp => (hV' p hp).imp_right Or.inl
  · iexact HO

variable {a W}

set_option maxRecDepth 16384 in
theorem gather_obl (h : Chain a W) : (K (F := F)).TileObl (D (F := F)) 𝒱 (P W) v₀ 0 := by
  intro d c s O V hO _ _
  simp only [show (P W).ox = fun _ _ => 0 from rfl, add_zero]
  have hcs : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  rw [gather_task]; simp only [SparseCore.onTile, hcs, and_self, ↓reduceDIte]
  exact (Gather.tile_body d (Gather.at' ⟨_, hcs.1⟩ ⟨_, hcs.2⟩) facts (gTab W d) (gList W d) (h.reads d) (share c s) (share c s) (gOut W d) O V hO).trans
    (wp_mono frame _ _ fun _ => waits_weaken)

set_option maxRecDepth 16384 in
theorem scatter_obl (h : Chain a W) : (K (F := F)).TileObl (D (F := F)) 𝒱 (P W) v₀ 1 := by
  intro d c s O V hO _ _
  simp only [show (P W).ox = fun _ _ => 0 from rfl, add_zero]
  have hcs : ((K (F := F)).core 1 c).val < grid3.bound 0 ∧ ((K (F := F)).sub 1 s).val < grid3.bound 1 := ⟨c.isLt, s.isLt⟩
  change _ ⊢ wp _ _ _ (Pipeline.liftProg (defs₀ (F := F) (.scVector ((K (F := F)).core 1 c) ((K (F := F)).sub 1 s)) 3 ())) _
  refine BI.Entails.trans ?_ (Pipeline.wp_liftProg (D (F := F)) (Pipeline.defs_kernel pcfgs defs₀) 𝒱₀ _ Set.univ none _ _)
  rw [scatter_task]; simp only [SparseCore.onTile, hcs, and_self, ↓reduceDIte]
  exact (Scatter.tile_body d (Scatter.at' ⟨_, hcs.1⟩ ⟨_, hcs.2⟩) facts (sRows W d) (sList W d) (h.writes d) (h.apart d) (share c s) (share c s) (sOut W d) O V hO).trans
    (wp_mono frame _ _ fun _ => waits_weaken)

/-- A core hands its subcores exactly what it was handed. -/
theorem same_split (A B : sProp 𝕄) : A ⊢ |={Set.univ}=> iprop(A ∗ (B -∗ B)) := by
  iintro H; imodintro
  isplitl [H]; · iexact H
  iintro H; iexact H

theorem gather_split : (K (F := F)).VecSplit' (P W) 0 := by
  intro d c
  show (bigSep Finset.univ fun s : Fin 16 => gPart W d c s (gOut W d))
    ⊢ |={Set.univ}=> iprop((bigSep Finset.univ fun s : Fin 16 => gPart W d c s (gOut W d))
      ∗ ((bigSep Finset.univ fun s : Fin 16 => gPart W d c s (gDone W d)) -∗ (bigSep Finset.univ fun s : Fin 16 => gPart W d c s (gDone W d))))
  exact same_split _ _

theorem scatter_split : (K (F := F)).VecSplit' (P W) 1 := by
  intro d c
  show (bigSep Finset.univ fun s : Fin 16 => sPart W d c s (sOut W d))
    ⊢ |={Set.univ}=> iprop((bigSep Finset.univ fun s : Fin 16 => sPart W d c s (sOut W d))
      ∗ ((bigSep Finset.univ fun s : Fin 16 => sPart W d c s (sDone W d)) -∗ (bigSep Finset.univ fun s : Fin 16 => sPart W d c s (sDone W d))))
  exact same_split _ _

/-! ## The calls in the host thread -/

abbrev gRefs : Finset (DevRef τ sig) := {(main_v89 : DevRef τ sig), (main_v98 : DevRef τ sig), (main_v99 : DevRef τ sig)}
abbrev sRefs : Finset (DevRef τ sig) := {(main_v105 : DevRef τ sig), (main_v115 : DevRef τ sig), (main_v116 : DevRef τ sig)}

theorem gRefs_sub : gRefs ⊆ UC := by decide
theorem sRefs_sub : sRefs ⊆ UC := by decide

theorem held_gRefs (d : Dev nD) (V : Valuation τ sig (Elt F)) :
    (held (T d) gRefs V : sProp 𝕄) = iprop((Gather.tLoc d ↦{fullShare} V (main_v89 : DevRef τ sig)) ∗ (Gather.iLoc d ↦{fullShare} V (main_v98 : DevRef τ sig))
      ∗ (Gather.oLoc d ↦{fullShare} V (main_v99 : DevRef τ sig))) := by
  unfold held
  rw [SparseCore.bigSep_insert' (by decide), SparseCore.bigSep_insert' (by decide), bigSep_singleton]
theorem held_sRefs (d : Dev nD) (V : Valuation τ sig (Elt F)) :
    (held (T d) sRefs V : sProp 𝕄) = iprop((Scatter.yLoc d ↦{fullShare} V (main_v105 : DevRef τ sig)) ∗ (Scatter.iLoc d ↦{fullShare} V (main_v115 : DevRef τ sig))
      ∗ (Scatter.oLoc d ↦{fullShare} V (main_v116 : DevRef τ sig))) := by
  unfold held
  rw [SparseCore.bigSep_insert' (by decide), SparseCore.bigSep_insert' (by decide), bigSep_singleton]

/-- The arrays beside the call's are untouched by an update of one of the call's. -/
theorem held_beside (d : Dev nD) (S : Finset (DevRef τ sig)) {b : DevRef τ sig} (hb : b ∈ S) (V : Valuation τ sig (Elt F)) (x) :
    (held (T d) (UC \ S) (Function.update V b x) : sProp 𝕄) = held (T d) (UC \ S) V :=
  StableHlo.held_congr _ fun c hc => Function.update_of_ne (fun e : c = b => (Finset.mem_sdiff.mp hc).2 (by rw [e]; exact hb)) _ _

theorem gather_st (d : Dev nD) : (bigSep Finset.univ fun c : Fin ((K (F := F)).nCore 0) => (P W).st 0 d c)
    = bigSep Finset.univ fun c : Fin 2 => bigSep Finset.univ fun s : Fin 16 => gPart W d c s (gOut W d) := rfl
theorem gather_dn (d : Dev nD) : (bigSep Finset.univ fun c : Fin ((K (F := F)).nCore 0) => (P W).dn 0 d c)
    = bigSep Finset.univ fun c : Fin 2 => bigSep Finset.univ fun s : Fin 16 => gPart W d c s (gDone W d) := rfl
theorem scatter_st (d : Dev nD) : (bigSep Finset.univ fun c : Fin ((K (F := F)).nCore 1) => (P W).st 1 d c)
    = bigSep Finset.univ fun c : Fin 2 => bigSep Finset.univ fun s : Fin 16 => sPart W d c s (sOut W d) := rfl
theorem scatter_dn (d : Dev nD) : (bigSep Finset.univ fun c : Fin ((K (F := F)).nCore 1) => (P W).dn 1 d c)
    = bigSep Finset.univ fun c : Fin 2 => bigSep Finset.univ fun s : Fin 16 => sPart W d c s (sDone W d) := rfl

theorem gather_step (h : Chain a W) (κ : GSem nD τ sig → ℕ) (d : Dev nD) (Q : PUnit → sProp 𝕄) :
    iprop((K (F := F)).ctx EH (P W) κ ∗ (K (F := F)).tcSt EH d 0 ∗ held (T d) UC (W 2 d)
        ∗ (iprop((K (F := F)).tcSt EH d 1 ∗ held (T d) UC (W 3 d)) -∗ Q ⟨⟩))
      ⊢ wp frame (wpE ((K (F := F)).defs (D (F := F))) 𝒱 (T d) none) Set.univ ((sc (F := F)).run d 0) Q := by
  iintro ⟨#Hctx, Hst, Hheld, Hk⟩
  ihave Hh := (Entails.of_eq (show (held (T d) UC (W 2 d) : sProp 𝕄) = _ from
    (StableHlo.held_sub_split (T d) gRefs_sub (W 2 d)).trans (by rw [held_gRefs, Gather.split]))) $$ Hheld
  icases Hh with ⟨⟨Hkeep, Htiles⟩, Hrest⟩
  iapply ((K (F := F)).wp_run (D (F := F)) 𝒱 (EH := EH) (P := P W) κ d 0) $$ [Hst Htiles Hkeep Hrest Hk]
  isplitr; · iexact Hctx
  isplitl [Hst]; · iexact Hst
  isplitl [Htiles]
  · rw [gather_st]; iexact Htiles
  iintro ⟨Hst, Hdn⟩
  ihave Hdn := (Entails.of_eq (gather_dn (W := W) d)) $$ Hdn
  iapply Hk
  isplitl [Hst]; · iexact Hst
  rw [StableHlo.held_sub_split (T d) gRefs_sub (W 3 d), h.gather d, held_beside d gRefs (by decide), held_gRefs,
    Function.update_of_ne (show (main_v89 : DevRef τ sig) ≠ (main_v99 : DevRef τ sig) by decide),
    Function.update_of_ne (show (main_v98 : DevRef τ sig) ≠ (main_v99 : DevRef τ sig) by decide), Function.update_self, Gather.split]
  isplitr [Hrest]
  · isplitl [Hkeep] <;> iassumption
  iexact Hrest

theorem scatter_step (h : Chain a W) (κ : GSem nD τ sig → ℕ) (d : Dev nD) (Q : PUnit → sProp 𝕄) :
    iprop((K (F := F)).ctx EH (P W) κ ∗ (K (F := F)).tcSt EH d 1 ∗ held (T d) UC (W 6 d)
        ∗ (iprop((K (F := F)).tcSt EH d 2 ∗ held (T d) UC (W 7 d)) -∗ Q ⟨⟩))
      ⊢ wp frame (wpE ((K (F := F)).defs (D (F := F))) 𝒱 (T d) none) Set.univ ((sc (F := F)).run d 1) Q := by
  iintro ⟨#Hctx, Hst, Hheld, Hk⟩
  ihave Hh := (Entails.of_eq (show (held (T d) UC (W 6 d) : sProp 𝕄) = _ from
    (StableHlo.held_sub_split (T d) sRefs_sub (W 6 d)).trans (by rw [held_sRefs, Scatter.split (h.writes d) (h.apart d)]))) $$ Hheld
  icases Hh with ⟨⟨Hkeep, Htiles⟩, Hrest⟩
  iapply ((K (F := F)).wp_run (D (F := F)) 𝒱 (EH := EH) (P := P W) κ d 1) $$ [Hst Htiles Hkeep Hrest Hk]
  isplitr; · iexact Hctx
  isplitl [Hst]; · iexact Hst
  isplitl [Htiles]
  · rw [scatter_st]; iexact Htiles
  iintro ⟨Hst, Hdn⟩
  ihave Hdn := (Entails.of_eq (scatter_dn (W := W) d)) $$ Hdn
  iapply Hk
  isplitl [Hst]; · iexact Hst
  rw [StableHlo.held_sub_split (T d) sRefs_sub (W 7 d), h.scatter d, held_beside d sRefs (by decide), held_sRefs,
    Function.update_of_ne (show (main_v105 : DevRef τ sig) ≠ (main_v116 : DevRef τ sig) by decide),
    Function.update_of_ne (show (main_v115 : DevRef τ sig) ≠ (main_v116 : DevRef τ sig) by decide), Function.update_self, Scatter.split (h.writes d) (h.apart d)]
  isplitr [Hrest]
  · isplitl [Hkeep] <;> iassumption
  iexact Hrest

/-! ## The launch's ghost state -/

variable (a W)

def u₀ : UU :=
  (initOf (K (F := F)).hsCells (K (F := F)).hsToks,
    initOf (Pipeline.cells (nD := nD) (τ := τ) (Pipeline.pin (pcfgs (F := F)) a) (cellOf_inj a)) (Pipeline.launchToks (nD := nD) (τ := τ) (Pipeline.pin (pcfgs (F := F)) a) (cellOf_inj a)), 1)

theorem hu₀ : (ownU (u₀ (F := F) a) : sProp 𝕄)
    ⊢ |={Set.univ}=> iprop(BI.own (EH (initOf (K (F := F)).hsCells (K (F := F)).hsToks)) ∗ (bigSep Finset.univ fun d : Dev nD => regionGhost a d)
        ∗ bigSep Finset.univ fun thr : Thread nD τ => bigSep Finset.univ fun q : Fin 2 => (P W).x q thr) := by
  have hx : (bigSep Finset.univ fun thr : Thread nD τ => bigSep Finset.univ fun q : Fin 2 => (P (F := F) W).x q thr) = iprop(emp) :=
    (bigSep_congr fun _ _ => bigSep_emp_const _).trans (bigSep_emp_const _)
  rw [hx, bigSep_sep']
  unfold u₀
  iintro Hu
  ihave H := (own_split (F := F) _ _ _) $$ Hu
  icases H with ⟨HH, HP⟩
  imod (Pipeline.fund_ghost (Pipeline.pin (pcfgs (F := F)) a) (EP (F := F)) (cellOf_inj a)) $$ HP with ⟨Hc, Ht⟩
  imodintro
  isplitl [HH]; · iexact HH
  isplitl [Hc Ht]
  · isplitl [Hc] <;> iassumption
  iempintro

/-! ## @main and the run -/

variable (m : (ℓ : Loc nD τ sig) → Buf (Elt F) ℓ) (ρ : Dev nD → PrngReg)

variable {a W}

theorem hmain [∀ e, Nonempty (Elt F e)] (h : Chain a W) (hm : ∀ d, W 0 d = after opsNoise fun b => m (d, b)) (κ : GSem nD τ sig → ℕ) (d : Dev nD) :
    iprop((K (F := F)).ctx EH (P W) κ ∗ (K (F := F)).tcSt EH d 0 ∗ (K (F := F)).tcRes m ρ d ∗ regionGhost a d)
      ⊢ wp frame (wpE ((K (F := F)).defs (D (F := F))) 𝒱 (SparseCore.T d) none) Set.univ (main d)
          fun _ => iprop((K (F := F)).tcSt EH d 2 ∗ held (T d) UC (W 8 d) ∗ (K (F := F)).tcEnd d) := by
  unfold SparseCore.Cfg.tcRes SparseCore.Cfg.tcEnd
  have hub : (unscopedBufs d (fun b => m ((SparseCore.T d).loc b)) : sProp 𝕄) = held (T d) UC (fun b => m (d, b)) :=
    Pipeline.unscopedBufs_held d (fun b => m (d, b))
  rw [hub, main_eq]
  iintro ⟨#Hctx, Hst, ⟨Hb, Hheld, Hts, -⟩, Hc, Ht⟩
  ihave Hc := (Entails.of_eq (pair _)) $$ Hc
  ihave Ht := (Entails.of_eq (pair _)) $$ Ht
  icases Hc with ⟨Hc0, Hc1⟩
  icases Ht with ⟨Ht0, Ht1⟩
  iapply (StableHlo.wp_seq 𝒱 none Set.univ d UC _ opsNoise (fun op hop => Pipeline.sub_ucRefs op (goodNoise op hop).1) (fun op hop => (goodNoise op hop).2) (fun b => m (d, b))) $$ [Hb Hheld]
  · isplitl [Hb] <;> iassumption
  rw [← hm d]
  iintro ⟨Hb, Hheld⟩
  rw [wp_bind]
  iapply (router_step a W h κ d) $$ [Hst Hb Hheld Hts Hc0 Hc1 Ht0 Ht1]
  isplitr; · iexact Hctx
  isplitl [Hst]; · iexact Hst
  isplitl [Hb]; · iexact Hb
  isplitl [Hheld]; · iexact Hheld
  isplitl [Hc0]; · iexact Hc0
  isplitl [Ht0]; · iexact Ht0
  iintro ⟨Hst, Hb, Hheld⟩
  iapply (StableHlo.wp_seq 𝒱 none Set.univ d UC _ ops1 (fun op hop => Pipeline.sub_ucRefs op (good1 op hop).1) (fun op hop => (good1 op hop).2) (W 1 d)) $$ [Hb Hheld]
  · isplitl [Hb] <;> iassumption
  rw [← h.routing d]
  iintro ⟨Hb, Hheld⟩
  rw [wp_bind]
  iapply (gather_step h κ d) $$ [Hst Hb Hheld Hts Hc1 Ht1]
  isplitr; · iexact Hctx
  isplitl [Hst]; · iexact Hst
  isplitl [Hheld]; · iexact Hheld
  iintro ⟨Hst, Hheld⟩
  iapply (StableHlo.wp_seq 𝒱 none Set.univ d UC _ ops2 (fun op hop => Pipeline.sub_ucRefs op (good2 op hop).1) (fun op hop => (good2 op hop).2) (W 3 d)) $$ [Hb Hheld]
  · isplitl [Hb] <;> iassumption
  rw [← h.before d]
  iintro ⟨Hb, Hheld⟩
  rw [wp_bind]
  iapply (experts_step a W h κ d) $$ [Hst Hb Hheld Hts Hc1 Ht1]
  isplitr; · iexact Hctx
  isplitl [Hst]; · iexact Hst
  isplitl [Hb]; · iexact Hb
  isplitl [Hheld]; · iexact Hheld
  isplitl [Hc1]; · iexact Hc1
  isplitl [Ht1]; · iexact Ht1
  iintro ⟨Hst, Hb, Hheld⟩
  iapply (StableHlo.wp_seq 𝒱 none Set.univ d UC _ ops3 (fun op hop => Pipeline.sub_ucRefs op (good3 op hop).1) (fun op hop => (good3 op hop).2) (W 5 d)) $$ [Hb Hheld]
  · isplitl [Hb] <;> iassumption
  rw [← h.between d]
  iintro ⟨Hb, Hheld⟩
  rw [wp_bind]
  iapply (scatter_step h κ d) $$ [Hst Hb Hheld Hts]
  isplitr; · iexact Hctx
  isplitl [Hst]; · iexact Hst
  isplitl [Hheld]; · iexact Hheld
  iintro ⟨Hst, Hheld⟩
  rw [show (seq (nD := nD) (τ := τ) (Λ := SparseCore.Sig (ΛP (F := F)) 2) (ops4 (F := F))) = (seq ops4 >>= fun _ => .ret ⟨⟩) from (bind_pure _).symm]
  iapply (StableHlo.wp_seq 𝒱 none Set.univ d UC (fun _ => .ret ⟨⟩) ops4 (fun op hop => Pipeline.sub_ucRefs op (good4 op hop).1) (fun op hop => (good4 op hop).2) (W 7 d)) $$ [Hb Hheld]
  · isplitl [Hb] <;> iassumption
  rw [← h.last d]
  iintro ⟨Hb, Hheld⟩
  rw [wp_ret]; imodintro
  isplitl [Hst]; · iexact Hst
  isplitl [Hheld]; · iexact Hheld
  isplitl [Hb] <;> iassumption

variable (W)

def fq (d : Dev nD) (s' : Phys nD τ sig (Elt F)) : Prop := ∀ b ∈ UC, s'.mem.mem (d, b) = W 8 d b

theorem hfin (d : Dev nD) (s' : Phys nD τ sig (Elt F)) : iprop(held (T d) UC (W 8 d) ∗ SI s') ⊢ (⌜fq W d s'⌝ : sProp 𝕄) := by
  by_cases hq : fq W d s'
  · exact BI.pure_intro hq
  · unfold fq at hq
    push Not at hq
    obtain ⟨b, hb, hne⟩ := hq
    have key : iprop(held (T d) UC (W 8 d) ∗ SI s') ⊢ (⌜s'.mem.mem (d, b) = W 8 d b⌝ : sProp 𝕄) := by
      rw [StableHlo.held_sub_split (T d) (Finset.singleton_subset_iff.mpr hb) (W 8 d)]
      unfold held
      rw [bigSep_singleton]
      iintro ⟨⟨Hb, -⟩, HSI⟩
      ihave H := (SI_pointsTo_agree (st := s') (ℓ := (d, b)) (I := Finset.univ) (q := fullShare) (f := W 8 d b)) $$ [HSI Hb]
      · isplitl [HSI] <;> iassumption
      icases H with %hr
      ipureintro
      exact funext fun i => hr i (Finset.mem_univ i)
    exact key.trans (BI.pure_mono fun e => absurd e hne)

/-- The end of a run: on every device every array of the host thread is at the last valuation, and every semaphore is back at zero. -/
def QC : PUnit × MemSt nD τ sig (Elt F) → Prop := fun r =>
  (∀ d : Dev nD, ∀ b ∈ UC, r.2.mem (d, b) = W 8 d b) ∧ r.2.sem = fun _ => 0

variable {W}

theorem run_main [∀ e, Nonempty (Elt F e)] (h : Chain a W) (hm : ∀ d, W 0 d = after opsNoise fun b => m (d, b)) :
    θ_run (Cert.KernelIdeal.defs (F := F)) (Cert.KernelIdeal.threads (F := F)) ⟨m, fun _ => 0, ρ⟩ (QC W) :=
  SparseCore.Cfg.θ_run_sc_quiescent (K := K (F := F)) (D := D (F := F)) (𝒱 := 𝒱) (EH := EH) (P := P W) (A := ∅) facts v₀
    (fun q hq => match q with | 0 => nomatch hq | 1 => nomatch hq)
    (fun q _ => match q with | 0 => gather_obl h | 1 => scatter_obl h)
    (fun q _ => match q with | 0 => SparseCore.Cfg.VecSplit.of_plain gather_split | 1 => SparseCore.Cfg.VecSplit.of_plain scatter_split)
    m ρ main (fun d => regionGhost a d) (fun d => held (T d) UC (W 8 d)) (u₀ (F := F) a) (sep_elim_left.trans (hu₀ a W)) (hmain m ρ h hm) (fq W) (hfin W) (QC W)
    (fun _ h hz => ⟨h, hz⟩)

end Cert.Proof.Moe

end
-- ==== Proof.Moe.ExpertsOut.lean ====
/-
  What the experts' region leaves in its result, read row by row, and what each of its blocks is.
-/
module

public import proofs.«01_k».proof.Proof.Moe.Experts

@[expose] public section

noncomputable section

namespace Cert.Proof.Moe

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.ShloMosaic.StableHlo (held)
open Idealize.ShloMosaic.Pipeline (Dat afterRegion arrRefs tblRefs arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Data

variable (a : (pcfg2 (F := F)).Adm) (V : Valuation τ sig (Elt F))

/-- Row `r`, column `k` of a block of tokens. -/
abbrev rk (r : Fin 128) (k : Fin 1024) : S128x1024.Idx := fun a => match a with | ⟨0, _⟩ => r | ⟨1, _⟩ => k

/-- The grid point row `n` of the padded tokens is read at. -/
abbrev xpt (n : ℕ) (h : n < 5120) : Fin (cfg2 a).N := ⟨n / 128, by show n / 128 < grid2.N; rw [N_2]; omega⟩

/-- A grid point as a position in the table. -/
abbrev pt40 (t : Fin (cfg2 a).N) : Fin 40 := ⟨t.val, lt_of_lt_of_eq t.isLt (show (cfg2 a).N = 40 from N_2)⟩

theorem grid_coords : ∀ t : Fin grid2.N, (grid2.coords t 0).val = t.val := by decide

theorem coords_eq (t : Fin (cfg2 a).N) : (((cfg2 a).grid.coords t) 0 : Fin 40) = pt40 a t := Fin.ext (grid_coords t)

theorem index2_7 : ∀ t : Fin grid2.N, cc2_transform_7 (grid2.coords t) = ![t.val, 0] := by decide
theorem index2_0 : ∀ t : Fin grid2.N, cc2_transform_0 (grid2.coords t) = ![t.val, 0] := by decide

/-- The outputs are written back at every point. -/
theorem flush2_7 (t : Fin (cfg2 a).N) : ((cfg2 a).win 7).flush t = true := by
  refine Bool.and_eq_true_iff.mpr ⟨rfl, Bool.or_eq_true_iff.mpr ?_⟩
  by_cases h : t.val + 1 = (cfg2 a).N
  · exact Or.inl (decide_eq_true h)
  · refine Or.inr (decide_eq_true ⟨lt_of_le_of_ne t.isLt h, fun he => ?_⟩)
    have h1 : ![t.val + 1, 0] = ![t.val, 0] := ((index2_7 ⟨t.val + 1, lt_of_le_of_ne t.isLt h⟩).symm.trans he).trans (index2_7 t)
    exact Nat.succ_ne_self _ (congrFun h1 0)

/-- The place of entry `x` of the `n`-th block of rows. -/
theorem place_row {o : Fin 2 → ℕ} {n : ℕ} (ho : o = ![n, 0]) (x : S128x1024.Idx) (y z : S5120x1024.Idx) (hz : ∀ b : Fin 2, (z b).val = o b * S128x1024.size b + 1 * (x b).val)
    (h0 : (y 0).val = 128 * n + (x 0).val) (h1 : (y 1).val = (x 1).val) : z = y := by
  subst ho
  have e0 := hz 0
  have e1 := hz 1
  funext b
  fin_cases b
  · apply Fin.ext
    refine e0.trans ?_
    show n * 128 + 1 * (x 0).val = (y 0).val
    omega
  · apply Fin.ext
    refine e1.trans ?_
    show 0 * 1024 + 1 * (x 1).val = (y 1).val
    omega

/-- Row `x` of the `n`-th block of 128 rows. -/
abbrev row (n : ℕ) (h : n < 40) (x : S128x1024.Idx) : S5120x1024.Idx := fun b => match b with
  | ⟨0, _⟩ => ⟨128 * n + (x 0).val, by have : (x 0).val < 128 := (x 0).isLt; show 128 * n + (x 0).val < 5120; omega⟩
  | ⟨1, _⟩ => x 1

set_option backward.isDefEq.respectTransparency.types false in
/-- Where row `x` of a block of outputs lies in the whole array. -/
theorem emb2_7 (t : Fin (cfg2 a).N) (x : S128x1024.Idx) :
    (((cfg2 a).win 7).blk t).view.emb x = row t.val (lt_of_lt_of_eq t.isLt (show (cfg2 a).N = 40 from N_2)) x :=
  place_row (index2_7 t) x (row t.val _ x) _ (fun _ => rfl) rfl rfl

/-- What row `j` of the outputs holds. -/
def xrow (j : S5120x1024.Idx) : F .f32 := xout a V (xpt a (j 0).val (j 0).isLt) (rk ⟨(j 0).val % 128, Nat.mod_lt _ (by decide)⟩ (j 1))

theorem xrow_row (t : Fin (cfg2 a).N) (h) (x : S128x1024.Idx) : xrow a V (row t.val h x) = xout a V t x := by
  have hx : (x 0).val < 128 := (x 0).isLt
  unfold xrow
  congr 1
  · congr 1
    apply Fin.ext
    show (128 * t.val + (x 0).val) / 128 = t.val
    omega
  · funext b
    fin_cases b
    · apply Fin.ext
      show (128 * t.val + (x 0).val) % 128 = (x 0).val
      omega
    · rfl

theorem row_xpt (j : S5120x1024.Idx) (h) : row (xpt a (j 0).val (j 0).isLt).val h (rk ⟨(j 0).val % 128, Nat.mod_lt _ (by decide)⟩ (j 1)) = j := by
  funext b
  fin_cases b
  · apply Fin.ext
    show 128 * ((j 0).val / 128) + (j 0).val % 128 = (j 0).val
    omega
  · rfl

set_option backward.isDefEq.respectTransparency.types false in
/-- The expert outputs of every row. -/
theorem experts_out (Ψ : sProp 𝕄) (c : Dev nD) : (xdat a V Ψ c).arrAt 7 (cfg2 a).N = xrow a V := by
  have hc : ∀ j : S5120x1024.Idx, ∃ t : Fin (cfg2 a).N, ((cfg2 a).win 7).flush t = true ∧ j ∈ (((cfg2 a).win 7).blk t).view.set := fun j =>
    ⟨xpt a (j 0).val (j 0).isLt, flush2_7 a _,
      Eq.mp (congrArg (fun z => z ∈ (((cfg2 a).win 7).blk (xpt a (j 0).val (j 0).isLt)).view.set) ((emb2_7 a _ _).trans (row_xpt a j _))) (View.emb_mem_set _ _)⟩
  refine (xdat a V Ψ c).arrAt_eq_of_cover 7 (xrow a V) (fun t _ => ?_) hc
  funext x
  exact ((congrArg (xrow a V) (emb2_7 a t x)).trans (xrow_row a V t _ x)).symm

/-! ## The blocks read -/

set_option backward.isDefEq.respectTransparency.types false in
/-- The rows of a block of gathered tokens. -/
theorem xblk0_at (t : Fin (cfg2 a).N) (x : S128x1024.Idx) (y : S5120x1024.Idx) (h0 : (y 0).val = 128 * t.val + (x 0).val) (h1 : (y 1).val = (x 1).val) :
    xblk a V 0 t x = V (Proc.devRef .tc main_v100) y :=
  congrArg (V (Proc.devRef .tc main_v100)) (place_row (index2_0 t) x y _ (fun _ => rfl) h0 h1)

/-! The weights and biases of the expert the table names for the block. -/

/-- The expert the table names at a grid point. -/
abbrev who (t : Fin (cfg2 a).N) : ℕ := (a.1 0 (t40 (pt40 a t)) : BitVec 32).toNat

theorem who_index (t : Fin (cfg2 a).N) : cc2_transform_1 k2_off1_inb numel1_S1 a.1 (grid2.coords t) = ![who a t, 0, 0] :=
  (table_index a.1 _).trans (congrArg (fun n : Fin 40 => ![(a.1 0 (t40 n) : BitVec 32).toNat, 0, 0]) (coords_eq a t))

/-- The place of a weight in the stack of the experts' weights. -/
theorem place_big {o : Fin 3 → ℕ} {n : ℕ} (ho : o = ![n, 0, 0]) (x : S1x1024x1024.Idx) (y z : S8x1024x1024.Idx) (hz : ∀ b : Fin 3, (z b).val = o b * S1x1024x1024.size b + 1 * (x b).val)
    (h0 : (y 0).val = n) (h1 : (y 1).val = (x 1).val) (h2 : (y 2).val = (x 2).val) : z = y := by
  have hx : (x 0).val < 1 := (x 0).isLt
  subst ho
  have e0 := hz 0
  have e1 := hz 1
  have e2 := hz 2
  funext b
  fin_cases b
  · apply Fin.ext
    refine e0.trans ?_
    show n * 1 + 1 * (x 0).val = (y 0).val
    omega
  · apply Fin.ext
    refine e1.trans ?_
    show 0 * 1024 + 1 * (x 1).val = (y 1).val
    omega
  · apply Fin.ext
    refine e2.trans ?_
    show 0 * 1024 + 1 * (x 2).val = (y 2).val
    omega

/-- The place of a bias in the stack of the experts' biases. -/
theorem place_small {o : Fin 3 → ℕ} {n : ℕ} (ho : o = ![n, 0, 0]) (x : S1x1x1024.Idx) (y z : S8x1x1024.Idx) (hz : ∀ b : Fin 3, (z b).val = o b * S1x1x1024.size b + 1 * (x b).val)
    (h0 : (y 0).val = n) (h2 : (y 2).val = (x 2).val) : z = y := by
  have hx : (x 0).val < 1 := (x 0).isLt
  have hy1 : (y 1).val < 1 := (y 1).isLt
  have hz1 : (z 1).val < 1 := (z 1).isLt
  subst ho
  have e0 := hz 0
  have e2 := hz 2
  funext b
  fin_cases b
  · apply Fin.ext
    refine e0.trans ?_
    show n * 1 + 1 * (x 0).val = (y 0).val
    omega
  · apply Fin.ext
    show (z 1).val = (y 1).val
    omega
  · apply Fin.ext
    refine e2.trans ?_
    show 0 * 1024 + 1 * (x 2).val = (y 2).val
    omega

set_option backward.isDefEq.respectTransparency.types false in
theorem xblk1_at (t : Fin (cfg2 a).N) (x : S1x1024x1024.Idx) (y : S8x1024x1024.Idx) (h0 : (y 0).val = who a t)
    (h1 : (y 1).val = (x 1).val) (h2 : (y 2).val = (x 2).val) : xblk a V 1 t x = V (Proc.devRef .tc main_arg7) y :=
  congrArg (V (Proc.devRef .tc main_arg7)) (place_big (who_index a t) x y _ (fun _ => rfl) h0 h1 h2)

set_option backward.isDefEq.respectTransparency.types false in
theorem xblk3_at (t : Fin (cfg2 a).N) (x : S1x1024x1024.Idx) (y : S8x1024x1024.Idx) (h0 : (y 0).val = who a t)
    (h1 : (y 1).val = (x 1).val) (h2 : (y 2).val = (x 2).val) : xblk a V 3 t x = V (Proc.devRef .tc main_arg9) y :=
  congrArg (V (Proc.devRef .tc main_arg9)) (place_big (who_index a t) x y _ (fun _ => rfl) h0 h1 h2)

set_option backward.isDefEq.respectTransparency.types false in
theorem xblk5_at (t : Fin (cfg2 a).N) (x : S1x1024x1024.Idx) (y : S8x1024x1024.Idx) (h0 : (y 0).val = who a t)
    (h1 : (y 1).val = (x 1).val) (h2 : (y 2).val = (x 2).val) : xblk a V 5 t x = V (Proc.devRef .tc main_arg11) y :=
  congrArg (V (Proc.devRef .tc main_arg11)) (place_big (who_index a t) x y _ (fun _ => rfl) h0 h1 h2)

set_option backward.isDefEq.respectTransparency.types false in
theorem xblk2_at (t : Fin (cfg2 a).N) (x : S1x1x1024.Idx) (y : S8x1x1024.Idx) (h0 : (y 0).val = who a t)
    (h2 : (y 2).val = (x 2).val) : xblk a V 2 t x = V (Proc.devRef .tc main_v101) y :=
  congrArg (V (Proc.devRef .tc main_v101)) (place_small (who_index a t) x y _ (fun _ => rfl) h0 h2)

set_option backward.isDefEq.respectTransparency.types false in
theorem xblk4_at (t : Fin (cfg2 a).N) (x : S1x1x1024.Idx) (y : S8x1x1024.Idx) (h0 : (y 0).val = who a t)
    (h2 : (y 2).val = (x 2).val) : xblk a V 4 t x = V (Proc.devRef .tc main_v102) y :=
  congrArg (V (Proc.devRef .tc main_v102)) (place_small (who_index a t) x y _ (fun _ => rfl) h0 h2)

set_option backward.isDefEq.respectTransparency.types false in
theorem xblk6_at (t : Fin (cfg2 a).N) (x : S1x1x1024.Idx) (y : S8x1x1024.Idx) (h0 : (y 0).val = who a t)
    (h2 : (y 2).val = (x 2).val) : xblk a V 6 t x = V (Proc.devRef .tc main_v103) y :=
  congrArg (V (Proc.devRef .tc main_v103)) (place_small (who_index a t) x y _ (fun _ => rfl) h0 h2)

end Data

end Cert.Proof.Moe

end
-- ==== Proof.Moe.Route.lean ====
/-
  The mixture of experts: the arithmetic of the routing, on natural numbers alone. `sel` is the expert of each of the
  4096 tokens and `σ` an order of the tokens by expert. Expert `e` is given whole blocks of 128 rows, enough for its
  tokens; the tokens in order fill their expert's rows from the first on. Every token then has exactly one row, in a
  block of its own expert, and the rows left over are sent, each to a row of its own, past the tokens.
-/
module

public import Idealize.ShloMosaic.Lib.Routing.Count
public import Idealize.ShloMosaic.Lib.Routing.OpsSet

@[expose] public section

noncomputable section

namespace Cert.Proof.Moe.Route

open Finset

variable (sel σ : ℕ → ℕ)

/-- How many tokens chose expert `e`. -/
def cnt (e : ℕ) : ℕ := Nat.count (fun i => sel i = e) 4096

/-- How many tokens chose an expert before `e`. -/
def offs (e : ℕ) : ℕ := ((List.range e).map (cnt sel)).sum

/-- How many blocks of 128 rows expert `e` has. -/
def blocks (e : ℕ) : ℕ := (cnt sel e + 127) / 128

/-- The first block of expert `e`. -/
def start (e : ℕ) : ℕ := ((List.range e).map (blocks sel)).sum

/-- The row of the `k`-th token in order. -/
def slot (k : ℕ) : ℕ := 128 * start sel (sel (σ k)) + (k - offs sel (sel (σ k)))

/-- Row `s` holds a token. -/
def filled (s : ℕ) : Prop := ∃ k, k < 4096 ∧ slot sel σ k = s

open Classical in
/-- The token of row `s`; 0 where there is none. -/
def tok (s : ℕ) : ℕ := if h : filled sel σ s then σ h.choose else 0

open Classical in
/-- Where row `s` is sent: to its token, or to the next row past the tokens. -/
def dst (s : ℕ) : ℕ := if filled sel σ s then tok sel σ s else 4096 + Nat.count (fun r => ¬ filled sel σ r) s

/-- The expert of block `b`. -/
def who (b : ℕ) : ℕ := min (Nat.count (fun e => start sel (e + 1) ≤ b) 8) 7

/-- What an order by expert is. -/
structure Order : Prop where
  sel_lt : ∀ t, t < 4096 → sel t < 8
  lt : ∀ k, k < 4096 → σ k < 4096
  inj : ∀ i j, i < 4096 → j < 4096 → σ i = σ j → i = j
  surj : ∀ t, t < 4096 → ∃ k, k < 4096 ∧ σ k = t
  mono : ∀ i j, i < j → j < 4096 → sel (σ i) ≤ sel (σ j)

theorem sum_succ (f : ℕ → ℕ) (n : ℕ) : ((List.range (n + 1)).map f).sum = ((List.range n).map f).sum + f n := by
  rw [List.range_succ, List.map_append, List.sum_append]; simp

theorem offs_eq (e : ℕ) : offs sel e = #{t ∈ range 4096 | sel t < e} := by
  induction e with
  | zero => simp [offs]
  | succ e ih =>
    rw [offs, sum_succ, show ((List.range e).map (cnt sel)).sum = offs sel e from rfl, ih, cnt, Nat.count_eq_card_filter_range,
      ← card_union_of_disjoint (disjoint_filter.mpr fun t _ h h' => by omega), ← filter_or]
    congr 1
    exact filter_congr fun t _ => by omega

variable {sel σ}

/-- The tokens of the experts before `e` may be counted in the order. -/
theorem offs_order (h : Order sel σ) (e : ℕ) : offs sel e = #{k ∈ range 4096 | sel (σ k) < e} := by
  rw [offs_eq]
  symm
  refine card_bij (fun k _ => σ k) (fun k hk => ?_) (fun i hi j hj hij => ?_) fun t ht => ?_
  · have := mem_filter.mp hk
    exact mem_filter.mpr ⟨mem_range.mpr (h.lt k (mem_range.mp this.1)), this.2⟩
  · exact h.inj i j (mem_range.mp (mem_filter.mp hi).1) (mem_range.mp (mem_filter.mp hj).1) hij
  · obtain ⟨ht, hs⟩ := mem_filter.mp ht
    obtain ⟨k, hk, rfl⟩ := h.surj t (mem_range.mp ht)
    exact ⟨k, mem_filter.mpr ⟨mem_range.mpr hk, hs⟩, rfl⟩

/-- The `k`-th token in order lies among its expert's. -/
theorem offs_le (h : Order sel σ) {k : ℕ} (hk : k < 4096) : offs sel (sel (σ k)) ≤ k := by
  rw [offs_order h]
  refine (card_le_card fun i hi => mem_range.mpr ?_).trans (card_range k).le
  obtain ⟨hi, hs⟩ := mem_filter.mp hi
  by_contra hki
  rcases (not_lt.mp hki).lt_or_eq with hlt | rfl
  · exact absurd (h.mono k i hlt (mem_range.mp hi)) (not_le.mpr hs)
  · exact absurd hs (lt_irrefl _)

theorem lt_offs (h : Order sel σ) {k : ℕ} (hk : k < 4096) : k < offs sel (sel (σ k) + 1) := by
  rw [offs_order h]
  refine Nat.lt_of_lt_of_le (Nat.lt_of_succ_le (card_range (k + 1)).ge) (card_le_card fun i hi => ?_)
  have hi := mem_range.mp hi
  refine mem_filter.mpr ⟨mem_range.mpr (by omega), Nat.lt_succ_of_le ?_⟩
  rcases (Nat.lt_succ_iff.mp hi).lt_or_eq with hlt | rfl
  · exact h.mono i k hlt hk
  · exact le_rfl

theorem offs_succ (e : ℕ) : offs sel (e + 1) = offs sel e + cnt sel e := sum_succ _ _
theorem start_succ (e : ℕ) : start sel (e + 1) = start sel e + blocks sel e := sum_succ _ _

theorem start_mono {a b : ℕ} (h : a ≤ b) : start sel a ≤ start sel b := by
  induction b, h using Nat.le_induction with
  | base => exact le_rfl
  | succ b _ ih => rw [start_succ]; omega

/-- A token's row lies in a block of its expert. -/
theorem slot_bounds (h : Order sel σ) {k : ℕ} (hk : k < 4096) :
    128 * start sel (sel (σ k)) ≤ slot sel σ k ∧ slot sel σ k < 128 * start sel (sel (σ k) + 1) := by
  have h1 := offs_le h hk
  have h2 := lt_offs h hk
  have h3 : blocks sel (sel (σ k)) = (cnt sel (sel (σ k)) + 127) / 128 := rfl
  rw [offs_succ] at h2
  rw [start_succ]
  unfold slot
  omega

/-- Thirty-nine blocks are enough. -/
theorem start_le (h : Order sel σ) : start sel 8 ≤ 39 := by
  have hn : offs sel 8 = 4096 := by
    rw [offs_eq, filter_true_of_mem fun t ht => h.sel_lt t (mem_range.mp ht), card_range]
  have e0 : offs sel 0 = 0 := rfl
  have s0 : start sel 0 = 0 := rfl
  have ho := fun e => offs_succ (sel := sel) e
  have hs := fun e => start_succ (sel := sel) e
  have hb : ∀ e, 128 * blocks sel e ≤ cnt sel e + 127 := fun e => by unfold blocks; omega
  have := ho 0; have := ho 1; have := ho 2; have := ho 3; have := ho 4; have := ho 5; have := ho 6; have := ho 7
  have := hs 0; have := hs 1; have := hs 2; have := hs 3; have := hs 4; have := hs 5; have := hs 6; have := hs 7
  have := hb 0; have := hb 1; have := hb 2; have := hb 3; have := hb 4; have := hb 5; have := hb 6; have := hb 7
  norm_num at *
  omega

theorem slot_lt (h : Order sel σ) {k : ℕ} (hk : k < 4096) : slot sel σ k < 5120 := by
  have h1 := slot_bounds h hk
  have h2 := start_mono (sel := sel) (Nat.succ_le_of_lt (h.sel_lt _ (h.lt k hk)))
  have h3 := start_le h
  simp only [Nat.succ_eq_add_one] at h2
  omega

/-- Different tokens have different rows. -/
theorem slot_inj (h : Order sel σ) {i j : ℕ} (hi : i < 4096) (hj : j < 4096) (hij : slot sel σ i = slot sel σ j) : i = j := by
  have key : ∀ i j, i < j → j < 4096 → slot sel σ i ≠ slot sel σ j := fun i j hlt hj he => by
    have bi := slot_bounds h (hlt.trans hj)
    have bj := slot_bounds h hj
    rcases (h.mono i j hlt hj).lt_or_eq with hs | hs
    · have := start_mono (sel := sel) (Nat.succ_le_of_lt hs)
      simp only [Nat.succ_eq_add_one] at this
      omega
    · have oi := offs_le h (hlt.trans hj)
      have oj := offs_le h hj
      unfold slot at he
      rw [hs] at he oi
      omega
  rcases lt_trichotomy i j with hlt | rfl | hlt
  · exact absurd hij (key i j hlt hj)
  · rfl
  · exact absurd hij.symm (key j i hlt hi)

theorem tok_slot (h : Order sel σ) {k : ℕ} (hk : k < 4096) : tok sel σ (slot sel σ k) = σ k := by
  have hf : filled sel σ (slot sel σ k) := ⟨k, hk, rfl⟩
  unfold tok
  rw [dif_pos hf]
  exact congrArg σ (slot_inj h hf.choose_spec.1 hk hf.choose_spec.2)

theorem tok_lt (h : Order sel σ) (s : ℕ) : tok sel σ s < 4096 := by
  unfold tok
  split
  · next hf => exact h.lt _ hf.choose_spec.1
  · omega

theorem tok_pad {s : ℕ} (hf : ¬ filled sel σ s) : tok sel σ s = 0 := dif_neg hf

open Classical in
/-- A thousand and twenty-four rows hold no token. -/
theorem pads (h : Order sel σ) : Nat.count (fun r => ¬ filled sel σ r) 5120 = 1024 := by
  have hf : #{r ∈ range 5120 | filled sel σ r} = 4096 := by
    rw [show {r ∈ range 5120 | filled sel σ r} = (range 4096).image (slot sel σ) from ?_,
      card_image_of_injOn fun i hi j hj => slot_inj h (mem_range.mp (mem_coe.mp hi)) (mem_range.mp (mem_coe.mp hj)), card_range]
    ext r
    simp only [mem_filter, mem_range, mem_image]
    exact ⟨fun ⟨_, k, hk, hr⟩ => ⟨k, hk, hr⟩, fun ⟨k, hk, hr⟩ => ⟨hr ▸ slot_lt h hk, k, hk, hr⟩⟩
  have hc := card_filter_add_card_filter_not (s := range 5120) (fun r => filled sel σ r)
  rw [hf, card_range] at hc
  rw [Nat.count_eq_card_filter_range]
  omega

theorem dst_slot (h : Order sel σ) {k : ℕ} (hk : k < 4096) : dst sel σ (slot sel σ k) = σ k := by
  unfold dst
  rw [if_pos ⟨k, hk, rfl⟩, tok_slot h hk]

open Classical in
theorem dst_pad {s : ℕ} (hf : ¬ filled sel σ s) : dst sel σ s = 4096 + Nat.count (fun r => ¬ filled sel σ r) s := if_neg hf

theorem dst_lt (h : Order sel σ) {s : ℕ} (hs : s < 5120) : dst sel σ s < 5120 := by
  by_cases hf : filled sel σ s
  · obtain ⟨k, hk, rfl⟩ := hf
    rw [dst_slot h hk]
    exact (h.lt k hk).trans (by norm_num)
  · classical
    have := Nat.count_strict_mono (p := fun r => ¬ filled sel σ r) hf hs
    rw [dst_pad hf]
    have hp := pads h
    omega

/-- Different rows are sent to different rows. -/
theorem dst_inj (h : Order sel σ) {r s : ℕ} (he : dst sel σ r = dst sel σ s) : r = s := by
  by_cases hr : filled sel σ r <;> by_cases hs : filled sel σ s
  · obtain ⟨i, hi, rfl⟩ := hr
    obtain ⟨j, hj, rfl⟩ := hs
    rw [dst_slot h hi, dst_slot h hj] at he
    exact congrArg _ (h.inj i j hi hj he)
  · obtain ⟨i, hi, rfl⟩ := hr
    rw [dst_slot h hi, dst_pad hs] at he
    have := h.lt i hi
    omega
  · obtain ⟨j, hj, rfl⟩ := hs
    rw [dst_slot h hj, dst_pad hr] at he
    have := h.lt j hj
    omega
  · classical
    rw [dst_pad hr, dst_pad hs] at he
    exact Nat.count_injective (p := fun r => ¬ filled sel σ r) hr hs (by omega)

/-- The block of a token's row is its expert's. -/
theorem who_slot (h : Order sel σ) {k : ℕ} (hk : k < 4096) : who sel (slot sel σ k / 128) = sel (σ k) := by
  have hb := slot_bounds h hk
  have he := h.sel_lt _ (h.lt k hk)
  have hc : Nat.count (fun e => start sel (e + 1) ≤ slot sel σ k / 128) 8 = sel (σ k) := by
    rw [Nat.count_eq_card_filter_range, ← card_range (sel (σ k))]
    congr 1
    ext e
    simp only [mem_filter, mem_range]
    constructor
    · rintro ⟨-, hs⟩
      by_contra hlt
      have := start_mono (sel := sel) (Nat.succ_le_succ (not_lt.mp hlt))
      simp only [Nat.succ_eq_add_one] at this
      omega
    · intro hlt
      have := start_mono (sel := sel) (Nat.succ_le_of_lt hlt)
      simp only [Nat.succ_eq_add_one] at this
      omega
  unfold who
  rw [hc]
  omega

theorem who_lt (b : ℕ) : who sel b < 8 := by unfold who; omega

/-- Every token has a row: one that holds it, is sent to it, and lies in a block of its expert. -/
theorem placed (h : Order sel σ) {t : ℕ} (ht : t < 4096) :
    ∃ s, s < 5120 ∧ dst sel σ s = t ∧ tok sel σ s = t ∧ who sel (s / 128) = sel t := by
  obtain ⟨k, hk, rfl⟩ := h.surj t ht
  exact ⟨slot sel σ k, slot_lt h hk, dst_slot h hk, tok_slot h hk, who_slot h hk⟩

end Cert.Proof.Moe.Route

end
-- ==== Proof.Moe.Words.lean ====
/-
  The mixture of experts: arrays of 32-bit words that hold natural numbers, and what the routing's host operations do to
  them — a take by a wrapped index, a tally, a scattered assignment, a running sum moved one place on.
-/
module

public import Idealize.ShloMosaic.Lib.Routing.OpsSet
public import Idealize.ShloMosaic.Lib.Routing.OpsSearch
public import Idealize.ShloMosaic.Lib.Routing.OpsOne
public import Idealize.ShloMosaic.Lib.PlanTiles.Rows

@[expose] public section

noncomputable section

namespace Cert.Proof.Moe

open Idealize.ShloMosaic Idealize.ShloMosaic.Routing Idealize.ShloMosaic.ValueIdx

/-- The vector `x` holds the numbers `f 0, f 1, …`. -/
def Holds {n : ℕ} (x : IVec (shape1 n) 32) (f : ℕ → ℕ) : Prop := ∀ i : Fin n, x (ix1 i) = BitVec.ofNat 32 (f i.val)

theorem Holds.toNat {n : ℕ} {x : IVec (shape1 n) 32} {f : ℕ → ℕ} (h : Holds x f) (hf : ∀ i, i < n → f i < 2 ^ 31) (p : (shape1 n).Idx) :
    (x p).toNat = f (p 0).val := by
  have hlt := hf (p 0).val (p 0).isLt
  have he : x p = _ := (congrArg x (eq_ix1 p)).trans (h (p 0))
  rw [he, BitVec.toNat_ofNat, Nat.mod_eq_of_lt (by omega)]

theorem sub_words {a b : ℕ} (h : b ≤ a) : BitVec.ofNat 32 a - BitVec.ofNat 32 b = BitVec.ofNat 32 (a - b) := by
  rw [sub_eq_iff_eq_add, ← BitVec.ofNat_add, Nat.sub_add_cancel h]

/-- An index below half the range is not moved by the wrap of negative indices. -/
theorem wrapped {s : Shape} (i : IVec s 32) (c : BitVec 32) (hb : shape0.BroadcastsInDim s (![] : Fin 0 → Fin s.rank)) (h : ∀ p, (i p).toNat < 2 ^ 31) :
    select (cmpi .slt i (broadcastInDim s ![] hb (constantI shape0 32 0#32))) (addi i (broadcastInDim s ![] hb (constantI shape0 32 c))) i = i :=
  funext fun p => wrap_of_lt (i p) _ (h p)

/-- A take from a vector by indices in its range. -/
theorem taken {N n : ℕ} (d : GatherDims (shape1 N) (shape2 n 1) (shape1 n)) (hcoll : d.collapsedSliceDims = [0]) (hob : d.operandBatchingDims = [])
    (hsim : d.startIndexMap = [0]) (hivd : d.indexVectorDim = 1) (hN : N < 2 ^ 31) {x : IVec (shape1 N) 32} {i : IVec (shape1 n) 32} {f g : ℕ → ℕ}
    (hx : Holds x f) (hi : Holds i g) (hg : ∀ k, k < n → g k < N) (c : BitVec 32) (hb : shape0.BroadcastsInDim (shape1 n) (![] : Fin 0 → Fin (shape1 n).rank))
    (hc : (shape1 n).BroadcastsInDim (shape2 n 1) (![0] : Fin 1 → Fin (shape2 n 1).rank)) :
    Holds (Host.gather d x (broadcastInDim (shape2 n 1) ![0] hc
      (select (cmpi .slt i (broadcastInDim (shape1 n) ![] hb (constantI shape0 32 0#32))) (addi i (broadcastInDim (shape1 n) ![] hb (constantI shape0 32 c))) i)))
      fun k => f (g k) := by
  intro p
  rw [wrapped i c hb fun q => by rw [hi.toNat (fun k hk => (hg k hk).trans hN)]; exact (hg _ (q 0).isLt).trans hN]
  rw [take_ap d hcoll hob hsim hivd x _ p (hg p.val p.isLt) ((hg p.val p.isLt).trans hN) ((bcCol hc i p).trans (hi p))]
  exact hx _

/-- An update of a vector, one index each, lands at its index. -/
theorem lands {N M : ℕ} (d : ScatterDims (shape1 N) (shape2 M 1) (shape1 M)) (hiw : d.insertedWindowDims = [0]) (hsd : d.scatterDimsToOperandDims = [0])
    (hivd : d.indexVectorDim = 1) (idx : IVec (shape2 M 1) 32) (i : Fin M) (g : ℕ) (hg : idx (ix2 i (0 : Fin 1)) = BitVec.ofNat 32 g) (h31 : g < 2 ^ 31) (x : Fin N) :
    d.resultIdx? (ix1 i) idx = some (ix1 x) ↔ g = x.val := by
  have hwin : d.window (ix1 i) 0 = 0 := by
    unfold ScatterDims.window
    exact dif_neg fun h => (of_decide_eq_true (List.mem_filter.1 h).2) (by rw [hiw]; exact List.mem_singleton.2 rfl)
  have hm : (0 : Fin 1) ∈ d.scatterDimsToOperandDims := by rw [hsd]; exact List.mem_singleton.2 rfl
  have hstart : d.start (ix1 i) idx 0 = (g : ℤ) := by
    unfold ScatterDims.start
    rw [dif_pos hm, show d.siIdx (ix1 i) ⟨d.scatterDimsToOperandDims.idxOf 0, List.idxOf_lt_length_iff.2 hm⟩ = ix2 i (0 : Fin 1) from ?_, hg,
      StableHlo.Predicate.toInt_ofNat_small _ h31]
    funext b
    refine Fin.ext ?_
    match b with
    | ⟨0, _⟩ =>
      unfold ScatterDims.siIdx
      rw [dif_neg (by rw [hivd]; exact Nat.zero_ne_one)]
      unfold ScatterDims.siCoord
      simp only [Fin.val_cast]
      exact (fun X : Fin 1 => congrArg (fun Y : Fin 1 => (ix1 i Y).val) (Subsingleton.elim X 0)) _
    | ⟨1, _⟩ =>
      unfold ScatterDims.siIdx
      rw [dif_pos (by rw [hivd])]
      exact (congrArg (List.idxOf (0 : Fin 1)) hsd).trans (by simp)
  rw [resultIdx?_ix1, hwin, hstart]
  omega

/-- Adding one at every index counts the indices. -/
theorem tally {N M : ℕ} (d : ScatterDims (shape1 N) (shape2 M 1) (shape1 M)) (hiw : d.insertedWindowDims = [0]) (hsd : d.scatterDimsToOperandDims = [0])
    (hivd : d.indexVectorDim = 1) (x0 : IVec (shape1 N) 32) (hx0 : ∀ i, x0 i = 0#32) (idx : IVec (shape2 M 1) 32) (upd : IVec (shape1 M) 32)
    (hupd : ∀ i, upd i = 1#32) (g : ℕ → ℕ) (hg : ∀ i : Fin M, idx (ix2 i (0 : Fin 1)) = BitVec.ofNat 32 (g i.val)) (h31 : ∀ i, i < M → g i < 2 ^ 31) :
    Holds (Host.scatter d IntOp.addi x0 idx upd) fun e => Nat.count (fun i => g i = e) M := by
  intro x
  unfold Host.scatter
  refine (foldl_count _ (ix1 x) (fun n => decide (g n.val = x.val)) (fun r n => ?_) _ x0 0 (hx0 _)).trans ?_
  · have hi := lands d hiw hsd hivd idx (n.cast (numel1 M)) _ (hg _) (h31 _ (n.cast (numel1 M)).isLt) x
    simp only [symm1, hupd]
    generalize d.resultIdx? (ix1 (n.cast (numel1 M))) idx = o at hi ⊢
    change _ ↔ g n.val = x.val at hi
    by_cases hgx : g n.val = x.val
    · rw [hi.mpr hgx]
      simp [hgx]
    · have ho : o ≠ some (ix1 x) := fun h => hgx (hi.mp h)
      cases o with
      | none => simp [hgx]
      | some k => simp only [hgx, decide_false, Bool.false_eq_true, if_false]; exact if_neg fun h => ho (congrArg some h.symm)
  · rw [Nat.zero_add, countP_finRange _ (fun i => g i = x.val), numel1]

/-- A vector moved one place on, after a zero. -/
theorem moved {n m : ℕ} (hn : n = m + 1) {z : IVec (shape1 1) 32} {x : IVec (shape1 n) 32} {f : ℕ → ℕ} (hz : z (ix1 0) = 0#32) (hx : Holds x f)
    (hs : (shape1 n).Slices ![0] (shape1 m)) (hc : Shape.Concatenates [shape1 1, shape1 m] (shape1 n) 0) :
    Holds (concatenate (shape1 n) 0 [⟨shape1 1, z⟩, ⟨shape1 m, extractStridedSlice (shape1 m) ![0] x hs⟩] hc) fun e => if e = 0 then 0 else f (e - 1) := by
  intro e
  dsimp only
  by_cases he : e.val = 0
  · rw [if_pos he]
    refine (concatenate_pair_apply_left 0 _ _ hc (ix1 e) rfl (ix1 (0 : Fin 1)) fun b => ?_).trans hz
    obtain rfl : b = 0 := Subsingleton.elim (α := Fin 1) b 0
    exact he.symm
  · have hlt := e.isLt
    rw [if_neg he]
    refine (concatenate_pair_apply_right 0 _ _ hc (ix1 e) rfl rfl (ix1 (⟨e.val - 1, by omega⟩ : Fin m)) (fun b hb => ?_) ?_).trans ?_
    · exact absurd (Subsingleton.elim (α := Fin 1) _ _) hb
    · show e.val - 1 + 1 = e.val
      omega
    · rw [slice1 0 x hs (⟨e.val - 1, by omega⟩ : Fin m) (show 0 + (e.val - 1) < n by omega), hx]
      dsimp only
      rw [Nat.zero_add]

end Cert.Proof.Moe

end
-- ==== Proof.Moe.Stages.lean ====
/-
  The mixture of experts: what each step of the routing's host code leaves, given what it finds, as numbers.
-/
module

public import proofs.«01_k».proof.Proof.Moe.Ops
public import proofs.«01_k».proof.Proof.Moe.Route
public import proofs.«01_k».proof.Proof.Moe.Words

@[expose] public section

noncomputable section

namespace Cert.Proof.Moe

open Cert.KernelIdeal Cert.KernelIdeal.Gen
open Idealize.ShloMosaic Idealize.ShloMosaic.TcCoe
open Idealize.ShloMosaic.StableHlo (held after seq)
open Idealize.ShloMosaic.Routing Idealize.ShloMosaic.ValueIdx
open Idealize.SL Idealize.SL.Sem
open Route

variable {F : FTy → Type} [FloatOps F]
variable (W : Valuation τ sig (Elt F)) {sel σ : ℕ → ℕ}

/-! ## The tally -/

/-- The selections, from the router's blocks of 512. -/
theorem count_v9 (h : ∀ (i : Fin 8) (r : Fin 512), (W (Proc.devRef .tc main_v8_1) : IVec S8x1x512 32) (ix3 i (0 : Fin 1) r) = BitVec.ofNat 32 (sel (512 * i.val + r.val))) :
    Holds (n := 4096) (after opsCount W (Proc.devRef .tc main_v9)) sel := by
  intro t
  have ht := t.isLt
  have e : (after opsCount W (Proc.devRef .tc main_v9) : IVec S4096 32)
      = shapeCast S4096 (W (Proc.devRef .tc main_v8_1) : IVec S8x1x512 32) shapeCasts_S8x1x512_S4096 := by after_reads_simp; rfl
  refine (congrFun e (ix1 t)).trans ((shapeCast_apply _ shapeCasts_S8x1x512_S4096 (ix1 t)
    (ix3 (⟨t.val / 512, by omega⟩ : Fin 8) (0 : Fin 1) (⟨t.val % 512, by omega⟩ : Fin 512)) ?_).trans ((h _ _).trans ?_))
  · rw [Shape.rowMajor_val_three, Shape.rowMajor_val_one]
    show (t.val / 512 * 1 + 0) * 512 + t.val % 512 = t.val
    omega
  · exact congrArg (fun n => BitVec.ofNat 32 (sel n)) (show 512 * (t.val / 512) + t.val % 512 = t.val by omega)

theorem count_v19 (hs : ∀ t, t < 4096 → sel t < 8) (h : Holds (n := 4096) (after opsCount W (Proc.devRef .tc main_v9)) sel) :
    Holds (n := 8) (after opsCount W (Proc.devRef .tc main_v19)) (cnt sel) := by
  generalize hx : (after opsCount W (Proc.devRef .tc main_v9) : IVec S4096 32) = x at h
  have e : (after opsCount W (Proc.devRef .tc main_v19) : IVec S8 32)
      = Host.scatter scatter_S8_S4096x1_S4096_n_0_0_1 IntOp.addi (broadcastInDim S8 ![] bcast_S_S8 (constantI S_ 32 0#32))
          (broadcastInDim S4096x1 ![0] bcast_S4096_S4096x1_0
            (select (cmpi .slt (maxsi (broadcastInDim S4096 ![] bcast_S_S4096 (constantI S_ 32 0#32)) x) (broadcastInDim S4096 ![] bcast_S_S4096 (constantI S_ 32 0#32)))
              (addi (maxsi (broadcastInDim S4096 ![] bcast_S_S4096 (constantI S_ 32 0#32)) x) (broadcastInDim S4096 ![] bcast_S_S4096 (constantI S_ 32 8#32)))
              (maxsi (broadcastInDim S4096 ![] bcast_S_S4096 (constantI S_ 32 0#32)) x)))
          (broadcastInDim S4096 ![] bcast_S_S4096 (constantI S_ 32 1#32)) := by
    rw [← hx]; after_reads_simp; rfl
  have hm : maxsi (broadcastInDim S4096 ![] bcast_S_S4096 (constantI S_ 32 0#32)) x = x := funext fun p => by
    have hlt := hs _ (p 0).isLt
    have hp : x p = _ := (congrArg x (eq_ix1 p)).trans (h (p 0))
    show IntOp.maxsi 0#32 (x p) = x p
    rw [hp]
    exact maxsi_zero_left (by omega)
  have h31 : ∀ t, t < 4096 → sel t < 2 ^ 31 := fun t ht => (hs t ht).trans (by norm_num)
  rw [hm, show select (cmpi .slt x (broadcastInDim S4096 ![] bcast_S_S4096 (constantI S_ 32 0#32))) (addi x (broadcastInDim S4096 ![] bcast_S_S4096 (constantI S_ 32 8#32))) x = x
    from wrapped x 8#32 bcast_S_S4096 fun p => by rw [h.toNat h31]; exact h31 _ (p 0).isLt] at e
  intro i
  exact (congrFun e (ix1 i)).trans (tally (N := 8) (M := 4096) scatter_S8_S4096x1_S4096_n_0_0_1 rfl rfl rfl _ (fun _ => rfl) _ _ (fun _ => rfl) sel
    (fun t => (bcCol _ x t).trans (h t)) h31 i)

/-! ## The order -/

theorem order_v20 (hs : ∀ t, t < 4096 → sel t < 8) (h : Holds (n := 4096) (W (Proc.devRef .tc main_v9)) sel) :
    ∃ σ, Order sel σ ∧ Holds (n := 4096) (after opsOrder W (Proc.devRef .tc main_v20)) σ := by
  generalize hx : (W (Proc.devRef .tc main_v9) : IVec S4096 32) = x at h
  have e : (after opsOrder W (Proc.devRef .tc main_v20) : IVec S4096 32)
      = (Host.sort2 S4096 0 comparator_i32_i32_d0 x (iotaInDim S4096 32 0)).2 := by
    rw [← hx]; after_reads_simp; rfl
  let before : Fin 4096 → Fin 4096 → Bool := fun a b => decide (sel a.val < sel b.val)
  have hal : ∀ (j : S4096.Idx) (c : Fin 4096), j.along (⟨0, Nat.one_pos⟩ : Fin S4096.rank) c = ix1 c := fun j c =>
    (Shape.Idx.along_rank1 j c).trans (ofFin_eq_ix1 c)
  have hbef : ∀ j : S4096.Idx, (fun a b : Fin 4096 => comparator_i32_i32_d0 (x (j.along (⟨0, Nat.one_pos⟩ : Fin S4096.rank) a), iotaInDim S4096 32 0 (j.along (⟨0, Nat.one_pos⟩ : Fin S4096.rank) a))
      (x (j.along (⟨0, Nat.one_pos⟩ : Fin S4096.rank) b), iotaInDim S4096 32 0 (j.along (⟨0, Nat.one_pos⟩ : Fin S4096.rank) b)) == 1#1) = before := fun j => by
    funext a b
    have ha := hs _ a.isLt
    have hb := hs _ b.isLt
    have xa : x (j.along (⟨0, Nat.one_pos⟩ : Fin S4096.rank) a) = _ := (congrArg x (hal j a)).trans (h a)
    have xb : x (j.along (⟨0, Nat.one_pos⟩ : Fin S4096.rank) b) = _ := (congrArg x (hal j b)).trans (h b)
    show (IntOp.cmpi .slt (x (j.along (⟨0, Nat.one_pos⟩ : Fin S4096.rank) a)) (x (j.along (⟨0, Nat.one_pos⟩ : Fin S4096.rank) b)) == 1#1) = decide (sel a.val < sel b.val)
    rw [xa, xb]
    refine Bool.eq_iff_iff.mpr ?_
    rw [beq_iff_eq, decide_eq_true_iff]
    exact WordCmp.cmpi_slt_ofNat_eq_one_iff (w := 32) (by omega) (by omega)
  refine ⟨fun k => if hk : k < 4096 then (sortedFrom before ⟨k, hk⟩).val else 0, ⟨hs, fun k hk => ?_, fun i j hi hj hij => ?_, fun t ht => ?_, fun i j hij hj => ?_⟩, fun k => ?_⟩
  · rw [dif_pos hk]; exact (sortedFrom before ⟨k, hk⟩).isLt
  · rw [dif_pos hi, dif_pos hj] at hij
    exact congrArg Fin.val (sortedFrom_injective before (Fin.ext hij))
  · obtain ⟨k, hk⟩ := sortedFrom_surjective before ⟨t, ht⟩
    exact ⟨k.val, k.isLt, by rw [dif_pos k.isLt]; exact congrArg Fin.val hk⟩
  · have hi := hij.trans hj
    rw [dif_pos hi, dif_pos hj]
    have hn := sortedFrom_noInversion before before (fun a b hab => by simp only [before, decide_eq_true_iff, decide_eq_false_iff_not] at *; omega)
      (fun _ _ hab => hab) (fun a b c hab hbc => by simp only [before, decide_eq_false_iff_not] at *; omega) ⟨i, hi⟩ ⟨j, hj⟩ hij
    simp only [before, decide_eq_false_iff_not, not_lt] at hn
    exact hn
  · refine (congrFun e (ix1 k)).trans ?_
    dsimp only
    rw [dif_pos k.isLt]
    unfold Host.sort2
    rw [dif_pos (show 0 < S4096.rank from Nat.one_pos)]
    refine (congrArg (iotaInDim S4096 32 0) (hal (ix1 k) _)).trans ?_
    exact congrArg (fun b => BitVec.ofNat 32 (sortedFrom b k).val) (hbef (ix1 k))

/-! ## The blocks -/

theorem blocks_v25 (h : Holds (n := 8) (W (Proc.devRef .tc main_v19)) (cnt sel)) :
    Holds (n := 8) (after opsBlocks W (Proc.devRef .tc main_v25)) (blocks sel) := by
  generalize hx : (W (Proc.devRef .tc main_v19) : IVec S8 32) = x at h
  have e : (after opsBlocks W (Proc.devRef .tc main_v25) : IVec S8 32)
      = pyDiv bcast_S_S8 (subi (addi x (broadcastInDim S8 ![] bcast_S_S8 (constantI S_ 32 128#32))) (broadcastInDim S8 ![] bcast_S_S8 (constantI S_ 32 1#32)))
          (constantI S_ 32 128#32) := by
    rw [← hx]
    after_reads_simp
    simp -implicitDefEqProofs only [StableHlo.TRef.toBuf, StableHlo.TRef.ofBuf, cast_cast, cast_eq]
    unfold pyDiv
    rfl
  intro i
  have hc : cnt sel i.val ≤ 4096 := Nat.count_le _
  refine (congrFun e (ix1 i)).trans (pyDiv_ap (s := S8) bcast_S_S8 _ _ (ix1 i) (a := cnt sel i.val + 127) (b := 128) ?_ rfl (by omega) (by norm_num) (by norm_num))
  refine (fun (a : BitVec 32) (ha : a = _) => (?_ : a + 128#32 - 1#32 = BitVec.ofNat 32 (cnt sel i.val + 127))) _ (h i)
  rw [ha, show (128#32 : BitVec 32) = BitVec.ofNat 32 128 from rfl, show (1#32 : BitVec 32) = BitVec.ofNat 32 1 from rfl, ← BitVec.ofNat_add, sub_words (by omega)]
  exact congrArg _ (by omega)

theorem blocks_v26 (h : Holds (n := 8) (W (Proc.devRef .tc main_v19)) (cnt sel)) :
    Holds (n := 8) (after opsBlocks W (Proc.devRef .tc main_v26)) fun e => start sel (e + 1) := by
  have h17 := blocks_v25 W h
  generalize hx : (after opsBlocks W (Proc.devRef .tc main_v25) : IVec S8 32) = x at h17
  have e : (after opsBlocks W (Proc.devRef .tc main_v26) : IVec S8 32)
      = Host.reduceWindow IntOp.addi ![8] ![1] ![7] ![0] x (broadcastInDim S_ ![] bcast_S_S_ (constantI S_ 32 0#32)) reduceWindows_S8_S8_w8s1p7_0 h_S_ := by
    rw [← hx]
    after_reads_simp
    simp -implicitDefEqProofs only [StableHlo.TRef.toBuf, StableHlo.TRef.ofBuf, cast_cast, cast_eq]
  intro i
  exact (congrFun e (ix1 i)).trans (cumsum1 rfl x (blocks sel) h17 _ rfl _ _ i)

theorem start_v31 (h : Holds (n := 8) (W (Proc.devRef .tc main_v26)) fun e => start sel (e + 1)) :
    Holds (n := 8) (after opsStart W (Proc.devRef .tc main_v31)) fun e => 128 * start sel e := by
  generalize hx : (W (Proc.devRef .tc main_v26) : IVec S8 32) = x at h
  have e : (after opsStart W (Proc.devRef .tc main_v31) : IVec S8 32)
      = muli (concatenate S8 0 [⟨S1, broadcastInDim S1 ![] bcast_S_S1 (constantI S_ 32 0#32)⟩, ⟨S7, extractStridedSlice S7 ![0] x slices_S8_S7_0⟩] concatenates_S1_S7_S8_d0)
          (broadcastInDim S8 ![] bcast_S_S8 (constantI S_ 32 128#32)) := by
    rw [← hx]
    after_reads_simp
    rfl
  intro i
  refine (congrFun e (ix1 i)).trans ((congrArg (· * 128#32) (moved (n := 8) (m := 7) rfl rfl h slices_S8_S7_0 concatenates_S1_S7_S8_d0 i)).trans ?_)
  dsimp only
  rw [show (128#32 : BitVec 32) = BitVec.ofNat 32 128 from rfl, ← BitVec.ofNat_mul, Nat.mul_comm]
  rcases hi : i.val with _ | n
  · rfl
  · rfl

theorem offset_v35 (h : Holds (n := 8) (W (Proc.devRef .tc main_v19)) (cnt sel)) :
    Holds (n := 8) (after opsOffset W (Proc.devRef .tc main_v35)) (offs sel) := by
  generalize hx : (W (Proc.devRef .tc main_v19) : IVec S8 32) = x at h
  have e : (after opsOffset W (Proc.devRef .tc main_v35) : IVec S8 32)
      = concatenate S8 0 [⟨S1, broadcastInDim S1 ![] bcast_S_S1 (constantI S_ 32 0#32)⟩, ⟨S7, extractStridedSlice S7 ![0]
          (Host.reduceWindow IntOp.addi ![8] ![1] ![7] ![0] x (broadcastInDim S_ ![] bcast_S_S_ (constantI S_ 32 0#32)) reduceWindows_S8_S8_w8s1p7_0 h_S_) slices_S8_S7_0⟩]
          concatenates_S1_S7_S8_d0 := by
    rw [← hx]
    after_reads_simp
    rfl
  intro i
  refine (congrFun e (ix1 i)).trans ((moved (n := 8) (m := 7) (f := fun e => offs sel (e + 1)) rfl rfl (fun j => cumsum1 rfl x (cnt sel) h _ rfl _ _ j)
    slices_S8_S7_0 concatenates_S1_S7_S8_d0 i).trans ?_)
  dsimp only
  rcases hi : i.val with _ | n
  · rfl
  · rfl

/-! ## The rows of the tokens -/

theorem sorted_v42 (ho : Order sel σ) (h1 : Holds (n := 4096) (W (Proc.devRef .tc main_v9)) sel) (h : Holds (n := 4096) (W (Proc.devRef .tc main_v20)) σ) :
    Holds (n := 4096) (after opsSorted W (Proc.devRef .tc main_v42)) fun k => sel (σ k) := by
  intro i
  refine (congrFun (show (after opsSorted W (Proc.devRef .tc main_v42) : IVec S4096 32) = _ by after_reads_simp) (ix1 i)).trans
    (taken (N := 4096) (n := 4096) gather_S4096_S4096x1_S4096_n_0_n_n_0_1_1 rfl rfl rfl rfl (by norm_num) h1 h ho.lt 4096#32 bcast_S_S4096 bcast_S4096_S4096x1_0 i)

theorem base_v43 : Holds (n := 4096) (after opsBase W (Proc.devRef .tc main_v43)) fun k => k := by
  intro i
  exact congrFun (show (after opsBase W (Proc.devRef .tc main_v43) : IVec S4096 32) = iotaInDim S4096 32 0 by after_reads_simp) (ix1 i)

theorem base_v50 (ho : Order sel σ) (h1 : Holds (n := 8) (W (Proc.devRef .tc main_v31)) fun e => 128 * start sel e)
    (h : Holds (n := 4096) (W (Proc.devRef .tc main_v42)) fun k => sel (σ k)) :
    Holds (n := 4096) (after opsBase W (Proc.devRef .tc main_v50)) fun k => 128 * start sel (sel (σ k)) := by
  intro i
  refine (congrFun (show (after opsBase W (Proc.devRef .tc main_v50) : IVec S4096 32) = _ by after_reads_simp) (ix1 i)).trans
    (taken (N := 8) (n := 4096) gather_S8_S4096x1_S4096_n_0_n_n_0_1_1 rfl rfl rfl rfl (by norm_num) h1 h (fun k hk => ho.sel_lt _ (ho.lt k hk)) 8#32 bcast_S_S4096 bcast_S4096_S4096x1_0 i)

theorem slot_v59 (ho : Order sel σ) (h27 : Holds (n := 8) (W (Proc.devRef .tc main_v35)) (offs sel)) (h34 : Holds (n := 4096) (W (Proc.devRef .tc main_v42)) fun k => sel (σ k))
    (h35 : Holds (n := 4096) (W (Proc.devRef .tc main_v43)) fun k => k) (h42 : Holds (n := 4096) (W (Proc.devRef .tc main_v50)) fun k => 128 * start sel (sel (σ k))) :
    Holds (n := 4096) (after opsSlot W (Proc.devRef .tc main_v59)) (slot sel σ) := by
  have h49 := taken (N := 8) (n := 4096) gather_S8_S4096x1_S4096_n_0_n_n_0_1_1 rfl rfl rfl rfl (by norm_num) h27 h34 (fun k hk => ho.sel_lt _ (ho.lt k hk)) 8#32 bcast_S_S4096 bcast_S4096_S4096x1_0
  intro i
  have key : ∀ (a b c : BitVec 32), a = _ → b = _ → c = _ → a + (b - c) = BitVec.ofNat 32 (slot sel σ i.val) := fun a b c ha hb hc => by
    rw [ha, hb, hc, sub_words (offs_le ho i.isLt), ← BitVec.ofNat_add]
    rfl
  exact (congrFun (show (after opsSlot W (Proc.devRef .tc main_v59) : IVec S4096 32) = addi _ (subi _ _) by after_reads_simp) (ix1 i)).trans
    (key _ _ _ (h42 i) (h35 i) (h49 i))

end Cert.Proof.Moe

end
-- ==== Proof.Moe.Lists.lean ====
/-
  The mixture of experts: what the last steps of the routing's host code leave — each padded row's token, where each row
  is sent, each block's expert, and the lists of 128-lane rows that the SparseCore calls read and write by.
-/
module

public import proofs.«01_k».proof.Proof.Moe.Stages

@[expose] public section

noncomputable section

namespace Cert.Proof.Moe

open Cert.KernelIdeal Cert.KernelIdeal.Gen
open Idealize.ShloMosaic Idealize.ShloMosaic.TcCoe
open Idealize.ShloMosaic.StableHlo (held after seq)
open Idealize.ShloMosaic.Routing Idealize.ShloMosaic.ValueIdx
open Idealize.SL Idealize.SL.Sem
open Route

variable {F : FTy → Type} [FloatOps F]
variable (W : Valuation τ sig (Elt F)) {sel σ : ℕ → ℕ}

open Classical in
/-- Each padded row holds its token, or minus one. -/
theorem owner_v67 (ho : Order sel σ) (h51 : Holds (n := 4096) (W (Proc.devRef .tc main_v59)) (slot sel σ)) (h12 : Holds (n := 4096) (W (Proc.devRef .tc main_v20)) σ)
    (s : Fin 5120) : (after opsOwner W (Proc.devRef .tc main_v67) : IVec S5120 32) (ix1 s)
      = if filled sel σ s.val then BitVec.ofNat 32 (tok sel σ s.val) else 4294967295#32 := by
  generalize hx : (W (Proc.devRef .tc main_v59) : IVec S4096 32) = x at h51
  generalize hy : (W (Proc.devRef .tc main_v20) : IVec S4096 32) = y at h12
  have e : (after opsOwner W (Proc.devRef .tc main_v67) : IVec S5120 32)
      = Host.scatter scatter_S5120_S4096x1_S4096_n_0_0_1 (fun _ b => b) (broadcastInDim S5120 ![] bcast_S_S5120 (constantI S_ 32 4294967295#32))
          (broadcastInDim S4096x1 ![0] bcast_S4096_S4096x1_0
            (select (cmpi .slt x (broadcastInDim S4096 ![] bcast_S_S4096 (constantI S_ 32 0#32))) (addi x (broadcastInDim S4096 ![] bcast_S_S4096 (constantI S_ 32 5120#32))) x)) y := by
    rw [← hx, ← hy]; after_reads_simp; rfl
  have h31 : ∀ k, k < 4096 → slot sel σ k < 2 ^ 31 := fun k hk => (slot_lt ho hk).trans (by norm_num)
  rw [show select (cmpi .slt x (broadcastInDim S4096 ![] bcast_S_S4096 (constantI S_ 32 0#32))) (addi x (broadcastInDim S4096 ![] bcast_S_S4096 (constantI S_ 32 5120#32))) x = x
    from wrapped x 5120#32 bcast_S_S4096 fun p => by rw [h51.toNat h31]; exact h31 _ (p 0).isLt] at e
  have hl : ∀ k : S4096.Idx, scatter_S5120_S4096x1_S4096_n_0_0_1.resultIdx? k (broadcastInDim S4096x1 ![0] bcast_S4096_S4096x1_0 x) = some (ix1 s) ↔ slot sel σ (k 0).val = s.val := fun k => by
    have hk := lands (N := 5120) (M := 4096) scatter_S5120_S4096x1_S4096_n_0_0_1 rfl rfl rfl (broadcastInDim S4096x1 ![0] bcast_S4096_S4096x1_0 x) (k 0)
      _ ((bcCol _ x (k 0)).trans (h51 (k 0))) (h31 _ (k 0).isLt) s
    exact (iff_of_eq (congrArg (fun q => scatter_S5120_S4096x1_S4096_n_0_0_1.resultIdx? q (broadcastInDim S4096x1 ![0] bcast_S4096_S4096x1_0 x) = some (ix1 s)) (eq_ix1 k))).trans hk
  refine (congrFun e (ix1 s)).trans ?_
  by_cases hf : filled sel σ s.val
  · rw [if_pos hf]
    obtain ⟨k, hk, hks⟩ := hf
    refine scatter_set_hit _ _ _ _ _ _ (fun q hq => ?_) (ix1 (⟨k, hk⟩ : Fin 4096)) ((hl _).mpr hks)
    have hq := (hl q).mp hq
    rw [show y q = _ from (congrArg y (eq_ix1 q)).trans (h12 (q 0)), ← hq, tok_slot ho (q 0).isLt]
  · rw [if_neg hf]
    exact scatter_set_miss _ _ _ _ _ fun q hq => hf ⟨(q 0).val, (q 0).isLt, (hl q).mp hq⟩

section Lists

open Classical in
/-- What the padded rows hold before the lists are made. -/
def Owners (x : IVec S5120 32) (sel σ : ℕ → ℕ) : Prop :=
  ∀ s : Fin 5120, x (ix1 s) = if filled sel σ s.val then BitVec.ofNat 32 (tok sel σ s.val) else 4294967295#32

variable (ho : Order sel σ) (h : Owners (W (Proc.devRef .tc main_v67)) sel σ)
include ho h

/-- Each padded row reads its token, or token 0. -/
theorem lists_v75 : Holds (n := 5120) (after opsLists W (Proc.devRef .tc main_v75)) (tok sel σ) := by
  generalize hx : (W (Proc.devRef .tc main_v67) : IVec S5120 32) = x at h
  have e : (after opsLists W (Proc.devRef .tc main_v75) : IVec S5120 32) = maxsi x (broadcastInDim S5120 ![] bcast_S_S5120 (constantI S_ 32 0#32)) := by
    rw [← hx]; after_reads_simp
  intro s
  refine (congrFun e (ix1 s)).trans ?_
  show IntOp.maxsi (x (ix1 s)) 0#32 = _
  rw [h s]
  split
  · exact Scalar.maxsi_zero_of_nonneg (by rw [BitVec.toNat_ofNat]; have := tok_lt ho s.val; omega)
  · next hf => rw [tok_pad hf]; decide

/-- Whether a padded row holds no token. -/
theorem lists_v69 (s : Fin 5120) : IntOp.cmpi .slt ((W (Proc.devRef .tc main_v67) : IVec S5120 32) (ix1 s)) 0#32 = 1#1 ↔ ¬ filled sel σ s.val := by
  rw [h s]
  split
  · next hf =>
    refine ⟨fun hc => absurd hc ?_, fun hn => absurd hf hn⟩
    rw [show (0#32 : BitVec 32) = BitVec.ofNat 32 0 from rfl, WordCmp.cmpi_slt_ofNat_eq_one_iff (by have := tok_lt ho s.val; omega) (by norm_num)]
    omega
  · next hf => exact ⟨fun _ => hf, fun _ => by decide⟩

/-- Where each padded row is sent. -/
theorem lists_v78 : Holds (n := 5120) (after opsLists W (Proc.devRef .tc main_v78)) (dst sel σ) := by
  classical
  have h61 := lists_v69 W ho h
  generalize hx : (W (Proc.devRef .tc main_v67) : IVec S5120 32) = x at h h61
  let z : IVec S5120 32 := broadcastInDim S5120 ![] bcast_S_S5120 (constantI S_ 32 0#32)
  let w : IVec S5120 32 := Host.reduceWindow IntOp.addi ![5120] ![1] ![5119] ![0] (extui 32 (cmpi .slt x z) natLt_1_32) (broadcastInDim S_ ![] bcast_S_S_ (constantI S_ 32 0#32))
    reduceWindows_S5120_S5120_w5120s1p5119_0 h_S_
  have e : (after opsLists W (Proc.devRef .tc main_v78) : IVec S5120 32)
      = select (cmpi .slt x z) (addi (broadcastInDim S5120 ![] bcast_S_S5120 (constantI S_ 32 4096#32)) (subi w (broadcastInDim S5120 ![] bcast_S_S5120 (constantI S_ 32 1#32)))) x := by
    rw [← hx]
    after_reads_simp
    simp -implicitDefEqProofs only [StableHlo.TRef.toBuf, StableHlo.TRef.ofBuf, cast_cast, cast_eq]
    rw [hx]
  have hw : ∀ s : Fin 5120, w (ix1 s) = BitVec.ofNat 32 (Nat.count (fun r => ¬ filled sel σ r) (s.val + 1)) := fun s => by
    refine (cumsum1 (N := 5120) (Nm1 := 5119) rfl _ (fun r => if ¬ filled sel σ r then 1 else 0) (fun r => ?_) _ rfl _ _ s).trans (congrArg _ (sum_map_ite _ _))
    show (IntOp.cmpi .slt (x (ix1 r)) 0#32).setWidth 32 = _
    have hr := h61 r
    rw [show IntOp.cmpi .slt (x (ix1 r)) 0#32 = BitVec.ofBool (decide (¬ filled sel σ r.val)) from ?_]
    · exact setWidth_ofBool _
    · rw [WordCmp.ofBool_decide_eq_ite]
      split
      · next hf => exact hr.mpr hf
      · next hf => exact (BitVec.eq_zero_or_eq_one _).resolve_right fun hc => hf (hr.mp hc)
  intro s
  refine (congrFun e (ix1 s)).trans ?_
  show Scalar.select (IntOp.cmpi .slt (x (ix1 s)) 0#32) (4096#32 + (w (ix1 s) - 1#32)) (x (ix1 s)) = _
  by_cases hf : filled sel σ s.val
  · rw [WordCmp.select_of_eq_zero ((BitVec.eq_zero_or_eq_one _).resolve_right fun hc => (h61 s).mp hc hf), h s, if_pos hf]
    unfold dst
    rw [if_pos hf]
  · have hc : Nat.count (fun r => ¬ filled sel σ r) (s.val + 1) = Nat.count (fun r => ¬ filled sel σ r) s.val + 1 := by
      rw [Nat.count_succ, if_pos hf]
    rw [WordCmp.select_of_eq_one ((h61 s).mpr hf), hw s, dst_pad hf, hc, show (1#32 : BitVec 32) = BitVec.ofNat 32 1 from rfl,
      show (4096#32 : BitVec 32) = BitVec.ofNat 32 4096 from rfl, sub_words (by omega), ← BitVec.ofNat_add, Nat.add_sub_cancel]

end Lists

/-! ## The blocks' experts -/

theorem table_v88 (h : Holds (n := 8) (W (Proc.devRef .tc main_v26)) fun e => start sel (e + 1)) (hs : ∀ e, e < 8 → start sel (e + 1) < 2 ^ 31) :
    Holds (n := 40) (after opsTable W (Proc.devRef .tc main_v88)) (who sel) := by
  generalize hx : (W (Proc.devRef .tc main_v26) : IVec S8 32) = x at h
  let m : IVec S40x8 1 := cmpi .sge (broadcastInDim S40x8 ![0, 1] bcast_S40x1_S40x8_0_1 (broadcastInDim S40x1 ![0] bcast_S40_S40x1_0 (iotaInDim S40 32 0)))
    (broadcastInDim S40x8 ![0, 1] bcast_S1x8_S40x8_0_1 (broadcastInDim S1x8 ![1] bcast_S8_S1x8_1 x))
  have e : (after opsTable W (Proc.devRef .tc main_v88) : IVec S40 32)
      = minsi (Host.reduce IntOp.addi (extui 32 m natLt_1_32) (constantI S_ 32 0#32) reducesTo_S40x8_S40_d1 h_S_) (broadcastInDim S40 ![] bcast_S_S40 (constantI S_ 32 7#32)) := by
    after_reads_simp; rw [hx]
  intro b
  have hb := b.isLt
  have hc : Nat.count (fun e => start sel (e + 1) ≤ b.val) 8 ≤ 8 := Nat.count_le _
  refine (congrFun e (ix1 b)).trans ((congrArg (fun z => IntOp.minsi z 7#32) (reduce_count (n := 40) (m := 8) (by norm_num) m natLt_1_32 reducesTo_S40x8_S40_d1 h_S_ b
    (fun e => start sel (e + 1) ≤ b.val) fun q => ?_)).trans ?_)
  · show IntOp.cmpi .sge _ _ = 1#1 ↔ _
    rw [show broadcastInDim S40x8 ![0, 1] bcast_S40x1_S40x8_0_1 (broadcastInDim S40x1 ![0] bcast_S40_S40x1_0 (iotaInDim S40 32 0)) (ix2 b q) = BitVec.ofNat 32 b.val
        from bcRows (n := 40) (m := 8) bcast_S40_S40x1_0 bcast_S40x1_S40x8_0_1 _ b q,
      show broadcastInDim S40x8 ![0, 1] bcast_S1x8_S40x8_0_1 (broadcastInDim S1x8 ![1] bcast_S8_S1x8_1 x) (ix2 b q) = BitVec.ofNat 32 (start sel (q.val + 1))
        from (bcCols (n := 40) (m := 8) bcast_S8_S1x8_1 bcast_S1x8_S40x8_0_1 x b q).trans (h q)]
    exact WordCmp.cmpi_sge_ofNat_eq_one_iff (w := 32) (by omega) (hs q.val q.isLt)
  · rw [show (7#32 : BitVec 32) = BitVec.ofNat 32 7 from rfl, PlanTiles.minsi_word (by omega) (by norm_num), min_comm]
    rfl

/-! ## The lists of 128-lane rows -/

/-- Eight 128-lane rows for every 1024-lane row. -/
theorem lanes {x : IVec S5120 32} {f : ℕ → ℕ} (h : Holds (n := 5120) x f) :
    Holds (n := 40960) (shapeCast S40960 (addi (broadcastInDim S5120x8 ![0, 1] bcast_S5120x1_S5120x8_0_1
        (muli (broadcastInDim S5120x1 ![0] bcast_S5120_S5120x1_0 x) (broadcastInDim S5120x1 ![] bcast_S_S5120x1 (constantI S_ 32 8#32))))
      (broadcastInDim S5120x8 ![0, 1] bcast_S1x8_S5120x8_0_1 (broadcastInDim S1x8 ![1] bcast_S8_S1x8_1 (iotaInDim S8 32 0)))) shapeCasts_S5120x8_S40960)
      fun j => 8 * f (j / 8) + j % 8 := by
  intro j
  have hj := j.isLt
  refine (cast21 (a := 5120) (b := 8) (n := 40960) _ shapeCasts_S5120x8_S40960 ⟨j.val / 8, by omega⟩ ⟨j.val % 8, by omega⟩ j (by show j.val = j.val / 8 * 8 + j.val % 8; omega)).trans ?_
  have e1 : broadcastInDim S5120x8 ![0, 1] bcast_S5120x1_S5120x8_0_1 (muli (broadcastInDim S5120x1 ![0] bcast_S5120_S5120x1_0 x) (broadcastInDim S5120x1 ![] bcast_S_S5120x1 (constantI S_ 32 8#32)))
      (ix2 (⟨j.val / 8, by omega⟩ : Fin 5120) (⟨j.val % 8, by omega⟩ : Fin 8)) = BitVec.ofNat 32 (8 * f (j.val / 8)) := by
    refine (broadcastInDim_apply _ bcast_S5120x1_S5120x8_0_1 _ _ (ix2 (⟨j.val / 8, by omega⟩ : Fin 5120) (0 : Fin 1)) fun a => ?_).trans ?_
    · match a with
      | ⟨0, _⟩ => rfl
      | ⟨1, _⟩ => rfl
    · refine (congrArg (· * 8#32) ((bcCol (n := 5120) bcast_S5120_S5120x1_0 x ⟨j.val / 8, by omega⟩).trans (h _))).trans ?_
      dsimp only
      rw [show (8#32 : BitVec 32) = BitVec.ofNat 32 8 from rfl, ← BitVec.ofNat_mul, Nat.mul_comm]
  have e2 : broadcastInDim S5120x8 ![0, 1] bcast_S1x8_S5120x8_0_1 (broadcastInDim S1x8 ![1] bcast_S8_S1x8_1 (iotaInDim S8 32 0))
      (ix2 (⟨j.val / 8, by omega⟩ : Fin 5120) (⟨j.val % 8, by omega⟩ : Fin 8)) = BitVec.ofNat 32 (j.val % 8) :=
    bcCols (n := 5120) (m := 8) bcast_S8_S1x8_1 bcast_S1x8_S5120x8_0_1 _ _ _
  refine (congrArg₂ (· + ·) e1 e2).trans ?_
  exact (BitVec.ofNat_add ..).symm

theorem read_v98 {f : ℕ → ℕ} (h : Holds (n := 5120) (W (Proc.devRef .tc main_v75)) f) :
    Holds (n := 40960) (after opsRead W (Proc.devRef .tc main_v98)) fun j => 8 * f (j / 8) + j % 8 := by
  intro j
  refine (congrFun (show (after opsRead W (Proc.devRef .tc main_v98) : IVec S40960 32) = _ by after_reads_simp; rfl) (ix1 j)).trans (lanes h j)

theorem read_v89 : (after opsRead W (Proc.devRef .tc main_v89) : Vec F S32768x128 .f32)
    = shapeCast S32768x128 (W (Proc.devRef .tc main_arg0) : Vec F S4096x1024 .f32) shapeCasts_S4096x1024_S32768x128 := by after_reads_simp; rfl

theorem write_v115 {f : ℕ → ℕ} (h : Holds (n := 5120) (W (Proc.devRef .tc main_v78)) f) (j : S32x2x640.Idx) :
    (after ops3 W (Proc.devRef .tc main_v115) : IVec S32x2x640 32) j = BitVec.ofNat 32 (8 * f ((1280 * (j 0).val + 640 * (j 1).val + (j 2).val) / 8) + (j 2).val % 8) := by
  have h0 : (j 0).val < 32 := (j 0).isLt
  have h1 : (j 1).val < 2 := (j 1).isLt
  have h2 : (j 2).val < 640 := (j 2).isLt
  let n : Fin 40960 := ⟨1280 * (j 0).val + 640 * (j 1).val + (j 2).val, by omega⟩
  refine (congrFun (show (after ops3 W (Proc.devRef .tc main_v115) : IVec S32x2x640 32) = fun i => shapeCast S32x2x640 _ shapeCasts_S40960_S32x2x640 i by after_reads_simp; rfl) j).trans ?_
  refine (shapeCast_apply _ shapeCasts_S40960_S32x2x640 j (ix1 n) ?_).trans ((lanes h n).trans ?_)
  · rw [Shape.rowMajor_val_three, Shape.rowMajor_val_one]
    show 1280 * (j 0).val + 640 * (j 1).val + (j 2).val = ((j 0).val * 2 + (j 1).val) * 640 + (j 2).val
    omega
  · show BitVec.ofNat 32 (8 * f ((1280 * (j 0).val + 640 * (j 1).val + (j 2).val) / 8) + (1280 * (j 0).val + 640 * (j 1).val + (j 2).val) % 8) = _
    exact congrArg _ (by omega)

end Cert.Proof.Moe

end
-- ==== Proof.Moe.Routing.lean ====
/-
  The mixture of experts: what the routing's host code leaves, all its steps together.
-/
module

public import proofs.«01_k».proof.Proof.Moe.Keep
public import proofs.«01_k».proof.Proof.Moe.Lists

@[expose] public section

noncomputable section

namespace Cert.Proof.Moe

open Cert.KernelIdeal Cert.KernelIdeal.Gen
open Idealize.ShloMosaic Idealize.ShloMosaic.TcCoe
open Idealize.ShloMosaic.StableHlo (held after seq)
open Idealize.ShloMosaic.Routing Idealize.ShloMosaic.ValueIdx
open Idealize.SL Idealize.SL.Sem
open Route

variable {F : FTy → Type} [FloatOps F]

theorem Holds.of_eq {n : ℕ} {x y : IVec (shape1 n) 32} {f : ℕ → ℕ} (e : x = y) (h : Holds y f) : Holds x f := e ▸ h

/-- From the selections: an order of the tokens by expert, where each padded row is sent, each block's expert, and the list to read by. -/
theorem routing (V : Valuation τ sig (Elt F)) {sel : ℕ → ℕ} (hs : ∀ t, t < 4096 → sel t < 8)
    (h : ∀ (i : Fin 8) (r : Fin 512), (V (Proc.devRef .tc main_v8_1) : IVec S8x1x512 32) (ix3 i (0 : Fin 1) r) = BitVec.ofNat 32 (sel (512 * i.val + r.val))) :
    ∃ σ, Order sel σ ∧ Holds (n := 5120) (after ops1 V (Proc.devRef .tc main_v78)) (dst sel σ)
      ∧ Holds (n := 40) (after ops1 V (Proc.devRef .tc main_v88)) (who sel)
      ∧ Holds (n := 40960) (after ops1 V (Proc.devRef .tc main_v98)) fun j => 8 * tok sel σ (j / 8) + j % 8 := by
  have a1 := count_v9 V h
  have a11 := count_v19 V hs a1
  rw [ops1_eq]
  generalize after opsCount V = V1 at *
  obtain ⟨σ, ho, b12⟩ := order_v20 V1 hs a1
  have b1 := Holds.of_eq (n := 4096) (keepOrder V1 (r := main_v9) (by decide)) a1
  have b11 := Holds.of_eq (n := 8) (keepOrder V1 (r := main_v19) (by decide)) a11
  refine ⟨σ, ho, ?_⟩
  generalize after opsOrder V1 = V2 at *
  have c18 := blocks_v26 V2 b11
  have c1 := Holds.of_eq (n := 4096) (keepBlocks V2 (r := main_v9) (by decide)) b1
  have c11 := Holds.of_eq (n := 8) (keepBlocks V2 (r := main_v19) (by decide)) b11
  have c12 := Holds.of_eq (n := 4096) (keepBlocks V2 (r := main_v20) (by decide)) b12
  generalize after opsBlocks V2 = V3 at *
  have d23 := start_v31 V3 c18
  have d1 := Holds.of_eq (n := 4096) (keepStart V3 (r := main_v9) (by decide)) c1
  have d11 := Holds.of_eq (n := 8) (keepStart V3 (r := main_v19) (by decide)) c11
  have d12 := Holds.of_eq (n := 4096) (keepStart V3 (r := main_v20) (by decide)) c12
  have d18 := Holds.of_eq (n := 8) (keepStart V3 (r := main_v26) (by decide)) c18
  generalize after opsStart V3 = V4 at *
  have e27 := offset_v35 V4 d11
  have e1 := Holds.of_eq (n := 4096) (keepOffset V4 (r := main_v9) (by decide)) d1
  have e12 := Holds.of_eq (n := 4096) (keepOffset V4 (r := main_v20) (by decide)) d12
  have e18 := Holds.of_eq (n := 8) (keepOffset V4 (r := main_v26) (by decide)) d18
  have e23 := Holds.of_eq (n := 8) (keepOffset V4 (r := main_v31) (by decide)) d23
  generalize after opsOffset V4 = V5 at *
  have f34 := sorted_v42 V5 ho e1 e12
  have f12 := Holds.of_eq (n := 4096) (keepSorted V5 (r := main_v20) (by decide)) e12
  have f18 := Holds.of_eq (n := 8) (keepSorted V5 (r := main_v26) (by decide)) e18
  have f23 := Holds.of_eq (n := 8) (keepSorted V5 (r := main_v31) (by decide)) e23
  have f27 := Holds.of_eq (n := 8) (keepSorted V5 (r := main_v35) (by decide)) e27
  generalize after opsSorted V5 = V6 at *
  have g35 := base_v43 V6
  have g42 := base_v50 V6 ho f23 f34
  have g12 := Holds.of_eq (n := 4096) (keepBase V6 (r := main_v20) (by decide)) f12
  have g18 := Holds.of_eq (n := 8) (keepBase V6 (r := main_v26) (by decide)) f18
  have g27 := Holds.of_eq (n := 8) (keepBase V6 (r := main_v35) (by decide)) f27
  have g34 := Holds.of_eq (n := 4096) (keepBase V6 (r := main_v42) (by decide)) f34
  generalize after opsBase V6 = V7 at *
  have h51 := slot_v59 V7 ho g27 g34 g35 g42
  have h12 := Holds.of_eq (n := 4096) (keepSlot V7 (r := main_v20) (by decide)) g12
  have h18 := Holds.of_eq (n := 8) (keepSlot V7 (r := main_v26) (by decide)) g18
  generalize after opsSlot V7 = V8 at *
  have i59 : Owners (after opsOwner V8 (Proc.devRef .tc main_v67)) sel σ := owner_v67 V8 ho h51 h12
  have i18 := Holds.of_eq (n := 8) (keepOwner V8 (r := main_v26) (by decide)) h18
  generalize after opsOwner V8 = V9 at *
  have j67 := lists_v75 V9 ho i59
  have j70 := lists_v78 V9 ho i59
  have j18 := Holds.of_eq (n := 8) (keepLists V9 (r := main_v26) (by decide)) i18
  generalize after opsLists V9 = V10 at *
  have k80 := table_v88 V10 j18 fun e he => lt_of_le_of_lt ((start_mono (show e + 1 ≤ 8 by omega)).trans (start_le ho)) (by norm_num)
  have k67 := Holds.of_eq (n := 5120) (keepTable V10 (r := main_v75) (by decide)) j67
  have k70 := Holds.of_eq (n := 5120) (keepTable V10 (r := main_v78) (by decide)) j70
  generalize after opsTable V10 = V11 at *
  exact ⟨Holds.of_eq (n := 5120) (keepRead V11 (r := main_v78) (by decide)) k70, Holds.of_eq (n := 40) (keepRead V11 (r := main_v88) (by decide)) k80, read_v98 V11 k67⟩

/-- The gather's table is the states, in rows of 128 lanes. -/
theorem ops1_v89 (V : Valuation τ sig (Elt F)) : (after ops1 V (Proc.devRef .tc main_v89) : Vec F S32768x128 .f32)
    = shapeCast S32768x128 (V (Proc.devRef .tc main_arg0) : Vec F S4096x1024 .f32) shapeCasts_S4096x1024_S32768x128 := by
  rw [ops1_eq]
  refine (read_v89 _).trans (congrArg (fun x : Vec F S4096x1024 .f32 => shapeCast S32768x128 x shapeCasts_S4096x1024_S32768x128) ?_)
  rw [keepTable _ (r := main_arg0) (by decide), keepLists _ (r := main_arg0) (by decide), keepOwner _ (r := main_arg0) (by decide), keepSlot _ (r := main_arg0) (by decide),
    keepBase _ (r := main_arg0) (by decide), keepSorted _ (r := main_arg0) (by decide), keepOffset _ (r := main_arg0) (by decide), keepStart _ (r := main_arg0) (by decide),
    keepBlocks _ (r := main_arg0) (by decide), keepOrder _ (r := main_arg0) (by decide), keepCount _ (r := main_arg0) (by decide)]

end Cert.Proof.Moe

end
-- ==== Proof.Moe.Chain.lean ====
/-
  The mixture of experts: the arrays after each step, from the arrays at launch; the selected options are below eight,
  so the routing's lists are as the two SparseCore calls need them, at every launch.
-/
module

public import proofs.«01_k».proof.Proof.Moe.Launch
public import proofs.«01_k».proof.Proof.Moe.RouterOut
public import proofs.«01_k».proof.Proof.Moe.ExpertsOut
public import proofs.«01_k».proof.Proof.Moe.Routing

@[expose] public section

noncomputable section

namespace Cert.Proof.Moe

open Cert.KernelIdeal Cert.KernelIdeal.Gen
open Idealize.ShloMosaic Idealize.ShloMosaic.TcCoe
open Idealize.ShloMosaic.SparseCore.Cfg (HIx)
open Idealize.ShloMosaic.StableHlo (held after seq)
open Idealize.ShloMosaic.Pipeline (Dat afterRegion arrRef)
open Idealize.ShloMosaic.Routing Idealize.ShloMosaic.ValueIdx
open Idealize.SL Idealize.SL.Sem
open scoped Idealize.SL.BI
open Idealize.SL.BI.BIBase
open Route (Order tok dst)

variable {F : FTy → Type} [FloatOps F]

local notation "𝕄" => MT nD τ sig (HIx 2) (Elt F) ℕ UU ℕ

/-! ## The selected options -/

theorem choose_lt {S : Shape} (c : IVec S 1) (n : ℕ) (hn : n < 8) (x : IVec S 32) (hx : ∀ i, (x i).toNat < 8) (i : S.Idx) :
    (select c (broadcast S (BitVec.ofNat 32 n)) x i).toNat < 8 := by
  show (if c i = 1#1 then BitVec.ofNat 32 n else x i).toNat < 8
  split
  · rw [BitVec.toNat_ofNat]; omega
  · exact hx i

/-- A selected option is one of the eight. -/
theorem selOf_lt (g : Vec F S512x8 .f32) (x : Vec F S512x1024 .f32) (w1 : Vec F S1024x1024 .f32) (b1 : Vec F S1024 .f32)
    (w2 : Vec F S1024x1024 .f32) (b2 : Vec F S1024 .f32) (w3 : Vec F S1024x8 .f32) (b3 : Vec F S8 .f32) (y : S1x1x512.Idx) :
    (selOf g x w1 b1 w2 b2 w3 b3 y).toNat < 8 := by
  refine choose_lt _ 7 (by norm_num) _ (fun i => ?_) _
  refine choose_lt _ 6 (by norm_num) _ (fun i => ?_) i
  refine choose_lt _ 5 (by norm_num) _ (fun i => ?_) i
  refine choose_lt _ 4 (by norm_num) _ (fun i => ?_) i
  refine choose_lt _ 3 (by norm_num) _ (fun i => ?_) i
  refine choose_lt _ 2 (by norm_num) _ (fun i => ?_) i
  refine choose_lt _ 1 (by norm_num) _ (fun i => ?_) i
  show (0#32 : BitVec 32).toNat < 8
  decide

variable (V : Valuation τ sig (Elt F)) (d : Dev nD)

/-- The option the router selects for token `t`. -/
def sel (t : ℕ) : ℕ := if h : t < 4096 then (rsel V (pt t h) (r3 ⟨t % 512, Nat.mod_lt _ (by decide)⟩) : BitVec 32).toNat else 0

theorem sel_lt (t : ℕ) : sel V t < 8 := by
  unfold sel
  split
  · exact selOf_lt _ _ _ _ _ _ _ _ _
  · norm_num

/-! ## The arrays after each step -/

def W1 : Valuation τ sig (Elt F) := afterRegion (rdat V iprop(emp) d) V
def W2 : Valuation τ sig (Elt F) := after ops1 (W1 V d)
def W3 : Valuation τ sig (Elt F) := Function.update (W2 V d) (main_v99 : DevRef τ sig)
  (Gather.pick (W2 V d (main_v89 : DevRef τ sig) : Vec F S32768x128 .f32) (W2 V d (main_v98 : DevRef τ sig) : IVec S40960 32))
def W4 : Valuation τ sig (Elt F) := after ops2 (W3 V d)

set_option backward.isDefEq.respectTransparency.types false in
theorem W1_sel (i : Fin 8) (r : Fin 512) : (W1 V d (Proc.devRef .tc main_v8_1) : IVec S8x1x512 32) (ix3 i (0 : Fin 1) r) = BitVec.ofNat 32 (sel V (512 * i.val + r.val)) := by
  have e : (W1 V d (Proc.devRef .tc main_v8_1) : IVec S8x1x512 32) = fun j : S8x1x512.Idx => rsel V ⟨(j 0).val, by show (j 0).val < grid0.N; rw [N_0]; exact (j 0).isLt⟩ (r3 (j 2)) :=
    (Pipeline.afterRegion_arr (rdat V iprop(emp) d) V winFacts0.arr_inj 9).trans (sel_out V _ d)
  have h : 512 * i.val + r.val < 4096 := by omega
  rw [e]
  unfold sel
  rw [dif_pos h, BitVec.ofNat_toNat, BitVec.setWidth_eq]
  have e1 : (pt (512 * i.val + r.val) h) = ⟨i.val, by show i.val < grid0.N; rw [N_0]; exact i.isLt⟩ := Fin.ext (by show (512 * i.val + r.val) / 512 = i.val; omega)
  have e2 : (⟨(512 * i.val + r.val) % 512, Nat.mod_lt _ (by decide)⟩ : Fin 512) = r := Fin.ext (by show (512 * i.val + r.val) % 512 = r.val; omega)
  rw [e1, e2]

/-- The order of the tokens by expert, with where the routing's lists stand in the arrays. -/
theorem lists : ∃ σ, Order (sel V) σ ∧ Holds (n := 5120) (W2 V d (Proc.devRef .tc main_v78)) (dst (sel V) σ)
    ∧ Holds (n := 40) (W2 V d (Proc.devRef .tc main_v88)) (Route.who (sel V))
    ∧ Holds (n := 40960) (W2 V d (Proc.devRef .tc main_v98)) fun j => 8 * tok (sel V) σ (j / 8) + j % 8 :=
  routing (W1 V d) (fun t _ => sel_lt V t) (W1_sel V d)

theorem W4_of_W2 {r : Ref sig .tc} (h2 : r ∉ wrote2) (h : (Proc.devRef .tc r : DevRef τ sig) ≠ (main_v99 : DevRef τ sig)) :
    W4 V d (Proc.devRef .tc r) = W2 V d (Proc.devRef .tc r) :=
  (keep2 _ h2).trans (Function.update_of_ne h _ _)

theorem W4_v88 : W4 V d (Proc.devRef .tc main_v88) = W2 V d (Proc.devRef .tc main_v88) := W4_of_W2 V d (by decide) (by decide)

/-- The experts' table. -/
def table : pre2.Contents (Elt F) := fun k => W4 V d (Proc.devRef .tc (pre2.ref k))

theorem table_lt (j : S40.Idx) : (table V d 0 j : BitVec 32).toNat < 8 := by
  obtain ⟨σ, _, _, h, _⟩ := lists V d
  have e : (table V d 0 : IVec S40 32) j = (W2 V d (Proc.devRef .tc main_v88) : IVec S40 32) j := congrFun (W4_v88 V d) j
  rw [e, Holds.toNat (n := 40) h (fun i _ => lt_trans (Route.who_lt (sel := sel V) i) (by norm_num)) j]
  exact Route.who_lt _

def adm : (pcfg2 (F := F)).Adm := ⟨table V d, table_ok _ (table_lt V d)⟩

def W5 : Valuation τ sig (Elt F) := afterRegion (xdat (adm V d) (W4 V d) iprop(emp) d) (W4 V d)
def W6 : Valuation τ sig (Elt F) := after ops3 (W5 V d)
def W7 : Valuation τ sig (Elt F) := Function.update (W6 V d) (main_v116 : DevRef τ sig)
  (Scatter.put (W6 V d (main_v105 : DevRef τ sig) : Vec F S40960x128 .f32) (W6 V d (main_v115 : DevRef τ sig) : IVec S32x2x640 32))
def W8 : Valuation τ sig (Elt F) := after ops4 (W7 V d)

set_option backward.isDefEq.respectTransparency.types false in
theorem W1_keeps (r : Ref sig .tc) (h0 : r ≠ main_v8_0) (h1 : r ≠ main_v8_1) : W1 V d (Proc.devRef .tc r) = V (Proc.devRef .tc r) :=
  Pipeline.afterRegion_keeps (rdat V iprop(emp) d) V winFacts0.arr_inj (fun _ => rfl) r fun w => by
    fin_cases w <;> intro e <;> first | rfl | exact absurd e.symm h0 | exact absurd e.symm h1

set_option backward.isDefEq.respectTransparency.types false in
theorem W5_keeps (r : Ref sig .tc) (h : r ≠ main_v104) : W5 V d (Proc.devRef .tc r) = W4 V d (Proc.devRef .tc r) :=
  Pipeline.afterRegion_keeps (xdat (adm V d) (W4 V d) iprop(emp) d) (W4 V d) winFacts2.arr_inj (fun _ => rfl) r fun w => by
    fin_cases w <;> intro e <;> first | rfl | exact absurd e.symm h

/-! ## The chain -/

theorem reads_lt (j : S40960.Idx) : ((W2 V d (main_v98 : DevRef τ sig) : IVec S40960 32) j).toNat < 32768 := by
  obtain ⟨σ, ho, _, _, h⟩ := lists V d
  have key : ∀ i, 8 * tok (sel V) σ (i / 8) + i % 8 < 32768 := fun i => by have := Route.tok_lt ho (i / 8); omega
  refine lt_of_eq_of_lt (Holds.toNat (n := 40960) h (fun i _ => lt_trans (key i) (by norm_num)) j) (key _)

theorem W6_writes {σ : ℕ → ℕ} (h : Holds (n := 5120) (W2 V d (Proc.devRef .tc main_v78)) (dst (sel V) σ)) (ho : Order (sel V) σ) (j : S32x2x640.Idx) :
    ((W6 V d (main_v115 : DevRef τ sig) : IVec S32x2x640 32) j).toNat
      = 8 * dst (sel V) σ ((Scatter.lin j).val / 8) + (Scatter.lin j).val % 8 := by
  have h5 : Holds (n := 5120) (W5 V d (Proc.devRef .tc main_v78)) (dst (sel V) σ) :=
    Holds.of_eq (n := 5120) ((W5_keeps V d main_v78 (by decide)).trans (W4_of_W2 V d (r := main_v78) (by decide) (by decide))) h
  have hl := (Scatter.lin j).isLt
  have hd := Route.dst_lt ho (s := (Scatter.lin j).val / 8) (by omega)
  refine (congrArg BitVec.toNat (write_v115 (W5 V d) h5 j)).trans ?_
  have e := show 1280 * (j 0).val + 640 * (j 1).val + (j 2).val = (Scatter.lin j).val from rfl
  have e2 : (j 2).val % 8 = (Scatter.lin j).val % 8 := by rw [← e]; omega
  rw [e, e2, BitVec.toNat_ofNat]
  exact Nat.mod_eq_of_lt (by omega)

theorem lin_inj {i j : S32x2x640.Idx} (h : (Scatter.lin i).val = (Scatter.lin j).val) : i = j := by
  have h' : 1280 * (i 0).val + 640 * (i 1).val + (i 2).val = 1280 * (j 0).val + 640 * (j 1).val + (j 2).val := h
  have i1 : (i 1).val < 2 := (i 1).isLt
  have i2 : (i 2).val < 640 := (i 2).isLt
  have j1 : (j 1).val < 2 := (j 1).isLt
  have j2 : (j 2).val < 640 := (j 2).isLt
  funext a
  fin_cases a <;> apply Fin.ext
  · show (i 0).val = (j 0).val; omega
  · show (i 1).val = (j 1).val; omega
  · show (i 2).val = (j 2).val; omega

theorem writes_lt (j : S32x2x640.Idx) : ((W6 V d (main_v115 : DevRef τ sig) : IVec S32x2x640 32) j).toNat < 40960 := by
  obtain ⟨σ, ho, h, _⟩ := lists V d
  rw [W6_writes V d h ho j]
  have := (Scatter.lin j).isLt
  have := Route.dst_lt ho (s := (Scatter.lin j).val / 8) (by omega)
  omega

theorem writes_inj : Function.Injective fun j => ((W6 V d (main_v115 : DevRef τ sig) : IVec S32x2x640 32) j).toNat := by
  obtain ⟨σ, ho, h, _⟩ := lists V d
  intro i j hij
  have e : 8 * dst (sel V) σ ((Scatter.lin i).val / 8) + (Scatter.lin i).val % 8 = 8 * dst (sel V) σ ((Scatter.lin j).val / 8) + (Scatter.lin j).val % 8 :=
    (W6_writes V d h ho i).symm.trans (hij.trans (W6_writes V d h ho j))
  have e1 : (Scatter.lin i).val / 8 = (Scatter.lin j).val / 8 := Route.dst_inj ho (by omega)
  exact lin_inj (by omega)

variable (M : Dev nD → Valuation τ sig (Elt F))

/-- The arrays through a run that starts with `M`. -/
def runs : ℕ → Dev nD → Valuation τ sig (Elt F)
  | 0, d => M d
  | 1, d => W1 (M d) d
  | 2, d => W2 (M d) d
  | 3, d => W3 (M d) d
  | 4, d => W4 (M d) d
  | 5, d => W5 (M d) d
  | 6, d => W6 (M d) d
  | 7, d => W7 (M d) d
  | _, d => W8 (M d) d

/-- The two regions' tables: the router's has none. -/
def adms : (p : Fin 2) → (pcfgs (F := F) p).Adm := fun p => match p with
  | ⟨0, _⟩ => cfg0.toPCfg_adm
  | ⟨1, _⟩ => adm (M 0) 0

theorem adms_one : adms M 1 = adm (M 0) 0 := rfl

theorem experts_eq (d : Dev nD) : W5 (M d) d = afterRegion (xdat (adms M 1) (W4 (M d) d) iprop(emp) d) (W4 (M d) d) := by
  obtain rfl : d = 0 := Subsingleton.elim _ _
  exact congrArg (fun x => afterRegion (xdat x (W4 (M 0) 0) iprop(emp) 0) (W4 (M 0) 0)) (adms_one M).symm

theorem table_eq (d : Dev nD) (k : Fin 1) : (adms M 1).1 k = W4 (M d) d (Proc.devRef .tc (pre2.ref k)) := by
  obtain rfl : d = 0 := Subsingleton.elim _ _
  rw [adms_one]
  unfold adm table
  dsimp only

/-- Every launch's arrays go through the chain. -/
theorem chain : Chain (adms M) (runs M) where
  router _ := rfl
  routing _ := rfl
  gather _ := rfl
  before _ := rfl
  table d k := table_eq M d k
  experts d := experts_eq M d
  between _ := rfl
  scatter _ := rfl
  last _ := rfl
  reads d := reads_lt (M d) d
  writes d := writes_lt (M d) d
  apart d := writes_inj (M d) d

end Cert.Proof.Moe

end
-- ==== Proof.Moe.Out.lean ====
/-
  The mixture of experts: what a run leaves. The option probabilities and the selected options are the router's; row `t`
  of the actions is the row of the experts' output at the padded place of token `t`, which lies in a block of that
  token's expert and was computed from that token's state.
-/
module

public import proofs.«01_k».proof.Proof.Moe.Chain

@[expose] public section

noncomputable section

namespace Cert.Proof.Moe

open Cert.KernelIdeal Cert.KernelIdeal.Gen
open Idealize.ShloMosaic Idealize.ShloMosaic.TcCoe
open Idealize.ShloMosaic.SparseCore.Cfg (HIx)
open Idealize.ShloMosaic.StableHlo (held after seq)
open Idealize.ShloMosaic.Pipeline (Dat afterRegion arrRef)
open Idealize.ShloMosaic.Routing Idealize.ShloMosaic.ValueIdx
open Idealize.SL Idealize.SL.Sem
open scoped Idealize.SL.BI
open Idealize.SL.BI.BIBase
open Route (Order tok dst)

variable {F : FTy → Type} [FloatOps F]

variable (V : Valuation τ sig (Elt F)) (d : Dev nD)

/-! ## What is kept -/

theorem W2_of_V {r : Ref sig .tc} (h : r ∉ wrote1) (h0 : r ≠ main_v8_0) (h1 : r ≠ main_v8_1) : W2 V d (Proc.devRef .tc r) = V (Proc.devRef .tc r) :=
  (keep1 _ h).trans (W1_keeps V d r h0 h1)

theorem W8_of_W5 {r : Ref sig .tc} (h3 : r ∉ wrote3) (h : (Proc.devRef .tc r : DevRef τ sig) ≠ (main_v116 : DevRef τ sig)) (h4 : r ∉ wrote4) :
    W8 V d (Proc.devRef .tc r) = W5 V d (Proc.devRef .tc r) :=
  (keep4 _ h4).trans ((Function.update_of_ne h _ _).trans (keep3 _ h3))

theorem W8_of_W2 {r : Ref sig .tc} (h2 : r ∉ wrote2) (h91 : (Proc.devRef .tc r : DevRef τ sig) ≠ (main_v99 : DevRef τ sig)) (h96 : r ≠ main_v104)
    (h3 : r ∉ wrote3) (h : (Proc.devRef .tc r : DevRef τ sig) ≠ (main_v116 : DevRef τ sig)) (h4 : r ∉ wrote4) :
    W8 V d (Proc.devRef .tc r) = W2 V d (Proc.devRef .tc r) :=
  (W8_of_W5 V d h3 h h4).trans ((W5_keeps V d r h96).trans (W4_of_W2 V d h2 h91))

/-- The buffers a run writes. -/
abbrev written : List (Ref sig .tc) := wrote1 ++ wrote2 ++ wrote3 ++ wrote4 ++ [main_v8_0, main_v8_1, main_v99, main_v104, main_v116]

/-- A run leaves every other buffer of the host thread as it was. -/
theorem W8_keeps {r : Ref sig .tc} (h : r ∉ written) : W8 V d (Proc.devRef .tc r) = V (Proc.devRef .tc r) := by
  have ne : ∀ {b : Ref sig .tc}, b ∈ written → (Proc.devRef .tc r : DevRef τ sig) ≠ Proc.devRef .tc b := fun hb e => h (Proc.devRef_injective _ e ▸ hb)
  have ne' : ∀ {b : Ref sig .tc}, b ∈ written → r ≠ b := fun hb e => h (e ▸ hb)
  refine (W8_of_W2 V d (fun m => h ?_) (ne (b := main_v99) (by decide)) (ne' (by decide)) (fun m => h ?_) (ne (b := main_v116) (by decide)) (fun m => h ?_)).trans
    (W2_of_V V d (fun m => h ?_) (ne' (by decide)) (ne' (by decide)))
  all_goals simp only [written, List.mem_append]
  · exact .inl (.inl (.inl (.inr m)))
  · exact .inl (.inl (.inr m))
  · exact .inl (.inr m)
  · exact .inl (.inl (.inl (.inl (by simpa only [wrote1, List.mem_append] using m))))

/-! ## The router's results -/

set_option backward.isDefEq.respectTransparency.types false in
/-- The option probabilities at the end. -/
theorem W8_probs (j : S4096x8.Idx) : (W8 V d (Proc.devRef .tc main_v8_0) : Vec F S4096x8 .f32) j
    = rprobs V (pt (j 0).val (j 0).isLt) (rc ⟨(j 0).val % 512, Nat.mod_lt _ (by decide)⟩ (j 1)) := by
  have e : (W1 V d (Proc.devRef .tc main_v8_0) : Vec F S4096x8 .f32) = fun j : S4096x8.Idx => rprobs V (pt (j 0).val (j 0).isLt) (rc ⟨(j 0).val % 512, Nat.mod_lt _ (by decide)⟩ (j 1)) :=
    (Pipeline.afterRegion_arr (rdat V iprop(emp) d) V winFacts0.arr_inj 8).trans (probs_out V _ d)
  have h : W8 V d (Proc.devRef .tc main_v8_0) = W1 V d (Proc.devRef .tc main_v8_0) :=
    (W8_of_W2 V d (r := main_v8_0) (by decide) (by decide) (by decide) (by decide) (by decide) (by decide)).trans (keep1 _ (r := main_v8_0) (by decide))
  exact (congrFun h j).trans (congrFun e j)

/-- The selected options at the end. -/
theorem W8_sel : Holds (n := 4096) (W8 V d (Proc.devRef .tc main_v9)) (sel V) := by
  have h : W2 V d (Proc.devRef .tc main_v9) = after opsCount (W1 V d) (Proc.devRef .tc main_v9) := by
    unfold W2
    rw [ops1_eq, keepRead _ (r := main_v9) (by decide), keepTable _ (r := main_v9) (by decide), keepLists _ (r := main_v9) (by decide), keepOwner _ (r := main_v9) (by decide),
      keepSlot _ (r := main_v9) (by decide), keepBase _ (r := main_v9) (by decide), keepSorted _ (r := main_v9) (by decide), keepOffset _ (r := main_v9) (by decide),
      keepStart _ (r := main_v9) (by decide), keepBlocks _ (r := main_v9) (by decide), keepOrder _ (r := main_v9) (by decide)]
  exact Holds.of_eq (n := 4096) ((W8_of_W2 V d (r := main_v9) (by decide) (by decide) (by decide) (by decide) (by decide) (by decide)).trans h) (count_v9 (W1 V d) (W1_sel V d))

/-! ## The actions -/

/-- The word of the scatter's list for row `n`. -/
def place (n : Fin 40960) : S32x2x640.Idx := Scatter.at3 ⟨n.val / 1280, by omega⟩ ⟨n.val / 640 % 2, by omega⟩ ⟨n.val % 640, by omega⟩

theorem lin_place (n : Fin 40960) : Scatter.lin (place n) = n := by
  apply Fin.ext
  show 1280 * (n.val / 1280) + 640 * (n.val / 640 % 2) + n.val % 640 = n.val
  omega

/-- An array of rows of 1024 in rows of 128 lanes. -/
theorem in_lanes (x : Vec F S5120x1024 .f32) (n : Fin 40960) (l : Fin 128) (s : Fin 5120) (k : Fin 1024) (hn : n.val = 8 * s.val + k.val / 128) (hl : l.val = k.val % 128) :
    shapeCast S40960x128 x shapeCasts_S5120x1024_S40960x128 (Scatter.at2 n l) = x (ix2 s k) := by
  refine shapeCast_apply _ _ _ _ ?_
  rw [Shape.rowMajor_val_two, Shape.rowMajor_val_two]
  show s.val * 1024 + k.val = n.val * 128 + l.val
  omega

/-- And rows of 1024 out of rows of 128 lanes. -/
theorem of_lanes (x : Vec F S40960x128 .f32) (n : Fin 40960) (l : Fin 128) (s : Fin 5120) (k : Fin 1024) (hn : n.val = 8 * s.val + k.val / 128) (hl : l.val = k.val % 128) :
    shapeCast S5120x1024 x shapeCasts_S40960x128_S5120x1024 (ix2 s k) = x (Scatter.at2 n l) := by
  refine shapeCast_apply _ _ _ _ ?_
  rw [Shape.rowMajor_val_two, Shape.rowMajor_val_two]
  show n.val * 128 + l.val = s.val * 1024 + k.val
  omega

/-- The experts' output, in rows of 128 lanes, as the scatter finds it. -/
theorem W6_v105 (n : Fin 40960) (l : Fin 128) (s : Fin 5120) (k : Fin 1024) (hn : n.val = 8 * s.val + k.val / 128) (hl : l.val = k.val % 128) :
    (W6 V d (main_v105 : DevRef τ sig) : Vec F S40960x128 .f32) (Scatter.at2 n l) = (W5 V d (Proc.devRef .tc main_v104) : Vec F S5120x1024 .f32) (ix2 s k) := by
  have e : (W6 V d (Proc.devRef .tc main_v105) : Vec F S40960x128 .f32) = shapeCast S40960x128 (W5 V d (Proc.devRef .tc main_v104) : Vec F S5120x1024 .f32) shapeCasts_S5120x1024_S40960x128 := by
    unfold W6; after_reads_simp; rfl
  exact (congrFun e _).trans (in_lanes _ n l s k hn hl)

/-- What the scatter leaves at the rows sent to from row `s`. -/
theorem W7_v116 {σ : ℕ → ℕ} (h : Holds (n := 5120) (W2 V d (Proc.devRef .tc main_v78)) (dst (sel V) σ)) (ho : Order (sel V) σ) (s : Fin 5120) (k : Fin 1024)
    (x : S40960x128.Idx) (h0 : (x 0).val = 8 * dst (sel V) σ s.val + k.val / 128) (h1 : (x 1).val = k.val % 128) :
    (W7 V d (main_v116 : DevRef τ sig) : Vec F S40960x128 .f32) x = (W5 V d (Proc.devRef .tc main_v104) : Vec F S5120x1024 .f32) (ix2 s k) := by
  have e : (W7 V d (main_v116 : DevRef τ sig) : Vec F S40960x128 .f32) = Scatter.put (W6 V d (main_v105 : DevRef τ sig) : Vec F S40960x128 .f32) (W6 V d (main_v115 : DevRef τ sig) : IVec S32x2x640 32) :=
    Function.update_self _ _ _
  have hn : 8 * s.val + k.val / 128 < 40960 := by omega
  refine (congrFun e x).trans ((Scatter.put_at (writes_inj V d) (j := place ⟨8 * s.val + k.val / 128, hn⟩) ?_).trans ?_)
  · refine (W6_writes V d h ho _).trans ?_
    rw [lin_place, h0]
    show 8 * dst (sel V) σ ((8 * s.val + k.val / 128) / 8) + (8 * s.val + k.val / 128) % 8 = _
    rw [show (8 * s.val + k.val / 128) / 8 = s.val by omega]
    omega
  · rw [lin_place]
    exact W6_v105 V d _ _ s k rfl h1

/-- The actions at the end, before their two halves are cut. -/
theorem W8_v117 {σ : ℕ → ℕ} (h : Holds (n := 5120) (W2 V d (Proc.devRef .tc main_v78)) (dst (sel V) σ)) (ho : Order (sel V) σ) (s : Fin 5120) (k : Fin 1024) (t : Fin 5120)
    (ht : t.val = dst (sel V) σ s.val) :
    shapeCast S5120x1024 (W7 V d (Proc.devRef .tc main_v116) : Vec F S40960x128 .f32) shapeCasts_S40960x128_S5120x1024 (ix2 t k)
      = (W5 V d (Proc.devRef .tc main_v104) : Vec F S5120x1024 .f32) (ix2 s k) := by
  have hn : 8 * t.val + k.val / 128 < 40960 := by omega
  exact (of_lanes _ ⟨8 * t.val + k.val / 128, hn⟩ ⟨k.val % 128, Nat.mod_lt _ (by decide)⟩ t k rfl rfl).trans
    (W7_v116 V d h ho s k _ (by show 8 * t.val + k.val / 128 = _; rw [ht]) rfl)

theorem W8_v118 : (W8 V d (Proc.devRef .tc main_v118) : Vec F S4096x512 .f32)
    = extractStridedSlice S4096x512 ![0, 0] (shapeCast S5120x1024 (W7 V d (Proc.devRef .tc main_v116) : Vec F S40960x128 .f32) shapeCasts_S40960x128_S5120x1024) slices_S5120x1024_S4096x512_0_0 := by
  unfold W8; after_reads_simp; rfl
theorem W8_v119 : (W8 V d (Proc.devRef .tc main_v119) : Vec F S4096x512 .f32)
    = extractStridedSlice S4096x512 ![0, 512] (shapeCast S5120x1024 (W7 V d (Proc.devRef .tc main_v116) : Vec F S40960x128 .f32) shapeCasts_S40960x128_S5120x1024) slices_S5120x1024_S4096x512_0_512 := by
  unfold W8; after_reads_simp; rfl

/-! ## What the experts read -/

set_option backward.isDefEq.respectTransparency.types false in
theorem W5_v104 : (W5 V d (Proc.devRef .tc main_v104) : Vec F S5120x1024 .f32) = xrow (adm V d) (W4 V d) :=
  (Pipeline.afterRegion_arr (xdat (adm V d) (W4 V d) iprop(emp) d) (W4 V d) winFacts2.arr_inj 7).trans (experts_out (adm V d) (W4 V d) _ d)

/-- Row `s` of the states given to the experts is the state of the row's token. -/
theorem W4_v100 {σ : ℕ → ℕ} (h : Holds (n := 40960) (W2 V d (Proc.devRef .tc main_v98)) fun j => 8 * tok (sel V) σ (j / 8) + j % 8) (ho : Order (sel V) σ)
    (s : Fin 5120) (k : Fin 1024) (t : Fin 4096) (ht : t.val = tok (sel V) σ s.val) :
    (W4 V d (Proc.devRef .tc main_v100) : Vec F S5120x1024 .f32) (ix2 s k) = (V (Proc.devRef .tc main_arg0) : Vec F S4096x1024 .f32) (ix2 t k) := by
  have e : (W4 V d (Proc.devRef .tc main_v100) : Vec F S5120x1024 .f32) = shapeCast S5120x1024 (W3 V d (Proc.devRef .tc main_v99) : Vec F S40960x128 .f32) shapeCasts_S40960x128_S5120x1024 := by
    unfold W4; after_reads_simp; rfl
  have hn : 8 * s.val + k.val / 128 < 40960 := by omega
  refine (congrFun e _).trans ((of_lanes _ ⟨8 * s.val + k.val / 128, hn⟩ ⟨k.val % 128, Nat.mod_lt _ (by decide)⟩ s k rfl rfl).trans ?_)
  have e3 : (W3 V d (Proc.devRef .tc main_v99) : Vec F S40960x128 .f32) = Gather.pick (W2 V d (main_v89 : DevRef τ sig) : Vec F S32768x128 .f32) (W2 V d (main_v98 : DevRef τ sig) : IVec S40960 32) :=
    Function.update_self _ _ _
  refine (congrFun e3 _).trans ?_
  unfold Gather.pick
  have key : ∀ i, 8 * tok (sel V) σ (i / 8) + i % 8 < 32768 := fun i => by have := Route.tok_lt ho (i / 8); omega
  have hw : ((W2 V d (main_v98 : DevRef τ sig) : IVec S40960 32) (Gather.at1 ⟨8 * s.val + k.val / 128, hn⟩)).toNat = 8 * t.val + k.val / 128 := by
    refine (Holds.toNat (n := 40960) h (fun i _ => lt_trans (key i) (by norm_num)) _).trans ?_
    show 8 * tok (sel V) σ ((8 * s.val + k.val / 128) / 8) + (8 * s.val + k.val / 128) % 8 = _
    rw [show (8 * s.val + k.val / 128) / 8 = s.val by omega, ht]
    omega
  refine (congrFun (ops1_v89 (W1 V d)) _).trans ((shapeCast_apply _ _ _ (ix2 t k) ?_).trans (congrFun (W1_keeps V d main_arg0 (by decide) (by decide)) _))
  rw [Shape.rowMajor_val_two, Shape.rowMajor_val_two]
  show t.val * 1024 + k.val = (((W2 V d (main_v98 : DevRef τ sig) : IVec S40960 32) (Gather.at1 ⟨8 * s.val + k.val / 128, hn⟩)).toNat % 32768) * 128 + k.val % 128
  rw [hw]
  omega

theorem W4_arg {r : Ref sig .tc} (h1 : r ∉ wrote1) (h2 : r ∉ wrote2) (h91 : (Proc.devRef .tc r : DevRef τ sig) ≠ (main_v99 : DevRef τ sig)) (h00 : r ≠ main_v8_0) (h01 : r ≠ main_v8_1) :
    W4 V d (Proc.devRef .tc r) = V (Proc.devRef .tc r) :=
  (W4_of_W2 V d h2 h91).trans (W2_of_V V d h1 h00 h01)

theorem W3_arg {r : Ref sig .tc} (h1 : r ∉ wrote1) (h91 : (Proc.devRef .tc r : DevRef τ sig) ≠ (main_v99 : DevRef τ sig)) (h00 : r ≠ main_v8_0) (h01 : r ≠ main_v8_1) :
    W3 V d (Proc.devRef .tc r) = V (Proc.devRef .tc r) :=
  (Function.update_of_ne h91 _ _).trans (W2_of_V V d h1 h00 h01)

theorem bias_row {x : Vec F S8x1024 .f32} (e : Fin 8) (k : Fin 1024) : shapeCast S8x1x1024 x shapeCasts_S8x1024_S8x1x1024 (ix3 e (0 : Fin 1) k) = x (ix2 e k) := by
  refine shapeCast_apply _ _ _ _ ?_
  rw [Shape.rowMajor_val_two, Shape.rowMajor_val_three]
  show e.val * 1024 + k.val = (e.val * 1 + 0) * 1024 + k.val
  omega

theorem W4_v101 (e : Fin 8) (k : Fin 1024) : (W4 V d (Proc.devRef .tc main_v101) : Vec F S8x1x1024 .f32) (ix3 e (0 : Fin 1) k) = (V (Proc.devRef .tc main_arg8) : Vec F S8x1024 .f32) (ix2 e k) := by
  have h : (W4 V d (Proc.devRef .tc main_v101) : Vec F S8x1x1024 .f32) = shapeCast S8x1x1024 (W3 V d (Proc.devRef .tc main_arg8) : Vec F S8x1024 .f32) shapeCasts_S8x1024_S8x1x1024 := by
    unfold W4; after_reads_simp; rfl
  exact (congrFun h _).trans ((bias_row e k).trans (congrFun (W3_arg V d (r := main_arg8) (by decide) (by decide) (by decide) (by decide)) _))
theorem W4_v102 (e : Fin 8) (k : Fin 1024) : (W4 V d (Proc.devRef .tc main_v102) : Vec F S8x1x1024 .f32) (ix3 e (0 : Fin 1) k) = (V (Proc.devRef .tc main_arg10) : Vec F S8x1024 .f32) (ix2 e k) := by
  have h : (W4 V d (Proc.devRef .tc main_v102) : Vec F S8x1x1024 .f32) = shapeCast S8x1x1024 (W3 V d (Proc.devRef .tc main_arg10) : Vec F S8x1024 .f32) shapeCasts_S8x1024_S8x1x1024 := by
    unfold W4; after_reads_simp; rfl
  exact (congrFun h _).trans ((bias_row e k).trans (congrFun (W3_arg V d (r := main_arg10) (by decide) (by decide) (by decide) (by decide)) _))
theorem W4_v103 (e : Fin 8) (k : Fin 1024) : (W4 V d (Proc.devRef .tc main_v103) : Vec F S8x1x1024 .f32) (ix3 e (0 : Fin 1) k) = (V (Proc.devRef .tc main_arg12) : Vec F S8x1024 .f32) (ix2 e k) := by
  have h : (W4 V d (Proc.devRef .tc main_v103) : Vec F S8x1x1024 .f32) = shapeCast S8x1x1024 (W3 V d (Proc.devRef .tc main_arg12) : Vec F S8x1024 .f32) shapeCasts_S8x1024_S8x1x1024 := by
    unfold W4; after_reads_simp; rfl
  exact (congrFun h _).trans ((bias_row e k).trans (congrFun (W3_arg V d (r := main_arg12) (by decide) (by decide) (by decide) (by decide)) _))

end Cert.Proof.Moe

end
-- ==== Proof.Moe.KernelVals.lean ====
/-
  The mixture of experts: the kernel's four results over the extended reals, each entry from the arrays at launch.
-/
module

public import proofs.«01_k».proof.Proof.Moe.KernelRows
public import proofs.«01_k».proof.Proof.Moe.Out

@[expose] public section

noncomputable section

namespace Cert.Proof.Moe

open Cert.KernelIdeal Cert.KernelIdeal.Gen
open Idealize.ShloMosaic Idealize.ShloMosaic.TcCoe Idealize.ShloMosaic.ValueIdx
open Route (Order tok dst)

variable (V : Valuation τ sig (Elt Ideal)) (d : Dev nD)

/-- A token's option logits, from the arrays at launch. -/
abbrev kLogits (t : Fin 4096) : Fin 8 → EReal :=
  logitsOf (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) t

/-- A token's action parameters by an expert, from the arrays at launch. -/
abbrev kParams (e : Fin 8) (t : Fin 4096) : Fin 1024 → EReal :=
  paramsOf (V (Proc.devRef .tc main_arg0)) (V (Proc.devRef .tc main_arg7)) (V (Proc.devRef .tc main_arg8)) (V (Proc.devRef .tc main_arg9))
    (V (Proc.devRef .tc main_arg10)) (V (Proc.devRef .tc main_arg11)) (V (Proc.devRef .tc main_arg12)) e t

set_option backward.isDefEq.respectTransparency.types false in
/-- A block's row of logits is the token's. -/
theorem block_logits (p : Fin cfg0.N) (r : Fin 512) (t : Fin 4096) (ht : t.val = 512 * p.val + r.val) :
    mlp (rowOf (M := 512) (N := 1024) (rblk V 1 p) r) (matOf (M := 1024) (N := 1024) (rblk V 2 p)) (vecOf (N := 1024) (rblk V 3 p)) (matOf (M := 1024) (N := 1024) (rblk V 4 p))
      (vecOf (N := 1024) (rblk V 5 p)) (matOf (M := 1024) (N := 8) (rblk V 6 p)) (vecOf (N := 8) (rblk V 7 p)) = kLogits V t := by
  have h1 : rowOf (M := 512) (N := 1024) (rblk V 1 p) r = rowOf (M := 4096) (N := 1024) (V (Proc.devRef .tc main_arg0)) t :=
    funext fun k => blk1_at V p (ix2 r k) (ix2 t k) ht rfl
  have h2 : matOf (M := 1024) (N := 1024) (rblk V 2 p) = matOf (M := 1024) (N := 1024) (V (Proc.devRef .tc main_arg1)) := congrArg (matOf (M := 1024) (N := 1024)) (blk2_eq V p)
  have h3 : vecOf (N := 1024) (rblk V 3 p) = vecOf (N := 1024) (V (Proc.devRef .tc main_arg2)) := congrArg (vecOf (N := 1024)) (blk3_eq V p)
  have h4 : matOf (M := 1024) (N := 1024) (rblk V 4 p) = matOf (M := 1024) (N := 1024) (V (Proc.devRef .tc main_arg3)) := congrArg (matOf (M := 1024) (N := 1024)) (blk4_eq V p)
  have h5 : vecOf (N := 1024) (rblk V 5 p) = vecOf (N := 1024) (V (Proc.devRef .tc main_arg4)) := congrArg (vecOf (N := 1024)) (blk5_eq V p)
  have h6 : matOf (M := 1024) (N := 8) (rblk V 6 p) = matOf (M := 1024) (N := 8) (V (Proc.devRef .tc main_arg5)) := congrArg (matOf (M := 1024) (N := 8)) (blk6_eq V p)
  have h7 : vecOf (N := 8) (rblk V 7 p) = vecOf (N := 8) (V (Proc.devRef .tc main_arg6)) := congrArg (vecOf (N := 8)) (blk7_eq V p)
  rw [h1, h2, h3, h4, h5, h6, h7]; rfl

set_option backward.isDefEq.respectTransparency.types false in
/-- The first result: the softmax of the token's logits. -/
theorem kernel_probs (t : Fin 4096) (k : Fin 8) : (W8 V d (Proc.devRef .tc main_v8_0) : Vec Ideal S4096x8 .f32) (ix2 t k) = soft (kLogits V t) k := by
  refine (W8_probs V d (ix2 t k)).trans ?_
  have ht : t.val = 512 * (pt t.val t.isLt).val + t.val % 512 := by show t.val = 512 * (t.val / 512) + t.val % 512; omega
  rw [← block_logits V (pt t.val t.isLt) ⟨t.val % 512, Nat.mod_lt _ (by decide)⟩ t ht]
  exact (congrArg (rprobs V (pt t.val t.isLt)) (eq_ix2 _)).trans
    (probs_row (rblk V 1 (pt t.val t.isLt)) (rblk V 2 (pt t.val t.isLt)) (rblk V 3 (pt t.val t.isLt)) (rblk V 4 (pt t.val t.isLt)) (rblk V 5 (pt t.val t.isLt)) (rblk V 6 (pt t.val t.isLt)) (rblk V 7 (pt t.val t.isLt)) ⟨t.val % 512, Nat.mod_lt _ (by decide)⟩ k)

set_option backward.isDefEq.respectTransparency.types false in
/-- The second result: the first of the greatest of the token's logits with the noise added. -/
theorem kernel_best (t : Fin 4096) : ∃ b, Best (seqOf (scoresOf (V (Proc.devRef .tc main_v7)) (kLogits V t) t)) 8 b (sel V t.val) := by
  have ht : t.val = 512 * (pt t.val t.isLt).val + t.val % 512 := by show t.val = 512 * (t.val / 512) + t.val % 512; omega
  obtain ⟨b, h⟩ := sel_row (rblk V 1 (pt t.val t.isLt)) (rblk V 2 (pt t.val t.isLt)) (rblk V 3 (pt t.val t.isLt)) (rblk V 4 (pt t.val t.isLt)) (rblk V 5 (pt t.val t.isLt)) (rblk V 6 (pt t.val t.isLt))
    (rblk V 7 (pt t.val t.isLt)) (rblk V 0 (pt t.val t.isLt)) ⟨t.val % 512, Nat.mod_lt _ (by decide)⟩
  refine ⟨b, ?_⟩
  have hs : sel V t.val = (rsel V (pt t.val t.isLt) (r3 ⟨t.val % 512, Nat.mod_lt _ (by decide)⟩) : BitVec 32).toNat := dif_pos t.isLt
  rw [hs]
  refine Eq.mp (congrArg (fun z => Best (seqOf z) 8 b _) (funext fun k => ?_)) h
  exact congrArg₂ (fun y z : EReal => y + z) (blk0_at V (pt t.val t.isLt) (ix2 ⟨t.val % 512, Nat.mod_lt _ (by decide)⟩ k) (ix2 t k) ht rfl)
    (congrFun (block_logits V (pt t.val t.isLt) ⟨t.val % 512, Nat.mod_lt _ (by decide)⟩ t ht) k)

/-- A token's selected expert. -/
def chosen (t : Fin 4096) : Fin 8 := ⟨sel V t.val, sel_lt V t.val⟩

set_option backward.isDefEq.respectTransparency.types false in
/-- What the experts leave at a row whose token is `t`, for an owner of the block that is the token's expert. -/
theorem expert_at {σ : ℕ → ℕ} (ho : Order (sel V) σ) (hw : Holds (n := 40) (W2 V d (Proc.devRef .tc main_v88)) (Route.who (sel V)))
    (hr : Holds (n := 40960) (W2 V d (Proc.devRef .tc main_v98)) fun j => 8 * tok (sel V) σ (j / 8) + j % 8)
    (s : Fin 5120) (t : Fin 4096) (ht : tok (sel V) σ s.val = t.val) (he : Route.who (sel V) (s.val / 128) = sel V t.val) (k : Fin 1024) :
    (W5 V d (Proc.devRef .tc main_v104) : Vec Ideal S5120x1024 .f32) (ix2 s k)
      = if k.val < 512 then kParams V (chosen V t) t k else Ideal.exp (kParams V (chosen V t) t k) := by
  refine (congrFun (W5_v104 V d) _).trans ?_
  have hp : (xpt (adm V d) s.val s.isLt).val = s.val / 128 := rfl
  generalize hP : xpt (adm V d) s.val s.isLt = p at hp
  have hwho : (chosen V t).val = who (adm V d) p := by
    show sel V t.val = (table V d 0 (t40 (pt40 (adm V d) p)) : BitVec 32).toNat
    have e : (table V d 0 : IVec S40 32) = (W2 V d (Proc.devRef .tc main_v88) : IVec S40 32) := W4_v88 V d
    rw [e, Holds.toNat (n := 40) hw (fun i _ => lt_trans (Route.who_lt (sel := sel V) i) (by norm_num)) _, ← he]
    exact congrArg (Route.who (sel V)) hp.symm
  have h0 : rowOf (M := 128) (N := 1024) (xblk (adm V d) (W4 V d) 0 p) ⟨s.val % 128, Nat.mod_lt _ (by decide)⟩ = rowOf (M := 4096) (N := 1024) (V (Proc.devRef .tc main_arg0)) t :=
    funext fun k => (xblk0_at (adm V d) (W4 V d) p (ix2 ⟨s.val % 128, Nat.mod_lt _ (by decide)⟩ k) (ix2 s k)
      (by show s.val = 128 * p.val + s.val % 128; omega) rfl).trans (W4_v100 V d hr ho s k t ht.symm)
  have h1 : mat1 (xblk (adm V d) (W4 V d) 1 p) = stackOf (V (Proc.devRef .tc main_arg7)) (chosen V t) := funext fun i => funext fun j =>
    (xblk1_at (adm V d) (W4 V d) p (ix3 (0 : Fin 1) i j) (ix3 (chosen V t) i j) hwho rfl rfl).trans
      (congrFun (W4_arg V d (r := main_arg7) (by decide) (by decide) (by decide) (by decide) (by decide)) _)
  have h3 : mat1 (xblk (adm V d) (W4 V d) 3 p) = stackOf (V (Proc.devRef .tc main_arg9)) (chosen V t) := funext fun i => funext fun j =>
    (xblk3_at (adm V d) (W4 V d) p (ix3 (0 : Fin 1) i j) (ix3 (chosen V t) i j) hwho rfl rfl).trans
      (congrFun (W4_arg V d (r := main_arg9) (by decide) (by decide) (by decide) (by decide) (by decide)) _)
  have h5 : mat1 (xblk (adm V d) (W4 V d) 5 p) = stackOf (V (Proc.devRef .tc main_arg11)) (chosen V t) := funext fun i => funext fun j =>
    (xblk5_at (adm V d) (W4 V d) p (ix3 (0 : Fin 1) i j) (ix3 (chosen V t) i j) hwho rfl rfl).trans
      (congrFun (W4_arg V d (r := main_arg11) (by decide) (by decide) (by decide) (by decide) (by decide)) _)
  have h2 : vec1 (xblk (adm V d) (W4 V d) 2 p) = rowOf (M := 8) (N := 1024) (V (Proc.devRef .tc main_arg8)) (chosen V t) := funext fun j =>
    (xblk2_at (adm V d) (W4 V d) p (ix3 (0 : Fin 1) (0 : Fin 1) j) (ix3 (chosen V t) (0 : Fin 1) j) hwho rfl).trans (W4_v101 V d (chosen V t) j)
  have h4 : vec1 (xblk (adm V d) (W4 V d) 4 p) = rowOf (M := 8) (N := 1024) (V (Proc.devRef .tc main_arg10)) (chosen V t) := funext fun j =>
    (xblk4_at (adm V d) (W4 V d) p (ix3 (0 : Fin 1) (0 : Fin 1) j) (ix3 (chosen V t) (0 : Fin 1) j) hwho rfl).trans (W4_v102 V d (chosen V t) j)
  have h6 : vec1 (xblk (adm V d) (W4 V d) 6 p) = rowOf (M := 8) (N := 1024) (V (Proc.devRef .tc main_arg12)) (chosen V t) := funext fun j =>
    (xblk6_at (adm V d) (W4 V d) p (ix3 (0 : Fin 1) (0 : Fin 1) j) (ix3 (chosen V t) (0 : Fin 1) j) hwho rfl).trans (W4_v103 V d (chosen V t) j)
  have hx : params (xblk (adm V d) (W4 V d) 0 p) (xblk (adm V d) (W4 V d) 1 p) (xblk (adm V d) (W4 V d) 2 p) (xblk (adm V d) (W4 V d) 3 p) (xblk (adm V d) (W4 V d) 4 p)
      (xblk (adm V d) (W4 V d) 5 p) (xblk (adm V d) (W4 V d) 6 p) ⟨s.val % 128, Nat.mod_lt _ (by decide)⟩ = kParams V (chosen V t) t := by
    unfold params
    rw [h0, h1, h2, h3, h4, h5, h6]; rfl
  rw [← hx]
  show xout (adm V d) (W4 V d) (xpt (adm V d) s.val s.isLt) (rk ⟨s.val % 128, Nat.mod_lt _ (by decide)⟩ k) = _
  rw [hP]
  exact (congrArg (xout (adm V d) (W4 V d) p) (eq_ix2 _)).trans
    (expert_row (xblk (adm V d) (W4 V d) 0 p) (xblk (adm V d) (W4 V d) 1 p) (xblk (adm V d) (W4 V d) 2 p) (xblk (adm V d) (W4 V d) 3 p) (xblk (adm V d) (W4 V d) 4 p)
      (xblk (adm V d) (W4 V d) 5 p) (xblk (adm V d) (W4 V d) 6 p) ⟨s.val % 128, Nat.mod_lt _ (by decide)⟩ k)

/-- A token's row of what the scatter leaves is its own expert's output for it. -/
theorem token_at (t : Fin 4096) (t' : Fin 5120) (e : t'.val = t.val) (k : Fin 1024) :
    shapeCast S5120x1024 (W7 V d (Proc.devRef .tc main_v116) : Vec Ideal S40960x128 .f32) shapeCasts_S40960x128_S5120x1024 (ix2 t' k)
      = if k.val < 512 then kParams V (chosen V t) t k else Ideal.exp (kParams V (chosen V t) t k) := by
  obtain ⟨σ, ho, hd, hw, hr⟩ := lists V d
  obtain ⟨s, hs, hdst, htok, hwho⟩ := Route.placed ho t.isLt
  exact (W8_v117 V d hd ho ⟨s, hs⟩ k t' (e.trans hdst.symm)).trans (expert_at V d ho hw hr ⟨s, hs⟩ t htok hwho k)

/-- The third result: the first half of the token's parameters by its expert. -/
theorem kernel_mean (t : Fin 4096) (k : Fin 512) : (W8 V d (Proc.devRef .tc main_v118) : Vec Ideal S4096x512 .f32) (ix2 t k)
    = kParams V (chosen V t) t ⟨k.val, by omega⟩ := by
  refine (congrFun (W8_v118 V d) _).trans ((extractStridedSlice_apply _ _ _ _ (ix2 (⟨t.val, by omega⟩ : Fin 5120) (⟨k.val, by omega⟩ : Fin 1024)) fun a => ?_).trans
    ((token_at V d t _ rfl _).trans (if_pos k.isLt)))
  match a with
  | ⟨0, _⟩ => show t.val = 0 + t.val; omega
  | ⟨1, _⟩ => show k.val = 0 + k.val; omega

/-- The fourth result: the exponentials of the second half. -/
theorem kernel_std (t : Fin 4096) (k : Fin 512) : (W8 V d (Proc.devRef .tc main_v119) : Vec Ideal S4096x512 .f32) (ix2 t k)
    = Ideal.exp (kParams V (chosen V t) t ⟨512 + k.val, by omega⟩) := by
  refine (congrFun (W8_v119 V d) _).trans ((extractStridedSlice_apply _ _ _ _ (ix2 (⟨t.val, by omega⟩ : Fin 5120) (⟨512 + k.val, by omega⟩ : Fin 1024)) fun a => ?_).trans
    ((token_at V d t _ rfl _).trans (if_neg (by show ¬ 512 + k.val < 512; omega))))
  match a with
  | ⟨0, _⟩ => show t.val = 0 + t.val; omega
  | ⟨1, _⟩ => rfl

end Cert.Proof.Moe

end
-- ==== Proof.Moe.RefNoise.lean ====
/-
  The noise of the reference, as lists of operations: the key's two words, the counters of the entries, the five groups of
  mixing rounds, and the numbers between 0 and 1 made of the mixed words, of which the logarithm is taken twice.
-/
module

public import proofs.«01_k».proof.Proof.Moe.Mix
public import proofs.«01_k».proof.Proof.Gen.ReferenceIdeal

@[expose] public section

noncomputable section

namespace Cert.Proof.Moe.Reference

open Cert.ReferenceIdeal Cert.ReferenceIdeal.Gen
open Idealize.ShloMosaic Idealize.ShloMosaic.TcCoe

variable {F : FTy → Type} [FloatOps F]

/-- The key: the seed's high and low words. -/
abbrev opsKey : List (HloOp τ sig (Elt F)) :=
  [StableHlo.nullary main_c (constantI S_ 32 42#32),
    StableHlo.nullary main_c_2 (constantI S_ 32 32#32),
    StableHlo.binary main_c main_c_2 main_v25 Host.shrui,
    StableHlo.unary main_v25 main_v26 id,
    StableHlo.unary main_v26 main_v27 (broadcastInDim S1 ![] bcast_S_S1),
    StableHlo.nullary main_c_3 (constantI S_ 32 4294967295#32),
    StableHlo.binary main_c main_c_3 main_v28 andi,
    StableHlo.unary main_v28 main_v29 id,
    StableHlo.unary main_v29 main_v30 (broadcastInDim S1 ![] bcast_S_S1),
    StableHlo.binary main_v27 main_v30 main_v31 (fun a b => concatenate S2 0 [⟨S1, a⟩, ⟨S1, b⟩] concatenates_S1_S1_S2_d0)]

/-- The entries' numbers as two words, and the bounds of the uniform numbers. -/
abbrev countOps (arg0 : StableHlo.TRef sig ⟨S2, .i32⟩) (arg1 arg2 : StableHlo.TRef sig ⟨S_, .f32⟩) (φ : fn_uniform.Bufs) : List (HloOp τ sig (Elt F)) :=
  [StableHlo.TRef.unary arg1 φ.v0 id,
    StableHlo.TRef.unary arg2 φ.v1 (broadcastInDim S1x1 ![] bcast_S_S1x1),
    StableHlo.TRef.unary φ.v0 φ.v2 (broadcastInDim S1x1 ![] bcast_S_S1x1),
    StableHlo.TRef.unary arg0 φ.v3 (extractStridedSlice S1 ![0] · slices_S2_S1_0),
    StableHlo.TRef.reshape φ.v3 φ.v4 (rfl : (.i32 : EltTy) = .i32) shapeCasts_S1_S_,
    StableHlo.TRef.unary arg0 φ.v5 (extractStridedSlice S1 ![1] · slices_S2_S1_1),
    StableHlo.TRef.reshape φ.v5 φ.v6 (rfl : (.i32 : EltTy) = .i32) shapeCasts_S1_S_,
    StableHlo.TRef.nullary φ.v7 (iotaInDim S4096x8 64 0),
    StableHlo.TRef.nullary φ.v8 (iotaInDim S4096x8 64 1),
    StableHlo.TRef.nullary φ.c (constantI S_ 64 8#64),
    StableHlo.TRef.unary φ.c φ.v9 (broadcastInDim S4096x8 ![] bcast_S_S4096x8),
    StableHlo.TRef.binary φ.v9 φ.v7 φ.v10 muli,
    StableHlo.TRef.nullary φ.c_0 (constantI S_ 64 1#64),
    StableHlo.TRef.unary φ.c_0 φ.v11 (broadcastInDim S4096x8 ![] bcast_S_S4096x8),
    StableHlo.TRef.binary φ.v11 φ.v8 φ.v12 muli,
    StableHlo.TRef.binary φ.v10 φ.v12 φ.v13 addi,
    StableHlo.TRef.nullary φ.c_1 (constantI S_ 64 32#64),
    StableHlo.TRef.unary φ.c_1 φ.v14 (broadcastInDim S4096x8 ![] bcast_S_S4096x8),
    StableHlo.TRef.binary φ.v13 φ.v14 φ.v15 Host.shrui,
    StableHlo.TRef.unary φ.v13 φ.v16 (trunci 32 · natLt_32_64),
    StableHlo.TRef.unary φ.v15 φ.v17 (trunci 32 · natLt_32_64)]

/-- The key's third word, and the key added to the counters. -/
abbrev seedOps (arg0 arg1 : OneRef sig) (arg2 arg3 : WordRef sig) (φ : fn_threefry2x32.Bufs) : List (HloOp τ sig (Elt F)) :=
  [StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S4096x8 ![] bcast_S_S4096x8),
    StableHlo.TRef.binary arg2 φ.v2 φ.v3 addi,
    StableHlo.TRef.unary arg1 φ.v4 (broadcastInDim S4096x8 ![] bcast_S_S4096x8),
    StableHlo.TRef.binary arg3 φ.v4 φ.v5 addi]

/-- The first group of rounds. -/
abbrev group1Ops (arg1 : OneRef sig) (φ : fn_threefry2x32.Bufs) : List (HloOp τ sig (Elt F)) :=
  roundOps 13#32 19#32 φ.v3 φ.v5 φ.v6 φ.c_0 φ.v7 φ.v8 φ.c_1 φ.v9 φ.v10 φ.v11 φ.v12
    ++ roundOps 15#32 17#32 φ.v6 φ.v12 φ.v13 φ.c_2 φ.v14 φ.v15 φ.c_3 φ.v16 φ.v17 φ.v18 φ.v19
    ++ roundOps 26#32 6#32 φ.v13 φ.v19 φ.v20 φ.c_4 φ.v21 φ.v22 φ.c_5 φ.v23 φ.v24 φ.v25 φ.v26
    ++ roundOps 6#32 26#32 φ.v20 φ.v26 φ.v27 φ.c_6 φ.v28 φ.v29 φ.c_7 φ.v30 φ.v31 φ.v32 φ.v33
    ++ injectOps 1#32 arg1 φ.v1 φ.v27 φ.v33 φ.v34 φ.v35 φ.v36 φ.v37 φ.c_8 φ.v38 φ.v39

/-- The second group of rounds. -/
abbrev group2Ops (arg0 : OneRef sig) (φ : fn_threefry2x32.Bufs) : List (HloOp τ sig (Elt F)) :=
  roundOps 17#32 15#32 φ.v35 φ.v39 φ.v40 φ.c_9 φ.v41 φ.v42 φ.c_10 φ.v43 φ.v44 φ.v45 φ.v46
    ++ roundOps 29#32 3#32 φ.v40 φ.v46 φ.v47 φ.c_11 φ.v48 φ.v49 φ.c_12 φ.v50 φ.v51 φ.v52 φ.v53
    ++ roundOps 16#32 16#32 φ.v47 φ.v53 φ.v54 φ.c_13 φ.v55 φ.v56 φ.c_14 φ.v57 φ.v58 φ.v59 φ.v60
    ++ roundOps 24#32 8#32 φ.v54 φ.v60 φ.v61 φ.c_15 φ.v62 φ.v63 φ.c_16 φ.v64 φ.v65 φ.v66 φ.v67
    ++ injectOps 2#32 φ.v1 arg0 φ.v61 φ.v67 φ.v68 φ.v69 φ.v70 φ.v71 φ.c_17 φ.v72 φ.v73

/-- The third group of rounds. -/
abbrev group3Ops (arg0 arg1 : OneRef sig) (φ : fn_threefry2x32.Bufs) : List (HloOp τ sig (Elt F)) :=
  roundOps 13#32 19#32 φ.v69 φ.v73 φ.v74 φ.c_18 φ.v75 φ.v76 φ.c_19 φ.v77 φ.v78 φ.v79 φ.v80
    ++ roundOps 15#32 17#32 φ.v74 φ.v80 φ.v81 φ.c_20 φ.v82 φ.v83 φ.c_21 φ.v84 φ.v85 φ.v86 φ.v87
    ++ roundOps 26#32 6#32 φ.v81 φ.v87 φ.v88 φ.c_22 φ.v89 φ.v90 φ.c_23 φ.v91 φ.v92 φ.v93 φ.v94
    ++ roundOps 6#32 26#32 φ.v88 φ.v94 φ.v95 φ.c_24 φ.v96 φ.v97 φ.c_25 φ.v98 φ.v99 φ.v100 φ.v101
    ++ injectOps 3#32 arg0 arg1 φ.v95 φ.v101 φ.v102 φ.v103 φ.v104 φ.v105 φ.c_26 φ.v106 φ.v107

/-- The fourth group of rounds. -/
abbrev group4Ops (arg1 : OneRef sig) (φ : fn_threefry2x32.Bufs) : List (HloOp τ sig (Elt F)) :=
  roundOps 17#32 15#32 φ.v103 φ.v107 φ.v108 φ.c_27 φ.v109 φ.v110 φ.c_28 φ.v111 φ.v112 φ.v113 φ.v114
    ++ roundOps 29#32 3#32 φ.v108 φ.v114 φ.v115 φ.c_29 φ.v116 φ.v117 φ.c_30 φ.v118 φ.v119 φ.v120 φ.v121
    ++ roundOps 16#32 16#32 φ.v115 φ.v121 φ.v122 φ.c_31 φ.v123 φ.v124 φ.c_32 φ.v125 φ.v126 φ.v127 φ.v128
    ++ roundOps 24#32 8#32 φ.v122 φ.v128 φ.v129 φ.c_33 φ.v130 φ.v131 φ.c_34 φ.v132 φ.v133 φ.v134 φ.v135
    ++ injectOps 4#32 arg1 φ.v1 φ.v129 φ.v135 φ.v136 φ.v137 φ.v138 φ.v139 φ.c_35 φ.v140 φ.v141

/-- The fifth group of rounds. -/
abbrev group5Ops (arg0 : OneRef sig) (φ : fn_threefry2x32.Bufs) : List (HloOp τ sig (Elt F)) :=
  roundOps 13#32 19#32 φ.v137 φ.v141 φ.v142 φ.c_36 φ.v143 φ.v144 φ.c_37 φ.v145 φ.v146 φ.v147 φ.v148
    ++ roundOps 15#32 17#32 φ.v142 φ.v148 φ.v149 φ.c_38 φ.v150 φ.v151 φ.c_39 φ.v152 φ.v153 φ.v154 φ.v155
    ++ roundOps 26#32 6#32 φ.v149 φ.v155 φ.v156 φ.c_40 φ.v157 φ.v158 φ.c_41 φ.v159 φ.v160 φ.v161 φ.v162
    ++ roundOps 6#32 26#32 φ.v156 φ.v162 φ.v163 φ.c_42 φ.v164 φ.v165 φ.c_43 φ.v166 φ.v167 φ.v168 φ.v169
    ++ injectOps 5#32 φ.v1 arg0 φ.v163 φ.v169 φ.v170 φ.v171 φ.v172 φ.v173 φ.c_44 φ.v174 φ.v175

/-- The mixed words made into numbers between the bounds. -/
abbrev scaleOps (φ : fn_uniform.Bufs) : List (HloOp τ sig (Elt F)) :=
  [StableHlo.TRef.binary φ.call0.v171 φ.call0.v175 φ.v19 xori,
    StableHlo.TRef.nullary φ.c_2 (constantI S_ 32 9#32),
    StableHlo.TRef.unary φ.c_2 φ.v20 (broadcastInDim S4096x8 ![] bcast_S_S4096x8),
    StableHlo.TRef.binary φ.v19 φ.v20 φ.v21 Host.shrui,
    StableHlo.TRef.nullary φ.c_3 (constantI S_ 32 1065353216#32),
    StableHlo.TRef.unary φ.c_3 φ.v22 (broadcastInDim S4096x8 ![] bcast_S_S4096x8),
    StableHlo.TRef.binary φ.v21 φ.v22 φ.v23 ori,
    StableHlo.TRef.unary φ.v23 φ.v24 (bitcastToFloat .f32),
    StableHlo.TRef.nullary φ.cst (constant S_ .f32 0x3F800000#32),
    StableHlo.TRef.unary φ.cst φ.v25 (broadcastInDim S4096x8 ![] bcast_S_S4096x8),
    StableHlo.TRef.binary φ.v24 φ.v25 φ.v26 subf,
    StableHlo.TRef.binary φ.v2 φ.v1 φ.v27 subf,
    StableHlo.TRef.unary φ.v27 φ.v28 (broadcastInDim S4096x8 ![0, 1] bcast_S1x1_S4096x8_0_1),
    StableHlo.TRef.binary φ.v26 φ.v28 φ.v29 mulf,
    StableHlo.TRef.unary φ.v1 φ.v30 (broadcastInDim S4096x8 ![0, 1] bcast_S1x1_S4096x8_0_1),
    StableHlo.TRef.binary φ.v29 φ.v30 φ.v31 addf,
    StableHlo.TRef.unary φ.v1 φ.v32 (broadcastInDim S4096x8 ![0, 1] bcast_S1x1_S4096x8_0_1),
    StableHlo.TRef.binary φ.v32 φ.v31 φ.v33 maximumf]

/-- The two bounds. -/
abbrev boundOps (φ : fn_gumbel.Bufs) : List (HloOp τ sig (Elt F)) :=
  [StableHlo.TRef.nullary φ.cst (constant S_ .f32 0x3F800000#32),
    StableHlo.TRef.nullary φ.cst_0 (constant S_ .f32 0x00800000#32)]

/-- The noise of the numbers: twice the negated logarithm. -/
abbrev logOps (φ : fn_gumbel.Bufs) : List (HloOp τ sig (Elt F)) :=
  [StableHlo.TRef.unary φ.call0.v33 φ.v1 Host.log,
    StableHlo.TRef.unary φ.v1 φ.v2 Host.negf,
    StableHlo.TRef.unary φ.v2 φ.v3 Host.log,
    StableHlo.TRef.unary φ.v3 φ.v4 Host.negf]

/-- The words mixed. -/
abbrev mixOps (arg0 arg1 : OneRef sig) (arg2 arg3 : WordRef sig) (φ : fn_threefry2x32.Bufs) : List (HloOp τ sig (Elt F)) :=
  seedOps arg0 arg1 arg2 arg3 φ ++ group1Ops arg1 φ ++ group2Ops arg0 φ ++ group3Ops arg0 arg1 φ ++ group4Ops arg1 φ ++ group5Ops arg0 φ

/-- The whole noise. -/
abbrev opsNoise : List (HloOp τ sig (Elt F)) :=
  opsKey ++ boundOps main_call2 ++ countOps (.of main_v31) main_call2.cst main_call2.cst_0 main_call2.call0
    ++ mixOps main_call2.call0.v4 main_call2.call0.v6 main_call2.call0.v17 main_call2.call0.v16 main_call2.call0.call0 ++ scaleOps main_call2.call0 ++ logOps main_call2

end Cert.Proof.Moe.Reference

end
-- ==== Proof.Moe.RefOps.lean ====
/-
  The reference as lists of operations, one list per step, and what each step writes.
-/
module

public import proofs.«01_k».proof.Proof.Gen.ReferenceIdeal
public import proofs.«01_k».proof.Proof.Moe.RefNoise
public import Idealize.ShloMosaic.Lib.Pipeline.Regions
public import Idealize.ShloMosaic.Lib.StableHlo.RunRead
public import Idealize.ShloMosaic.Lib.StableHlo.Run

@[expose] public section

noncomputable section

namespace Cert.Proof.Moe.Reference

open Cert.ReferenceIdeal Cert.ReferenceIdeal.Gen
open Idealize.ShloMosaic Idealize.ShloMosaic.TcCoe
open Idealize.ShloMosaic.StableHlo (after seq)
open Idealize.SL Idealize.SL.Sem

variable {F : FTy → Type} [FloatOps F]

/-- The rectifier. -/
abbrev fn_reluOps (arg0 : StableHlo.TRef sig ⟨S4096x1024, .f32⟩) (φ : fn_relu.Bufs) : List (HloOp τ sig (Elt F)) :=
  [StableHlo.TRef.nullary φ.cst (constant S_ .f32 0x00000000#32),
    StableHlo.TRef.unary φ.cst φ.v0 (broadcastInDim S4096x1024 ![] bcast_S_S4096x1024),
    StableHlo.TRef.binary arg0 φ.v0 φ.v1 maximumf]

/-- The position of the first greatest of each row. -/
abbrev fn_argmaxOps (arg0 : StableHlo.TRef sig ⟨S4096x8, .f32⟩) (φ : fn_argmax.Bufs) : List (HloOp τ sig (Elt F)) :=
  [StableHlo.TRef.nullary φ.v0 (iotaInDim S4096x8 32 1),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S4096x8_S4096_d1 h_S_ j).1),
    StableHlo.TRef.quaternary arg0 φ.v0 φ.cst φ.c φ.v1_1 (fun x y u v j => (Host.argReduce reducer_argmax_f32_i32 x y u v reducesTo_S4096x8_S4096_d1 h_S_ j).2)]

/-- The rectifier on the stack. -/
abbrev fn_relu_0Ops (arg0 : StableHlo.TRef sig ⟨S8x4096x1024, .f32⟩) (φ : fn_relu_0.Bufs) : List (HloOp τ sig (Elt F)) :=
  [StableHlo.TRef.nullary φ.cst (constant S_ .f32 0x00000000#32),
    StableHlo.TRef.unary φ.cst φ.v0 (broadcastInDim S8x4096x1024 ![] bcast_S_S8x4096x1024),
    StableHlo.TRef.binary arg0 φ.v0 φ.v1 maximumf]

/-- A selection between an array and a number. -/
abbrev fn_whereOps (arg0 : StableHlo.TRef sig ⟨S8x4096x1, .i1⟩) (arg1 : StableHlo.TRef sig ⟨S8x4096x1024, .f32⟩) (arg2 : StableHlo.TRef sig ⟨S_, .f32⟩) (φ : fn_where.Bufs) : List (HloOp τ sig (Elt F)) :=
  [StableHlo.TRef.unary arg2 φ.v0 id,
    StableHlo.TRef.unary arg0 φ.v1 (broadcastInDim S8x4096x1024 ![0, 1, 2] bcast_S8x4096x1_S8x4096x1024_0_1_2),
    StableHlo.TRef.unary φ.v0 φ.v2 (broadcastInDim S8x4096x1024 ![] bcast_S_S8x4096x1024),
    StableHlo.TRef.ternary φ.v1 arg1 φ.v2 φ.v3 select]

/-- The option network's first hidden layer. -/
abbrev opsHidden : List (HloOp τ sig (Elt F)) :=
  [StableHlo.binary main_arg0 main_arg1 main_v0 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
      StableHlo.unary main_arg2 main_v1 (broadcastInDim S1x1024 ![1] bcast_S1024_S1x1024_1 : (⟨S1024, .f32⟩ : BufTy).Contents (Elt F) → (⟨S1x1024, .f32⟩ : BufTy).Contents (Elt F)),
      StableHlo.unary main_v1 main_v2 (broadcastInDim S4096x1024 ![0, 1] bcast_S1x1024_S4096x1024_0_1 : (⟨S1x1024, .f32⟩ : BufTy).Contents (Elt F) → (⟨S4096x1024, .f32⟩ : BufTy).Contents (Elt F)),
      StableHlo.binary main_v0 main_v2 main_v3 (addf : (⟨S4096x1024, .f32⟩ : BufTy).Contents (Elt F) → (⟨S4096x1024, .f32⟩ : BufTy).Contents (Elt F) → (⟨S4096x1024, .f32⟩ : BufTy).Contents (Elt F))]
    ++ fn_reluOps (.of main_v3) main_call0

/-- The second. -/
abbrev opsHidden2 : List (HloOp τ sig (Elt F)) :=
  [StableHlo.binary main_v4 main_arg3 main_v5 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
      StableHlo.unary main_arg4 main_v6 (broadcastInDim S1x1024 ![1] bcast_S1024_S1x1024_1 : (⟨S1024, .f32⟩ : BufTy).Contents (Elt F) → (⟨S1x1024, .f32⟩ : BufTy).Contents (Elt F)),
      StableHlo.unary main_v6 main_v7 (broadcastInDim S4096x1024 ![0, 1] bcast_S1x1024_S4096x1024_0_1 : (⟨S1x1024, .f32⟩ : BufTy).Contents (Elt F) → (⟨S4096x1024, .f32⟩ : BufTy).Contents (Elt F)),
      StableHlo.binary main_v5 main_v7 main_v8 (addf : (⟨S4096x1024, .f32⟩ : BufTy).Contents (Elt F) → (⟨S4096x1024, .f32⟩ : BufTy).Contents (Elt F) → (⟨S4096x1024, .f32⟩ : BufTy).Contents (Elt F))]
    ++ fn_reluOps (.of main_v8) main_call1

/-- The option logits. -/
abbrev opsLogits : List (HloOp τ sig (Elt F)) :=
  [StableHlo.binary main_v9 main_arg5 main_v10 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
      StableHlo.unary main_arg6 main_v11 (broadcastInDim S1x8 ![1] bcast_S8_S1x8_1 : (⟨S8, .f32⟩ : BufTy).Contents (Elt F) → (⟨S1x8, .f32⟩ : BufTy).Contents (Elt F)),
      StableHlo.unary main_v11 main_v12 (broadcastInDim S4096x8 ![0, 1] bcast_S1x8_S4096x8_0_1 : (⟨S1x8, .f32⟩ : BufTy).Contents (Elt F) → (⟨S4096x8, .f32⟩ : BufTy).Contents (Elt F)),
      StableHlo.binary main_v10 main_v12 main_v13 (addf : (⟨S4096x8, .f32⟩ : BufTy).Contents (Elt F) → (⟨S4096x8, .f32⟩ : BufTy).Contents (Elt F) → (⟨S4096x8, .f32⟩ : BufTy).Contents (Elt F))]

/-- The softmax of each row. -/
abbrev opsSoft : List (HloOp τ sig (Elt F)) :=
  [StableHlo.nullary main_cst (constant S_ .f32 0xFF800000#32),
      StableHlo.binary main_v13 main_cst main_v14 ((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)),
      StableHlo.nullary main_cst_0 (constant S_ .f32 0xFF800000#32),
      StableHlo.unary main_cst_0 main_v15 (broadcastInDim S4096 ![] bcast_S_S4096 : (⟨S_, .f32⟩ : BufTy).Contents (Elt F) → (⟨S4096, .f32⟩ : BufTy).Contents (Elt F)),
      StableHlo.binary main_v15 main_v14 main_v16 (maximumf : (⟨S4096, .f32⟩ : BufTy).Contents (Elt F) → (⟨S4096, .f32⟩ : BufTy).Contents (Elt F) → (⟨S4096, .f32⟩ : BufTy).Contents (Elt F)),
      StableHlo.unary main_v16 main_v17 (broadcastInDim S4096x1 ![0] bcast_S4096_S4096x1_0 : (⟨S4096, .f32⟩ : BufTy).Contents (Elt F) → (⟨S4096x1, .f32⟩ : BufTy).Contents (Elt F)),
      StableHlo.unary main_v17 main_v18 (broadcastInDim S4096x8 ![0, 1] bcast_S4096x1_S4096x8_0_1 : (⟨S4096x1, .f32⟩ : BufTy).Contents (Elt F) → (⟨S4096x8, .f32⟩ : BufTy).Contents (Elt F)),
      StableHlo.binary main_v13 main_v18 main_v19 (subf : (⟨S4096x8, .f32⟩ : BufTy).Contents (Elt F) → (⟨S4096x8, .f32⟩ : BufTy).Contents (Elt F) → (⟨S4096x8, .f32⟩ : BufTy).Contents (Elt F)),
      StableHlo.unary main_v19 main_v20 (Host.exp : (⟨S4096x8, .f32⟩ : BufTy).Contents (Elt F) → (⟨S4096x8, .f32⟩ : BufTy).Contents (Elt F)),
      StableHlo.nullary main_cst_1 (constant S_ .f32 0x00000000#32),
      StableHlo.binary main_v20 main_cst_1 main_v21 ((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)),
      StableHlo.unary main_v21 main_v22 (broadcastInDim S4096x1 ![0] bcast_S4096_S4096x1_0 : (⟨S4096, .f32⟩ : BufTy).Contents (Elt F) → (⟨S4096x1, .f32⟩ : BufTy).Contents (Elt F)),
      StableHlo.unary main_v22 main_v23 (broadcastInDim S4096x8 ![0, 1] bcast_S4096x1_S4096x8_0_1 : (⟨S4096x1, .f32⟩ : BufTy).Contents (Elt F) → (⟨S4096x8, .f32⟩ : BufTy).Contents (Elt F)),
      StableHlo.binary main_v20 main_v23 main_v24 (Host.divf : (⟨S4096x8, .f32⟩ : BufTy).Contents (Elt F) → (⟨S4096x8, .f32⟩ : BufTy).Contents (Elt F) → (⟨S4096x8, .f32⟩ : BufTy).Contents (Elt F))]

/-- Each row's first greatest score, the noise added. -/
abbrev opsPick : List (HloOp τ sig (Elt F)) :=
  [StableHlo.binary main_v32 main_v13 main_v33 (addf : (⟨S4096x8, .f32⟩ : BufTy).Contents (Elt F) → (⟨S4096x8, .f32⟩ : BufTy).Contents (Elt F) → (⟨S4096x8, .f32⟩ : BufTy).Contents (Elt F))]
    ++ fn_argmaxOps (.of main_v33) main_call3

/-- Every expert's first hidden layer on every token. -/
abbrev opsExpert : List (HloOp τ sig (Elt F)) :=
  [StableHlo.binary main_arg0 main_arg7 main_v35 ((fun l r => Host.dotGeneral dot_S4096x1024_S8x1024x1024_S4096x8x1024_1_1_0_02_n_n none l r) : (⟨S4096x1024, .f32⟩ : BufTy).Contents (Elt F) → (⟨S8x1024x1024, .f32⟩ : BufTy).Contents (Elt F) → (⟨S4096x8x1024, .f32⟩ : BufTy).Contents (Elt F)),
      StableHlo.unary main_v35 main_v36 ((transpose S8x4096x1024 [1, 0, 2] · transposes_S4096x8x1024_S8x4096x1024_1_0_2) : (⟨S4096x8x1024, .f32⟩ : BufTy).Contents (Elt F) → (⟨S8x4096x1024, .f32⟩ : BufTy).Contents (Elt F)),
      StableHlo.unary main_arg8 main_v37 (broadcastInDim S8x1x1024 ![0, 2] bcast_S8x1024_S8x1x1024_0_2 : (⟨S8x1024, .f32⟩ : BufTy).Contents (Elt F) → (⟨S8x1x1024, .f32⟩ : BufTy).Contents (Elt F)),
      StableHlo.unary main_v37 main_v38 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
      StableHlo.binary main_v36 main_v38 main_v39 (addf : (⟨S8x4096x1024, .f32⟩ : BufTy).Contents (Elt F) → (⟨S8x4096x1024, .f32⟩ : BufTy).Contents (Elt F) → (⟨S8x4096x1024, .f32⟩ : BufTy).Contents (Elt F))]
    ++ fn_relu_0Ops (.of main_v39) main_call4

/-- The second. -/
abbrev opsExpert2 : List (HloOp τ sig (Elt F)) :=
  [StableHlo.binary main_v40 main_arg9 main_v41 ((fun l r => Host.dotGeneral dot_S8x4096x1024_S8x1024x1024_S8x4096x1024_2_1_1_2_0_0 none l r) : (⟨S8x4096x1024, .f32⟩ : BufTy).Contents (Elt F) → (⟨S8x1024x1024, .f32⟩ : BufTy).Contents (Elt F) → (⟨S8x4096x1024, .f32⟩ : BufTy).Contents (Elt F)),
      StableHlo.unary main_arg10 main_v42 (broadcastInDim S8x1x1024 ![0, 2] bcast_S8x1024_S8x1x1024_0_2 : (⟨S8x1024, .f32⟩ : BufTy).Contents (Elt F) → (⟨S8x1x1024, .f32⟩ : BufTy).Contents (Elt F)),
      StableHlo.unary main_v42 main_v43 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
      StableHlo.binary main_v41 main_v43 main_v44 (addf : (⟨S8x4096x1024, .f32⟩ : BufTy).Contents (Elt F) → (⟨S8x4096x1024, .f32⟩ : BufTy).Contents (Elt F) → (⟨S8x4096x1024, .f32⟩ : BufTy).Contents (Elt F))]
    ++ fn_relu_0Ops (.of main_v44) main_call5

/-- Every expert's parameters for every token. -/
abbrev opsParams : List (HloOp τ sig (Elt F)) :=
  [StableHlo.binary main_v45 main_arg11 main_v46 ((fun l r => Host.dotGeneral dot_S8x4096x1024_S8x1024x1024_S8x4096x1024_2_1_1_2_0_0 none l r) : (⟨S8x4096x1024, .f32⟩ : BufTy).Contents (Elt F) → (⟨S8x1024x1024, .f32⟩ : BufTy).Contents (Elt F) → (⟨S8x4096x1024, .f32⟩ : BufTy).Contents (Elt F)),
      StableHlo.unary main_arg12 main_v47 (broadcastInDim S8x1x1024 ![0, 2] bcast_S8x1024_S8x1x1024_0_2 : (⟨S8x1024, .f32⟩ : BufTy).Contents (Elt F) → (⟨S8x1x1024, .f32⟩ : BufTy).Contents (Elt F)),
      StableHlo.unary main_v47 main_v48 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
      StableHlo.binary main_v46 main_v48 main_v49 (addf : (⟨S8x4096x1024, .f32⟩ : BufTy).Contents (Elt F) → (⟨S8x4096x1024, .f32⟩ : BufTy).Contents (Elt F) → (⟨S8x4096x1024, .f32⟩ : BufTy).Contents (Elt F))]

/-- Of the experts' parameters each token keeps its own; the two halves, the second exponentiated. -/
abbrev opsKeep : List (HloOp τ sig (Elt F)) :=
  [StableHlo.nullary main_v50 (iotaInDim S8 32 0),
      StableHlo.unary main_v50 main_v51 (broadcastInDim S8x1 ![0] bcast_S8_S8x1_0 : (⟨S8, .i32⟩ : BufTy).Contents (Elt F) → (⟨S8x1, .i32⟩ : BufTy).Contents (Elt F)),
      StableHlo.unary main_v34 main_v52 (broadcastInDim S1x4096 ![1] bcast_S4096_S1x4096_1 : (⟨S4096, .i32⟩ : BufTy).Contents (Elt F) → (⟨S1x4096, .i32⟩ : BufTy).Contents (Elt F)),
      StableHlo.unary main_v52 main_v53 (broadcastInDim S8x4096 ![0, 1] bcast_S1x4096_S8x4096_0_1 : (⟨S1x4096, .i32⟩ : BufTy).Contents (Elt F) → (⟨S8x4096, .i32⟩ : BufTy).Contents (Elt F)),
      StableHlo.unary main_v51 main_v54 (broadcastInDim S8x4096 ![0, 1] bcast_S8x1_S8x4096_0_1 : (⟨S8x1, .i32⟩ : BufTy).Contents (Elt F) → (⟨S8x4096, .i32⟩ : BufTy).Contents (Elt F)),
      StableHlo.binary main_v53 main_v54 main_v55 (cmpi .eq : (⟨S8x4096, .i32⟩ : BufTy).Contents (Elt F) → (⟨S8x4096, .i32⟩ : BufTy).Contents (Elt F) → (⟨S8x4096, .i1⟩ : BufTy).Contents (Elt F)),
      StableHlo.unary main_v55 main_v56 (broadcastInDim S8x4096x1 ![0, 1] bcast_S8x4096_S8x4096x1_0_1 : (⟨S8x4096, .i1⟩ : BufTy).Contents (Elt F) → (⟨S8x4096x1, .i1⟩ : BufTy).Contents (Elt F)),
      StableHlo.nullary main_cst_4 (constant S_ .f32 0x00000000#32)]
    ++ fn_whereOps (.of main_v56) (.of main_v49) (.of main_cst_4) main_call6
    ++ [StableHlo.nullary main_cst_5 (constant S_ .f32 0x00000000#32),
      StableHlo.binary main_v57 main_cst_5 main_v58 ((fun x v => Host.reduceAdd x v reducesTo_S8x4096x1024_S4096x1024_d0 h_S_) : (⟨S8x4096x1024, .f32⟩ : BufTy).Contents (Elt F) → (⟨S_, .f32⟩ : BufTy).Contents (Elt F) → (⟨S4096x1024, .f32⟩ : BufTy).Contents (Elt F)),
      StableHlo.unary main_v58 main_v59 ((extractStridedSlice S4096x512 ![0, 0] · slices_S4096x1024_S4096x512_0_0) : (⟨S4096x1024, .f32⟩ : BufTy).Contents (Elt F) → (⟨S4096x512, .f32⟩ : BufTy).Contents (Elt F)),
      StableHlo.unary main_v58 main_v60 ((extractStridedSlice S4096x512 ![0, 512] · slices_S4096x1024_S4096x512_0_512) : (⟨S4096x1024, .f32⟩ : BufTy).Contents (Elt F) → (⟨S4096x512, .f32⟩ : BufTy).Contents (Elt F)),
      StableHlo.unary main_v60 main_v61 (Host.exp : (⟨S4096x512, .f32⟩ : BufTy).Contents (Elt F) → (⟨S4096x512, .f32⟩ : BufTy).Contents (Elt F))]

/-- The whole reference. -/
abbrev ops : List (HloOp τ sig (Elt F)) :=
  opsHidden ++ opsHidden2 ++ opsLogits ++ opsSoft ++ opsNoise ++ opsPick ++ opsExpert ++ opsExpert2 ++ opsParams ++ opsKeep

set_option maxRecDepth 100000 in
set_option maxHeartbeats 4000000 in
theorem main_eq (d : Dev nD) : main (F := F) d = seq ops := by
  chain_rfl

/-! ## What each step writes -/

abbrev wroteHidden : List (Ref sig .tc) := [main_v0, main_v1, main_v2, main_v3, main_call0.cst.ref, main_call0.v0.ref, main_call0.v1.ref]
abbrev wroteHidden2 : List (Ref sig .tc) := [main_v5, main_v6, main_v7, main_v8, main_call1.cst.ref, main_call1.v0.ref, main_call1.v1.ref]
abbrev wroteLogits : List (Ref sig .tc) := [main_v10, main_v11, main_v12, main_v13]
abbrev wroteSoft : List (Ref sig .tc) := [main_cst, main_v14, main_cst_0, main_v15, main_v16, main_v17, main_v18, main_v19, main_v20, main_cst_1, main_v21, main_v22, main_v23, main_v24]
abbrev wrotePick : List (Ref sig .tc) := [main_v33, main_call3.v0.ref, main_call3.cst.ref, main_call3.c.ref, main_call3.v1_0.ref, main_call3.v1_1.ref]
abbrev wroteExpert : List (Ref sig .tc) := [main_v35, main_v36, main_v37, main_v38, main_v39, main_call4.cst.ref, main_call4.v0.ref, main_call4.v1.ref]
abbrev wroteExpert2 : List (Ref sig .tc) := [main_v41, main_v42, main_v43, main_v44, main_call5.cst.ref, main_call5.v0.ref, main_call5.v1.ref]
abbrev wroteParams : List (Ref sig .tc) := [main_v46, main_v47, main_v48, main_v49]
abbrev wroteKeep : List (Ref sig .tc) := [main_v50, main_v51, main_v52, main_v53, main_v54, main_v55, main_v56, main_cst_4, main_call6.v0.ref, main_call6.v1.ref, main_call6.v2.ref, main_call6.v3.ref, main_cst_5, main_v58, main_v59, main_v60, main_v61]

end Cert.Proof.Moe.Reference

end
-- ==== Proof.Moe.RefRun.lean ====
/-
  The reference's run: what each step leaves, as an expression of what it reads, and that every execution ends with each
  buffer as the steps leave it.
-/
module

public import proofs.«01_k».proof.Proof.Moe.RefOps

@[expose] public section

noncomputable section

namespace Cert.Proof.Moe.Reference

open Cert.ReferenceIdeal Cert.ReferenceIdeal.Gen
open Idealize.ShloMosaic Idealize.ShloMosaic.TcCoe
open Idealize.ShloMosaic.StableHlo (after seq)
open Idealize.SL Idealize.SL.Sem

variable {F : FTy → Type} [FloatOps F]

/-! ## The run -/

/-- Lines of the TensorCore's own buffers. -/
def Own (l : List (HloOp τ sig (Elt F))) : Prop := l.Forall fun op => op.bufs ⊆ StableHlo.tcRefs τ sig

theorem own_app {l₁ l₂ : List (HloOp τ sig (Elt F))} (h₁ : Own l₁) (h₂ : Own l₂) : Own (l₁ ++ l₂) := List.forall_append.mpr ⟨h₁, h₂⟩

set_option maxHeartbeats 4000000 in
theorem own : Own (F := F) ops := by
  repeat' apply own_app
  all_goals simp only [Own, List.Forall, StableHlo.TRef.nullary, StableHlo.TRef.unary, StableHlo.TRef.binary, StableHlo.TRef.ternary, StableHlo.TRef.quaternary, StableHlo.TRef.reshape,
    StableHlo.nullary_bufs_sub, StableHlo.unary_bufs_sub, StableHlo.binary_bufs_sub, StableHlo.ternary_bufs_sub, StableHlo.quaternary_bufs_sub, StableHlo.reshape_bufs_sub, and_self]

/-- Lines that write no buffer afresh. -/
def Stale (l : List (HloOp τ sig (Elt F))) : Prop := ∀ op ∈ l, op.fresh = ∅

theorem stale_nil : Stale (F := F) [] := fun _ h => nomatch h
theorem stale_cons {op : HloOp τ sig (Elt F)} {l : List (HloOp τ sig (Elt F))} (h : op.fresh = ∅) (hl : Stale l) : Stale (op :: l) :=
  fun o ho => (List.mem_cons.mp ho).elim (fun e => e ▸ h) (hl o)
theorem stale_app {l₁ l₂ : List (HloOp τ sig (Elt F))} (h₁ : Stale l₁) (h₂ : Stale l₂) : Stale (l₁ ++ l₂) :=
  fun o ho => (List.mem_append.mp ho).elim (h₁ o) (h₂ o)

set_option maxHeartbeats 2000000 in
theorem stale : Stale (F := F) ops := by
  repeat' first | apply stale_app | exact stale_nil | refine stale_cons rfl ?_

/-- Every execution ends with each buffer as the steps leave it. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (StableHlo.launchContents m d) (Proc.devRef .tc b) :=
  StableHlo.run_seq (by decide) (by decide) defs main (fun _ => ops) main_eq (fun _ => own) m ρ (fun _ => stale)

/-! ## The steps -/

theorem after_two (l₁ l₂ : List (HloOp τ sig (Elt F))) (V : Valuation τ sig (Elt F)) : after (l₁ ++ l₂) V = after l₂ (after l₁ V) := by
  induction l₁ generalizing V with
  | nil => rfl
  | cons op l ih => exact ih (op.result V)

variable (V : Valuation τ sig (Elt F))

/-- Arrays the noise leaves as they are: the arguments, the logits and the probabilities. -/
abbrev keptNoise : List (Ref sig .tc) :=
  [main_arg0, main_arg1, main_arg2, main_arg3, main_arg4, main_arg5, main_arg6, main_arg7, main_arg8, main_arg9, main_arg10, main_arg11, main_arg12, main_v13, main_v24]

theorem keepHidden {r : Ref sig .tc} (h : r ∉ wroteHidden) : after opsHidden V (Proc.devRef .tc r) = V (Proc.devRef .tc r) := StableHlo.after_unwritten wroteHidden rfl h V
theorem keepHidden2 {r : Ref sig .tc} (h : r ∉ wroteHidden2) : after opsHidden2 V (Proc.devRef .tc r) = V (Proc.devRef .tc r) := StableHlo.after_unwritten wroteHidden2 rfl h V
theorem keepLogits {r : Ref sig .tc} (h : r ∉ wroteLogits) : after opsLogits V (Proc.devRef .tc r) = V (Proc.devRef .tc r) := StableHlo.after_unwritten wroteLogits rfl h V
theorem keepSoft {r : Ref sig .tc} (h : r ∉ wroteSoft) : after opsSoft V (Proc.devRef .tc r) = V (Proc.devRef .tc r) := StableHlo.after_unwritten wroteSoft rfl h V
theorem keepNoise {r : Ref sig .tc} (h : r ∈ keptNoise) : after opsNoise V (Proc.devRef .tc r) = V (Proc.devRef .tc r) := by
  revert r
  simp only [keptNoise, List.forall_mem_cons, List.not_mem_nil, false_imp_iff, implies_true, and_true]
  refine ⟨?_, ?_, ?_, ?_, ?_, ?_, ?_, ?_, ?_, ?_, ?_, ?_, ?_, ?_, ?_⟩ <;> chain_rfl
theorem keepPick {r : Ref sig .tc} (h : r ∉ wrotePick) : after opsPick V (Proc.devRef .tc r) = V (Proc.devRef .tc r) := StableHlo.after_unwritten wrotePick rfl h V
theorem keepExpert {r : Ref sig .tc} (h : r ∉ wroteExpert) : after opsExpert V (Proc.devRef .tc r) = V (Proc.devRef .tc r) := StableHlo.after_unwritten wroteExpert rfl h V
theorem keepExpert2 {r : Ref sig .tc} (h : r ∉ wroteExpert2) : after opsExpert2 V (Proc.devRef .tc r) = V (Proc.devRef .tc r) := StableHlo.after_unwritten wroteExpert2 rfl h V
theorem keepParams {r : Ref sig .tc} (h : r ∉ wroteParams) : after opsParams V (Proc.devRef .tc r) = V (Proc.devRef .tc r) := StableHlo.after_unwritten wroteParams rfl h V
theorem keepKeep {r : Ref sig .tc} (h : r ∉ wroteKeep) : after opsKeep V (Proc.devRef .tc r) = V (Proc.devRef .tc r) := StableHlo.after_unwritten wroteKeep rfl h V

/-- The launch's buffers, layer by layer; the noise comes before the selection. -/
def A1 : Valuation τ sig (Elt F) := after opsHidden V
def A2 : Valuation τ sig (Elt F) := after opsHidden2 (A1 V)
def A3 : Valuation τ sig (Elt F) := after opsLogits (A2 V)
def A4 : Valuation τ sig (Elt F) := after opsSoft (A3 V)
def A5 : Valuation τ sig (Elt F) := after opsPick (after opsNoise (A4 V))
def A6 : Valuation τ sig (Elt F) := after opsExpert (A5 V)
def A7 : Valuation τ sig (Elt F) := after opsExpert2 (A6 V)
def A8 : Valuation τ sig (Elt F) := after opsParams (A7 V)
def A9 : Valuation τ sig (Elt F) := after opsKeep (A8 V)

theorem ops_eq : after ops V = A9 V :=
  (after_two _ opsKeep V).trans (congrArg (after opsKeep) ((after_two _ opsParams V).trans (congrArg (after opsParams) ((after_two _ opsExpert2 V).trans (congrArg (after opsExpert2)
    ((after_two _ opsExpert V).trans (congrArg (after opsExpert) ((after_two _ opsPick V).trans (congrArg (after opsPick) ((after_two _ opsNoise V).trans (congrArg (after opsNoise) ((after_two _ opsSoft V).trans (congrArg (after opsSoft)
      ((after_two _ opsLogits V).trans (congrArg (after opsLogits) (after_two opsHidden opsHidden2 V))))))))))))))))

/-- All the buffers the reference writes besides the noise's. -/
abbrev written : List (Ref sig .tc) :=
  wroteHidden ++ wroteHidden2 ++ wroteLogits ++ wroteSoft ++ wrotePick ++ wroteExpert ++ wroteExpert2 ++ wroteParams ++ wroteKeep

theorem A9_keeps {r : Ref sig .tc} (hn : r ∈ keptNoise) (h : r ∉ written) : A9 V (Proc.devRef .tc r) = V (Proc.devRef .tc r) := by
  simp only [written, List.mem_append, not_or] at h
  obtain ⟨⟨⟨⟨⟨⟨⟨⟨h1, h2⟩, h3⟩, h4⟩, h5⟩, h6⟩, h7⟩, h8⟩, h9⟩ := h
  exact (keepKeep _ h9).trans ((keepParams _ h8).trans ((keepExpert2 _ h7).trans ((keepExpert _ h6).trans ((keepPick _ h5).trans ((keepNoise _ hn).trans ((keepSoft _ h4).trans
    ((keepLogits _ h3).trans ((keepHidden2 _ h2).trans (keepHidden _ h1)))))))))

/-! ## What each step leaves -/

/-- A layer on the batch of tokens. -/
abbrev denseOf (x : FVec F S4096x1024 .f32) (w : FVec F S1024x1024 .f32) (b : FVec F S1024 .f32) : FVec F S4096x1024 .f32 :=
  addf (Host.dotGeneral dot_S4096x1024_S1024x1024_S4096x1024_1_0_0_1_n_n none x w)
    (broadcastInDim S4096x1024 ![0, 1] bcast_S1x1024_S4096x1024_0_1 (broadcastInDim S1x1024 ![1] bcast_S1024_S1x1024_1 b))

abbrev reluOf (x : FVec F S4096x1024 .f32) : FVec F S4096x1024 .f32 := maximumf x (broadcastInDim S4096x1024 ![] bcast_S_S4096x1024 (constant S_ .f32 0x00000000#32))

/-- The bias of a stack, on every token. -/
abbrev biasOf (b : FVec F S8x1024 .f32) : FVec F S8x4096x1024 .f32 :=
  broadcastInDim S8x4096x1024 ![0, 1, 2] bcast_S8x1x1024_S8x4096x1024_0_1_2 (broadcastInDim S8x1x1024 ![0, 2] bcast_S8x1024_S8x1x1024_0_2 b)

abbrev stackRelu (x : FVec F S8x4096x1024 .f32) : FVec F S8x4096x1024 .f32 := maximumf x (broadcastInDim S8x4096x1024 ![] bcast_S_S8x4096x1024 (constant S_ .f32 0x00000000#32))

theorem read_v4 : (after opsHidden V (Proc.devRef .tc main_v4) : Vec F S4096x1024 .f32)
    = reluOf (denseOf (V (Proc.devRef .tc main_arg0)) (V (Proc.devRef .tc main_arg1)) (V (Proc.devRef .tc main_arg2))) := by
  after_reads_simp; rfl
theorem read_v9 : (after opsHidden2 V (Proc.devRef .tc main_v9) : Vec F S4096x1024 .f32)
    = reluOf (denseOf (V (Proc.devRef .tc main_v4)) (V (Proc.devRef .tc main_arg3)) (V (Proc.devRef .tc main_arg4))) := by
  after_reads_simp; rfl
theorem read_v13 : (after opsLogits V (Proc.devRef .tc main_v13) : Vec F S4096x8 .f32)
    = addf (Host.dotGeneral dot_S4096x1024_S1024x8_S4096x8_1_0_0_1_n_n none (V (Proc.devRef .tc main_v9) : Vec F S4096x1024 .f32) (V (Proc.devRef .tc main_arg5) : Vec F S1024x8 .f32))
      (broadcastInDim S4096x8 ![0, 1] bcast_S1x8_S4096x8_0_1 (broadcastInDim S1x8 ![1] bcast_S8_S1x8_1 (V (Proc.devRef .tc main_arg6) : Vec F S8 .f32))) := by
  after_reads_simp

/-- The exponentials of a row's differences to its greatest entry. -/
abbrev expsOf (z : FVec F S4096x8 .f32) : FVec F S4096x8 .f32 :=
  Host.exp (subf z (broadcastInDim S4096x8 ![0, 1] bcast_S4096x1_S4096x8_0_1 (broadcastInDim S4096x1 ![0] bcast_S4096_S4096x1_0
    (maximumf (broadcastInDim S4096 ![] bcast_S_S4096 (constant S_ .f32 0xFF800000#32)) (Host.reduce FloatOps.maximumf z (constant S_ .f32 0xFF800000#32) reducesTo_S4096x8_S4096_d1 h_S_)))))

theorem read_v24 : (after opsSoft V (Proc.devRef .tc main_v24) : Vec F S4096x8 .f32)
    = Host.divf (expsOf (V (Proc.devRef .tc main_v13))) (broadcastInDim S4096x8 ![0, 1] bcast_S4096x1_S4096x8_0_1 (broadcastInDim S4096x1 ![0] bcast_S4096_S4096x1_0
      (Host.reduceAdd (expsOf (V (Proc.devRef .tc main_v13))) (constant S_ .f32 0x00000000#32) reducesTo_S4096x8_S4096_d1 h_S_))) := by
  after_reads_simp
theorem read_v34 : (after opsPick V (Proc.devRef .tc main_v34) : IVec S4096 32)
    = fun j => (Host.argReduce reducer_argmax_f32_i32 (addf (V (Proc.devRef .tc main_v32) : Vec F S4096x8 .f32) (V (Proc.devRef .tc main_v13))) (iotaInDim S4096x8 32 1)
      (constant S_ .f32 0xFF800000#32) (constantI S_ 32 0#32) reducesTo_S4096x8_S4096_d1 h_S_ j).2 := by
  after_reads_simp; rfl
theorem read_v40 : (after opsExpert V (Proc.devRef .tc main_v40) : Vec F S8x4096x1024 .f32)
    = stackRelu (addf (transpose S8x4096x1024 [1, 0, 2] (Host.dotGeneral dot_S4096x1024_S8x1024x1024_S4096x8x1024_1_1_0_02_n_n none (V (Proc.devRef .tc main_arg0) : Vec F S4096x1024 .f32)
      (V (Proc.devRef .tc main_arg7) : Vec F S8x1024x1024 .f32)) transposes_S4096x8x1024_S8x4096x1024_1_0_2) (biasOf (V (Proc.devRef .tc main_arg8)))) := by
  after_reads_simp; rfl
theorem read_v45 : (after opsExpert2 V (Proc.devRef .tc main_v45) : Vec F S8x4096x1024 .f32)
    = stackRelu (addf (Host.dotGeneral dot_S8x4096x1024_S8x1024x1024_S8x4096x1024_2_1_1_2_0_0 none (V (Proc.devRef .tc main_v40) : Vec F S8x4096x1024 .f32)
      (V (Proc.devRef .tc main_arg9) : Vec F S8x1024x1024 .f32)) (biasOf (V (Proc.devRef .tc main_arg10)))) := by
  after_reads_simp; rfl
theorem read_v49 : (after opsParams V (Proc.devRef .tc main_v49) : Vec F S8x4096x1024 .f32)
    = addf (Host.dotGeneral dot_S8x4096x1024_S8x1024x1024_S8x4096x1024_2_1_1_2_0_0 none (V (Proc.devRef .tc main_v45) : Vec F S8x4096x1024 .f32)
      (V (Proc.devRef .tc main_arg11) : Vec F S8x1024x1024 .f32)) (biasOf (V (Proc.devRef .tc main_arg12))) := by
  after_reads_simp

/-- The experts' parameters, each token's own kept. -/
abbrev keptOf (p : IVec S4096 32) (y : FVec F S8x4096x1024 .f32) : FVec F S4096x1024 .f32 :=
  Host.reduceAdd (select (broadcastInDim S8x4096x1024 ![0, 1, 2] bcast_S8x4096x1_S8x4096x1024_0_1_2 (broadcastInDim S8x4096x1 ![0, 1] bcast_S8x4096_S8x4096x1_0_1
      (cmpi .eq (broadcastInDim S8x4096 ![0, 1] bcast_S1x4096_S8x4096_0_1 (broadcastInDim S1x4096 ![1] bcast_S4096_S1x4096_1 p))
        (broadcastInDim S8x4096 ![0, 1] bcast_S8x1_S8x4096_0_1 (broadcastInDim S8x1 ![0] bcast_S8_S8x1_0 (iotaInDim S8 32 0))))))
    y (broadcastInDim S8x4096x1024 ![] bcast_S_S8x4096x1024 (constant S_ .f32 0x00000000#32)))
    (constant S_ .f32 0x00000000#32) reducesTo_S8x4096x1024_S4096x1024_d0 h_S_

theorem read_v59 : (after opsKeep V (Proc.devRef .tc main_v59) : Vec F S4096x512 .f32)
    = extractStridedSlice S4096x512 ![0, 0] (keptOf (V (Proc.devRef .tc main_v34)) (V (Proc.devRef .tc main_v49))) slices_S4096x1024_S4096x512_0_0 := by
  after_reads_simp; rfl
theorem read_v61 : (after opsKeep V (Proc.devRef .tc main_v61) : Vec F S4096x512 .f32)
    = Host.exp (extractStridedSlice S4096x512 ![0, 512] (keptOf (V (Proc.devRef .tc main_v34)) (V (Proc.devRef .tc main_v49))) slices_S4096x1024_S4096x512_0_512) := by
  after_reads_simp; rfl

end Cert.Proof.Moe.Reference

end
-- ==== Proof.Moe.RefRows.lean ====
/-
  The mixture of experts: what the reference's steps compute, row by row over the extended reals.
-/
module

public import proofs.«01_k».proof.Proof.Moe.Rows
public import proofs.«01_k».proof.Proof.Moe.RefRun

@[expose] public section

noncomputable section

namespace Cert.Proof.Moe.Reference

open Cert.ReferenceIdeal Cert.ReferenceIdeal.Gen
open Idealize.ShloMosaic Idealize.ShloMosaic.ValueIdx Idealize.ShloMosaic.StackMember

/-! ## The option network -/

section Plain

variable {M K N : ℕ}

/-- A bias laid along the rows, by its two broadcasts. -/
theorem bias_along (b : FVec Ideal ⟨1, ![N]⟩ .f32) (h : (⟨1, ![N]⟩ : Shape).BroadcastsInDim ⟨2, ![1, N]⟩ ![1]) (h' : (⟨2, ![1, N]⟩ : Shape).BroadcastsInDim ⟨2, ![M, N]⟩ ![0, 1])
    (r : Fin M) (c : Fin N) : broadcastInDim ⟨2, ![M, N]⟩ ![0, 1] h' (broadcastInDim ⟨2, ![1, N]⟩ ![1] h b) (ix2 r c) = b (ix1 c) := by
  have hc := c.isLt
  refine (broadcastInDim_apply _ _ _ _ (ix2 (0 : Fin 1) c) fun a => ?_).trans (broadcastInDim_apply _ _ _ _ (ix1 c) fun a => ?_)
  · match a with
    | ⟨0, _⟩ => rfl
    | ⟨1, _⟩ => show c.val = if N = 1 then 0 else c.val; split <;> omega
  · match a with
    | ⟨0, _⟩ => show c.val = if N = 1 then 0 else c.val; split <;> omega

/-- A number for each row laid along the columns, by its two broadcasts. -/
theorem row_along (b : FVec Ideal ⟨1, ![M]⟩ .f32) (h : (⟨1, ![M]⟩ : Shape).BroadcastsInDim ⟨2, ![M, 1]⟩ ![0]) (h' : (⟨2, ![M, 1]⟩ : Shape).BroadcastsInDim ⟨2, ![M, N]⟩ ![0, 1])
    (r : Fin M) (c : Fin N) : broadcastInDim ⟨2, ![M, N]⟩ ![0, 1] h' (broadcastInDim ⟨2, ![M, 1]⟩ ![0] h b) (ix2 r c) = b (ix1 r) := by
  have hr := r.isLt
  refine (broadcastInDim_apply _ _ _ _ (ix2 r (0 : Fin 1)) fun a => ?_).trans (broadcastInDim_apply _ _ _ _ (ix1 r) fun a => ?_)
  · match a with
    | ⟨0, _⟩ => show r.val = if M = 1 then 0 else r.val; split <;> omega
    | ⟨1, _⟩ => rfl
  · match a with
    | ⟨0, _⟩ => show r.val = if M = 1 then 0 else r.val; split <;> omega

/-- A layer of each row. -/
theorem host_layer (x : FVec Ideal ⟨2, ![M, K]⟩ .f32) (w : FVec Ideal ⟨2, ![K, N]⟩ .f32) (b : FVec Ideal ⟨1, ![N]⟩ .f32)
    (h : (⟨1, ![N]⟩ : Shape).BroadcastsInDim ⟨2, ![1, N]⟩ ![1]) (h' : (⟨2, ![1, N]⟩ : Shape).BroadcastsInDim ⟨2, ![M, N]⟩ ![0, 1]) (r : Fin M) (c : Fin N) :
    addf (Host.dotGeneral (DotDims.plain M K N) none x w) (broadcastInDim ⟨2, ![M, N]⟩ ![0, 1] h' (broadcastInDim ⟨2, ![1, N]⟩ ![1] h b)) (ix2 r c)
      = layer (rowOf x r) (matOf w) (vecOf b) c :=
  congrArg₂ (fun y z : EReal => y + z) (dotGeneral_plain_apply none x w r c) (bias_along b h h' r c)

end Plain

/-- The maximum with zero. -/
theorem host_relu {S : Shape} (x : FVec Ideal S .f32) (h : (⟨0, ![]⟩ : Shape).BroadcastsInDim S ![]) (j : S.Idx) :
    maximumf x (broadcastInDim S ![] h (constant (F := Ideal) ⟨0, ![]⟩ .f32 0x00000000#32)) j = max (x j) 0 := by
  show max (x j) (broadcastInDim S ![] h (constant (F := Ideal) ⟨0, ![]⟩ .f32 0x00000000#32) j) = _
  rw [broadcastInDim_scalar_apply]
  show max (x j) (Ideal.ofBits .f32 0x00000000#32) = _
  rw [Ideal.ofBits_zero_f32]

theorem dense_row (x : FVec Ideal S4096x1024 .f32) (w : FVec Ideal S1024x1024 .f32) (b : FVec Ideal S1024 .f32) (t : Fin 4096) :
    rowOf (M := 4096) (N := 1024) (reluOf (denseOf x w b)) t = hidden (rowOf x t) (matOf w) (vecOf b) := by
  funext c
  exact (host_relu (denseOf x w b) bcast_S_S4096x1024 (ix2 t c)).trans (congrArg (fun y : EReal => max y 0) (host_layer (M := 4096) (K := 1024) (N := 1024) x w b _ _ t c))

/-- The softmax of a row. -/
theorem soft_row (z : FVec Ideal S4096x8 .f32) (t : Fin 4096) (k : Fin 8) :
    Host.divf (expsOf z) (broadcastInDim S4096x8 ![0, 1] bcast_S4096x1_S4096x8_0_1 (broadcastInDim S4096x1 ![0] bcast_S4096_S4096x1_0
      (Host.reduceAdd (expsOf z) (constant (F := Ideal) S_ .f32 0x00000000#32) reducesTo_S4096x8_S4096_d1 h_S_))) (ix2 t k) = soft (rowOf (M := 4096) (N := 8) z t) k := by
  have hred : (⟨2, ![4096, 8]⟩ : Shape).Reduces [1] ⟨1, ![4096]⟩ := by decide
  have he : ∀ i : Fin 8, expsOf z (ix2 t i) = Ideal.exp (z (ix2 t i) - top (rowOf (M := 4096) (N := 8) z t)) := by
    intro i
    refine congrArg (fun y : EReal => Ideal.exp (z (ix2 t i) - y)) ((row_along (M := 4096) (N := 8) _ _ _ t i).trans ?_)
    show max (broadcastInDim S4096 ![] bcast_S_S4096 (constant (F := Ideal) S_ .f32 0xFF800000#32) (ix1 t)) (Host.reduce FloatOps.maximumf z (constant (F := Ideal) S_ .f32 0xFF800000#32) reducesTo_S4096x8_S4096_d1 h_S_ (ix1 t)) = _
    have h1 : broadcastInDim S4096 ![] bcast_S_S4096 (constant (F := Ideal) S_ .f32 0xFF800000#32) (ix1 t) = (⊥ : EReal) :=
      (broadcastInDim_scalar_apply _ _ _).trans ofBits_neg_inf
    have h2 := host_top (M := 4096) (N := 8) z reducesTo_S4096x8_S4096_d1 hred h_S_ t
    exact (congrArg₂ (fun y z : EReal => max y z) h1 h2).trans (max_eq_right bot_le)
  refine congrArg₂ Ideal.div (he k) ((row_along (M := 4096) (N := 8) _ _ _ t k).trans ((host_sum (M := 4096) (N := 8) (expsOf z) reducesTo_S4096x8_S4096_d1 hred h_S_ t).trans ?_))
  exact Finset.sum_congr rfl fun i _ => he i

/-! ## The experts -/

/-- A stack's bias at an expert, a token and a column. -/
theorem bias_at (b : FVec Ideal S8x1024 .f32) (e : Fin 8) (t : Fin 4096) (c : Fin 1024) : biasOf b (ix3 e t c) = b (ix2 e c) := by
  refine (broadcastInDim_apply _ _ _ _ (ix3 e (0 : Fin 1) c) fun a => ?_).trans (broadcastInDim_apply _ _ _ _ (ix2 e c) fun a => ?_)
  · match a with
    | ⟨0, _⟩ => rfl
    | ⟨1, _⟩ => rfl
    | ⟨2, _⟩ => rfl
  · match a with
    | ⟨0, _⟩ => rfl
    | ⟨1, _⟩ => rfl

/-- Every token's state times every expert's matrix. -/
theorem all_products (x : FVec Ideal S4096x1024 .f32) (w : FVec Ideal S8x1024x1024 .f32) (t : Fin 4096) (e : Fin 8) (c : Fin 1024) :
    Host.dotGeneral dot_S4096x1024_S8x1024x1024_S4096x8x1024_1_1_0_02_n_n none x w (ix3 t e c) = ∑ k : Fin 1024, x (ix2 t k) * w (ix3 e k c) := by
  show FloatOps.dotGeneral dot_S4096x1024_S8x1024x1024_S4096x8x1024_1_1_0_02_n_n none _ x w (ix3 t e c) = _
  rw [Ideal.dotGeneral_apply, ← Equiv.sum_comp (contrEquiv1 dot_S4096x1024_S8x1024x1024_S4096x8x1024_1_1_0_02_n_n 1024 rfl rfl).symm]
  refine Finset.sum_congr rfl fun k _ => ?_
  have hk := contrEquiv1_symm_val dot_S4096x1024_S8x1024x1024_S4096x8x1024_1_1_0_02_n_n 1024 rfl rfl k
  refine congrArg₂ (fun y z : EReal => y * z) (congrArg x (funext fun a => Fin.ext ?_)) (congrArg w (funext fun a => Fin.ext ?_))
  · match a with
    | ⟨0, _⟩ => rfl
    | ⟨1, _⟩ => exact hk
  · match a with
    | ⟨0, _⟩ => rfl
    | ⟨1, _⟩ => exact hk
    | ⟨2, _⟩ => rfl

/-- An expert's row of a stack. -/
abbrev stackRow (y : FVec Ideal S8x4096x1024 .f32) (e : Fin 8) (t : Fin 4096) : Fin 1024 → EReal := fun c => y (ix3 e t c)

/-- The experts' first hidden layer. -/
theorem expert1_row (x : FVec Ideal S4096x1024 .f32) (w : FVec Ideal S8x1024x1024 .f32) (b : FVec Ideal S8x1024 .f32) (e : Fin 8) (t : Fin 4096) :
    stackRow (stackRelu (addf (transpose S8x4096x1024 [1, 0, 2] (Host.dotGeneral dot_S4096x1024_S8x1024x1024_S4096x8x1024_1_1_0_02_n_n none x w)
      transposes_S4096x8x1024_S8x4096x1024_1_0_2) (biasOf b))) e t = hidden (rowOf (M := 4096) (N := 1024) x t) (stackOf w e) (rowOf (M := 8) (N := 1024) b e) := by
  funext c
  refine (host_relu _ bcast_S_S8x4096x1024 (ix3 e t c)).trans (congrArg (fun y : EReal => max y 0) (congrArg₂ (fun y z : EReal => y + z) ?_ (bias_at b e t c)))
  refine (transpose_apply _ _ _ _ (ix3 t e c) fun a => ?_).trans (all_products x w t e c)
  match a with
  | ⟨0, _⟩ => rfl
  | ⟨1, _⟩ => rfl
  | ⟨2, _⟩ => rfl

/-- A later layer of the experts. -/
theorem stack_layer (x : FVec Ideal S8x4096x1024 .f32) (w : FVec Ideal S8x1024x1024 .f32) (b : FVec Ideal S8x1024 .f32) (e : Fin 8) (t : Fin 4096) :
    stackRow (addf (Host.dotGeneral dot_S8x4096x1024_S8x1024x1024_S8x4096x1024_2_1_1_2_0_0 none x w) (biasOf b)) e t
      = layer (stackRow x e t) (stackOf w e) (rowOf (M := 8) (N := 1024) b e) := by
  funext c
  exact congrArg₂ (fun y z : EReal => y + z)
    (dotGeneral_stack_apply (G := 8) (m := 4096) (k := 1024) (n := 1024) dot_S8x4096x1024_S8x1024x1024_S8x4096x1024_2_1_1_2_0_0_wf none x w e t c) (bias_at b e t c)

theorem expert2_row (x : FVec Ideal S8x4096x1024 .f32) (w : FVec Ideal S8x1024x1024 .f32) (b : FVec Ideal S8x1024 .f32) (e : Fin 8) (t : Fin 4096) :
    stackRow (stackRelu (addf (Host.dotGeneral dot_S8x4096x1024_S8x1024x1024_S8x4096x1024_2_1_1_2_0_0 none x w) (biasOf b))) e t
      = hidden (stackRow x e t) (stackOf w e) (rowOf (M := 8) (N := 1024) b e) := by
  funext c
  exact (host_relu _ bcast_S_S8x4096x1024 (ix3 e t c)).trans (congrArg (fun y : EReal => max y 0) (congrFun (stack_layer x w b e t) c))

/-! ## The expert kept -/

/-- An expert, a token and a column, by the axes a sum over the experts leaves and the one it takes. -/
theorem lift_stack (h : S8x4096x1024.Reduces [0] S4096x1024) (t : Fin 4096) (c : Fin 1024) (e : Fin 8) : h.lift (ix2 t c) e = ix3 e t c := by
  funext a
  apply Fin.ext
  refine (Shape.Reduces.lift_val h (ix2 t c) e a).trans ?_
  match a with
  | ⟨0, _⟩ => rfl
  | ⟨1, _⟩ => rfl
  | ⟨2, _⟩ => rfl

/-- The stack with each token's other experts set to zero. -/
abbrev ownOf (p : IVec S4096 32) (y : FVec Ideal S8x4096x1024 .f32) : FVec Ideal S8x4096x1024 .f32 :=
  select (broadcastInDim S8x4096x1024 ![0, 1, 2] bcast_S8x4096x1_S8x4096x1024_0_1_2 (broadcastInDim S8x4096x1 ![0, 1] bcast_S8x4096_S8x4096x1_0_1
      (cmpi .eq (broadcastInDim S8x4096 ![0, 1] bcast_S1x4096_S8x4096_0_1 (broadcastInDim S1x4096 ![1] bcast_S4096_S1x4096_1 p))
        (broadcastInDim S8x4096 ![0, 1] bcast_S8x1_S8x4096_0_1 (broadcastInDim S8x1 ![0] bcast_S8_S8x1_0 (iotaInDim S8 32 0))))))
    y (broadcastInDim S8x4096x1024 ![] bcast_S_S8x4096x1024 (constant (F := Ideal) S_ .f32 0x00000000#32))

theorem own_at (p : IVec S4096 32) (y : FVec Ideal S8x4096x1024 .f32) (i : Fin 8) (t : Fin 4096) (c : Fin 1024) :
    ownOf p y (ix3 i t c) = if p (ix1 t) = BitVec.ofNat 32 i.val then y (ix3 i t c) else 0 := by
  have hc : broadcastInDim S8x4096x1024 ![0, 1, 2] bcast_S8x4096x1_S8x4096x1024_0_1_2 (broadcastInDim S8x4096x1 ![0, 1] bcast_S8x4096_S8x4096x1_0_1
      (cmpi .eq (broadcastInDim S8x4096 ![0, 1] bcast_S1x4096_S8x4096_0_1 (broadcastInDim S1x4096 ![1] bcast_S4096_S1x4096_1 p))
        (broadcastInDim S8x4096 ![0, 1] bcast_S8x1_S8x4096_0_1 (broadcastInDim S8x1 ![0] bcast_S8_S8x1_0 (iotaInDim S8 32 0))))) (ix3 i t c)
      = IntOp.cmpi .eq (p (ix1 t)) (BitVec.ofNat 32 i.val) := by
    refine (broadcastInDim_apply _ _ _ _ (ix3 i t (0 : Fin 1)) fun a => ?_).trans ((broadcastInDim_apply _ _ _ _ (ix2 i t) fun a => ?_).trans (congrArg₂ (IntOp.cmpi .eq) ?_ ?_))
    · match a with
      | ⟨0, _⟩ => rfl
      | ⟨1, _⟩ => rfl
      | ⟨2, _⟩ => rfl
    · match a with
      | ⟨0, _⟩ => rfl
      | ⟨1, _⟩ => rfl
    · refine (broadcastInDim_apply _ _ _ _ (ix2 (0 : Fin 1) t) fun a => ?_).trans (broadcastInDim_apply _ _ _ _ (ix1 t) fun a => ?_)
      · match a with
        | ⟨0, _⟩ => rfl
        | ⟨1, _⟩ => rfl
      · match a with
        | ⟨0, _⟩ => rfl
    · refine (broadcastInDim_apply _ _ _ _ (ix2 i (0 : Fin 1)) fun a => ?_).trans ((broadcastInDim_apply _ _ _ _ (ix1 i) fun a => ?_).trans rfl)
      · match a with
        | ⟨0, _⟩ => rfl
        | ⟨1, _⟩ => rfl
      · match a with
        | ⟨0, _⟩ => rfl
  have hz : broadcastInDim S8x4096x1024 ![] bcast_S_S8x4096x1024 (constant (F := Ideal) S_ .f32 0x00000000#32) (ix3 i t c) = (0 : EReal) :=
    (broadcastInDim_scalar_apply _ _ _).trans Ideal.ofBits_zero_f32
  show (if _ = 1#1 then y (ix3 i t c) else _) = _
  rw [hc]
  refine if_congr ?_ rfl hz
  show BitVec.ofBool (decide (p (ix1 t) = BitVec.ofNat 32 i.val)) = 1#1 ↔ _
  by_cases h : p (ix1 t) = BitVec.ofNat 32 i.val <;> simp [h]

/-- The sum over the experts, all but a token's own set to zero, is its own expert's row. -/
theorem kept_row (p : IVec S4096 32) (y : FVec Ideal S8x4096x1024 .f32) (t : Fin 4096) (c : Fin 1024) (e : Fin 8) (he : p (ix1 t) = BitVec.ofNat 32 e.val) :
    keptOf p y (ix2 t c) = y (ix3 e t c) := by
  have hred : S8x4096x1024.Reduces [0] S4096x1024 := by decide
  show Host.reduceAdd (ownOf p y) _ reducesTo_S8x4096x1024_S4096x1024_d0 h_S_ (ix2 t c) = _
  rw [hostReduceAdd_apply, Ideal.hostReduceAdd_single reducesTo_S8x4096x1024_S4096x1024_d0 hred]
  show Ideal.ofBits .f32 0x00000000#32 + _ = _
  rw [Ideal.ofBits_zero_f32, zero_add]
  refine (Finset.sum_congr rfl fun i _ => (congrArg (ownOf p y) (lift_stack hred t c i)).trans (own_at p y i t c)).trans ?_
  refine (Finset.sum_eq_single (ι := Fin 8) e (fun i _ hi => if_neg fun h => hi (Fin.ext ?_)) fun h => absurd (Finset.mem_univ _) h).trans (if_pos he)
  have hb := congrArg BitVec.toNat (h.symm.trans he)
  rw [BitVec.toNat_ofNat, BitVec.toNat_ofNat] at hb
  have := i.isLt
  have := e.isLt
  omega

end Cert.Proof.Moe.Reference

end
-- ==== Proof.Moe.Argmax.lean ====
/-
  The mixture of experts: a fold by the arg-max's comparison, in any order of the pairs, ends at the first of the greatest.
-/
module

public import proofs.«01_k».proof.Proof.Moe.Rows
public import proofs.«01_k».proof.Proof.Gen.ReferenceIdeal

@[expose] public section

noncomputable section

namespace Cert.Proof.Moe.Reference

open Cert.ReferenceIdeal Cert.ReferenceIdeal.Gen
open Idealize.ShloMosaic Idealize.ShloMosaic.ValueIdx

/-- A value and its position. -/
abbrev Entry := Ideal .f32 × BitVec 32

/-- Pair `p` is at least as good as `a`: greater, or equal and no later. -/
def Beats (p a : Entry) : Prop := (a.1 : EReal) < p.1 ∨ ((a.1 : EReal) = p.1 ∧ p.2.toNat ≤ a.2.toNat)

theorem Beats.refl (p : Entry) : Beats p p := .inr ⟨rfl, le_rfl⟩

theorem Beats.trans {p q a : Entry} (h : Beats p q) (h' : Beats q a) : Beats p a := by
  rcases h with h | ⟨h, hn⟩ <;> rcases h' with h' | ⟨h', hn'⟩
  · exact .inl (lt_trans (α := EReal) h' h)
  · exact .inl (lt_of_eq_of_lt (α := EReal) h' h)
  · exact .inl (lt_of_lt_of_eq (α := EReal) h' h)
  · exact .inr ⟨Eq.trans (α := EReal) h' h, hn.trans hn'⟩

theorem below (p q : BitVec 32) (hp : p.toNat < 2 ^ 31) (hq : q.toNat < 2 ^ 31) : p.slt q = decide (p.toNat < q.toNat) := by
  rw [BitVec.slt_eq_decide, BitVec.toInt_eq_toNat_of_lt (by omega), BitVec.toInt_eq_toNat_of_lt (by omega)]
  exact decide_eq_decide.mpr (by omega)

/-- The comparison keeps one of the two. -/
theorem keeps_one (p q : Entry) (hp : p.2.toNat < 2 ^ 31) (hq : q.2.toNat < 2 ^ 31) :
    (reducer_argmax_f32_i32 (F := Ideal) p q = p ∨ reducer_argmax_f32_i32 (F := Ideal) p q = q)
      ∧ Beats (reducer_argmax_f32_i32 (F := Ideal) p q) p ∧ Beats (reducer_argmax_f32_i32 (F := Ideal) p q) q := by
  obtain ⟨a, i⟩ := p
  obtain ⟨b, j⟩ := q
  have hr : reducer_argmax_f32_i32 (F := Ideal) (a, i) (b, j)
      = (Scalar.select (BitVec.ofBool (decide ((b : EReal) < a)) ||| BitVec.ofBool (decide ((a : EReal) ≠ a))) a b,
        Scalar.select ((BitVec.ofBool (decide ((b : EReal) < a)) ||| BitVec.ofBool (decide ((a : EReal) ≠ a)))
          ||| (BitVec.ofBool (decide ((a : EReal) = b)) &&& BitVec.ofBool (i.slt j))) i j) := rfl
  have hs := below i j hp hq
  rw [hr, hs]
  rcases lt_trichotomy (b : EReal) (a : EReal) with h | h | h
  · have e : ((Scalar.select (BitVec.ofBool (decide ((b : EReal) < a)) ||| BitVec.ofBool (decide ((a : EReal) ≠ a))) a b,
        Scalar.select ((BitVec.ofBool (decide ((b : EReal) < a)) ||| BitVec.ofBool (decide ((a : EReal) ≠ a)))
          ||| (BitVec.ofBool (decide ((a : EReal) = b)) &&& BitVec.ofBool (decide (i.toNat < j.toNat)))) i j) : Entry) = (a, i) := by
      rw [decide_eq_true h]; simp [Scalar.select]
      by_cases hh : (a : EReal) = b <;> by_cases hl : i.toNat < j.toNat <;> simp [hh, hl]
    rw [e]
    exact ⟨.inl rfl, Beats.refl _, .inl h⟩
  · by_cases hl : i.toNat < j.toNat
    · have e : ((Scalar.select (BitVec.ofBool (decide ((b : EReal) < a)) ||| BitVec.ofBool (decide ((a : EReal) ≠ a))) a b,
          Scalar.select ((BitVec.ofBool (decide ((b : EReal) < a)) ||| BitVec.ofBool (decide ((a : EReal) ≠ a)))
            ||| (BitVec.ofBool (decide ((a : EReal) = b)) &&& BitVec.ofBool (decide (i.toNat < j.toNat)))) i j) : Entry) = (a, i) := by
        rw [decide_eq_true hl, h]; simp [Scalar.select]
      rw [e]
      exact ⟨.inl rfl, Beats.refl _, .inr ⟨h, hl.le⟩⟩
    · have e : ((Scalar.select (BitVec.ofBool (decide ((b : EReal) < a)) ||| BitVec.ofBool (decide ((a : EReal) ≠ a))) a b,
          Scalar.select ((BitVec.ofBool (decide ((b : EReal) < a)) ||| BitVec.ofBool (decide ((a : EReal) ≠ a)))
            ||| (BitVec.ofBool (decide ((a : EReal) = b)) &&& BitVec.ofBool (decide (i.toNat < j.toNat)))) i j) : Entry) = (b, j) := by
        rw [decide_eq_false hl, h]; simp [Scalar.select]
      rw [e]
      exact ⟨.inr rfl, .inr ⟨h.symm, not_lt.mp hl⟩, Beats.refl _⟩
  · have e : ((Scalar.select (BitVec.ofBool (decide ((b : EReal) < a)) ||| BitVec.ofBool (decide ((a : EReal) ≠ a))) a b,
        Scalar.select ((BitVec.ofBool (decide ((b : EReal) < a)) ||| BitVec.ofBool (decide ((a : EReal) ≠ a)))
          ||| (BitVec.ofBool (decide ((a : EReal) = b)) &&& BitVec.ofBool (decide (i.toNat < j.toNat)))) i j) : Entry) = (b, j) := by
      rw [decide_eq_false (not_lt.mpr h.le), decide_eq_false (p := (a : EReal) = b) h.ne]; simp [Scalar.select]
    rw [e]
    exact ⟨.inr rfl, .inl h, Beats.refl _⟩

/-- The fold ends at one of the pairs, and it beats them all. -/
theorem fold_beats (l : List Entry) (p : Entry) (hp : p.2.toNat < 2 ^ 31) (hl : ∀ q ∈ l, q.2.toNat < 2 ^ 31) :
    (l.foldl (reducer_argmax_f32_i32 (F := Ideal)) p = p ∨ l.foldl (reducer_argmax_f32_i32 (F := Ideal)) p ∈ l)
      ∧ Beats (l.foldl (reducer_argmax_f32_i32 (F := Ideal)) p) p ∧ ∀ q ∈ l, Beats (l.foldl (reducer_argmax_f32_i32 (F := Ideal)) p) q := by
  induction l generalizing p with
  | nil => exact ⟨.inl rfl, Beats.refl _, fun _ h => nomatch h⟩
  | cons a l ih =>
    obtain ⟨h1, h2, h3⟩ := keeps_one p a hp (hl a List.mem_cons_self)
    have hn : (reducer_argmax_f32_i32 (F := Ideal) p a).2.toNat < 2 ^ 31 := by
      rcases h1 with h | h <;> rw [h]
      · exact hp
      · exact hl a List.mem_cons_self
    obtain ⟨i1, i2, i3⟩ := ih (reducer_argmax_f32_i32 (F := Ideal) p a) hn fun q hq => hl q (List.mem_cons_of_mem _ hq)
    rw [List.foldl_cons]
    refine ⟨?_, i2.trans h2, fun q hq => ?_⟩
    · rcases i1 with i | i
      · rcases h1 with h | h
        · exact .inl (i.trans h)
        · exact .inr (by rw [i, h]; exact List.mem_cons_self)
      · exact .inr (List.mem_cons_of_mem _ i)
    · rcases List.mem_cons.mp hq with rfl | hq
      · exact i2.trans h3
      · exact i3 q hq

/-- The arg-max along the rows, at a row. -/
theorem argmax_row (z : FVec Ideal S4096x8 .f32) (t : Fin 4096) :
    ∃ b, Best (seqOf (rowOf (M := 4096) (N := 8) z t)) 8 b (Host.argReduce (reducer_argmax_f32_i32 (F := Ideal)) z (iotaInDim S4096x8 32 1)
      (constant (F := Ideal) S_ .f32 0xFF800000#32) (constantI S_ 32 0#32) reducesTo_S4096x8_S4096_d1 h_S_ (ix1 t)).2.toNat := by
  have hmem : ∀ q : Entry, q ∈ Host.argReduceFiber z (iotaInDim S4096x8 32 1) reducesTo_S4096x8_S4096_d1 (ix1 t) ↔ ∃ k : Fin 8, q = (z (ix2 t k), BitVec.ofNat 32 k.val) := by
    intro q
    have hd : ∀ i : S4096x8.Idx, reducesTo_S4096x8_S4096_d1.drop i = ix1 t ↔ (i 0 : Fin 4096) = t := by
      intro i
      have h0 : (reducesTo_S4096x8_S4096_d1.drop i 0).val = (i 0).val := Shape.ReducesTo.drop_apply_val _ i 0
      constructor
      · intro h
        apply Fin.ext
        rw [h] at h0
        exact h0.symm
      · intro h
        refine (eq_ix1 _).trans (congrArg ix1 (Fin.ext ?_))
        exact h0.trans (congrArg Fin.val h)
    unfold Host.argReduceFiber
    rw [List.mem_map]
    constructor
    · rintro ⟨n, hn, rfl⟩
      have h0 := (hd _).mp (of_decide_eq_true (List.mem_filter.mp hn).2)
      refine ⟨(S4096x8.rowMajor.symm n) 1, ?_⟩
      have hi : S4096x8.rowMajor.symm n = ix2 t ((S4096x8.rowMajor.symm n) 1 : Fin 8) := by
        exact (eq_ix2 _).trans (congrArg (fun i : Fin 4096 => ix2 i ((S4096x8.rowMajor.symm n) 1 : Fin 8)) h0)
      exact congrArg₂ Prod.mk (congrArg z hi) rfl
    · rintro ⟨k, rfl⟩
      refine ⟨S4096x8.rowMajor (ix2 t k), List.mem_filter.mpr ⟨List.mem_finRange _, decide_eq_true ((hd _).mpr ?_)⟩, ?_⟩
      · rw [Equiv.symm_apply_apply]
      · rw [Equiv.symm_apply_apply]; rfl
  rw [Ideal.argReduce_eq_reduce2, Host.reduce2_eq_foldl_fiber]
  have hsmall : ∀ k : Fin 8, (BitVec.ofNat 32 k.val).toNat = k.val := fun k => by rw [BitVec.toNat_ofNat]; have := k.isLt; omega
  obtain ⟨h1, h2, h3⟩ := fold_beats (Host.argReduceFiber z (iotaInDim S4096x8 32 1) reducesTo_S4096x8_S4096_d1 (ix1 t))
    ((constant (F := Ideal) S_ .f32 0xFF800000#32) (Shape.Idx.first h_S_), (constantI S_ 32 0#32) (Shape.Idx.first h_S_)) (by show (0#32 : BitVec 32).toNat < 2 ^ 31; decide)
    (fun q hq => by obtain ⟨k, rfl⟩ := (hmem q).mp hq; show (BitVec.ofNat 32 k.val).toNat < 2 ^ 31; rw [hsmall k]; have := k.isLt; omega)
  generalize List.foldl _ _ (Host.argReduceFiber z (iotaInDim S4096x8 32 1) reducesTo_S4096x8_S4096_d1 (ix1 t)) = r at h1 h2 h3
  have hall : ∀ k, k < 8 → (seqOf (rowOf (M := 4096) (N := 8) z t) k : EReal) < r.1 ∨ (seqOf (rowOf (M := 4096) (N := 8) z t) k = r.1 ∧ r.2.toNat ≤ k) := by
    intro k hk
    have := h3 _ ((hmem _).mpr ⟨⟨k, hk⟩, rfl⟩)
    unfold Beats at this
    rw [hsmall ⟨k, hk⟩] at this
    unfold seqOf
    rw [dif_pos hk]
    exact this
  refine ⟨r.1, ?_⟩
  rcases h1 with h1 | h1
  · have hv : (r.1 : EReal) = ⊥ := by rw [h1]; exact ofBits_neg_inf
    have hi : r.2.toNat = 0 := by rw [h1]; rfl
    refine ⟨by omega, ?_, hall⟩
    rw [hi]
    rcases hall 0 (by norm_num) with h | ⟨h, _⟩
    · rw [hv] at h; exact absurd h not_lt_bot
    · exact h
  · obtain ⟨k, hk⟩ := (hmem _).mp h1
    have hi : r.2.toNat = k.val := by rw [hk]; exact hsmall k
    refine ⟨by omega, ?_, hall⟩
    rw [hi, hk]
    unfold seqOf
    rw [dif_pos k.isLt]

end Cert.Proof.Moe.Reference

end
-- ==== Proof.Moe.RefVals.lean ====
/-
  The mixture of experts: the reference's four results over the extended reals, each entry from the arrays at launch.
-/
module

public import proofs.«01_k».proof.Proof.Moe.RefRows
public import proofs.«01_k».proof.Proof.Moe.Argmax

@[expose] public section

noncomputable section

namespace Cert.Proof.Moe.Reference

open Cert.ReferenceIdeal Cert.ReferenceIdeal.Gen
open Idealize.ShloMosaic Idealize.ShloMosaic.TcCoe Idealize.ShloMosaic.ValueIdx
open Idealize.ShloMosaic.StableHlo (after)

variable (V : Valuation τ sig (Elt Ideal))

/-- A token's option logits, from the arrays at launch. -/
abbrev rLogits (t : Fin 4096) : Fin 8 → EReal :=
  logitsOf (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) t

/-- A token's action parameters by an expert, from the arrays at launch. -/
abbrev rParams (e : Fin 8) (t : Fin 4096) : Fin 1024 → EReal :=
  paramsOf (V (Proc.devRef .tc main_arg0)) (V (Proc.devRef .tc main_arg7)) (V (Proc.devRef .tc main_arg8)) (V (Proc.devRef .tc main_arg9))
    (V (Proc.devRef .tc main_arg10)) (V (Proc.devRef .tc main_arg11)) (V (Proc.devRef .tc main_arg12)) e t

/-! ## The option network -/

theorem A1_row (t : Fin 4096) : rowOf (M := 4096) (N := 1024) (A1 V (Proc.devRef .tc main_v4)) t
    = hidden (rowOf (M := 4096) (N := 1024) (V (Proc.devRef .tc main_arg0)) t) (matOf (M := 1024) (N := 1024) (V (Proc.devRef .tc main_arg1))) (vecOf (N := 1024) (V (Proc.devRef .tc main_arg2))) :=
  (congrArg (fun x => rowOf (M := 4096) (N := 1024) x t) (read_v4 V)).trans (dense_row _ _ _ t)

theorem A2_row (t : Fin 4096) : rowOf (M := 4096) (N := 1024) (A2 V (Proc.devRef .tc main_v9)) t
    = hidden (rowOf (M := 4096) (N := 1024) (A1 V (Proc.devRef .tc main_v4)) t) (matOf (M := 1024) (N := 1024) (V (Proc.devRef .tc main_arg3))) (vecOf (N := 1024) (V (Proc.devRef .tc main_arg4))) := by
  have h3 : A1 V (Proc.devRef .tc main_arg3) = V (Proc.devRef .tc main_arg3) := keepHidden V (r := main_arg3) (by decide)
  have h4 : A1 V (Proc.devRef .tc main_arg4) = V (Proc.devRef .tc main_arg4) := keepHidden V (r := main_arg4) (by decide)
  rw [← h3, ← h4]
  exact (congrArg (fun x => rowOf (M := 4096) (N := 1024) x t) (read_v9 (A1 V))).trans (dense_row _ _ _ t)

theorem A3_row (t : Fin 4096) : rowOf (M := 4096) (N := 8) (A3 V (Proc.devRef .tc main_v13)) t = rLogits V t := by
  have h5 : A2 V (Proc.devRef .tc main_arg5) = V (Proc.devRef .tc main_arg5) := (keepHidden2 _ (r := main_arg5) (by decide)).trans (keepHidden V (r := main_arg5) (by decide))
  have h6 : A2 V (Proc.devRef .tc main_arg6) = V (Proc.devRef .tc main_arg6) := (keepHidden2 _ (r := main_arg6) (by decide)).trans (keepHidden V (r := main_arg6) (by decide))
  funext k
  unfold rLogits logitsOf mlp
  rw [← A1_row, ← A2_row, ← h5, ← h6]
  exact (congrFun (read_v13 (A2 V)) (ix2 t k)).trans (host_layer (M := 4096) (K := 1024) (N := 8) _ _ _ _ _ t k)

theorem ref_probs (t : Fin 4096) (k : Fin 8) : (A9 V (Proc.devRef .tc main_v24) : Vec Ideal S4096x8 .f32) (ix2 t k) = soft (rLogits V t) k := by
  have h : A9 V (Proc.devRef .tc main_v24) = A4 V (Proc.devRef .tc main_v24) :=
    (keepKeep _ (r := main_v24) (by decide)).trans ((keepParams _ (r := main_v24) (by decide)).trans ((keepExpert2 _ (r := main_v24) (by decide)).trans
      ((keepExpert _ (r := main_v24) (by decide)).trans ((keepPick _ (r := main_v24) (by decide)).trans (keepNoise _ (r := main_v24) (by decide))))))
  rw [← A3_row]
  exact (congrFun (h.trans (read_v24 (A3 V))) (ix2 t k)).trans (soft_row _ t k)

theorem A9_v34 : A9 V (Proc.devRef .tc main_v34) = A5 V (Proc.devRef .tc main_v34) :=
  (keepKeep _ (r := main_v34) (by decide)).trans ((keepParams _ (r := main_v34) (by decide)).trans ((keepExpert2 _ (r := main_v34) (by decide)).trans
    (keepExpert _ (r := main_v34) (by decide))))

/-- The row of a sum of noise and logits. -/
theorem scores_row (g z : Vec Ideal S4096x8 .f32) (l : Fin 8 → EReal) (t : Fin 4096) (hl : rowOf (M := 4096) (N := 8) z t = l) :
    rowOf (M := 4096) (N := 8) (addf g z) t = scoresOf g l t := by
  funext k
  exact congrArg (fun x : EReal => g (ix2 t k) + x) (congrFun hl k)

/-- The draw takes the best of the logits with the noise, whatever the arrays before it hold. -/
theorem pick_best (N : Valuation τ sig (Elt Ideal)) (l : Fin 8 → EReal) (t : Fin 4096) (hl : rowOf (M := 4096) (N := 8) (N (Proc.devRef .tc main_v13)) t = l) :
    ∃ b, Best (seqOf (scoresOf (N (Proc.devRef .tc main_v32)) l t)) 8 b ((after opsPick N (Proc.devRef .tc main_v34) : IVec S4096 32) (ix1 t)).toNat := by
  obtain ⟨b, h⟩ := argmax_row (addf (N (Proc.devRef .tc main_v32)) (N (Proc.devRef .tc main_v13))) t
  refine ⟨b, ?_⟩
  rw [scores_row _ _ l t hl] at h
  have e := congrFun (read_v34 N) (ix1 t)
  rw [e]
  exact h

/-- The arrays once the reference has made the noise. -/
def noised : Valuation τ sig (Elt Ideal) := after opsNoise (A4 V)

theorem noised_row (t : Fin 4096) : rowOf (M := 4096) (N := 8) (noised V (Proc.devRef .tc main_v13)) t = rLogits V t :=
  (congrArg (fun x => rowOf (M := 4096) (N := 8) x t) ((keepNoise (A4 V) (r := main_v13) (by decide)).trans (keepSoft (A3 V) (r := main_v13) (by decide)))).trans (A3_row V t)

theorem A9_option : A9 V (Proc.devRef .tc main_v34) = after opsPick (noised V) (Proc.devRef .tc main_v34) :=
  A9_v34 V

/-- The noise, as the reference makes it. -/
abbrev noiseOf : Vec Ideal S4096x8 .f32 := noised V (Proc.devRef .tc main_v32)

theorem ref_best (t : Fin 4096) : ∃ b, Best (seqOf (scoresOf (noiseOf V) (rLogits V t) t)) 8 b
    ((A9 V (Proc.devRef .tc main_v34) : IVec S4096 32) (ix1 t)).toNat := by
  rw [A9_option]
  exact pick_best (noised V) (rLogits V t) t (noised_row V t)

/-! ## The experts -/

theorem A5_arg {r : Ref sig .tc} (hn : r ∈ keptNoise) (h1 : r ∉ wroteHidden) (h2 : r ∉ wroteHidden2) (h3 : r ∉ wroteLogits) (h4 : r ∉ wroteSoft) (h5 : r ∉ wrotePick) :
    A5 V (Proc.devRef .tc r) = V (Proc.devRef .tc r) :=
  (keepPick _ h5).trans ((keepNoise _ hn).trans ((keepSoft _ h4).trans ((keepLogits _ h3).trans ((keepHidden2 _ h2).trans (keepHidden _ h1)))))

theorem A6_row (e : Fin 8) (t : Fin 4096) : stackRow (A6 V (Proc.devRef .tc main_v40)) e t
    = hidden (rowOf (M := 4096) (N := 1024) (V (Proc.devRef .tc main_arg0)) t) (stackOf (V (Proc.devRef .tc main_arg7)) e) (rowOf (M := 8) (N := 1024) (V (Proc.devRef .tc main_arg8)) e) := by
  rw [← A5_arg V (r := main_arg0) (by decide) (by decide) (by decide) (by decide) (by decide) (by decide), ← A5_arg V (r := main_arg7) (by decide) (by decide) (by decide) (by decide) (by decide) (by decide),
    ← A5_arg V (r := main_arg8) (by decide) (by decide) (by decide) (by decide) (by decide) (by decide)]
  exact (congrArg (fun x => stackRow x e t) (read_v40 (A5 V))).trans (expert1_row _ _ _ e t)

theorem A7_row (e : Fin 8) (t : Fin 4096) : stackRow (A7 V (Proc.devRef .tc main_v45)) e t
    = hidden (stackRow (A6 V (Proc.devRef .tc main_v40)) e t) (stackOf (V (Proc.devRef .tc main_arg9)) e) (rowOf (M := 8) (N := 1024) (V (Proc.devRef .tc main_arg10)) e) := by
  have h9 : A6 V (Proc.devRef .tc main_arg9) = V (Proc.devRef .tc main_arg9) :=
    (keepExpert _ (r := main_arg9) (by decide)).trans (A5_arg V (r := main_arg9) (by decide) (by decide) (by decide) (by decide) (by decide) (by decide))
  have h10 : A6 V (Proc.devRef .tc main_arg10) = V (Proc.devRef .tc main_arg10) :=
    (keepExpert _ (r := main_arg10) (by decide)).trans (A5_arg V (r := main_arg10) (by decide) (by decide) (by decide) (by decide) (by decide) (by decide))
  rw [← h9, ← h10]
  exact (congrArg (fun x => stackRow x e t) (read_v45 (A6 V))).trans (expert2_row _ _ _ e t)

theorem A8_row (e : Fin 8) (t : Fin 4096) : stackRow (A8 V (Proc.devRef .tc main_v49)) e t = rParams V e t := by
  have h11 : A7 V (Proc.devRef .tc main_arg11) = V (Proc.devRef .tc main_arg11) :=
    (keepExpert2 _ (r := main_arg11) (by decide)).trans ((keepExpert _ (r := main_arg11) (by decide)).trans (A5_arg V (r := main_arg11) (by decide) (by decide) (by decide) (by decide) (by decide) (by decide)))
  have h12 : A7 V (Proc.devRef .tc main_arg12) = V (Proc.devRef .tc main_arg12) :=
    (keepExpert2 _ (r := main_arg12) (by decide)).trans ((keepExpert _ (r := main_arg12) (by decide)).trans (A5_arg V (r := main_arg12) (by decide) (by decide) (by decide) (by decide) (by decide) (by decide)))
  unfold rParams paramsOf mlp
  rw [← A6_row, ← A7_row, ← h11, ← h12]
  exact (congrArg (fun x => stackRow x e t) (read_v49 (A7 V))).trans (stack_layer _ _ _ e t)

/-- What is kept of the experts' parameters at a token whose option is `e`. -/
theorem kept_at (t : Fin 4096) (c : Fin 1024) (e : Fin 8) (he : (A9 V (Proc.devRef .tc main_v34) : IVec S4096 32) (ix1 t) = BitVec.ofNat 32 e.val) :
    (keptOf (F := Ideal) (A8 V (Proc.devRef .tc main_v34)) (A8 V (Proc.devRef .tc main_v49)) : Vec Ideal S4096x1024 .f32) (ix2 t c) = rParams V e t c := by
  rw [← A8_row]
  refine kept_row _ _ t c e (Eq.trans ?_ he)
  exact congrFun (keepKeep (A8 V) (r := main_v34) (by decide)).symm (ix1 t)

theorem ref_mean (t : Fin 4096) (k : Fin 512) (e : Fin 8) (he : (A9 V (Proc.devRef .tc main_v34) : IVec S4096 32) (ix1 t) = BitVec.ofNat 32 e.val) :
    (A9 V (Proc.devRef .tc main_v59) : Vec Ideal S4096x512 .f32) (ix2 t k) = rParams V e t ⟨k.val, by omega⟩ := by
  refine (congrFun (read_v59 (A8 V)) _).trans ((extractStridedSlice_apply _ _ _ _ (ix2 t (⟨k.val, by omega⟩ : Fin 1024)) fun a => ?_).trans (kept_at V t _ e he))
  match a with
  | ⟨0, _⟩ => show t.val = 0 + t.val; omega
  | ⟨1, _⟩ => show k.val = 0 + k.val; omega

theorem ref_std (t : Fin 4096) (k : Fin 512) (e : Fin 8) (he : (A9 V (Proc.devRef .tc main_v34) : IVec S4096 32) (ix1 t) = BitVec.ofNat 32 e.val) :
    (A9 V (Proc.devRef .tc main_v61) : Vec Ideal S4096x512 .f32) (ix2 t k) = Ideal.exp (rParams V e t ⟨512 + k.val, by omega⟩) := by
  refine (congrFun (read_v61 (A8 V)) _).trans (congrArg Ideal.exp ((extractStridedSlice_apply _ _ _ _ (ix2 t (⟨512 + k.val, by omega⟩ : Fin 1024)) fun a => ?_).trans (kept_at V t _ e he)))
  match a with
  | ⟨0, _⟩ => show t.val = 0 + t.val; omega
  | ⟨1, _⟩ => rfl

end Cert.Proof.Moe.Reference

end
-- ==== Proof.Moe.SameNoise.lean ====
/-
  The kernel's noise and the reference's are one array: the two programs make it by the same operations.
-/
module

public import proofs.«01_k».proof.Proof.Moe.Noise
public import proofs.«01_k».proof.Proof.Moe.RefNoise
public import Idealize.ShloMosaic.Lib.Pipeline.Kit
public import Idealize.ShloMosaic.Lib.Pipeline.Regions

@[expose] public section

noncomputable section

namespace Cert.Proof.Moe

open Idealize.ShloMosaic Idealize.ShloMosaic.TcCoe
open Idealize.ShloMosaic.StableHlo (after)

variable {F : FTy → Type} [FloatOps F]

theorem noise_eq (V : Valuation Cert.KernelIdeal.τ Cert.KernelIdeal.sig (Elt F)) (U : Valuation Cert.ReferenceIdeal.τ Cert.ReferenceIdeal.sig (Elt F)) :
    (after opsNoise V (Proc.devRef .tc Cert.KernelIdeal.main_v7) : Vec F Cert.KernelIdeal.S4096x8 .f32)
      = after Reference.opsNoise U (Proc.devRef .tc Cert.ReferenceIdeal.main_v32) := by
  chain_rfl

end Cert.Proof.Moe

end
-- ==== Proof.Moe.Results.lean ====
/-
  The mixture of experts: the two programs' runs as the claims read them — the arguments as they were, the results by
  name — and the results' equality.
-/
module

public import proofs.«01_k».proof.Proof.Moe.KernelVals
public import proofs.«01_k».proof.Proof.Moe.RefVals
public import proofs.«01_k».proof.Proof.Moe.SameNoise

@[expose] public section

noncomputable section

namespace Cert.Proof.Moe

open Idealize.ShloMosaic Idealize.ShloMosaic.TcCoe Idealize.ShloMosaic.ValueIdx
open Idealize.ShloMosaic.StableHlo (after)
open Idealize.SL.Sem

section Kernel

open Cert.KernelIdeal

variable {F : FTy → Type} [FloatOps F] [∀ e, Nonempty (Elt F e)]

variable (m : (ℓ : Loc nD τ sig) → Buf (Elt F) ℓ) (ρ : Dev nD → PrngReg)

/-- A device's arrays at launch, the noise made. -/
def atStart (d : Dev nD) : Valuation τ sig (Elt F) := after opsNoise fun b => m (d, b)

/-- The kernel runs: each buffer of the host thread ends as the chain says, every semaphore at zero. -/
theorem kernel_run : θ_run (Cert.KernelIdeal.defs (F := F)) (Cert.KernelIdeal.threads (F := F)) ⟨m, fun _ => 0, ρ⟩ fun r =>
    (∀ (d : Dev nD) (b : Ref sig .tc), (Proc.devRef .tc b : DevRef τ sig) ∈ UC → r.2.mem ((d.tc : Thread nD τ).loc b) = W8 (atStart m d) d (Proc.devRef .tc b))
      ∧ r.2.sem = fun _ => 0 :=
  (θ_run Cert.KernelIdeal.defs _ _).mono (fun _ h => ⟨fun d b hb => h.1 d _ hb, h.2⟩)
    (run_main m ρ (chain (atStart m)) fun _ => rfl)

variable {m} in
/-- An argument no part of the run writes is as it was at launch. -/
theorem kept_of {r : PUnit × MemSt nD τ sig (Elt F)}
    (h : ∀ (d : Dev nD) (b : Ref sig .tc), (Proc.devRef .tc b : DevRef τ sig) ∈ UC → r.2.mem ((d.tc : Thread nD τ).loc b) = W8 (atStart m d) d (Proc.devRef .tc b))
    (d : Dev nD) (b : Ref sig .tc) (hb : (Proc.devRef .tc b : DevRef τ sig) ∈ UC) (hn : b ∈ argRefs) (hw : b ∉ written) :
    r.2.mem ((d.tc : Thread nD τ).loc b) = m ((d.tc : Thread nD τ).loc b) :=
  (h d b hb).trans ((W8_keeps (atStart m d) d hw).trans (noise_keeps _ b hn))

variable {m} in
theorem kernel_args {r : PUnit × MemSt nD τ sig (Elt F)}
    (h : ∀ (d : Dev nD) (b : Ref sig .tc), (Proc.devRef .tc b : DevRef τ sig) ∈ UC → r.2.mem ((d.tc : Thread nD τ).loc b) = W8 (atStart m d) d (Proc.devRef .tc b))
    (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6)
    ∧ r.2.mem ((d.tc : Thread nD τ).loc main_arg7) = m ((d.tc : Thread nD τ).loc main_arg7)
    ∧ r.2.mem ((d.tc : Thread nD τ).loc main_arg8) = m ((d.tc : Thread nD τ).loc main_arg8)
    ∧ r.2.mem ((d.tc : Thread nD τ).loc main_arg9) = m ((d.tc : Thread nD τ).loc main_arg9)
    ∧ r.2.mem ((d.tc : Thread nD τ).loc main_arg10) = m ((d.tc : Thread nD τ).loc main_arg10)
    ∧ r.2.mem ((d.tc : Thread nD τ).loc main_arg11) = m ((d.tc : Thread nD τ).loc main_arg11)
    ∧ r.2.mem ((d.tc : Thread nD τ).loc main_arg12) = m ((d.tc : Thread nD τ).loc main_arg12) := by
  refine ⟨?_, ?_, ?_, ?_, ?_, ?_, ?_, ?_, ?_, ?_, ?_, ?_, ?_⟩ <;> exact kept_of h d _ (by decide) (by decide) (by decide)

end Kernel

section Reference

open Cert.ReferenceIdeal Reference

variable {m : (ℓ : Loc nD τ sig) → Buf (Elt Ideal) ℓ}

/-- The reference runs: each buffer ends as its steps say. -/
theorem reference_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r =>
      ∀ (d : Dev nD) (b : Ref sig .tc), r.2.mem ((d.tc : Thread nD τ).loc b) = A9 (StableHlo.launchContents m d) (Proc.devRef .tc b) :=
  (θ_run Cert.ReferenceIdeal.defs _ _).mono (fun _ h d b => (h d b).trans (congrFun (ops_eq _) _)) (Reference.run (F := Ideal) m ρ)

theorem reference_args {r : PUnit × MemSt nD τ sig (Elt Ideal)}
    (h : ∀ (d : Dev nD) (b : Ref sig .tc), r.2.mem ((d.tc : Thread nD τ).loc b) = A9 (StableHlo.launchContents m d) (Proc.devRef .tc b))
    (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6)
    ∧ r.2.mem ((d.tc : Thread nD τ).loc main_arg7) = m ((d.tc : Thread nD τ).loc main_arg7)
    ∧ r.2.mem ((d.tc : Thread nD τ).loc main_arg8) = m ((d.tc : Thread nD τ).loc main_arg8)
    ∧ r.2.mem ((d.tc : Thread nD τ).loc main_arg9) = m ((d.tc : Thread nD τ).loc main_arg9)
    ∧ r.2.mem ((d.tc : Thread nD τ).loc main_arg10) = m ((d.tc : Thread nD τ).loc main_arg10)
    ∧ r.2.mem ((d.tc : Thread nD τ).loc main_arg11) = m ((d.tc : Thread nD τ).loc main_arg11)
    ∧ r.2.mem ((d.tc : Thread nD τ).loc main_arg12) = m ((d.tc : Thread nD τ).loc main_arg12) := by
  refine ⟨?_, ?_, ?_, ?_, ?_, ?_, ?_, ?_, ?_, ?_, ?_, ?_, ?_⟩ <;> exact (h d _).trans (A9_keeps _ (by decide) (by decide))

end Reference

/-! ## The results -/

section Values

variable (V : Valuation Cert.KernelIdeal.τ Cert.KernelIdeal.sig (Elt Ideal)) (d : Dev Cert.KernelIdeal.nD) (U : Valuation Cert.ReferenceIdeal.τ Cert.ReferenceIdeal.sig (Elt Ideal))

open Cert.KernelIdeal in
/-- Making the noise changes no token's logits. -/
theorem logits_kept (t : Fin 4096) : kLogits (after opsNoise V) t = kLogits V t := by
  unfold kLogits
  rw [noise_keeps V main_arg0 (by decide), noise_keeps V main_arg1 (by decide), noise_keeps V main_arg2 (by decide), noise_keeps V main_arg3 (by decide),
    noise_keeps V main_arg4 (by decide), noise_keeps V main_arg5 (by decide), noise_keeps V main_arg6 (by decide)]

open Cert.KernelIdeal in
/-- Nor its parameters by any expert. -/
theorem params_kept (e : Fin 8) (t : Fin 4096) : kParams (after opsNoise V) e t = kParams V e t := by
  unfold kParams
  rw [noise_keeps V main_arg0 (by decide), noise_keeps V main_arg7 (by decide), noise_keeps V main_arg8 (by decide), noise_keeps V main_arg9 (by decide),
    noise_keeps V main_arg10 (by decide), noise_keeps V main_arg11 (by decide), noise_keeps V main_arg12 (by decide)]

/-- The two programs' arrays of a token's arithmetic are the same. -/
structure Same : Prop where
  logits : ∀ t, Reference.rLogits U t = kLogits V t
  params : ∀ e t, Reference.rParams U e t = kParams V e t
  noise : Reference.noiseOf U = V (Proc.devRef .tc Cert.KernelIdeal.main_v7)

/-- The noise the reference makes is the kernel's. -/
theorem noise_same (W : Valuation Cert.KernelIdeal.τ Cert.KernelIdeal.sig (Elt Ideal)) :
    Reference.noiseOf U = after opsNoise W (Proc.devRef .tc Cert.KernelIdeal.main_v7) :=
  (noise_eq W (Reference.A4 U)).symm

/-- Arrays alike at launch are alike where the two programs read them. -/
theorem Same.of_launch (hl : ∀ t, Reference.rLogits U t = kLogits V t) (hp : ∀ e t, Reference.rParams U e t = kParams V e t) :
    Same (after opsNoise V) U :=
  ⟨fun t => (hl t).trans (logits_kept V t).symm, fun e t => (hp e t).trans (params_kept V e t).symm, noise_same U V⟩

variable {V U}

theorem probs_eq (h : Same V U) : (Reference.A9 U (Proc.devRef .tc Cert.ReferenceIdeal.main_v24) : Vec Ideal Cert.KernelIdeal.S4096x8 .f32) = W8 V d (Proc.devRef .tc Cert.KernelIdeal.main_v8_0) := by
  funext j
  rw [eq_ix2 j]
  exact (Reference.ref_probs U (j 0) (j 1)).trans ((congrArg (fun z => soft z (j 1)) (h.logits (j 0))).trans (kernel_probs V d (j 0) (j 1)).symm)

/-- The reference selects the option the kernel does. -/
theorem option_at (h : Same V U) (t : Fin 4096) :
    (Reference.A9 U (Proc.devRef .tc Cert.ReferenceIdeal.main_v34) : IVec Cert.KernelIdeal.S4096 32) (ix1 t) = BitVec.ofNat 32 (chosen V t).val := by
  obtain ⟨b, hb⟩ := Reference.ref_best U t
  obtain ⟨c, hc⟩ := kernel_best V t
  rw [h.logits, h.noise] at hb
  exact BitVec.eq_of_toNat_eq ((Best.unique hb hc).trans ((BitVec.toNat_ofNat _ _).trans (Nat.mod_eq_of_lt ((sel_lt V t.val).trans (by norm_num)))).symm)

theorem option_eq (h : Same V U) : (Reference.A9 U (Proc.devRef .tc Cert.ReferenceIdeal.main_v34) : IVec Cert.KernelIdeal.S4096 32) = W8 V d (Proc.devRef .tc Cert.KernelIdeal.main_v9) := by
  funext j
  rw [eq_ix1 j]
  exact (option_at h (j 0)).trans (W8_sel V d (j 0)).symm

theorem mean_eq (h : Same V U) : (Reference.A9 U (Proc.devRef .tc Cert.ReferenceIdeal.main_v59) : Vec Ideal Cert.KernelIdeal.S4096x512 .f32) = W8 V d (Proc.devRef .tc Cert.KernelIdeal.main_v118) := by
  funext j
  rw [eq_ix2 j]
  exact (Reference.ref_mean U (j 0) (j 1) (chosen V (j 0)) (option_at h (j 0))).trans ((congrFun (h.params _ (j 0)) _).trans (kernel_mean V d (j 0) (j 1)).symm)

theorem std_eq (h : Same V U) : (Reference.A9 U (Proc.devRef .tc Cert.ReferenceIdeal.main_v61) : Vec Ideal Cert.KernelIdeal.S4096x512 .f32) = W8 V d (Proc.devRef .tc Cert.KernelIdeal.main_v119) := by
  funext j
  rw [eq_ix2 j]
  exact (Reference.ref_std U (j 0) (j 1) (chosen V (j 0)) (option_at h (j 0))).trans ((congrArg Ideal.exp (congrFun (h.params _ (j 0)) _)).trans (kernel_std V d (j 0) (j 1)).symm)

end Values

end Cert.Proof.Moe

end
-- ==== Proof.lean ====
/-
  The certificate: the mixture-of-experts kernel and its idealization run, and over the extended reals its four results
  are those of the reference.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Moe.Results
public import Idealize.ShloMosaic.Adequacy
public import Idealize.ShloMosaic.Init

@[expose] public section

noncomputable section

namespace Cert.Proof

open Idealize.ShloMosaic Idealize.ShloMosaic.TcCoe Idealize.SL.Sem

/-- The kernel's frame, spelt with the idealization's names, for floats of any kind. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (Cert.KernelIdeal.threads (F := F)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

theorem frameAt {F : FTy → Type} [FloatOps F] [∀ e, Nonempty (Elt F e)] : FrameAt F := fun m ρ _ =>
  (θ_run Cert.KernelIdeal.defs _ _).mono (fun _ h => ⟨Moe.kernel_args h.1, h.2⟩) (Moe.kernel_run (F := F) m ρ)

/-- The compiled kernel's text is the idealization's, no operation of it being rewritten. -/
theorem frame_text : Cert.quiescent_Kernel = FrameAt Bits := by
  chain_rfl

/-- The kernel as it is compiled runs, its arguments unchanged and every semaphore back at zero. -/
theorem frame_kernel : Cert.quiescent_Kernel := frame_text.mpr frameAt

/-- The same of its idealization. -/
theorem frame_kernelIdeal : Cert.quiescent_KernelIdeal := fun m ρ _ =>
  (θ_run Cert.KernelIdeal.defs _ _).mono (fun _ h => ⟨Moe.kernel_args h.1, h.2⟩) (Moe.kernel_run (F := Ideal) m ρ)

/-- The reference runs. -/
theorem frame_reference : Cert.quiescent_ReferenceIdeal := fun m ρ _ =>
  (θ_run Cert.ReferenceIdeal.defs _ _).mono (fun r h => ⟨Moe.reference_args h, sem_eq_zero_of_no_sems (by decide) r.2⟩) (Moe.reference_run m ρ)

/-- Over the extended reals the kernel's four results are the reference's. -/
theorem moe_value : Cert.algebraic_KernelIdeal_ReferenceIdeal := by
  intro m g m' g' _ hargs
  have same : ∀ c : Dev Cert.KernelIdeal.nD, Moe.Same (Moe.atStart m c) (StableHlo.launchContents m' c) := fun c => by
    obtain ⟨h0, h1, h2, h3, h4, h5, h6, h7, h8, h9, h10, h11, h12⟩ := hargs c
    refine Moe.Same.of_launch (fun b => m (c, b)) _ (fun t => ?_) fun e t => ?_
    · show Moe.logitsOf _ _ _ _ _ _ _ t = Moe.logitsOf _ _ _ _ _ _ _ t
      congr 1
    · show Moe.paramsOf _ _ _ _ _ _ _ e t = Moe.paramsOf _ _ _ _ _ _ _ e t
      congr 1
  refine ⟨fun c => Moe.W8 (Moe.atStart m c) c (Proc.devRef .tc Cert.KernelIdeal.main_v8_0), fun c => Moe.W8 (Moe.atStart m c) c (Proc.devRef .tc Cert.KernelIdeal.main_v9),
    fun c => Moe.W8 (Moe.atStart m c) c (Proc.devRef .tc Cert.KernelIdeal.main_v118), fun c => Moe.W8 (Moe.atStart m c) c (Proc.devRef .tc Cert.KernelIdeal.main_v119), ?_, ?_⟩
  · exact (θ_run Cert.KernelIdeal.defs _ _).mono (fun _ h c =>
      ⟨h.1 c _ (by decide), h.1 c _ (by decide), h.1 c _ (by decide), h.1 c _ (by decide), Moe.kernel_args h.1 c⟩) (Moe.kernel_run (F := Ideal) m g)
  · exact (θ_run Cert.ReferenceIdeal.defs _ _).mono (fun _ h c =>
      ⟨(h c _).trans (Moe.probs_eq c (same c)), (h c _).trans (Moe.option_eq c (same c)), (h c _).trans (Moe.mean_eq c (same c)), (h c _).trans (Moe.std_eq c (same c)),
        Moe.reference_args h c⟩) (Moe.reference_run m' g')

theorem claim : Cert.Claim :=
  ⟨inferInstance, inferInstance, inferInstance, frame_kernel, frame_kernelIdeal, frame_reference, trivial, moe_value⟩

end Cert.Proof

end
